-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0))) = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)) (v3 : (c : Dev Cert.Kernel7Ideal.nD) → Buf (Elt Ideal) ((c.tc : Thread Cert.Kernel7Ideal.nD Cert.Kernel7Ideal.τ).loc Cert.Kernel7Ideal.main_v9_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_v9_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_v36) = v2 c
          ∧ r.2.mem ((c.tc : Thread Cert.Reference7Ideal.nD Cert.Reference7Ideal.τ).loc Cert.Reference7Ideal.main_v38) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v11) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v7_0)) (v1 : (c : Dev Cert.Kernel17Ideal.nD) → Buf (Elt Ideal) ((c.tc : Thread Cert.Kernel17Ideal.nD Cert.Kernel17Ideal.τ).loc Cert.Kernel17Ideal.main_v7_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v7_0) = v0 c
          ∧ r.2.mem ((c.tc : Thread Cert.Kernel17Ideal.nD Cert.Kernel17Ideal.τ).loc Cert.Kernel17Ideal.main_v7_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v19) = v0 c
          ∧ r.2.mem ((c.tc : Thread Cert.Reference17Ideal.nD Cert.Reference17Ideal.τ).loc Cert.Reference17Ideal.main_v21) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v6) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)) (v4 : (c : Dev Cert.Kernel19Ideal.nD) → Buf (Elt Ideal) ((c.tc : Thread Cert.Kernel19Ideal.nD Cert.Kernel19Ideal.τ).loc Cert.Kernel19Ideal.main_v1_4)) (v5 : (c : Dev Cert.Kernel19Ideal.nD) → Buf (Elt Ideal) ((c.tc : Thread Cert.Kernel19Ideal.nD Cert.Kernel19Ideal.τ).loc Cert.Kernel19Ideal.main_v1_5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_v1_4) = v4 c
          ∧ r.2.mem ((c.tc : Thread Cert.Kernel19Ideal.nD Cert.Kernel19Ideal.τ).loc Cert.Kernel19Ideal.main_v1_5) = v5 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v49) = v0 c
          ∧ r.2.mem ((c.tc : Thread Cert.Reference19Ideal.nD Cert.Reference19Ideal.τ).loc Cert.Reference19Ideal.main_v58) = v1 c
          ∧ r.2.mem ((c.tc : Thread Cert.Reference19Ideal.nD Cert.Reference19Ideal.τ).loc Cert.Reference19Ideal.main_v24) = v2 c
          ∧ r.2.mem ((c.tc : Thread Cert.Reference19Ideal.nD Cert.Reference19Ideal.τ).loc Cert.Reference19Ideal.main_v27) = v3 c
          ∧ r.2.mem ((c.tc : Thread Cert.Reference19Ideal.nD Cert.Reference19Ideal.τ).loc Cert.Reference19Ideal.main_v32) = v4 c
          ∧ r.2.mem ((c.tc : Thread Cert.Reference19Ideal.nD Cert.Reference19Ideal.τ).loc Cert.Reference19Ideal.main_v57) = v5 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)) (v4 : (c : Dev Cert.Kernel20Ideal.nD) → Buf (Elt Ideal) ((c.tc : Thread Cert.Kernel20Ideal.nD Cert.Kernel20Ideal.τ).loc Cert.Kernel20Ideal.main_v1_4)) (v5 : (c : Dev Cert.Kernel20Ideal.nD) → Buf (Elt Ideal) ((c.tc : Thread Cert.Kernel20Ideal.nD Cert.Kernel20Ideal.τ).loc Cert.Kernel20Ideal.main_v1_5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_v1_4) = v4 c
          ∧ r.2.mem ((c.tc : Thread Cert.Kernel20Ideal.nD Cert.Kernel20Ideal.τ).loc Cert.Kernel20Ideal.main_v1_5) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v49) = v0 c
          ∧ r.2.mem ((c.tc : Thread Cert.Reference20Ideal.nD Cert.Reference20Ideal.τ).loc Cert.Reference20Ideal.main_v62) = v1 c
          ∧ r.2.mem ((c.tc : Thread Cert.Reference20Ideal.nD Cert.Reference20Ideal.τ).loc Cert.Reference20Ideal.main_v24) = v2 c
          ∧ r.2.mem ((c.tc : Thread Cert.Reference20Ideal.nD Cert.Reference20Ideal.τ).loc Cert.Reference20Ideal.main_v27) = v3 c
          ∧ r.2.mem ((c.tc : Thread Cert.Reference20Ideal.nD Cert.Reference20Ideal.τ).loc Cert.Reference20Ideal.main_v32) = v4 c
          ∧ r.2.mem ((c.tc : Thread Cert.Reference20Ideal.nD Cert.Reference20Ideal.τ).loc Cert.Reference20Ideal.main_v61) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v49) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v27) = v2 c
          ∧ r.2.mem ((c.tc : Thread Cert.Reference21Ideal.nD Cert.Reference21Ideal.τ).loc Cert.Reference21Ideal.main_v32) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)) (v4 : (c : Dev Cert.Kernel22Ideal.nD) → Buf (Elt Ideal) ((c.tc : Thread Cert.Kernel22Ideal.nD Cert.Kernel22Ideal.τ).loc Cert.Kernel22Ideal.main_v1_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_v1_4) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_v61) = v1 c
          ∧ r.2.mem ((c.tc : Thread Cert.Reference22Ideal.nD Cert.Reference22Ideal.τ).loc Cert.Reference22Ideal.main_v62) = v2 c
          ∧ r.2.mem ((c.tc : Thread Cert.Reference22Ideal.nD Cert.Reference22Ideal.τ).loc Cert.Reference22Ideal.main_v32) = v3 c
          ∧ r.2.mem ((c.tc : Thread Cert.Reference22Ideal.nD Cert.Reference22Ideal.τ).loc Cert.Reference22Ideal.main_v60) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v18) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v1_0)) (v1 : (c : Dev Cert.Kernel28Ideal.nD) → Buf (Elt Ideal) ((c.tc : Thread Cert.Kernel28Ideal.nD Cert.Kernel28Ideal.τ).loc Cert.Kernel28Ideal.main_v1_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1_0) = v0 c
          ∧ r.2.mem ((c.tc : Thread Cert.Kernel28Ideal.nD Cert.Kernel28Ideal.τ).loc Cert.Kernel28Ideal.main_v1_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v39) = v0 c
          ∧ r.2.mem ((c.tc : Thread Cert.Reference28Ideal.nD Cert.Reference28Ideal.τ).loc Cert.Reference28Ideal.main_v36) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)) (v3 : (c : Dev Cert.Kernel29Ideal.nD) → Buf (Elt Ideal) ((c.tc : Thread Cert.Kernel29Ideal.nD Cert.Kernel29Ideal.τ).loc Cert.Kernel29Ideal.main_v1_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_v1_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite2 : Cert.Pre_finite2.Facts) (hPre_finite28 : Cert.Pre_finite28.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal (hKernel29Ideal := hKernel29Ideal) (hReference29Ideal := hReference29Ideal)
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4096x1024 .f32) : IVec S4096x3072 1 × IVec S4096x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite2.lean ====
abbrev S2x1x4096x5632 : Shape := ⟨4, ![2, 1, 4096, 5632]⟩
abbrev S5632x2048 : Shape := ⟨2, ![5632, 2048]⟩
abbrev S4096x2048 : Shape := ⟨2, ![4096, 2048]⟩
abbrev S_ : Shape := ⟨0, ![]⟩

class Facts : Prop where
  bcast_S_S2x1x4096x5632 : S_.BroadcastsInDim S2x1x4096x5632 (![] : Fin 0 → Fin S2x1x4096x5632.rank)
  bcast_S_S5632x2048 : S_.BroadcastsInDim S5632x2048 (![] : Fin 0 → Fin S5632x2048.rank)
  bcast_S_S4096x2048 : S_.BroadcastsInDim S4096x2048 (![] : Fin 0 → Fin S4096x2048.rank)

variable [Facts]

def fn {F : FTy → Type} [FloatOps F] (main_arg0 : FVec F S2x1x4096x5632 .f32) (main_arg1 : FVec F S5632x2048 .f32) (main_arg2 : FVec F S4096x2048 .f32) : IVec S2x1x4096x5632 1 × IVec S5632x2048 1 × IVec S4096x2048 1 :=
  let main_v0 : FVec F S2x1x4096x5632 .f32 := Host.absf main_arg0
  let main_cst : FVec F S_ .f32 := constant S_ .f32 0x7F800000#32
  let main_v1 : FVec F S2x1x4096x5632 .f32 := broadcastInDim S2x1x4096x5632 ![] bcast_S_S2x1x4096x5632 main_cst
  let main_v2 : IVec S2x1x4096x5632 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite28.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)

variable [Facts]

def fn {F : FTy → Type} [FloatOps F] (main_arg0 : FVec F S4096x3072 .f32) : IVec S4096x3072 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  main_v2
-- ==== Kernel.lean ====
abbrev S4096x3072 : Shape := ⟨2, ![4096, 3072]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S4096x8x1 : Shape := ⟨3, ![4096, 8, 1]⟩
abbrev S256x512 : Shape := ⟨2, ![256, 512]⟩
abbrev S4096x512 : Shape := ⟨2, ![4096, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 50
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x8x128, .f32⟩
  | .hbm, ⟨4, _⟩ => ⟨S4096x1024, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S4096x8, .f32⟩
  | .hbm, ⟨42, _⟩ => ⟨S4096x8x1, .f32⟩
  | .hbm, ⟨43, _⟩ => ⟨S4096x8x128, .f32⟩
  | .hbm, ⟨44, _⟩ => ⟨S4096x1024, .f32⟩
  | .hbm, ⟨45, _⟩ => ⟨S4096x3072, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S4096x512, .f32⟩
  | .local _ .vmem, ⟨15, _⟩ => ⟨S4096x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_26 : BitVec 32 := 1#32
  ⟨c0_i32_25, v47, c1_i32_26⟩
def k0_mult1 (i : grid0.Coords) (k0_t1 : Fin (k0_t1_loop i).trips) : BitVec 32 :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  v387
def k0_off1 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v389 : Index := Scalar.indexCast v388
  let c0_138 : Index := 0#32
  ![v389.toNat, 0]
def k0_off2 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v392 : Index := Scalar.indexCast v388
  let c128_139 : Index := 128#32
  ![v392.toNat, 128]
def k0_off3 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v395 : Index := Scalar.indexCast v388
  let c256_140 : Index := 256#32
  ![v395.toNat, 256]
def k0_off4 (i : grid0.Coords) (k0_t1 : Fin (k0_t1_loop i).trips) : Fin 2 → Nat :=
  let c0_i32_25 : BitVec 32 := 0#32
  let c1_i32_26 : BitVec 32 := 1#32
  let arg12 : BitVec 32 := Scf.iv c0_i32_25 c1_i32_26 k0_t1
  let c256_i32_137 : BitVec 32 := 256#32
  let v387 : BitVec 32 := Scalar.muli arg12 c256_i32_137
  let v388 : BitVec 32 := v387
  let v398 : Index := Scalar.indexCast v388
  let c384_141 : Index := 384#32
  ![v398.toNat, 384]
@[reducible] def k0_t2_loop (i : grid0.Coords) : Scf.Loop 32 :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let v44 : BitVec 32 := Scalar.addi c0_i32_25 v43
  let c1_i32_27 : BitVec 32 := 1#32
  ⟨v47, v44, c1_i32_27⟩
def k0_mult2 (i : grid0.Coords) (k0_t2 : Fin (k0_t2_loop i).trips) : BitVec 32 :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  v387
def k0_off5 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v389 : Index := Scalar.indexCast v388
  let c0_138 : Index := 0#32
  ![v389.toNat, 0]
def k0_off6 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v392 : Index := Scalar.indexCast v388
  let c128_139 : Index := 128#32
  ![v392.toNat, 128]
def k0_off7 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v395 : Index := Scalar.indexCast v388
  let c256_140 : Index := 256#32
  ![v395.toNat, 256]
def k0_off8 (i : grid0.Coords) (k0_t2 : Fin (k0_t2_loop i).trips) : Fin 2 → Nat :=
  let c0_i32_25 : BitVec 32 := 0#32
  let arg1 : BitVec 32 := BitVec.ofNat 32 (i 1).val
  let v43 : BitVec 32 := Scalar.subi arg1 c0_i32_25
  let c1_i32 : BitVec 32 := 1#32
  let v45 : BitVec 32 := Scalar.divsi v43 c1_i32
  let v46 : BitVec 32 := Scalar.muli v45 c1_i32
  let v47 : BitVec 32 := Scalar.addi c0_i32_25 v46
  let c1_i32_27 : BitVec 32 := 1#32
  let arg12 : BitVec 32 := Scf.iv v47 c1_i32_27 k0_t2
  let c256_i32_137 : BitVec 32 := 256#32
  let v387 : BitVec 32 := Scalar.muli arg12 c256_i32_137
  let v388 : BitVec 32 := v387
  let v398 : Index := Scalar.indexCast v388
  let c384_141 : Index := 384#32
  ![v398.toNat, 384]
def k0_mult3 (i : grid0.Coords) : BitVec 32 :=
  let arg1 : BitVec 32 := BitVec.ofNat 32 (i 1).val
  let c256_i32 : BitVec 32 := 256#32
  let v50 : BitVec 32 := Scalar.muli arg1 c256_i32
  v50
def k0_off9 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v52 : Index := Scalar.indexCast v51
  let c0_28 : Index := 0#32
  ![v52.toNat, 0]
def k0_off10 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v55 : Index := Scalar.indexCast v51
  let c128_29 : Index := 128#32
  ![v55.toNat, 128]
def k0_off11 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v58 : Index := Scalar.indexCast v51
  let c256_30 : Index := 256#32
  ![v58.toNat, 256]
def k0_off12 (i : grid0.Coords) : Fin 2 → Nat :=
  let arg1 : BitVec 32 := BitVec.ofNat 32 (i 1).val
  let c256_i32 : BitVec 32 := 256#32
  let v50 : BitVec 32 := Scalar.muli arg1 c256_i32
  let v51 : BitVec 32 := v50
  let v61 : Index := Scalar.indexCast v51
  let c384_31 : Index := 384#32
  ![v61.toNat, 384]
def k0_cond2 (i : grid0.Coords) : BitVec 1 :=
  let arg1 : BitVec 32 := BitVec.ofNat 32 (i 1).val
  let c15_i32 : BitVec 32 := 15#32
  let v384 : BitVec 1 := Scalar.cmpi .eq arg1 c15_i32
  let v385 : BitVec 32 := Scalar.extui v384
  let c0_i32_136 : BitVec 32 := 0#32
  let v386 : BitVec 1 := Scalar.cmpi .ne v385 c0_i32_136
  v386

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4095 : Shape := ⟨3, ![8, 4096, 4095]⟩
abbrev S8x4096x1 : Shape := ⟨3, ![8, 4096, 1]⟩
abbrev S8x128x4096 : Shape := ⟨3, ![8, 128, 4096]⟩

abbrev nBuf : Space → Nat
  | .hbm => 189
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x8x128, .f32⟩
  | 6 => ⟨S8x4096x128, .f32⟩
  | 7 => ⟨S4096x8x128, .f32⟩
  | 8 => ⟨S8x4096x128, .f32⟩
  | 9 => ⟨S4096x8x128, .f32⟩
  | 10 => ⟨S8x4096x128, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S_, .f32⟩
  | 79 => ⟨S_, .f32⟩
  | 80 => ⟨S8x4096x4096, .f32⟩
  | 81 => ⟨S8x4096x4095, .f32⟩
  | 82 => ⟨S8x4096x1, .f32⟩
  | 83 => ⟨S_, .f32⟩
  | 84 => ⟨S8x4096x1, .f32⟩
  | 85 => ⟨S8x4096x4096, .f32⟩
  | 86 => ⟨S_, .f32⟩
  | 87 => ⟨S8x4096x1, .f32⟩
  | 88 => ⟨S8x4096x4096, .f32⟩
  | 89 => ⟨S_, .f32⟩
  | 90 => ⟨S8x4096x4096, .f32⟩
  | 91 => ⟨S8x4096x4096, .f32⟩
  | 92 => ⟨S8x4096x4096, .f32⟩
  | 93 => ⟨S8x4096x4096, .f32⟩
  | 94 => ⟨S8x4096x4096, .i1⟩
  | 95 => ⟨S8x4096x4096, .f32⟩
  | 96 => ⟨S8x4096x4096, .f32⟩
  | 97 => ⟨S8x4096x4096, .f32⟩
  | 98 => ⟨S8x4096x4096, .f32⟩
  | 99 => ⟨S8x4096x4096, .f32⟩
  | 100 => ⟨S8x4096x4096, .f32⟩
  | 101 => ⟨S8x4096x4096, .f32⟩
  | 102 => ⟨S8x4096x4096, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S_, .f32⟩
  | 110 => ⟨S8x4096x4096, .f32⟩
  | 111 => ⟨S8x4096x4096, .i1⟩
  | 112 => ⟨S_, .f32⟩
  | 113 => ⟨S8x4096x4096, .f32⟩
  | 114 => ⟨S8x4096x4096, .f32⟩
  | 115 => ⟨S8x4096x4096, .f32⟩
  | 116 => ⟨S8x4096x4096, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S_, .f32⟩
  | 124 => ⟨S8x4096x4096, .f32⟩
  | 125 => ⟨S8x4096x4096, .i1⟩
  | 126 => ⟨S_, .f32⟩
  | 127 => ⟨S8x4096x4096, .f32⟩
  | _ => ⟨S4096x3072, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S8x4096x4096, .f32⟩
  | 6 => ⟨S8x4096x4096, .f32⟩
  | 7 => ⟨S8x4096x4096, .f32⟩
  | 8 => ⟨S8x4096x4096, .f32⟩
  | 9 => ⟨S8x4096x4096, .f32⟩
  | 10 => ⟨S_, .f32⟩
  | 11 => ⟨S_, .f32⟩
  | 12 => ⟨S8x4096x4096, .i1⟩
  | 13 => ⟨S8x4096x4096, .f32⟩
  | 14 => ⟨S8x4096x4096, .f32⟩
  | 15 => ⟨S_, .f32⟩
  | 16 => ⟨S8x4096x4096, .f32⟩
  | 17 => ⟨S8x4096x128, .f32⟩
  | 18 => ⟨S4096x8x128, .f32⟩
  | 19 => ⟨S4096x1024, .f32⟩
  | 20 => ⟨S4096x8x128, .f32⟩
  | 21 => ⟨S8x4096x128, .f32⟩
  | 22 => ⟨S8x128x4096, .f32⟩
  | 23 => ⟨S8x4096x128, .f32⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4095, .f32⟩
  | 33 => ⟨S8x4096x1, .f32⟩
  | 34 => ⟨S_, .f32⟩
  | 35 => ⟨S8x4096x4096, .f32⟩
  | 36 => ⟨S_, .f32⟩
  | 37 => ⟨S_, .f32⟩
  | 38 => ⟨S8x4096x4096, .f32⟩
  | 39 => ⟨S_, .f32⟩
  | 40 => ⟨S8x4096x4096, .f32⟩
  | 41 => ⟨S8x4096x4096, .f32⟩
  | 42 => ⟨S8x4096x4096, .f32⟩
  | 43 => ⟨S8x4096x4096, .f32⟩
  | 44 => ⟨S8x4096x4096, .f32⟩
  | 45 => ⟨S8x4096x4096, .f32⟩
  | 46 => ⟨S8x4096x4096, .f32⟩
  | 47 => ⟨S_, .f32⟩
  | 48 => ⟨S8x4096x4096, .f32⟩
  | 49 => ⟨S8x4096x4096, .f32⟩
  | 50 => ⟨S8x4096x128, .f32⟩
  | 51 => ⟨S8x4096x128, .f32⟩
  | 52 => ⟨S4096x8x128, .f32⟩
  | 53 => ⟨S4096x1024, .f32⟩
  | 54 => ⟨S4096x8x128, .f32⟩
  | 55 => ⟨S4096x1024, .f32⟩
  | 56 => ⟨S4096x8x128, .f32⟩
  | 57 => ⟨S4096x1024, .f32⟩
  | 58 => ⟨S4096x1024, .bf16⟩
  | 59 => ⟨S4096x1024, .bf16⟩
  | 60 => ⟨S4096x1024, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_1 : Ref sig .tc := ⟨.hbm, 83, rfl⟩
abbrev main_v25 : Ref sig .tc := ⟨.hbm, 84, rfl⟩
abbrev main_v26 : Ref sig .tc := ⟨.hbm, 85, rfl⟩
abbrev main_cst_2 : Ref sig .tc := ⟨.hbm, 86, rfl⟩
abbrev main_v27 : Ref sig .tc := ⟨.hbm, 87, rfl⟩
abbrev main_call3_v0 : Ref sig .tc := ⟨.hbm, 88, rfl⟩
abbrev main_call3_call0_cst : Ref sig .tc := ⟨.hbm, 89, rfl⟩
abbrev main_call3_call0_v0 : Ref sig .tc := ⟨.hbm, 90, rfl⟩
abbrev main_call3_call0_v1 : Ref sig .tc := ⟨.hbm, 91, rfl⟩
abbrev main_call3_call0_v2 : Ref sig .tc := ⟨.hbm, 92, rfl⟩
abbrev main_call3_call0_v3 : Ref sig .tc := ⟨.hbm, 93, rfl⟩
abbrev main_call3_call0_v4 : Ref sig .tc := ⟨.hbm, 94, rfl⟩
abbrev main_call3_call0_v5 : Ref sig .tc := ⟨.hbm, 95, rfl⟩
abbrev main_call3_call0_v6 : Ref sig .tc := ⟨.hbm, 96, rfl⟩
abbrev main_call3_call0_v7 : Ref sig .tc := ⟨.hbm, 97, rfl⟩
abbrev main_call3_call0_v8 : Ref sig .tc := ⟨.hbm, 98, rfl⟩
abbrev main_call3_call0_v9 : Ref sig .tc := ⟨.hbm, 99, rfl⟩
abbrev main_call3_call0_v10 : Ref sig .tc := ⟨.hbm, 100, rfl⟩
abbrev main_call3_call0_v11 : Ref sig .tc := ⟨.hbm, 101, rfl⟩
abbrev main_call3_v1_0 : Ref sig .tc := ⟨.hbm, 102, rfl⟩
abbrev main_call3_call0_cst_0 : Ref sig .tc := ⟨.hbm, 103, rfl⟩
abbrev main_call3_call0_v13 : Ref sig .tc := ⟨.hbm, 104, rfl⟩
abbrev main_call3_call0_v14 : Ref sig .tc := ⟨.hbm, 105, rfl⟩
abbrev main_call3_call0_cst_1 : Ref sig .tc := ⟨.hbm, 106, rfl⟩
abbrev main_call3_call0_v15 : Ref sig .tc := ⟨.hbm, 107, rfl⟩
abbrev main_call3_call0_v16 : Ref sig .tc := ⟨.hbm, 108, rfl⟩
abbrev main_call3_call0_cst_2 : Ref sig .tc := ⟨.hbm, 109, rfl⟩
abbrev main_call3_call0_v17 : Ref sig .tc := ⟨.hbm, 110, rfl⟩
abbrev main_call3_call0_v18 : Ref sig .tc := ⟨.hbm, 111, rfl⟩
abbrev main_call3_call0_cst_3 : Ref sig .tc := ⟨.hbm, 112, rfl⟩
abbrev main_call3_call0_v19 : Ref sig .tc := ⟨.hbm, 113, rfl⟩
abbrev main_call3_call0_v20 : Ref sig .tc := ⟨.hbm, 114, rfl⟩
abbrev main_call3_call0_v21 : Ref sig .tc := ⟨.hbm, 115, rfl⟩
abbrev main_v28_1 : Ref sig .tc := ⟨.hbm, 116, rfl⟩
abbrev main_call3_call0_cst_4 : Ref sig .tc := ⟨.hbm, 117, rfl⟩
abbrev main_call3_call0_cst_5 : Ref sig .tc := ⟨.hbm, 118, rfl⟩
abbrev main_call3_call0_v23 : Ref sig .tc := ⟨.hbm, 119, rfl⟩
abbrev main_call3_call0_cst_6 : Ref sig .tc := ⟨.hbm, 120, rfl⟩
abbrev main_call3_call0_cst_7 : Ref sig .tc := ⟨.hbm, 121, rfl⟩
abbrev main_call3_call0_v24 : Ref sig .tc := ⟨.hbm, 122, rfl⟩
abbrev main_call3_call0_cst_8 : Ref sig .tc := ⟨.hbm, 123, rfl⟩
abbrev main_call3_call0_v25 : Ref sig .tc := ⟨.hbm, 124, rfl⟩
abbrev main_call3_call0_v26 : Ref sig .tc := ⟨.hbm, 125, rfl⟩
abbrev main_call3_call0_cst_9 : Ref sig .tc := ⟨.hbm, 126, rfl⟩
abbrev main_call3_call0_v27 : Ref sig .tc := ⟨.hbm, 127, rfl⟩
abbrev main_call3_call0_v28 : Ref sig .tc := ⟨.hbm, 128, rfl⟩
abbrev main_call3_call0_v29 : Ref sig .tc := ⟨.hbm, 129, rfl⟩
abbrev main_call3_call0_v30 : Ref sig .tc := ⟨.hbm, 130, rfl⟩
abbrev main_call3_call0_v31 : Ref sig .tc := ⟨.hbm, 131, rfl⟩
abbrev main_call3_call0_cst_10 : Ref sig .tc := ⟨.hbm, 132, rfl⟩
abbrev main_call3_call0_v32 : Ref sig .tc := ⟨.hbm, 133, rfl⟩
abbrev main_v28_2 : Ref sig .tc := ⟨.hbm, 134, rfl⟩
abbrev main_v28_0 : Ref sig .tc := ⟨.hbm, 135, rfl⟩
abbrev main_v29 : Ref sig .tc := ⟨.hbm, 136, rfl⟩
abbrev main_v30 : Ref sig .tc := ⟨.hbm, 137, rfl⟩
abbrev main_cst_3 : Ref sig .tc := ⟨.hbm, 138, rfl⟩
abbrev main_call4_v0 : Ref sig .tc := ⟨.hbm, 139, rfl⟩
abbrev main_v31_1 : Ref sig .tc := ⟨.hbm, 140, rfl⟩
abbrev main_call4_v2 : Ref sig .tc := ⟨.hbm, 141, rfl⟩
abbrev main_v31_0 : Ref sig .tc := ⟨.hbm, 142, rfl⟩
abbrev main_call4_cst : Ref sig .tc := ⟨.hbm, 143, rfl⟩
abbrev main_v31_2 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call5_cst : Ref sig .tc := ⟨.hbm, 153, rfl⟩
abbrev main_call5_v0 : Ref sig .tc := ⟨.hbm, 154, rfl⟩
abbrev main_v40 : Ref sig .tc := ⟨.hbm, 155, rfl⟩
abbrev main_v41 : Ref sig .tc := ⟨.hbm, 156, rfl⟩
abbrev main_call6_v0 : Ref sig .tc := ⟨.hbm, 157, rfl⟩
abbrev main_call6_v1 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_cst_4 : Ref sig .tc := ⟨.hbm, 162, rfl⟩
abbrev main_v45 : Ref sig .tc := ⟨.hbm, 163, rfl⟩
abbrev main_call7_cst : Ref sig .tc := ⟨.hbm, 164, rfl⟩
abbrev main_call7_v0 : Ref sig .tc := ⟨.hbm, 165, rfl⟩
abbrev main_v46 : Ref sig .tc := ⟨.hbm, 166, rfl⟩
abbrev main_call8_cst : Ref sig .tc := ⟨.hbm, 167, rfl⟩
abbrev main_call8_v0 : Ref sig .tc := ⟨.hbm, 168, rfl⟩
abbrev main_v47 : Ref sig .tc := ⟨.hbm, 169, rfl⟩
abbrev main_call9_v0 : Ref sig .tc := ⟨.hbm, 170, rfl⟩
abbrev main_call9_v1 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_cst_5 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩

abbrev nD : Nat := 1
abbrev τ : Topo := Topo.v7x

variable {F : FTy → Type} [FloatOps F]
-- ==== Kernel2.lean ====
abbrev S2x1x4096x5632 : Shape := ⟨4, ![2, 1, 4096, 5632]⟩
abbrev S5632x2048 : Shape := ⟨2, ![5632, 2048]⟩
abbrev S4096x2048 : Shape := ⟨2, ![4096, 2048]⟩
abbrev S_ : Shape := ⟨0, ![]⟩
abbrev S8x128 : Shape := ⟨2, ![8, 128]⟩
abbrev S1x4096x2048 : Shape := ⟨3, ![1, 4096, 2048]⟩
abbrev S1x5632x2048 : Shape := ⟨3, ![1, 5632, 2048]⟩
abbrev S1x512x2048 : Shape := ⟨3, ![1, 512, 2048]⟩
abbrev S1x2816x2048 : Shape := ⟨3, ![1, 2816, 2048]⟩
abbrev S2x1x512x2816 : Shape := ⟨4, ![2, 1, 512, 2816]⟩
abbrev S512x2048 : Shape := ⟨2, ![512, 2048]⟩
abbrev S2816x2048 : Shape := ⟨2, ![2816, 2048]⟩
abbrev S512x2816 : Shape := ⟨2, ![512, 2816]⟩
abbrev S1x1x512x2816 : Shape := ⟨4, ![1, 1, 512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S2x1x4096x5632, .f32⟩
  | .hbm, ⟨1, _⟩ => ⟨S5632x2048, .f32⟩
  | .hbm, ⟨2, _⟩ => ⟨S4096x2048, .f32⟩
  | .hbm, ⟨3, _⟩ => ⟨S2x1x4096x5632, .bf16⟩
  | .hbm, ⟨4, _⟩ => ⟨S4096x2048, .bf16⟩
  | .hbm, ⟨5, _⟩ => ⟨S5632x2048, .bf16⟩
  | .hbm, ⟨6, _⟩ => ⟨S_, .f32⟩
  | .hbm, ⟨7, _⟩ => ⟨S8x128, .f32⟩
  | .hbm, ⟨8, _⟩ => ⟨S1x4096x2048, .bf16⟩
  | .hbm, ⟨9, _⟩ => ⟨S1x5632x2048, .bf16⟩
  | .hbm, ⟨10, _⟩ => ⟨S2x1x4096x5632, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2816x2048, .bf16⟩
  | .local _ .vmem, ⟨3, _⟩ => ⟨S2x1x512x2816, .bf16⟩
  | .local _ .vmem, ⟨4, _⟩ => ⟨S2x1x512x2816, .bf16⟩
  | .local _ .vmem, ⟨5, _⟩ => ⟨S8x128, .f32⟩
  | .local _ .vmem, ⟨6, _⟩ => ⟨S2x1x512x2816, .bf16⟩
  | .local _ .vmem, ⟨7, _⟩ => ⟨S2x1x512x2816, .bf16⟩
  | _, _ => ⟨S2x1x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2x1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2x1x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S2x1x4096x5632 : Shape := ⟨4, ![2, 1, 4096, 5632]⟩
abbrev S5632x2048 : Shape := ⟨2, ![5632, 2048]⟩
abbrev S4096x2048 : Shape := ⟨2, ![4096, 2048]⟩
abbrev S1x1x4096x5632 : Shape := ⟨4, ![1, 1, 4096, 5632]⟩
abbrev S1x4096x5632 : Shape := ⟨3, ![1, 4096, 5632]⟩
abbrev S_ : Shape := ⟨0, ![]⟩
abbrev S1x4096x2048 : Shape := ⟨3, ![1, 4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x1x4096x5632, .f32⟩
  | .hbm, ⟨1, _⟩ => ⟨S5632x2048, .f32⟩
  | .hbm, ⟨2, _⟩ => ⟨S4096x2048, .f32⟩
  | .hbm, ⟨3, _⟩ => ⟨S1x1x4096x5632, .f32⟩
  | .hbm, ⟨4, _⟩ => ⟨S1x4096x5632, .f32⟩
  | .hbm, ⟨5, _⟩ => ⟨S1x1x4096x5632, .f32⟩
  | .hbm, ⟨6, _⟩ => ⟨S1x4096x5632, .f32⟩
  | .hbm, ⟨7, _⟩ => ⟨S1x4096x5632, .f32⟩
  | .hbm, ⟨8, _⟩ => ⟨S1x4096x5632, .f32⟩
  | .hbm, ⟨9, _⟩ => ⟨S_, .f32⟩
  | .hbm, ⟨10, _⟩ => ⟨S1x4096x5632, .f32⟩
  | .hbm, ⟨11, _⟩ => ⟨S1x4096x5632, .f32⟩
  | .hbm, ⟨12, _⟩ => ⟨S_, .f32⟩
  | .hbm, ⟨13, _⟩ => ⟨S1x4096x5632, .f32⟩
  | .hbm, ⟨14, _⟩ => ⟨S1x4096x5632, .f32⟩
  | .hbm, ⟨15, _⟩ => ⟨S_, .f32⟩
  | .hbm, ⟨16, _⟩ => ⟨S1x4096x5632, .f32⟩
  | .hbm, ⟨17, _⟩ => ⟨S1x4096x5632, .f32⟩
  | .hbm, ⟨18, _⟩ => ⟨S1x4096x5632, .f32⟩
  | .hbm, ⟨19, _⟩ => ⟨S1x4096x5632, .f32⟩
  | .hbm, ⟨20, _⟩ => ⟨S1x4096x5632, .f32⟩
  | .hbm, ⟨21, _⟩ => ⟨S1x4096x2048, .f32⟩
  | .hbm, ⟨22, _⟩ => ⟨S1x4096x2048, .f32⟩
  | .hbm, ⟨23, _⟩ => ⟨S1x4096x5632, .f32⟩
  | .hbm, ⟨24, _⟩ => ⟨S1x4096x5632, .f32⟩
  | .hbm, ⟨25, _⟩ => ⟨S1x4096x5632, .f32⟩
  | .hbm, ⟨26, _⟩ => ⟨S1x4096x5632, .f32⟩
  | .hbm, ⟨27, _⟩ => ⟨S1x4096x5632, .f32⟩
  | .hbm, ⟨28, _⟩ => ⟨S1x4096x5632, .f32⟩
  | .hbm, ⟨29, _⟩ => ⟨S1x4096x5632, .f32⟩
  | .hbm, ⟨30, _⟩ => ⟨S1x1x4096x5632, .f32⟩
  | .hbm, ⟨31, _⟩ => ⟨S1x1x4096x5632, .f32⟩
  | .hbm, ⟨32, _⟩ => ⟨S2x1x4096x5632, .f32⟩
  | .hbm, ⟨33, _⟩ => ⟨S2x1x4096x5632, .bf16⟩
  | _, _ => ⟨S2x1x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S1x4096x5632 : Shape := ⟨3, ![1, 4096, 5632]⟩
abbrev S1x4096x2048 : Shape := ⟨3, ![1, 4096, 2048]⟩
abbrev S1x5632x2048 : Shape := ⟨3, ![1, 5632, 2048]⟩
abbrev S1x4096x512 : Shape := ⟨3, ![1, 4096, 512]⟩
abbrev S1x4096x1024 : Shape := ⟨3, ![1, 4096, 1024]⟩
abbrev S1x512x1024 : Shape := ⟨3, ![1, 512, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S1x4096x5632, .bf16⟩
  | .hbm, ⟨4, _⟩ => ⟨S4096x2048, .bf16⟩
  | .hbm, ⟨5, _⟩ => ⟨S1x4096x2048, .bf16⟩
  | .hbm, ⟨6, _⟩ => ⟨S1x5632x2048, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .bf16⟩
  | .local _ .vmem, ⟨3, _⟩ => ⟨S1x512x1024, .bf16⟩
  | .local _ .vmem, ⟨4, _⟩ => ⟨S1x512x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | .hbm, ⟨8, _⟩ => ⟨S1x5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S2x4096x5632 : Shape := ⟨3, ![2, 4096, 5632]⟩
abbrev S1x4096x2048 : Shape := ⟨3, ![1, 4096, 2048]⟩
abbrev S4x2x2048x1408 : Shape := ⟨4, ![4, 2, 2048, 1408]⟩
abbrev S1x4096x512 : Shape := ⟨3, ![1, 4096, 512]⟩
abbrev S1x4096x2816 : Shape := ⟨3, ![1, 4096, 2816]⟩
abbrev S1x2x512x1408 : Shape := ⟨4, ![1, 2, 512, 1408]⟩
abbrev S4096x512 : Shape := ⟨2, ![4096, 512]⟩
abbrev S4096x2816 : Shape := ⟨2, ![4096, 2816]⟩
abbrev S512x2816 : Shape := ⟨2, ![512, 2816]⟩
abbrev S512x1408 : Shape := ⟨2, ![512, 1408]⟩
abbrev S1x1x512x1408 : Shape := ⟨4, ![1, 1, 512, 1408]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2x4096x5632, .f32⟩
  | .hbm, ⟨2, _⟩ => ⟨S4096x2048, .bf16⟩
  | .hbm, ⟨3, _⟩ => ⟨S2x4096x5632, .bf16⟩
  | .hbm, ⟨4, _⟩ => ⟨S1x4096x2048, .bf16⟩
  | .hbm, ⟨5, _⟩ => ⟨S4x2x2048x1408, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x2816, .bf16⟩
  | .local _ .vmem, ⟨3, _⟩ => ⟨S1x2x512x1408, .bf16⟩
  | .local _ .vmem, ⟨4, _⟩ => ⟨S1x2x512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩
abbrev S11264x2048 : Shape := ⟨2, ![11264, 2048]⟩
abbrev S2048x4x2x1408 : Shape := ⟨4, ![2048, 4, 2, 1408]⟩
abbrev S4x2x2048x1408 : Shape := ⟨4, ![4, 2, 2048, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4096x5632, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S1x4096x5632, .f32⟩
  | .hbm, ⟨6, _⟩ => ⟨S4096x5632, .f32⟩
  | .hbm, ⟨7, _⟩ => ⟨S1x4096x5632, .f32⟩
  | .hbm, ⟨8, _⟩ => ⟨S4096x5632, .f32⟩
  | .hbm, ⟨9, _⟩ => ⟨S4096x11264, .f32⟩
  | .hbm, ⟨10, _⟩ => ⟨S11264x2048, .f32⟩
  | .hbm, ⟨11, _⟩ => ⟨S2048x11264, .f32⟩
  | .hbm, ⟨12, _⟩ => ⟨S2048x11264, .bf16⟩
  | .hbm, ⟨13, _⟩ => ⟨S2048x4x2x1408, .bf16⟩
  | .hbm, ⟨14, _⟩ => ⟨S4x2x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S2x4096x5632 : Shape := ⟨3, ![2, 4096, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S_ : Shape := ⟨0, ![]⟩
abbrev S8x128 : Shape := ⟨2, ![8, 128]⟩
abbrev S1x4096x2048 : Shape := ⟨3, ![1, 4096, 2048]⟩
abbrev S1x1024x1408 : Shape := ⟨3, ![1, 1024, 1408]⟩
abbrev S1x2048x1408 : Shape := ⟨3, ![1, 2048, 1408]⟩
abbrev S1x1024x2048 : Shape := ⟨3, ![1, 1024, 2048]⟩
abbrev S1024x1408 : Shape := ⟨2, ![1024, 1408]⟩
abbrev S2048x1408 : Shape := ⟨2, ![2048, 1408]⟩
abbrev S1024x2048 : Shape := ⟨2, ![1024, 2048]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x5632, .f32⟩
  | .hbm, ⟨1, _⟩ => ⟨S2048x11264, .f32⟩
  | .hbm, ⟨2, _⟩ => ⟨S2x4096x5632, .bf16⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S_, .f32⟩
  | .hbm, ⟨7, _⟩ => ⟨S8x128, .f32⟩
  | .hbm, ⟨8, _⟩ => ⟨S1x4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S8x128, .f32⟩
  | .local _ .vmem, ⟨5, _⟩ => ⟨S1x1024x2048, .f32⟩
  | .local _ .vmem, ⟨6, _⟩ => ⟨S1x1024x2048, .f32⟩
  | .local _ .vmem, ⟨7, _⟩ => ⟨S1x1024x2048, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S1x4096x5632 : Shape := ⟨3, ![1, 4096, 5632]⟩
abbrev S4096x5632 : Shape := ⟨2, ![4096, 5632]⟩
abbrev S1x4096x2048 : Shape := ⟨3, ![1, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S1x4096x5632, .f32⟩
  | .hbm, ⟨6, _⟩ => ⟨S4096x5632, .f32⟩
  | .hbm, ⟨7, _⟩ => ⟨S1x4096x5632, .f32⟩
  | .hbm, ⟨8, _⟩ => ⟨S4096x5632, .f32⟩
  | .hbm, ⟨9, _⟩ => ⟨S4096x11264, .f32⟩
  | .hbm, ⟨10, _⟩ => ⟨S4096x2048, .f32⟩
  | .hbm, ⟨11, _⟩ => ⟨S1x4096x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S1x4096x2048 : Shape := ⟨3, ![1, 4096, 2048]⟩
abbrev S1x2048x2048 : Shape := ⟨3, ![1, 2048, 2048]⟩
abbrev S1x4096x512 : Shape := ⟨3, ![1, 4096, 512]⟩
abbrev S1x4096x1024 : Shape := ⟨3, ![1, 4096, 1024]⟩
abbrev S1x512x1024 : Shape := ⟨3, ![1, 512, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S1x4096x2048, .bf16⟩
  | .hbm, ⟨4, _⟩ => ⟨S4096x2048, .bf16⟩
  | .hbm, ⟨5, _⟩ => ⟨S1x4096x2048, .bf16⟩
  | .hbm, ⟨6, _⟩ => ⟨S1x2048x2048, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .bf16⟩
  | .local _ .vmem, ⟨3, _⟩ => ⟨S1x512x1024, .bf16⟩
  | .local _ .vmem, ⟨4, _⟩ => ⟨S1x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x9216 : Shape := ⟨2, ![4096, 9216]⟩
abbrev S1x4096x2048 : Shape := ⟨3, ![1, 4096, 2048]⟩
abbrev S1x4096x9216 : Shape := ⟨3, ![1, 4096, 9216]⟩
abbrev S1x2048x2048 : Shape := ⟨3, ![1, 2048, 2048]⟩
abbrev S1x512x2048 : Shape := ⟨3, ![1, 512, 2048]⟩
abbrev S1x1024x2048 : Shape := ⟨3, ![1, 1024, 2048]⟩
abbrev S1x512x1024 : Shape := ⟨3, ![1, 512, 1024]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 18
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x9216, .f32⟩
  | .hbm, ⟨5, _⟩ => ⟨S4096x2048, .bf16⟩
  | .hbm, ⟨6, _⟩ => ⟨S2048x2048, .bf16⟩
  | .hbm, ⟨7, _⟩ => ⟨S4096x2048, .bf16⟩
  | .hbm, ⟨8, _⟩ => ⟨S1x4096x2048, .bf16⟩
  | .hbm, ⟨9, _⟩ => ⟨S4096x2048, .bf16⟩
  | .hbm, ⟨10, _⟩ => ⟨S1x4096x2048, .bf16⟩
  | .hbm, ⟨11, _⟩ => ⟨S1x4096x9216, .f32⟩
  | .hbm, ⟨12, _⟩ => ⟨S1x4096x2048, .bf16⟩
  | .hbm, ⟨13, _⟩ => ⟨S1x2048x2048, .bf16⟩
  | .hbm, ⟨14, _⟩ => ⟨S1x4096x2048, .bf16⟩
  | .hbm, ⟨15, _⟩ => ⟨S1x4096x2048, .bf16⟩
  | .hbm, ⟨16, _⟩ => ⟨S1x4096x2048, .bf16⟩
  | .hbm, ⟨17, _⟩ => ⟨S1x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32_4 : BitVec 32 := 5#32
  let v18 : BitVec 32 := Scalar.addi arg0 c5_i32_4
  let c5_i32_5 : BitVec 32 := 5#32
  let v19 : BitVec 32 := Scalar.addi arg0 c5_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c7_i32_4 : BitVec 32 := 7#32
  let v18 : BitVec 32 := Scalar.addi arg0 c7_i32_4
  let c7_i32_5 : BitVec 32 := 7#32
  let v19 : BitVec 32 := Scalar.addi arg0 c7_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference7Ideal.lean ====
abbrev S4096x2048 : Shape := ⟨2, ![4096, 2048]⟩
abbrev S2048x2048 : Shape := ⟨2, ![2048, 2048]⟩
abbrev S4096x9216 : Shape := ⟨2, ![4096, 9216]⟩
abbrev S_ : Shape := ⟨0, ![]⟩
abbrev S1x4096x2048 : Shape := ⟨3, ![1, 4096, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x9216, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | .hbm, ⟨43, _⟩ => ⟨S1x4096x2048, .bf16⟩
  | .hbm, ⟨44, _⟩ => ⟨S4096x2048, .bf16⟩
  | .hbm, ⟨45, _⟩ => ⟨S1x4096x2048, .bf16⟩
  | .hbm, ⟨46, _⟩ => ⟨S4096x2048, .bf16⟩
  | .hbm, ⟨47, _⟩ => ⟨S1x4096x2048, .bf16⟩
  | .hbm, ⟨48, _⟩ => ⟨S4096x2048, .bf16⟩
  | .hbm, ⟨49, _⟩ => ⟨S1x4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S1x4096x2048 : Shape := ⟨3, ![1, 4096, 2048]⟩
abbrev S1x4096x1024 : Shape := ⟨3, ![1, 4096, 1024]⟩
abbrev S8x1024x256 : Shape := ⟨3, ![8, 1024, 256]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1x4096x2048, .bf16⟩
  | .hbm, ⟨5, _⟩ => ⟨S1x4096x1024, .bf16⟩
  | .hbm, ⟨6, _⟩ => ⟨S8x1024x256, .bf16⟩
  | .local _ .vmem, ⟨0, _⟩ => ⟨S1x4096x1024, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .bf16⟩
  | .local _ .vmem, ⟨4, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x8x256, .bf16⟩
  | .hbm, ⟨9, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S1024x2048 : Shape := ⟨2, ![1024, 2048]⟩
abbrev S1x4096x2048 : Shape := ⟨3, ![1, 4096, 2048]⟩
abbrev S1x1024x2048 : Shape := ⟨3, ![1, 1024, 2048]⟩
abbrev S_ : Shape := ⟨0, ![]⟩
abbrev S8x128 : Shape := ⟨2, ![8, 128]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1x4096x2048, .bf16⟩
  | .hbm, ⟨4, _⟩ => ⟨S1024x2048, .bf16⟩
  | .hbm, ⟨5, _⟩ => ⟨S1x1024x2048, .bf16⟩
  | .hbm, ⟨6, _⟩ => ⟨S_, .f32⟩
  | .hbm, ⟨7, _⟩ => ⟨S8x128, .f32⟩
  | .hbm, ⟨8, _⟩ => ⟨S1x4096x1024, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S8x128, .f32⟩
  | .local _ .vmem, ⟨4, _⟩ => ⟨S1x1024x1024, .bf16⟩
  | .local _ .vmem, ⟨5, _⟩ => ⟨S1x1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩
abbrev S1x4096x1024 : Shape := ⟨3, ![1, 4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x1024, .bf16⟩
  | .hbm, ⟨7, _⟩ => ⟨S1x4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S1024x2048 : Shape := ⟨2, ![1024, 2048]⟩
abbrev S1x4096x2048 : Shape := ⟨3, ![1, 4096, 2048]⟩
abbrev S1x1024x2048 : Shape := ⟨3, ![1, 1024, 2048]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1x4096x2048, .bf16⟩
  | .hbm, ⟨4, _⟩ => ⟨S1024x2048, .bf16⟩
  | .hbm, ⟨5, _⟩ => ⟨S1x1024x2048, .bf16⟩
  | .hbm, ⟨6, _⟩ => ⟨S1x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x1024, .f32⟩
  | .local _ .vmem, ⟨4, _⟩ => ⟨S1x1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩
abbrev S1x4096x1024 : Shape := ⟨3, ![1, 4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S1x4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S4096x9216 : Shape := ⟨2, ![4096, 9216]⟩
abbrev S1x4096x2048 : Shape := ⟨3, ![1, 4096, 2048]⟩
abbrev S1x4096x9216 : Shape := ⟨3, ![1, 4096, 9216]⟩
abbrev S4x2x2048x1152 : Shape := ⟨4, ![4, 2, 2048, 1152]⟩
abbrev S1x4096x512 : Shape := ⟨3, ![1, 4096, 512]⟩
abbrev S1x4096x2304 : Shape := ⟨3, ![1, 4096, 2304]⟩
abbrev S1x2x512x1152 : Shape := ⟨4, ![1, 2, 512, 1152]⟩
abbrev S4096x512 : Shape := ⟨2, ![4096, 512]⟩
abbrev S4096x2304 : Shape := ⟨2, ![4096, 2304]⟩
abbrev S512x2304 : Shape := ⟨2, ![512, 2304]⟩
abbrev S512x1152 : Shape := ⟨2, ![512, 1152]⟩
abbrev S1x1x512x1152 : Shape := ⟨4, ![1, 1, 512, 1152]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x9216, .f32⟩
  | .hbm, ⟨2, _⟩ => ⟨S4096x2048, .bf16⟩
  | .hbm, ⟨3, _⟩ => ⟨S4096x9216, .bf16⟩
  | .hbm, ⟨4, _⟩ => ⟨S1x4096x2048, .bf16⟩
  | .hbm, ⟨5, _⟩ => ⟨S1x4096x9216, .bf16⟩
  | .hbm, ⟨6, _⟩ => ⟨S4x2x2048x1152, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x2304, .bf16⟩
  | .local _ .vmem, ⟨3, _⟩ => ⟨S1x2x512x1152, .bf16⟩
  | .local _ .vmem, ⟨4, _⟩ => ⟨S1x2x512x1152, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x4096x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x2x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x9216 : Shape := ⟨2, ![4096, 9216]⟩
abbrev S_ : Shape := ⟨0, ![]⟩
abbrev S2048x9216 : Shape := ⟨2, ![2048, 9216]⟩
abbrev S9216x2048 : Shape := ⟨2, ![9216, 2048]⟩
abbrev S2048x4x2x1152 : Shape := ⟨4, ![2048, 4, 2, 1152]⟩
abbrev S4x2x2048x1152 : Shape := ⟨4, ![4, 2, 2048, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x9216, .f32⟩
  | .hbm, ⟨2, _⟩ => ⟨S_, .f32⟩
  | .hbm, ⟨3, _⟩ => ⟨S2048x9216, .f32⟩
  | .hbm, ⟨4, _⟩ => ⟨S4096x9216, .f32⟩
  | .hbm, ⟨5, _⟩ => ⟨S9216x2048, .f32⟩
  | .hbm, ⟨6, _⟩ => ⟨S2048x9216, .f32⟩
  | .hbm, ⟨7, _⟩ => ⟨S2048x9216, .bf16⟩
  | .hbm, ⟨8, _⟩ => ⟨S2048x4x2x1152, .bf16⟩
  | .hbm, ⟨9, _⟩ => ⟨S4x2x2048x1152, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x9216 : Shape := ⟨2, ![4096, 9216]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S_ : Shape := ⟨0, ![]⟩
abbrev S8x128 : Shape := ⟨2, ![8, 128]⟩
abbrev S1x4096x9216 : Shape := ⟨3, ![1, 4096, 9216]⟩
abbrev S1x4096x2048 : Shape := ⟨3, ![1, 4096, 2048]⟩
abbrev S1x1024x1152 : Shape := ⟨3, ![1, 1024, 1152]⟩
abbrev S1x2048x1152 : Shape := ⟨3, ![1, 2048, 1152]⟩
abbrev S1x1024x2048 : Shape := ⟨3, ![1, 1024, 2048]⟩
abbrev S1024x1152 : Shape := ⟨2, ![1024, 1152]⟩
abbrev S2048x1152 : Shape := ⟨2, ![2048, 1152]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4096x9216, .f32⟩
  | .hbm, ⟨1, _⟩ => ⟨S2048x9216, .f32⟩
  | .hbm, ⟨2, _⟩ => ⟨S4096x9216, .bf16⟩
  | .hbm, ⟨3, _⟩ => ⟨S2048x9216, .bf16⟩
  | .hbm, ⟨4, _⟩ => ⟨S2048x8x1152, .bf16⟩
  | .hbm, ⟨5, _⟩ => ⟨S8x2048x1152, .bf16⟩
  | .hbm, ⟨6, _⟩ => ⟨S_, .f32⟩
  | .hbm, ⟨7, _⟩ => ⟨S8x128, .f32⟩
  | .hbm, ⟨8, _⟩ => ⟨S1x4096x9216, .bf16⟩
  | .hbm, ⟨9, _⟩ => ⟨S1x4096x2048, .f32⟩
  | .local _ .vmem, ⟨0, _⟩ => ⟨S1x1024x1152, .bf16⟩
  | .local _ .vmem, ⟨1, _⟩ => ⟨S1x1024x1152, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S8x128, .f32⟩
  | .local _ .vmem, ⟨5, _⟩ => ⟨S1x1024x2048, .f32⟩
  | .local _ .vmem, ⟨6, _⟩ => ⟨S1x1024x2048, .f32⟩
  | .local _ .vmem, ⟨7, _⟩ => ⟨S1x1024x2048, .f32⟩
  | _, _ => ⟨S4096x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg2 c8_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg2 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x9216 : Shape := ⟨2, ![4096, 9216]⟩
abbrev S2048x9216 : Shape := ⟨2, ![2048, 9216]⟩
abbrev S_ : Shape := ⟨0, ![]⟩
abbrev S4096x2048 : Shape := ⟨2, ![4096, 2048]⟩
abbrev S1x4096x2048 : Shape := ⟨3, ![1, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x9216, .f32⟩
  | .hbm, ⟨1, _⟩ => ⟨S2048x9216, .f32⟩
  | .hbm, ⟨2, _⟩ => ⟨S_, .f32⟩
  | .hbm, ⟨3, _⟩ => ⟨S4096x2048, .f32⟩
  | .hbm, ⟨4, _⟩ => ⟨S4096x9216, .f32⟩
  | .hbm, ⟨5, _⟩ => ⟨S4096x2048, .f32⟩
  | .hbm, ⟨6, _⟩ => ⟨S1x4096x2048, .f32⟩
  | _, _ => ⟨S4096x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S1x4096x2048 : Shape := ⟨3, ![1, 4096, 2048]⟩
abbrev S2x4x2048x1408 : Shape := ⟨4, ![2, 4, 2048, 1408]⟩
abbrev S2x1x4096x5632 : Shape := ⟨4, ![2, 1, 4096, 5632]⟩
abbrev S1x4096x5632 : Shape := ⟨3, ![1, 4096, 5632]⟩
abbrev S1x512x2048 : Shape := ⟨3, ![1, 512, 2048]⟩
abbrev S2x1x2048x1408 : Shape := ⟨4, ![2, 1, 2048, 1408]⟩
abbrev S2x1x512x1408 : Shape := ⟨4, ![2, 1, 512, 1408]⟩
abbrev S1x512x1408 : Shape := ⟨3, ![1, 512, 1408]⟩
abbrev S2048x2816 : Shape := ⟨2, ![2048, 2816]⟩
abbrev S1x1x2048x1408 : Shape := ⟨4, ![1, 1, 2048, 1408]⟩
abbrev S2048x1408 : Shape := ⟨2, ![2048, 1408]⟩
abbrev S512x2048 : Shape := ⟨2, ![512, 2048]⟩
abbrev S512x2816 : Shape := ⟨2, ![512, 2816]⟩
abbrev S512x1408 : Shape := ⟨2, ![512, 1408]⟩
abbrev S1x1x512x1408 : Shape := ⟨4, ![1, 1, 512, 1408]⟩

abbrev nBuf : Space → Nat
  | .hbm => 10
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x2048, .bf16⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S1x4096x2048, .bf16⟩
  | .hbm, ⟨7, _⟩ => ⟨S2x4x2048x1408, .bf16⟩
  | .hbm, ⟨8, _⟩ => ⟨S2x1x4096x5632, .bf16⟩
  | .hbm, ⟨9, _⟩ => ⟨S1x4096x5632, .bf16⟩
  | .local _ .vmem, ⟨0, _⟩ => ⟨S1x512x2048, .bf16⟩
  | .local _ .vmem, ⟨1, _⟩ => ⟨S1x512x2048, .bf16⟩
  | .local _ .vmem, ⟨2, _⟩ => ⟨S2x1x2048x1408, .bf16⟩
  | .local _ .vmem, ⟨3, _⟩ => ⟨S2x1x512x1408, .bf16⟩
  | .local _ .vmem, ⟨4, _⟩ => ⟨S2x1x512x1408, .bf16⟩
  | .local _ .vmem, ⟨5, _⟩ => ⟨S1x512x1408, .bf16⟩
  | .local _ .vmem, ⟨6, _⟩ => ⟨S1x512x1408, .bf16⟩
  | .local _ .vmem, ⟨7, _⟩ => ⟨S2048x2816, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2x1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S2x1x4096x5632 : Shape := ⟨4, ![2, 1, 4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S1x4096x5632, .f32⟩
  | .hbm, ⟨6, _⟩ => ⟨S1x4096x5632, .f32⟩
  | .hbm, ⟨7, _⟩ => ⟨S2x4096x5632, .f32⟩
  | .hbm, ⟨8, _⟩ => ⟨S2x4096x5632, .bf16⟩
  | .hbm, ⟨9, _⟩ => ⟨S2x1x4096x5632, .bf16⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .bf16⟩
  | .hbm, ⟨21, _⟩ => ⟨S1x4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel14.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1x4096x5632 : Shape := ⟨3, ![1, 4096, 5632]⟩
abbrev S1x5632x2048 : Shape := ⟨3, ![1, 5632, 2048]⟩
abbrev S1x4096x2048 : Shape := ⟨3, ![1, 4096, 2048]⟩
abbrev S1x512x5632 : Shape := ⟨3, ![1, 512, 5632]⟩
abbrev S1x5632x1024 : Shape := ⟨3, ![1, 5632, 1024]⟩
abbrev S1x512x1024 : Shape := ⟨3, ![1, 512, 1024]⟩
abbrev S1x1024 : Shape := ⟨2, ![1, 1024]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S1x2048, .f32⟩
  | .hbm, ⟨4, _⟩ => ⟨S4096x5632, .bf16⟩
  | .hbm, ⟨5, _⟩ => ⟨S1x4096x5632, .bf16⟩
  | .hbm, ⟨6, _⟩ => ⟨S5632x2048, .bf16⟩
  | .hbm, ⟨7, _⟩ => ⟨S1x5632x2048, .bf16⟩
  | .hbm, ⟨8, _⟩ => ⟨S1x4096x2048, .f32⟩
  | .hbm, ⟨9, _⟩ => ⟨S1x4096x2048, .bf16⟩
  | .hbm, ⟨10, _⟩ => ⟨S1x4096x2048, .f32⟩
  | .local _ .vmem, ⟨0, _⟩ => ⟨S1x512x5632, .bf16⟩
  | .local _ .vmem, ⟨1, _⟩ => ⟨S1x512x5632, .bf16⟩
  | .local _ .vmem, ⟨2, _⟩ => ⟨S1x5632x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1x4096x2048 : Shape := ⟨3, ![1, 4096, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x4096x2048, .bf16⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S1x4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel15.lean ====
abbrev S4096x2048 : Shape := ⟨2, ![4096, 2048]⟩
abbrev S2048x9216 : Shape := ⟨2, ![2048, 9216]⟩
abbrev S2048x8x1152 : Shape := ⟨3, ![2048, 8, 1152]⟩
abbrev S8x2048x1152 : Shape := ⟨3, ![8, 2048, 1152]⟩
abbrev S1x4096x2048 : Shape := ⟨3, ![1, 4096, 2048]⟩
abbrev S4x2x2048x1152 : Shape := ⟨4, ![4, 2, 2048, 1152]⟩
abbrev S1x4096x9216 : Shape := ⟨3, ![1, 4096, 9216]⟩
abbrev S1x512x2048 : Shape := ⟨3, ![1, 512, 2048]⟩
abbrev S1x2x2048x1152 : Shape := ⟨4, ![1, 2, 2048, 1152]⟩
abbrev S1x512x2304 : Shape := ⟨3, ![1, 512, 2304]⟩
abbrev S2048x2304 : Shape := ⟨2, ![2048, 2304]⟩
abbrev S1x1x2048x1152 : Shape := ⟨4, ![1, 1, 2048, 1152]⟩
abbrev S2048x1152 : Shape := ⟨2, ![2048, 1152]⟩
abbrev S512x2048 : Shape := ⟨2, ![512, 2048]⟩
abbrev S512x2304 : Shape := ⟨2, ![512, 2304]⟩

abbrev nBuf : Space → Nat
  | .hbm => 9
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x2048, .bf16⟩
  | .hbm, ⟨3, _⟩ => ⟨S2048x9216, .bf16⟩
  | .hbm, ⟨4, _⟩ => ⟨S2048x8x1152, .bf16⟩
  | .hbm, ⟨5, _⟩ => ⟨S8x2048x1152, .bf16⟩
  | .hbm, ⟨6, _⟩ => ⟨S1x4096x2048, .bf16⟩
  | .hbm, ⟨7, _⟩ => ⟨S4x2x2048x1152, .bf16⟩
  | .hbm, ⟨8, _⟩ => ⟨S1x4096x9216, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2x2048x1152, .bf16⟩
  | .local _ .vmem, ⟨3, _⟩ => ⟨S1x512x2304, .f32⟩
  | .local _ .vmem, ⟨4, _⟩ => ⟨S1x512x2304, .f32⟩
  | .local _ .vmem, ⟨5, _⟩ => ⟨S2048x2304, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2x2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x9216 : Shape := ⟨2, ![2048, 9216]⟩
abbrev S4096x9216 : Shape := ⟨2, ![4096, 9216]⟩
abbrev S1x4096x9216 : Shape := ⟨3, ![1, 4096, 9216]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x9216, .f32⟩
  | .hbm, ⟨2, _⟩ => ⟨S4096x9216, .f32⟩
  | .hbm, ⟨3, _⟩ => ⟨S1x4096x9216, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x1024 : Shape := ⟨2, ![4096, 1024]⟩
abbrev S1024x2048 : Shape := ⟨2, ![1024, 2048]⟩
abbrev S1x1024x2048 : Shape := ⟨3, ![1, 1024, 2048]⟩
abbrev S1x4096x1024 : Shape := ⟨3, ![1, 4096, 1024]⟩
abbrev S1x4096x2048 : Shape := ⟨3, ![1, 4096, 2048]⟩
abbrev S1x1024x1024 : Shape := ⟨3, ![1, 1024, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S1x1024x2048, .bf16⟩
  | .hbm, ⟨5, _⟩ => ⟨S1x4096x1024, .bf16⟩
  | .hbm, ⟨6, _⟩ => ⟨S1x4096x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x2048 : Shape := ⟨2, ![1024, 2048]⟩
abbrev S4096x2048 : Shape := ⟨2, ![4096, 2048]⟩
abbrev S1x4096x2048 : Shape := ⟨3, ![1, 4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | .hbm, ⟨4, _⟩ => ⟨S1x4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x1024 : Shape := ⟨2, ![4096, 1024]⟩
abbrev S1024x2048 : Shape := ⟨2, ![1024, 2048]⟩
abbrev S4096x2048 : Shape := ⟨2, ![4096, 2048]⟩
abbrev S4096x9216 : Shape := ⟨2, ![4096, 9216]⟩
abbrev S1x1024x2048 : Shape := ⟨3, ![1, 1024, 2048]⟩
abbrev S1x4096x2048 : Shape := ⟨3, ![1, 4096, 2048]⟩
abbrev S1x4096x9216 : Shape := ⟨3, ![1, 4096, 9216]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x9216, .f32⟩
  | .hbm, ⟨4, _⟩ => ⟨S4096x1024, .bf16⟩
  | .hbm, ⟨5, _⟩ => ⟨S1024x2048, .bf16⟩
  | .hbm, ⟨6, _⟩ => ⟨S1x1024x2048, .bf16⟩
  | .hbm, ⟨7, _⟩ => ⟨S4096x2048, .bf16⟩
  | .hbm, ⟨8, _⟩ => ⟨S1x4096x2048, .bf16⟩
  | .hbm, ⟨9, _⟩ => ⟨S1x4096x9216, .f32⟩
  | .hbm, ⟨10, _⟩ => ⟨S1x4096x1024, .bf16⟩
  | .hbm, ⟨11, _⟩ => ⟨S1x4096x2048, .bf16⟩
  | .hbm, ⟨12, _⟩ => ⟨S1x4096x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32_4 : BitVec 32 := 5#32
  let v18 : BitVec 32 := Scalar.addi arg0 c5_i32_4
  let c5_i32_5 : BitVec 32 := 5#32
  let v19 : BitVec 32 := Scalar.addi arg0 c5_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c7_i32_4 : BitVec 32 := 7#32
  let v18 : BitVec 32 := Scalar.addi arg0 c7_i32_4
  let c7_i32_5 : BitVec 32 := 7#32
  let v19 : BitVec 32 := Scalar.addi arg0 c7_i32_5
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v19 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v17.toNat, arg1.toNat, v29.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference17Ideal.lean ====
abbrev S4096x1024 : Shape := ⟨2, ![4096, 1024]⟩
abbrev S1024x2048 : Shape := ⟨2, ![1024, 2048]⟩
abbrev S4096x2048 : Shape := ⟨2, ![4096, 2048]⟩
abbrev S4096x9216 : Shape := ⟨2, ![4096, 9216]⟩
abbrev S_ : Shape := ⟨0, ![]⟩
abbrev S1x4096x2048 : Shape := ⟨3, ![1, 4096, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x9216, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | .hbm, ⟨27, _⟩ => ⟨S1x4096x2048, .bf16⟩
  | .hbm, ⟨28, _⟩ => ⟨S4096x2048, .bf16⟩
  | .hbm, ⟨29, _⟩ => ⟨S1x4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel18.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩
abbrev S1x2048x2048 : Shape := ⟨3, ![1, 2048, 2048]⟩
abbrev S1x512x2048 : Shape := ⟨3, ![1, 512, 2048]⟩
abbrev S1x2048x1024 : Shape := ⟨3, ![1, 2048, 1024]⟩
abbrev S1x512x1024 : Shape := ⟨3, ![1, 512, 1024]⟩
abbrev S1x1024 : Shape := ⟨2, ![1, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x4096x2048, .bf16⟩
  | .hbm, ⟨6, _⟩ => ⟨S2048x2048, .bf16⟩
  | .hbm, ⟨7, _⟩ => ⟨S1x2048x2048, .bf16⟩
  | .hbm, ⟨8, _⟩ => ⟨S1x4096x2048, .f32⟩
  | .hbm, ⟨9, _⟩ => ⟨S1x4096x2048, .bf16⟩
  | .hbm, ⟨10, _⟩ => ⟨S1x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .f32⟩
  | .local _ .vmem, ⟨10, _⟩ => ⟨S1x512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference18Ideal.lean ====
abbrev S4096x2048 : Shape := ⟨2, ![4096, 2048]⟩
abbrev S2048x2048 : Shape := ⟨2, ![2048, 2048]⟩
abbrev S1x2048 : Shape := ⟨2, ![1, 2048]⟩
abbrev S1x4096x2048 : Shape := ⟨3, ![1, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel19.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S4096x2048, .bf16⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference19Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S4096x2048, .bf16⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference20Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S1x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference21Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 11
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S1x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S1x128, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference22Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S4096x2048, .bf16⟩
  | .hbm, ⟨86, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel23.lean ====
abbrev S8x2048 : Shape := ⟨2, ![8, 2048]⟩
abbrev S8x2304 : Shape := ⟨2, ![8, 2304]⟩
abbrev S_ : Shape := ⟨0, ![]⟩
abbrev S128x2304 : Shape := ⟨2, ![128, 2304]⟩
abbrev S2048x8 : Shape := ⟨2, ![2048, 8]⟩
abbrev S2048x128 : Shape := ⟨2, ![2048, 128]⟩
abbrev S1x2048x128 : Shape := ⟨3, ![1, 2048, 128]⟩
abbrev S1x128x2304 : Shape := ⟨3, ![1, 128, 2304]⟩
abbrev S1x2048x2304 : Shape := ⟨3, ![1, 2048, 2304]⟩
abbrev S1x256x128 : Shape := ⟨3, ![1, 256, 128]⟩
abbrev S1x256x2304 : Shape := ⟨3, ![1, 256, 2304]⟩
abbrev S256x128 : Shape := ⟨2, ![256, 128]⟩
abbrev S256x2304 : Shape := ⟨2, ![256, 2304]⟩

abbrev nBuf : Space → Nat
  | .hbm => 12
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S_, .i32⟩
  | .hbm, ⟨3, _⟩ => ⟨S_, .f32⟩
  | .hbm, ⟨4, _⟩ => ⟨S128x2304, .f32⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S1x2048x128, .f32⟩
  | .hbm, ⟨10, _⟩ => ⟨S1x128x2304, .f32⟩
  | .hbm, ⟨11, _⟩ => ⟨S1x2048x2304, .f32⟩
  | .local _ .vmem, ⟨0, _⟩ => ⟨S1x256x128, .f32⟩
  | .local _ .vmem, ⟨1, _⟩ => ⟨S1x256x128, .f32⟩
  | .local _ .vmem, ⟨2, _⟩ => ⟨S1x128x2304, .f32⟩
  | .local _ .vmem, ⟨3, _⟩ => ⟨S1x256x2304, .f32⟩
  | .local _ .vmem, ⟨4, _⟩ => ⟨S1x256x2304, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x128x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8x2048 : Shape := ⟨2, ![8, 2048]⟩
abbrev S8x2304 : Shape := ⟨2, ![8, 2304]⟩
abbrev S_ : Shape := ⟨0, ![]⟩
abbrev S2048x2304 : Shape := ⟨2, ![2048, 2304]⟩
abbrev S2304x2048 : Shape := ⟨2, ![2304, 2048]⟩
abbrev S1x2048x2304 : Shape := ⟨3, ![1, 2048, 2304]⟩

abbrev nBuf : Space → Nat
  | .hbm => 8
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S_, .f32⟩
  | .hbm, ⟨3, _⟩ => ⟨S2048x2304, .f32⟩
  | .hbm, ⟨4, _⟩ => ⟨S8x2304, .f32⟩
  | .hbm, ⟨5, _⟩ => ⟨S2304x2048, .f32⟩
  | .hbm, ⟨6, _⟩ => ⟨S2048x2304, .f32⟩
  | .hbm, ⟨7, _⟩ => ⟨S1x2048x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference24Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel25.lean ====
abbrev S8x2048 : Shape := ⟨2, ![8, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .local _ .vmem, ⟨0, _⟩ => ⟨S8x2048, .f32⟩
  | .local _ .vmem, ⟨1, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference25Ideal.lean ====
abbrev S8x2048 : Shape := ⟨2, ![8, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Kernel26.lean ====
abbrev S8x2048 : Shape := ⟨2, ![8, 2048]⟩
abbrev S2048x2304 : Shape := ⟨2, ![2048, 2304]⟩
abbrev S1x2304 : Shape := ⟨2, ![1, 2304]⟩
abbrev S1x8x2048 : Shape := ⟨3, ![1, 8, 2048]⟩
abbrev S1x2048x2304 : Shape := ⟨3, ![1, 2048, 2304]⟩
abbrev S1x8x2304 : Shape := ⟨3, ![1, 8, 2304]⟩
abbrev S1x8x512 : Shape := ⟨3, ![1, 8, 512]⟩
abbrev S1x512x2304 : Shape := ⟨3, ![1, 512, 2304]⟩
abbrev S8x512 : Shape := ⟨2, ![8, 512]⟩
abbrev S512x2304 : Shape := ⟨2, ![512, 2304]⟩
abbrev S8x2304 : Shape := ⟨2, ![8, 2304]⟩

abbrev nBuf : Space → Nat
  | .hbm => 6
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x2304, .f32⟩
  | .hbm, ⟨2, _⟩ => ⟨S1x2304, .f32⟩
  | .hbm, ⟨3, _⟩ => ⟨S1x8x2048, .f32⟩
  | .hbm, ⟨4, _⟩ => ⟨S1x2048x2304, .f32⟩
  | .hbm, ⟨5, _⟩ => ⟨S1x8x2304, .f32⟩
  | .local _ .vmem, ⟨0, _⟩ => ⟨S1x8x512, .f32⟩
  | .local _ .vmem, ⟨1, _⟩ => ⟨S1x8x512, .f32⟩
  | .local _ .vmem, ⟨2, _⟩ => ⟨S1x512x2304, .f32⟩
  | .local _ .vmem, ⟨3, _⟩ => ⟨S1x512x2304, .f32⟩
  | .local _ .vmem, ⟨4, _⟩ => ⟨S1x2304, .f32⟩
  | .local _ .vmem, ⟨5, _⟩ => ⟨S1x8x2304, .f32⟩
  | .local _ .vmem, ⟨6, _⟩ => ⟨S1x8x2304, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_12 : BitVec 32 := 0#32
  let v18 : BitVec 1 := Scalar.cmpi .ne v17 c0_i32_12
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x8x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference26Ideal.lean ====
abbrev S8x2048 : Shape := ⟨2, ![8, 2048]⟩
abbrev S2048x2304 : Shape := ⟨2, ![2048, 2304]⟩
abbrev S1x2304 : Shape := ⟨2, ![1, 2304]⟩
abbrev S8x2304 : Shape := ⟨2, ![8, 2304]⟩
abbrev S1x8x2304 : Shape := ⟨3, ![1, 8, 2304]⟩

abbrev nBuf : Space → Nat
  | .hbm => 7
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x2304, .f32⟩
  | .hbm, ⟨2, _⟩ => ⟨S1x2304, .f32⟩
  | .hbm, ⟨3, _⟩ => ⟨S8x2304, .f32⟩
  | .hbm, ⟨4, _⟩ => ⟨S8x2304, .f32⟩
  | .hbm, ⟨5, _⟩ => ⟨S8x2304, .f32⟩
  | .hbm, ⟨6, _⟩ => ⟨S1x8x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S4096x3072 : Shape := ⟨2, ![4096, 3072]⟩
abbrev S4096x1024 : Shape := ⟨2, ![4096, 1024]⟩
abbrev S256x512 : Shape := ⟨2, ![256, 512]⟩
abbrev S4096x512 : Shape := ⟨2, ![4096, 512]⟩
abbrev S256x256 : Shape := ⟨2, ![256, 256]⟩
abbrev S256x128 : Shape := ⟨2, ![256, 128]⟩
abbrev S256x1 : Shape := ⟨2, ![256, 1]⟩
abbrev S256 : Shape := ⟨1, ![256]⟩

abbrev nBuf : Space → Nat
  | .hbm => 4
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4096x3072, .bf16⟩
  | .hbm, ⟨2, _⟩ => ⟨S4096x1024, .bf16⟩
  | .hbm, ⟨3, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32 : BitVec 32 := 256#32
  let v23 : BitVec 32 := Scalar.muli arg1 c256_i32
  v23
def k0_off1 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v25 : Index := Scalar.indexCast v24
  let c0_11 : Index := 0#32
  ![v25.toNat, 0]
def k0_off2 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v31 : Index := Scalar.indexCast v24
  let c128_14 : Index := 128#32
  ![v31.toNat, 128]
def k0_off3 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v37 : Index := Scalar.indexCast v24
  let c256_17 : Index := 256#32
  ![v37.toNat, 256]
def k0_off4 (i : grid0.Coords) : Fin 2 → Nat :=
  let arg1 : BitVec 32 := BitVec.ofNat 32 (i 1).val
  let c256_i32 : BitVec 32 := 256#32
  let v23 : BitVec 32 := Scalar.muli arg1 c256_i32
  let v24 : BitVec 32 := v23
  let v43 : Index := Scalar.indexCast v24
  let c384_20 : Index := 384#32
  ![v43.toNat, 384]
@[reducible] def k0_t1_loop (i : grid0.Coords) : Scf.Loop 32 :=
  let c0_i32 : BitVec 32 := 0#32
  let arg1 : BitVec 32 := BitVec.ofNat 32 (i 1).val
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_67 : BitVec 32 := 1#32
  ⟨c0_i32, v201, c1_i32_67⟩
def k0_mult2 (i : grid0.Coords) (k0_t1 : Fin (k0_t1_loop i).trips) : BitVec 32 :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  v226
def k0_off5 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v228 : Index := Scalar.indexCast v227
  let c0_87 : Index := 0#32
  ![v228.toNat, 0]
def k0_off6 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v234 : Index := Scalar.indexCast v227
  let c128_90 : Index := 128#32
  ![v234.toNat, 128]
def k0_off7 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v240 : Index := Scalar.indexCast v227
  let c256_93 : Index := 256#32
  ![v240.toNat, 256]
def k0_off8 (i : grid0.Coords) (k0_t1 : Fin (k0_t1_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let c1_i32_67 : BitVec 32 := 1#32
  let arg7 : BitVec 32 := Scf.iv c0_i32 c1_i32_67 k0_t1
  let v225 : BitVec 32 := Scalar.subi v224 arg7
  let c256_i32_86 : BitVec 32 := 256#32
  let v226 : BitVec 32 := Scalar.muli v225 c256_i32_86
  let v227 : BitVec 32 := v226
  let v246 : Index := Scalar.indexCast v227
  let c384_96 : Index := 384#32
  ![v246.toNat, 384]
@[reducible] def k0_t2_loop (i : grid0.Coords) : Scf.Loop 32 :=
  let c0_i32 : BitVec 32 := 0#32
  let arg1 : BitVec 32 := BitVec.ofNat 32 (i 1).val
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let v198 : BitVec 32 := Scalar.addi c0_i32 v197
  let c1_i32_68 : BitVec 32 := 1#32
  ⟨v201, v198, c1_i32_68⟩
def k0_mult3 (i : grid0.Coords) (k0_t2 : Fin (k0_t2_loop i).trips) : BitVec 32 :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  v226
def k0_off9 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v228 : Index := Scalar.indexCast v227
  let c0_87 : Index := 0#32
  ![v228.toNat, 0]
def k0_off10 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v234 : Index := Scalar.indexCast v227
  let c128_90 : Index := 128#32
  ![v234.toNat, 128]
def k0_off11 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v240 : Index := Scalar.indexCast v227
  let c256_93 : Index := 256#32
  ![v240.toNat, 256]
def k0_off12 (i : grid0.Coords) (k0_t2 : Fin (k0_t2_loop i).trips) : Fin 2 → Nat :=
  let arg1 : BitVec 32 := BitVec.ofNat 32 (i 1).val
  let c1_i32_85 : BitVec 32 := 1#32
  let v224 : BitVec 32 := Scalar.subi arg1 c1_i32_85
  let c0_i32 : BitVec 32 := 0#32
  let v197 : BitVec 32 := Scalar.subi arg1 c0_i32
  let c1_i32 : BitVec 32 := 1#32
  let v199 : BitVec 32 := Scalar.divsi v197 c1_i32
  let v200 : BitVec 32 := Scalar.muli v199 c1_i32
  let v201 : BitVec 32 := Scalar.addi c0_i32 v200
  let c1_i32_68 : BitVec 32 := 1#32
  let arg7 : BitVec 32 := Scf.iv v201 c1_i32_68 k0_t2
  let v225 : BitVec 32 := Scalar.subi v224 arg7
  let c256_i32_86 : BitVec 32 := 256#32
  let v226 : BitVec 32 := Scalar.muli v225 c256_i32_86
  let v227 : BitVec 32 := v226
  let v246 : Index := Scalar.indexCast v227
  let c384_96 : Index := 384#32
  ![v246.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4095 : Shape := ⟨3, ![8, 4096, 4095]⟩
abbrev S8x4096x1 : Shape := ⟨3, ![8, 4096, 1]⟩
abbrev S8x4096 : Shape := ⟨2, ![8, 4096]⟩
abbrev S4096x8 : Shape := ⟨2, ![4096, 8]⟩
abbrev S4096x8x1 : Shape := ⟨3, ![4096, 8, 1]⟩

abbrev nBuf : Space → Nat
  | .hbm => 84
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S_, .f32⟩
  | .hbm, ⟨45, _⟩ => ⟨S8x4096x4096, .f32⟩
  | .hbm, ⟨46, _⟩ => ⟨S8x4096x4095, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .i1⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S_, .f32⟩
  | .hbm, ⟨71, _⟩ => ⟨S8x4096x4096, .i1⟩
  | .hbm, ⟨72, _⟩ => ⟨S8x4096x4096, .f32⟩
  | .hbm, ⟨73, _⟩ => ⟨S8x4096x4096, .f32⟩
  | .hbm, ⟨74, _⟩ => ⟨S8x4096x128, .f32⟩
  | .hbm, ⟨75, _⟩ => ⟨S_, .f32⟩
  | .hbm, ⟨76, _⟩ => ⟨S8x4096, .f32⟩
  | .hbm, ⟨77, _⟩ => ⟨S4096x8, .f32⟩
  | .hbm, ⟨78, _⟩ => ⟨S4096x8x1, .f32⟩
  | .hbm, ⟨79, _⟩ => ⟨S4096x8x128, .f32⟩
  | .hbm, ⟨80, _⟩ => ⟨S4096x1024, .f32⟩
  | .hbm, ⟨81, _⟩ => ⟨S4096x8x128, .f32⟩
  | .hbm, ⟨82, _⟩ => ⟨S4096x1024, .f32⟩
  | .hbm, ⟨83, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_cst_3 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩

abbrev nD : Nat := 1
abbrev τ : Topo := Topo.v7x

variable {F : FTy → Type} [FloatOps F]
-- ==== Kernel29.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/-
  Stick-breaking attention and its gradient over the real numbers, for one head.  Query row `t` attends to the key rows
  `s < t`; every sum is a sum over natural numbers below a bound.  The functions are stated for rows `q`, `k`, `v` and
  the incoming gradient `y` of the output, all given as functions of a row and a lane.
-/
module

public import Idealize.ShloMosaic.PureOps.Ideal
public import Mathlib.Analysis.SpecialFunctions.Log.Basic

@[expose] public section

noncomputable section

namespace Cert.Stick

open Finset

/-- The score's scale, the binary32 number next to `128 ^ (-1/2)`. -/
def scale : ℝ := (11863283 : ℝ) * (2 : ℝ) ^ (-27 : ℤ)

/-- `log (1 + e^x)`. -/
def sp (x : ℝ) : ℝ := Real.log (1 + Real.exp x)

variable (q k v y : ℕ → ℕ → ℝ)

/-- The score of query row `t` against key row `s`. -/
def Z (t s : ℕ) : ℝ := (∑ d ∈ range 128, q t d * k s d) * scale
/-- The logarithm of the share the key row `s` leaves to the earlier ones; `0` where it is not attended to. -/
def L (t s : ℕ) : ℝ := if s < t then -sp (Z q k t s) else 0
/-- Its sum over all key rows. -/
def T (t : ℕ) : ℝ := ∑ s ∈ range 4096, L q k t s
/-- The attention weight. -/
def W (t s : ℕ) : ℝ :=
  if s < t then Real.exp (Z q k t s - sp (Z q k t s) + (T q k t - ∑ j ∈ range (s + 1), L q k t j)) else 0
/-- The gradient of the weight. -/
def DW (t s : ℕ) : ℝ := ∑ d ∈ range 128, y t d * v s d
/-- The gradient of the weight's logarithm. -/
def G (t s : ℕ) : ℝ := DW v y t s * W q k t s
/-- The gradient of the score's product, its scale included. -/
def DZ (t s : ℕ) : ℝ :=
  if s < t then (G q k v y t s * Real.exp (-sp (Z q k t s))
    - Real.exp (Z q k t s - sp (Z q k t s)) * ∑ j ∈ range s, G q k v y t j) * scale else 0
/-- The gradients of the query, key and value rows. -/
def DQ (t d : ℕ) : ℝ := ∑ s ∈ range 4096, DZ q k v y t s * k s d
def DK (s d : ℕ) : ℝ := ∑ t ∈ range 4096, DZ q k v y t s * q t d
def DV (s d : ℕ) : ℝ := ∑ t ∈ range 4096, W q k t s * y t d

/-- A sum over the first `n` of `m + n` terms and the rest. -/
theorem sum_tile (f : ℕ → ℝ) (m n : ℕ) : ∑ x ∈ range m, f x + ∑ x ∈ range n, f (m + x) = ∑ x ∈ range (m + n), f x :=
  (Finset.sum_range_add f m n).symm

/-- A sum weighted by `1` up to a position of a tile of `n`, `0` after it. -/
theorem sum_upto (f : ℕ → ℝ) (n c : ℕ) (h : c < n) :
    ∑ a ∈ range n, f a * (if a ≤ c then 1 else 0) = ∑ a ∈ range (c + 1), f a := by
  simp only [mul_ite, mul_one, mul_zero]
  rw [← Finset.sum_filter]
  refine Finset.sum_congr (Finset.ext fun a => ?_) fun _ _ => rfl
  simp only [Finset.mem_filter, Finset.mem_range]; omega

/-- The same, before the position. -/
theorem sum_before (f : ℕ → ℝ) (n c : ℕ) (h : c < n) :
    ∑ a ∈ range n, f a * (if a < c then 1 else 0) = ∑ a ∈ range c, f a := by
  simp only [mul_ite, mul_one, mul_zero]
  rw [← Finset.sum_filter]
  refine Finset.sum_congr (Finset.ext fun a => ?_) fun _ _ => rfl
  simp only [Finset.mem_filter, Finset.mem_range]; omega

/-- The kernel's spelling of `sp`, which does not overflow. -/
theorem sp_eq (x : ℝ) : max x 0 + Real.log (1 + Real.exp (0 - max x (-x))) = sp x := by
  unfold sp
  rcases le_total 0 x with h | h
  · rw [max_eq_left h, max_eq_left (by linarith : -x ≤ x), zero_sub]
    have e : 1 + Real.exp x = Real.exp x * (1 + Real.exp (-x)) := by
      rw [mul_add, mul_one, ← Real.exp_add]; simp [add_comm]
    rw [e, Real.log_mul (Real.exp_pos _).ne' (by positivity), Real.log_exp]
  · rw [max_eq_right h, max_eq_right (by linarith : x ≤ -x)]; simp

/-- `sp` of the negated score: `log (1 + e^{-x}) = log (1 + e^x) - x`. -/
theorem sp_neg (x : ℝ) : sp (-x) = sp x - x := by
  unfold sp
  have h : 1 + Real.exp (-x) = (1 + Real.exp x) * Real.exp (-x) := by
    rw [add_mul, one_mul, ← Real.exp_add]; simp [add_comm]
  rw [h, Real.log_mul (by positivity) (Real.exp_pos _).ne', Real.log_exp]; ring

theorem DZ_zero {t s : ℕ} (h : t ≤ s) : DZ q k v y t s = 0 := if_neg (Nat.not_lt.2 h)
theorem W_zero {t s : ℕ} (h : t ≤ s) : W q k t s = 0 := if_neg (Nat.not_lt.2 h)
theorem L_zero {t s : ℕ} (h : t ≤ s) : L q k t s = 0 := if_neg (Nat.not_lt.2 h)
theorem G_zero {t s : ℕ} (h : t ≤ s) : G q k v y t s = 0 := by rw [G, W_zero q k h, mul_zero]

/-- Only the key rows before `t` contribute to the query row's gradient. -/
theorem DQ_eq {t d n : ℕ} (h : t ≤ n) (hn : n ≤ 4096) : ∑ s ∈ range n, DZ q k v y t s * k s d = DQ q k v y t d :=
  Finset.sum_subset (fun x hx => Finset.mem_range.2 (lt_of_lt_of_le (Finset.mem_range.1 hx) hn)) fun x _ hx => by
    rw [DZ_zero q k v y (h.trans (Nat.le_of_not_lt fun hh => hx (Finset.mem_range.2 hh))), zero_mul]

end Cert.Stick

end
-- ==== Proof.Re.lean ====
/-
  A tile at the ideal values whose entries are real numbers, and what the operations of the kernel's body do to such
  tiles.  `Re x f` says that the entry of `x` in row `r` and column `c` is the real number `f r c`.
-/
module

public import proofs.«01_k».proof.Proof.Reals
public import Idealize.ShloMosaic.Lib.ValueIdx
public import Idealize.ShloMosaic.Lib.IdealHost
public import Idealize.ShloMosaic.Lib.MatmulPlain
public import Idealize.ShloMosaic.Lib.Pipeline.Value

@[expose] public section

noncomputable section

namespace Cert.Stick

open Finset Idealize.ShloMosaic Idealize.ShloMosaic.ValueIdx

/-- A sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The scale's bits denote `scale`. -/
theorem ofBits_scale : Ideal.ofBits .f32 0x3DB504F3#32 = (scale : EReal) := by
  unfold scale
  simp [Ideal.ofBits, Ideal.ieee, -EReal.coe_mul]

variable {a b n : ℕ} {φ ψ : FTy}

/-- Row `r`, column `c` of the tile is the real number `f r c`. -/
def Re (x : FVec Ideal ⟨2, ![a, b]⟩ φ) (f : ℕ → ℕ → ℝ) : Prop := ∀ (r : Fin a) (c : Fin b), x (ix2 r c) = ((f r c : ℝ) : EReal)

variable {x y : FVec Ideal ⟨2, ![a, b]⟩ φ} {f g : ℕ → ℕ → ℝ}

theorem Re.congr (h : Re x f) (e : ∀ r c, r < a → c < b → f r c = g r c) : Re x g := fun r c => by
  rw [h r c, e r c r.2 c.2]

theorem Re.add (hx : Re x f) (hy : Re y g) : Re (addf x y) (fun r c => f r c + g r c) := fun r c => by
  rw [addf_apply, hx, hy, EReal.coe_add]
theorem Re.sub (hx : Re x f) (hy : Re y g) : Re (subf x y) (fun r c => f r c - g r c) := fun r c => by
  rw [subf_apply, hx, hy, EReal.coe_sub]
theorem Re.mul (hx : Re x f) (hy : Re y g) : Re (mulf x y) (fun r c => f r c * g r c) := fun r c => by
  rw [mulf_apply, hx, hy, EReal.coe_mul]
theorem Re.max (hx : Re x f) (hy : Re y g) : Re (maximumf x y) (fun r c => Max.max (f r c) (g r c)) := fun r c => by
  rw [maximumf_apply, hx, hy]; exact (EReal.coe_strictMono.monotone.map_max).symm
theorem Re.abs (hx : Re x f) : Re (absf x) (fun r c => Max.max (f r c) (-f r c)) := fun r c => by
  show Max.max (x (ix2 r c)) (-x (ix2 r c)) = _
  rw [hx, ← EReal.coe_neg]; exact (EReal.coe_strictMono.monotone.map_max).symm
theorem Re.exp (hx : Re x f) : Re (Idealize.ShloMosaic.exp x) (fun r c => Real.exp (f r c)) := fun r c => by
  show Ideal.exp (x (ix2 r c)) = _
  rw [hx, Ideal.exp_coe]
theorem Re.log (hx : Re x f) (h : ∀ r c, 0 < f r c) : Re (Idealize.ShloMosaic.log x) (fun r c => Real.log (f r c)) := fun r c => by
  show Ideal.log (x (ix2 r c)) = _
  rw [hx, Ideal.log_coe, if_neg (h r c).not_ge]
theorem Re.trunc (hx : Re x f) (h : ψ.bits < φ.bits) : Re (truncf ψ x h) f := hx
theorem Re.ext (hx : Re x f) (h : φ.bits < ψ.bits) : Re (extf ψ x h) f := hx
theorem Re.cast (hx : Re x f) (h : (⟨2, ![a, b]⟩ : Shape).ShapeCasts ⟨2, ![a, b]⟩) : Re (shapeCast ⟨2, ![a, b]⟩ x h) f := by
  rw [shapeCast_self]; exact hx

/-- A tile of one repeated number. -/
theorem Re.splat {s : EReal} {r : ℝ} (h : s = r) : Re (φ := φ) (broadcast (⟨2, ![a, b]⟩ : Shape) s) (fun _ _ => r) := fun _ _ => h

theorem Re.select {cnd : IVec ⟨2, ![a, b]⟩ 1} {p : ℕ → ℕ → Prop} [∀ r c, Decidable (p r c)]
    (hc : ∀ (r : Fin a) (c : Fin b), cnd (ix2 r c) = if p r c then 1#1 else 0#1) (hx : Re x f) (hy : Re y g) :
    Re (Idealize.ShloMosaic.select cnd x y) (fun r c => if p r c then f r c else g r c) := fun r c => by
  rw [select_apply, hc]
  by_cases h : p r c
  · simp only [if_pos h]; exact (select_one _ _).trans (hx r c)
  · simp only [if_neg h]; exact (select_zero _ _).trans (hy r c)

/-- A column repeated along the rows. -/
theorem Re.cols {x : FVec Ideal ⟨2, ![a, 1]⟩ φ} (hx : Re x f) (h : (⟨2, ![a, 1]⟩ : Shape).Broadcasts ⟨2, ![a, b]⟩) (ha : a ≠ 1) :
    Re (broadcastTo ⟨2, ![a, b]⟩ x h) (fun r _ => f r 0) := fun r c => by
  rw [broadcastTo_apply x h (ix2 r c) (ix2 r (0 : Fin 1))]
  · exact hx r 0
  · intro k
    match k with
    | ⟨0, _⟩ => exact (if_neg (show ¬ a = 1 from ha)).symm
    | ⟨1, _⟩ => exact (if_pos rfl).symm

/-- The row sums, as a column. -/
theorem Re.rowSum (hx : Re x f) (acc : BitVec φ.bits) (h : (⟨2, ![a, b]⟩ : Shape).Reduces [1] ⟨1, ![a]⟩) (hφ : FKind.Formats φ)
    (hacc : acc = FKind.add.neutral φ hφ) (hc : (⟨1, ![a]⟩ : Shape).ShapeCasts ⟨2, ![a, 1]⟩) :
    Re (shapeCast ⟨2, ![a, 1]⟩ (multiReduction .add [1] ⟨1, ![a]⟩ x acc h hφ hacc) hc) (fun r _ => ∑ c ∈ range b, f r c) := fun r c => by
  rw [shapeCast_apply _ hc (ix2 r c) (ix1 r)]
  · rw [Ideal.multiReduction_add_single]
    show _ = ((∑ c ∈ range b, f r c : ℝ) : EReal)
    rw [Finset.sum_range, coe_sum]
    refine Finset.sum_congr rfl fun k _ => ?_
    rw [← hx r k]
    refine congrArg x (funext fun i => Fin.ext ?_)
    match i with
    | ⟨0, _⟩ => rfl
    | ⟨1, _⟩ => rfl
  · rw [Shape.rowMajor_val_one, Shape.rowMajor_val_two]
    have := c.2
    show r.val = r.val * 1 + c.val
    omega

/-- `[a, n] × [n, b]` onto zero. -/
theorem Re.dot {x : FVec Ideal ⟨2, ![a, n]⟩ φ} {y : FVec Ideal ⟨2, ![n, b]⟩ ψ} (hx : Re x f) (hy : Re y g)
    (prec : Option ContractPrecision) {z : FVec Ideal ⟨2, ![a, b]⟩ .f32} (hz : Re z (fun _ _ => 0)) :
    Re (FloatOps.matmul (DotDims.plain a n b) prec x y z) (fun r c => ∑ d ∈ range n, f r d * g d c) := fun r c => by
  rw [Ideal.matmul_plain_apply, hz, EReal.coe_zero, zero_add]
  show _ = ((∑ d ∈ range n, f r d * g d c : ℝ) : EReal)
  rw [Finset.sum_range, coe_sum]
  exact Finset.sum_congr rfl fun k _ => by rw [hx, hy, EReal.coe_mul]

/-- `[a, n] × [b, n]ᵀ` onto zero. -/
theorem Re.dotT {x : FVec Ideal ⟨2, ![a, n]⟩ φ} {y : FVec Ideal ⟨2, ![b, n]⟩ ψ} (hx : Re x f) (hy : Re y g)
    (prec : Option ContractPrecision) {z : FVec Ideal ⟨2, ![a, b]⟩ .f32} (hz : Re z (fun _ _ => 0)) :
    Re (FloatOps.matmul (DotDims.transposedRhs a n b) prec x y z) (fun r c => ∑ d ∈ range n, f r d * g c d) := fun r c => by
  rw [Ideal.matmul_transposedRhs_apply, hz, EReal.coe_zero, zero_add]
  show _ = ((∑ d ∈ range n, f r d * g c d : ℝ) : EReal)
  rw [Finset.sum_range, coe_sum]
  exact Finset.sum_congr rfl fun k _ => by rw [hx, hy, EReal.coe_mul]

/-- The dimension numbers of `[n, a]ᵀ × [n, b]`. -/
abbrev dotTL (wf : DotDims.WF ⟨2, ![n, a]⟩ ⟨2, ![n, b]⟩ ⟨2, ![a, b]⟩ [0] [0] [1] [1] [] []) :
    DotDims ⟨2, ![n, a]⟩ ⟨2, ![n, b]⟩ ⟨2, ![a, b]⟩ where
  lhsContracting := [0]
  rhsContracting := [0]
  lhsNonContracting := [1]
  rhsNonContracting := [1]
  lhsBatch := []
  rhsBatch := []
  wf := wf

/-- `[n, a]ᵀ × [n, b]` onto zero. -/
theorem Re.dotL {x : FVec Ideal ⟨2, ![n, a]⟩ φ} {y : FVec Ideal ⟨2, ![n, b]⟩ ψ} (hx : Re x f) (hy : Re y g)
    (wf : DotDims.WF ⟨2, ![n, a]⟩ ⟨2, ![n, b]⟩ ⟨2, ![a, b]⟩ [0] [0] [1] [1] [] [])
    (prec : Option ContractPrecision) {z : FVec Ideal ⟨2, ![a, b]⟩ .f32} (hz : Re z (fun _ _ => 0)) :
    Re (FloatOps.matmul (dotTL wf) prec x y z) (fun r c => ∑ d ∈ range n, f d r * g d c) := fun r c => by
  rw [Ideal.matmul_apply, hz, EReal.coe_zero, zero_add]
  show _ = ((∑ d ∈ range n, f d r * g d c : ℝ) : EReal)
  rw [Finset.sum_range, coe_sum, ← Equiv.sum_comp (contrEquiv1 (dotTL wf) n rfl rfl).symm]
  refine Finset.sum_congr rfl fun k _ => ?_
  have hk := contrEquiv1_symm_val (dotTL wf) n rfl rfl k
  rw [EReal.coe_mul, ← hx k r, ← hy k c]
  refine congrArg₂ (· * ·) (congrArg x (funext fun i => Fin.ext ?_)) (congrArg y (funext fun i => Fin.ext ?_))
  · match i with
    | ⟨0, _⟩ => exact hk
    | ⟨1, _⟩ => rfl
  · match i with
    | ⟨0, _⟩ => exact hk
    | ⟨1, _⟩ => rfl

end Cert.Stick

end
-- ==== Proof.Block.lean ====
/-
  What one block of the kernel computes for one head: 256 query rows against 256 key rows.  The definitions spell the
  block once for all four heads of a group and for both of the block's texts: `M` is the identity below the diagonal
  and the mask of the block on it.  The theorems say what the values are when the operands are real numbers.
-/
module

public import proofs.«01_k».proof.Proof.Re
public import proofs.«01_k».proof.Proof.Gen.KernelIdeal

@[expose] public section

noncomputable section

namespace Cert.KernelIdeal.Gen

open Idealize.ShloMosaic

section Text

variable {F : FTy → Type} [FloatOps F]

/-- The scores. -/
def bZ (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))
/-- The gradient of the weights. -/
def bDw (y v : FVec F S256x128 .bf16) : FVec F S256x256 .f32 :=
  matmul dot_S256x128_S256x128_S256x256_1_1_0_0_n_n none y v (constant S256x256 .f32 0x00000000#32)
/-- `log (1 + e^z)`. -/
def bSp (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))
/-- Its negation. -/
def bNeg (s : FVec F S256x256 .f32) : FVec F S256x256 .f32 :=
  subf (broadcast S256x256 (Scalar.ofBits .f32 0x00000000#32)) s
/-- A product with a matrix of zeros and ones, the left factor split in two. -/
def bSplit (x : FVec F S256x256 .f32) (u : FVec F S256x256 .bf16) : FVec F S256x256 .f32 :=
  addf (matmul dot_S256x256_S256x256_S256x256_1_0_0_1_n_n none (truncf .bf16 x bitsLt_bf16_f32) u (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) u (constant S256x256 .f32 0x00000000#32))

variable (M : FVec F S256x256 .f32 → FVec F S256x256 .f32) (u8 u12 : FVec F S256x256 .bf16)
  (q y k v : FVec F S256x128 .bf16) (tot c1 c2 : FVec F S256x1 .f32) (c0 : FVec F S256x128 .f32)

/-- The weights. -/
def bW : FVec F S256x256 .f32 :=
  M (exp (addf (subf (bZ q k) (bSp (bZ q k)))
    (subf (broadcastTo S256x256 (subf tot c1) broadcasts_S256x1_S256x256) (bSplit (M (bNeg (bSp (bZ q k)))) u8))))
/-- The gradient of their logarithm. -/
def bG : FVec F S256x256 .f32 := mulf (bDw y v) (bW M u8 q k tot c1)
/-- The gradient of the scores' product. -/
def bDz : FVec F S256x256 .bf16 :=
  truncf .bf16 (M (mulf (subf (mulf (bG M u8 q y k v tot c1) (exp (bNeg (bSp (bZ q k)))))
    (mulf (exp (subf (bZ q k) (bSp (bZ q k))))
      (addf (broadcastTo S256x256 c2 broadcasts_S256x1_S256x256) (bSplit (bG M u8 q y k v tot c1) u12))))
    (broadcast S256x256 (Scalar.ofBits .f32 0x3DB504F3#32)))) bitsLt_bf16_f32
/-- The sum of the rows of `x`, added to `c`. -/
def bRow (c : FVec F S256x1 .f32) (x : FVec F S256x256 .f32) : FVec F S256x1 .f32 :=
  addf c (shapeCast S256x1 (multiReduction .add [1] S256 x 0x00000000#32 reduces_S256x256_S256 (.inl rfl) rfl) shapeCasts_S256_S256x1)
/-- The three carried values after the block. -/
def bC0 : FVec F S256x128 .f32 :=
  addf c0 (matmul dot_S256x256_S256x128_S256x128_1_0_0_1_n_n none (bDz M u8 u12 q y k v tot c1 c2) k (constant S256x128 .f32 0x00000000#32))
def bC1 : FVec F S256x1 .f32 := bRow c1 (M (bNeg (bSp (bZ q k))))
def bC2 : FVec F S256x1 .f32 := bRow c2 (bG M u8 q y k v tot c1)
/-- What the block adds to 256 rows of the two accumulated gradients. -/
def bAcc (x : FVec F S256x256 .bf16) (a : FVec F S256x128 .bf16) (old : FVec F S256x128 .f32) : FVec F S256x128 .f32 :=
  shapeCast S256x128 (addf old (matmul dot_S256x256_S256x128_S256x128_0_0_1_1_n_n none x a (constant S256x128 .f32 0x00000000#32)))
    shapeCasts_S256x128_S256x128

end Text

section Values

open Cert.Stick Finset

variable {M : FVec Ideal S256x256 .f32 → FVec Ideal S256x256 .f32} {u8 u12 : FVec Ideal S256x256 .bf16}
  {q y k v : FVec Ideal S256x128 .bf16} {tot c1 c2 : FVec Ideal S256x1 .f32} {c0 : FVec Ideal S256x128 .f32}
  {t0 s0 : ℕ} {Q K V Y : ℕ → ℕ → ℝ}

theorem re_zero {a b : ℕ} : Re (φ := .f32) (broadcast (⟨2, ![a, b]⟩ : Shape) (Scalar.ofBits (F := Ideal) .f32 0x00000000#32)) (fun _ _ => 0) :=
  Re.splat (Ideal.ofBits_zero_f32.trans EReal.coe_zero.symm)
theorem re_czero {a b : ℕ} : Re (constant (F := Ideal) (⟨2, ![a, b]⟩ : Shape) .f32 0x00000000#32) (fun _ _ => 0) := re_zero
theorem re_one {a b : ℕ} : Re (φ := .f32) (broadcast (⟨2, ![a, b]⟩ : Shape) (Scalar.ofBits (F := Ideal) .f32 0x3F800000#32)) (fun _ _ => 1) :=
  Re.splat (Ideal.ofBits_one_f32.trans EReal.coe_one.symm)
theorem re_scale {a b : ℕ} : Re (φ := .f32) (broadcast (⟨2, ![a, b]⟩ : Shape) (Scalar.ofBits (F := Ideal) .f32 0x3DB504F3#32)) (fun _ _ => scale) :=
  Re.splat ofBits_scale

/-- The operands of a block: query rows from `t0`, key rows from `s0`, and the mask `s < t` of the block. -/
structure Ops (M : FVec Ideal S256x256 .f32 → FVec Ideal S256x256 .f32) (u8 u12 : FVec Ideal S256x256 .bf16)
    (q y k v : FVec Ideal S256x128 .bf16) (tot c1 c2 : FVec Ideal S256x1 .f32) (t0 s0 : ℕ) (Q K V Y : ℕ → ℕ → ℝ) : Prop where
  mask : ∀ {x f}, Re x f → Re (M x) (fun r c => if s0 + c < t0 + r then f r c else 0)
  upto : Re u8 (fun a b => if a ≤ b then 1 else 0)
  before : Re u12 (fun a b => if a < b then 1 else 0)
  q : Re q (fun r d => Q (t0 + r) d)
  y : Re y (fun r d => Y (t0 + r) d)
  k : Re k (fun r d => K (s0 + r) d)
  v : Re v (fun r d => V (s0 + r) d)
  tot : Re tot (fun r _ => T Q K (t0 + r))
  c1 : Re c1 (fun r _ => ∑ s ∈ range s0, L Q K (t0 + r) s)
  c2 : Re c2 (fun r _ => ∑ s ∈ range s0, G Q K V Y (t0 + r) s)

theorem re_sp {z : FVec Ideal S256x256 .f32} {f : ℕ → ℕ → ℝ} (h : Re z f) : Re (bSp z) (fun r c => sp (f r c)) :=
  ((h.max re_zero).add ((re_one.add (re_zero.sub h.abs).exp).log fun _ _ => by positivity)).congr fun r c _ _ => sp_eq _

theorem re_neg {z : FVec Ideal S256x256 .f32} {f : ℕ → ℕ → ℝ} (h : Re z f) : Re (bNeg z) (fun r c => -f r c) :=
  (re_zero.sub h).congr fun r c _ _ => zero_sub _

theorem re_split {x : FVec Ideal S256x256 .f32} {u : FVec Ideal S256x256 .bf16} {f g : ℕ → ℕ → ℝ} (h : Re x f) (hu : Re u g) :
    Re (bSplit x u) (fun r c => ∑ d ∈ range 256, f r d * g d c) :=
  (Re.add (Re.dot (h.trunc bitsLt_bf16_f32) hu none re_czero)
    (Re.dot ((h.sub ((h.trunc bitsLt_bf16_f32).ext bitsLt_bf16_f32)).trunc bitsLt_bf16_f32) hu none re_czero)).congr
    fun r c _ _ => by simp

theorem re_row {c : FVec Ideal S256x1 .f32} {x : FVec Ideal S256x256 .f32} {f g : ℕ → ℕ → ℝ} (hc : Re c g) (hx : Re x f) :
    Re (bRow c x) (fun r d => g r d + ∑ e ∈ range 256, f r e) :=
  hc.add (hx.rowSum _ reduces_S256x256_S256 _ _ shapeCasts_S256_S256x1)

theorem re_acc {x : FVec Ideal S256x256 .bf16} {a : FVec Ideal S256x128 .bf16} {old : FVec Ideal S256x128 .f32} {f g o : ℕ → ℕ → ℝ}
    (hx : Re x f) (ha : Re a g) (ho : Re old o) : Re (bAcc x a old) (fun r d => o r d + ∑ e ∈ range 256, f e r * g e d) :=
  (ho.add (Re.dotL hx ha dot_S256x256_S256x128_S256x128_0_0_1_1_n_n_wf none re_czero)).cast _

variable (o : Ops M u8 u12 q y k v tot c1 c2 t0 s0 Q K V Y)
include o

theorem Ops.z : Re (bZ q k) (fun r c => Z Q K (t0 + r) (s0 + c)) := (o.q.dotT o.k none re_czero).mul re_scale

theorem Ops.keep : Re (M (bNeg (bSp (bZ q k)))) (fun r c => L Q K (t0 + r) (s0 + c)) := o.mask (re_neg (re_sp o.z))

theorem Ops.w : Re (bW M u8 q k tot c1) (fun r c => W Q K (t0 + r) (s0 + c)) :=
  (o.mask (((o.z.sub (re_sp o.z)).add (((o.tot.sub o.c1).cols broadcasts_S256x1_S256x256 (by decide)).sub
    (re_split o.keep o.upto))).exp)).congr fun r c _ hc => by
      rw [sum_upto (fun a => L Q K (t0 + r) (s0 + a)) 256 c hc, W, sub_sub, sum_tile, add_assoc]

theorem Ops.g : Re (bG M u8 q y k v tot c1) (fun r c => G Q K V Y (t0 + r) (s0 + c)) := (o.y.dotT o.v none re_czero).mul o.w

theorem Ops.dz : Re (bDz M u8 u12 q y k v tot c1 c2) (fun r c => DZ Q K V Y (t0 + r) (s0 + c)) :=
  ((o.mask (((o.g.mul (re_neg (re_sp o.z)).exp).sub ((o.z.sub (re_sp o.z)).exp.mul
    ((o.c2.cols broadcasts_S256x1_S256x256 (by decide)).add (re_split o.g o.before)))).mul re_scale)).trunc bitsLt_bf16_f32).congr
    fun r c _ hc => by
      rw [sum_before (fun a => G Q K V Y (t0 + r) (s0 + a)) 256 c hc, sum_tile, DZ]

theorem Ops.c0' (h0 : Re c0 (fun r d => ∑ s ∈ range s0, DZ Q K V Y (t0 + r) s * K s d)) :
    Re (bC0 M u8 u12 q y k v tot c1 c2 c0) (fun r d => ∑ s ∈ range (s0 + 256), DZ Q K V Y (t0 + r) s * K s d) :=
  (h0.add (o.dz.dot o.k none re_czero)).congr fun r d _ _ => sum_tile (fun s => DZ Q K V Y (t0 + r) s * K s d) s0 256

theorem Ops.c1' : Re (bC1 M q k c1) (fun r _ => ∑ s ∈ range (s0 + 256), L Q K (t0 + r) s) :=
  (re_row o.c1 o.keep).congr fun r _ _ _ => sum_tile _ s0 256

theorem Ops.c2' : Re (bC2 M u8 q y k v tot c1 c2) (fun r _ => ∑ s ∈ range (s0 + 256), G Q K V Y (t0 + r) s) :=
  (re_row o.c2 o.g).congr fun r _ _ _ => sum_tile _ s0 256

theorem Ops.dk {old : FVec Ideal S256x128 .f32} (ho : Re old (fun r d => ∑ t ∈ range t0, DZ Q K V Y t (s0 + r) * Q t d)) :
    Re (bAcc (bDz M u8 u12 q y k v tot c1 c2) q old) (fun r d => ∑ t ∈ range (t0 + 256), DZ Q K V Y t (s0 + r) * Q t d) :=
  (re_acc o.dz o.q ho).congr fun r d _ _ => sum_tile (fun t => DZ Q K V Y t (s0 + r) * Q t d) t0 256

theorem Ops.dv {old : FVec Ideal S256x128 .f32} (ho : Re old (fun r d => ∑ t ∈ range t0, W Q K t (s0 + r) * Y t d)) :
    Re (bAcc (truncf .bf16 (bW M u8 q k tot c1) bitsLt_bf16_f32) y old) (fun r d => ∑ t ∈ range (t0 + 256), W Q K t (s0 + r) * Y t d) :=
  (re_acc (o.w.trunc bitsLt_bf16_f32) o.y ho).congr fun r d _ _ => sum_tile (fun t => W Q K t (s0 + r) * Y t d) t0 256

end Values

end Cert.KernelIdeal.Gen

end
-- ==== Proof.Trip.lean ====
/-
  One trip of the loop over the key tiles below the diagonal, in the words of `Block`: what the trip carries on, and what
  it stores into the two accumulated gradients.
-/
module

public import proofs.«01_k».proof.Proof.Block
public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe

variable {F : FTy → Type} [FloatOps F]

/-- What is carried for one head: the partial query gradient and the two running row sums. -/
abbrev Tri (F : FTy → Type) : Type := FVec F S256x128 .f32 × FVec F S256x1 .f32 × FVec F S256x1 .f32
/-- What is carried for the four heads of a group. -/
abbrev Tri4 (F : FTy → Type) : Type := FVec F S256x128 .f32 × FVec F S256x1 .f32 × FVec F S256x1 .f32
  × FVec F S256x128 .f32 × FVec F S256x1 .f32 × FVec F S256x1 .f32 × FVec F S256x128 .f32 × FVec F S256x1 .f32 × FVec F S256x1 .f32
  × FVec F S256x128 .f32 × FVec F S256x1 .f32 × FVec F S256x1 .f32

/-- The four heads' carried values, head by head. -/
def flat (f : Fin 4 → Tri F) : Tri4 F :=
  ((f 0).1, (f 0).2.1, (f 0).2.2, (f 1).1, (f 1).2.1, (f 1).2.2, (f 2).1, (f 2).2.1, (f 2).2.2, (f 3).1, (f 3).2.1, (f 3).2.2)
/-- One head's part of them. -/
def headOf (t : Tri4 F) : Fin 4 → Tri F
  | 0 => (t.1, t.2.1, t.2.2.1)
  | 1 => (t.2.2.2.1, t.2.2.2.2.1, t.2.2.2.2.2.1)
  | 2 => (t.2.2.2.2.2.2.1, t.2.2.2.2.2.2.2.1, t.2.2.2.2.2.2.2.2.1)
  | 3 => (t.2.2.2.2.2.2.2.2.2.1, t.2.2.2.2.2.2.2.2.2.2.1, t.2.2.2.2.2.2.2.2.2.2.2)

theorem headOf_flat (f : Fin 4 → Tri F) (u : Fin 4) : headOf (flat f) u = f u := by
  fin_cases u <;> rfl

/-- A head's query rows, gradient rows and total. -/
abbrev Rows (F : FTy → Type) : Type := FVec F S256x128 .bf16 × FVec F S256x128 .bf16 × FVec F S256x1 .f32

/-- One block's step of what is carried. -/
def bStep (M : FVec F S256x256 .f32 → FVec F S256x256 .f32) (u8 u12 : FVec F S256x256 .bf16) (h : Rows F)
    (k v : FVec F S256x128 .bf16) (c : Tri F) : Tri F :=
  (bC0 M u8 u12 h.1 h.2.1 k v h.2.2 c.2.1 c.2.2 c.1, bC1 M h.1 k c.2.1, bC2 M u8 h.1 h.2.1 k v h.2.2 c.2.1 c.2.2)

/-- What the block stores over the key gradient's rows `old`, and over the value gradient's. -/
def bDk (M : FVec F S256x256 .f32 → FVec F S256x256 .f32) (u8 u12 : FVec F S256x256 .bf16) (h : Rows F)
    (k v : FVec F S256x128 .bf16) (c : Tri F) (old : FVec F S256x128 .f32) : FVec F S256x128 .f32 :=
  bAcc (bDz M u8 u12 h.1 h.2.1 k v h.2.2 c.2.1 c.2.2) h.1 old
def bDv (M : FVec F S256x256 .f32 → FVec F S256x256 .f32) (u8 : FVec F S256x256 .bf16) (h : Rows F)
    (k : FVec F S256x128 .bf16) (c : Tri F) (old : FVec F S256x128 .f32) : FVec F S256x128 .f32 :=
  bAcc (truncf .bf16 (bW M u8 h.1 k h.2.2 c.2.1) bitsLt_bf16_f32) h.2.1 old

/-- 256 rows and 128 lanes of a block of 4096 rows, as it is loaded and reshaped to itself. -/
abbrev ld128 {e : EltTy} (m : Memref sig .tc .vmem S4096x512 e) (X : BufTy.Contents (Elt F) m.view.ty) (off : Fin 2 → ℕ)
    (h : ∀ a, off a + S256x128.size a ≤ S4096x512.size a) : Vec F S256x128 e :=
  m.view.readAt (Elt F) (Rect.unit (s := S4096x512) off S256x128.size h).toLoadRect X
abbrev lds {e : EltTy} (m : Memref sig .tc .vmem S4096x512 e) (X : BufTy.Contents (Elt F) m.view.ty) (off : Fin 2 → ℕ)
    (h : ∀ a, off a + S256x128.size a ≤ S4096x512.size a) : Vec F S256x128 e :=
  shapeCast S256x128 (ld128 m X off h) shapeCasts_S256x128_S256x128

variable (𝒱 : Variants) (c : Dev nD) (bd : Option 𝒱.V) (i : grid0.Coords) (arg2 : Memref sig .tc .vmem S256x512 .bf16) (harg2 : arg2.IsWhole) (arg3 : Memref
  sig .tc .vmem S4096x512 .bf16) (harg3 : arg3.IsWhole) (arg4 : Memref sig .tc .vmem S4096x512 .bf16) (harg4 : arg4.IsWhole) (arg5 : Memref sig .tc
  .vmem S256x512 .bf16) (harg5 : arg5.IsWhole) (arg6 : Memref sig .tc .vmem S256x512 .f32) (harg6 : arg6.IsWhole) (arg7 : Memref sig .tc .vmem S256x512
  .bf16) (harg7 : arg7.IsWhole) (arg8 : Memref sig .tc .vmem S4096x512 .bf16) (harg8 : arg8.IsWhole) (arg9 : Memref sig .tc .vmem S4096x512 .bf16)
  (harg9 : arg9.IsWhole) (arg10 : Memref sig .tc .vmem S4096x512 .f32) (harg10 : arg10.IsWhole) (arg11 : Memref sig .tc .vmem S4096x512 .f32) (harg11 :
  arg11.IsWhole) (arg1 : BitVec 32) (v8 : FVec F S256x256 .bf16) (v12 : FVec F S256x256 .bf16) (v15 : FVec F S256x128 .bf16) (v17 : FVec F S256x128
  .bf16) (v19 : FVec F S256x128 .bf16) (v21 : FVec F S256x128 .bf16) (v23 : FVec F S256x128 .bf16) (v25 : FVec F S256x128 .bf16) (v27 : FVec F S256x128
  .bf16) (v29 : FVec F S256x128 .bf16) (v31 : FVec F S256x1 .f32) (v33 : FVec F S256x1 .f32) (v34 : Vec F S256x1 .f32) (v36 : Vec F S256x1 .f32) (X_arg3
  : BufTy.Contents (Elt F) arg3.view.ty) (X_arg4 : BufTy.Contents (Elt F) arg4.view.ty) (k : Fin (k0_t1_loop i).trips)
  (acc : Tri4 F) (f_arg10 : BufTy.Contents (Elt F) arg10.view.ty) (f_arg11 : BufTy.Contents (Elt F) arg11.view.ty)

/-- The rows of the four heads, from the words the loop is given. -/
def rowsOf (v15 v17 v19 v21 v23 v25 v27 v29 : FVec F S256x128 .bf16) (v31 v33 v34 v36 : FVec F S256x1 .f32) : Fin 4 → Rows F
  | 0 => (v15, v23, v31)
  | 1 => (v17, v25, v33)
  | 2 => (v19, v27, shapeCast S256x1 v34 shapeCasts_S256x1_S256x1)
  | 3 => (v21, v29, shapeCast S256x1 v36 shapeCasts_S256x1_S256x1)

/-- Where a trip reads and writes for each head. -/
def offT (i : grid0.Coords) (k : Fin (k0_t1_loop i).trips) : Fin 4 → Fin 2 → ℕ
  | 0 => k0_off1 i k
  | 1 => k0_off2 i k
  | 2 => k0_off3 i k
  | 3 => k0_off4 i k
theorem offT_inb (i : grid0.Coords) (k : Fin (k0_t1_loop i).trips) : ∀ u a, offT i k u a + S256x128.size a ≤ S4096x512.size a
  | 0 => k0_off1_inb i k
  | 1 => k0_off2_inb i k
  | 2 => k0_off3_inb i k
  | 3 => k0_off4_inb i k
theorem offT_eq (i : grid0.Coords) (k : Fin (k0_t1_loop i).trips) : ∀ u : Fin 4, offT i k u = ![256 * k.val, 128 * u.val]
  | 0 => k0_off1_eq i k
  | 1 => k0_off2_eq i k
  | 2 => k0_off3_eq i k
  | 3 => k0_off4_eq i k

/-- A piece stored for one head: 256 rows and 128 lanes at `off u`. -/
abbrev piece (off : Fin 4 → Fin 2 → ℕ) (h : ∀ u a, off u a + S256x128.size a ≤ S4096x512.size a) (u : Fin 4)
    (w : FVec F S256x128 .f32) : View.Piece (Elt F) S4096x512 .f32 :=
  ⟨Rect.unit (s := S4096x512) (off u) S256x128.size (h u), w⟩

/-- What a trip carries on. -/
theorem tripR_eq : tripR_k0_t1 𝒱 c bd i arg2 harg2 arg3 harg3 arg4 harg4 arg5 harg5 arg6 harg6 arg7 harg7 arg8 harg8 arg9 harg9 arg10 harg10 arg11 harg11 arg1 v8 v12 v15 v17 v19 v21
    v23 v25 v27 v29 v31 v33 v34 v36 X_arg3 X_arg4 k acc f_arg10 f_arg11
    = flat fun u => bStep id v8 v12 (rowsOf v15 v17 v19 v21 v23 v25 v27 v29 v31 v33 v34 v36 u)
        (lds arg3 X_arg3 (offT i k u) (offT_inb i k u)) (lds arg4 X_arg4 (offT i k u) (offT_inb i k u)) (headOf acc u) := by
  unfold tripR_k0_t1 trip_k0_t1
  rfl

/-- What it stores into the accumulated key gradient. -/
theorem tripK_eq : (tripL_k0_t1 𝒱 c bd i arg2 harg2 arg3 harg3 arg4 harg4 arg5 harg5 arg6 harg6 arg7 harg7 arg8 harg8 arg9 harg9 arg10 harg10 arg11 harg11 arg1 v8 v12 v15 v17 v19 v21
    v23 v25 v27 v29 v31 v33 v34 v36 X_arg3 X_arg4 k acc f_arg10 f_arg11).1
    = [3, 2, 1, 0].map fun u => piece (offT i k) (offT_inb i k) u
        (bDk id v8 v12 (rowsOf v15 v17 v19 v21 v23 v25 v27 v29 v31 v33 v34 v36 u)
          (lds arg3 X_arg3 (offT i k u) (offT_inb i k u)) (lds arg4 X_arg4 (offT i k u) (offT_inb i k u)) (headOf acc u)
          (ld128 arg10 f_arg10 (offT i k u) (offT_inb i k u))) := by
  unfold tripL_k0_t1 trip_k0_t1
  rfl

/-- What it stores into the accumulated value gradient. -/
theorem tripV_eq : (tripL_k0_t1 𝒱 c bd i arg2 harg2 arg3 harg3 arg4 harg4 arg5 harg5 arg6 harg6 arg7 harg7 arg8 harg8 arg9 harg9 arg10 harg10 arg11 harg11 arg1 v8 v12 v15 v17 v19 v21
    v23 v25 v27 v29 v31 v33 v34 v36 X_arg3 X_arg4 k acc f_arg10 f_arg11).2
    = [3, 2, 1, 0].map fun u => piece (offT i k) (offT_inb i k) u
        (bDv id v8 (rowsOf v15 v17 v19 v21 v23 v25 v27 v29 v31 v33 v34 v36 u)
          (lds arg3 X_arg3 (offT i k u) (offT_inb i k u)) (headOf acc u)
          (ld128 arg11 f_arg11 (offT i k u) (offT_inb i k u))) := by
  unfold tripL_k0_t1 trip_k0_t1
  rfl

end Cert.KernelIdeal.Gen

end
-- ==== Proof.Store.lean ====
/-
  A block of rows by 512 lanes holds four heads of 128 lanes. What 256 rows of one head read, and what the block holds after
  256 rows of one head are stored over it.
-/
module

public import proofs.«01_k».proof.Proof.Trip
public import proofs.«01_k».proof.Proof.Re
public import Idealize.ShloMosaic.Lib.VecWindow
public import Idealize.ShloMosaic.Lib.WritesUnit
public import Idealize.ShloMosaic.Lib.WholeRead

@[expose] public section

noncomputable section

namespace Cert.KernelIdeal.Gen

open Idealize.ShloMosaic Idealize.ShloMosaic.ValueIdx Idealize.ShloMosaic.TcCoe Cert.Stick

/-- Lane `d` of head `u`. -/
def lane (u : Fin 4) (d : Fin 128) : Fin 512 := ⟨128 * u.val + d.val, by omega⟩

theorem lane_surj (c : Fin 512) : ∃ u d, c = lane u d :=
  ⟨⟨c.val / 128, by omega⟩, ⟨c.val % 128, by omega⟩, Fin.ext (by show c.val = 128 * (c.val / 128) + c.val % 128; omega)⟩

/-- The block `x` of `a` rows holds, head by head, the reals `f`. -/
def Hd {a : ℕ} {φ : FTy} (x : FVec Ideal ⟨2, ![a, 512]⟩ φ) (f : Fin 4 → ℕ → ℕ → ℝ) : Prop :=
  ∀ (u : Fin 4) (r : Fin a) (d : Fin 128), x (ix2 r (lane u d)) = ((f u r d : ℝ) : EReal)

theorem Hd.congr {a : ℕ} {φ : FTy} {x : FVec Ideal ⟨2, ![a, 512]⟩ φ} {f g : Fin 4 → ℕ → ℕ → ℝ} (h : Hd x f)
    (e : ∀ u r d, r < a → d < 128 → f u r d = g u r d) : Hd x g := fun u r d => by
  rw [h, e u r d r.isLt d.isLt]

variable {κ : Kind} {sp : Space} {φ : FTy} {e : EltTy} {a n w : ℕ}

/-- A window of a block, entry by entry. -/
theorem readAt_ix2 {F : FTy → Type} (m : View sig κ sp ⟨2, ![a, w]⟩ e) (X : BufTy.Contents (Elt F) m.ty) {off : Fin 2 → ℕ} {o p b l : ℕ}
    (inb : ∀ x, off x + (![b, l] : Fin 2 → ℕ) x ≤ (![a, w] : Fin 2 → ℕ) x) (heq : off = ![o, p]) (r : Fin b) (d : Fin l)
    (r' : Fin a) (c : Fin w) (hr : r'.val = o + r.val) (hc : c.val = p + d.val) :
    m.readAt (Elt F) (Rect.unit (s := ⟨2, ![a, w]⟩) off ![b, l] inb).toLoadRect X (ix2 r d) = m.read (Elt F) X (ix2 r' c) := by
  subst heq
  show m.read (Elt F) X ((Rect.unit (s := ⟨2, ![a, w]⟩) ![o, p] ![b, l] inb).emb (ix2 r d)) = _
  congr 1
  funext x
  refine Fin.ext ?_
  show (![o, p] : Fin 2 → ℕ) x + 1 * (ix2 r d x).val = _
  match x with
  | 0 => show o + 1 * r.val = r'.val; omega
  | 1 => show p + 1 * d.val = c.val; omega

/-- What is read from another head's lanes does not see a piece. -/
theorem readAt_skip {F : FTy → Type} (m : View sig κ sp S4096x512 e) (B : BufTy.Contents (Elt F) m.ty) {off off' : Fin 2 → ℕ} {o o' : ℕ}
    {u u' : Fin 4} (inb : ∀ x, off x + S256x128.size x ≤ S4096x512.size x) (inb' : ∀ x, off' x + S256x128.size x ≤ S4096x512.size x)
    (heq : off = ![o, 128 * u.val]) (heq' : off' = ![o', 128 * u'.val]) (hu : u ≠ u') (p : Vec F S256x128 e)
    (L : List (View.Piece (Elt F) S4096x512 e)) :
    m.readAt (Elt F) (Rect.unit (s := S4096x512) off S256x128.size inb).toLoadRect
        (m.writes (Elt F) B (⟨Rect.unit (s := S4096x512) off' S256x128.size inb', p⟩ :: L))
      = m.readAt (Elt F) (Rect.unit (s := S4096x512) off S256x128.size inb).toLoadRect (m.writes (Elt F) B L) := by
  funext x
  subst heq
  refine View.read_writes_cons_unit_of_not_mem m B inb' p L _ heq' 1 ?_
  show 128 * u.val + 1 * (x 1).val < 128 * u'.val ∨ 128 * u'.val + 128 ≤ 128 * u.val + 1 * (x 1).val
  have h1 : (x 1).val < 128 := (x 1).isLt
  have h2 : u.val ≠ u'.val := fun h => hu (Fin.ext h)
  omega

theorem rows_le {off : Fin 2 → ℕ} {o p b l : ℕ} (inb : ∀ x, off x + (![b, l] : Fin 2 → ℕ) x ≤ (![a, w] : Fin 2 → ℕ) x)
    (heq : off = ![o, p]) (r : Fin b) : o + r.val < a := by
  have : o + b ≤ a := by have := inb 0; rw [heq] at this; exact this
  omega

/-- 256 rows of one head of a block of 32-bit entries. -/
theorem Hd.ld {m : View sig κ sp ⟨2, ![a, 512]⟩ .f32} {X : BufTy.Contents (Elt Ideal) m.ty} {f : Fin 4 → ℕ → ℕ → ℝ}
    (h : Hd (φ := .f32) (m.read (Elt Ideal) X) f) {off : Fin 2 → ℕ} {o : ℕ} {u : Fin 4}
    (inb : ∀ x, off x + (![256, 128] : Fin 2 → ℕ) x ≤ (![a, 512] : Fin 2 → ℕ) x) (heq : off = ![o, 128 * u.val]) :
    Re (φ := .f32) (m.readAt (Elt Ideal) (Rect.unit (s := ⟨2, ![a, 512]⟩) off ![256, 128] inb).toLoadRect X) (fun r d => f u (o + r) d) :=
  fun r d => (readAt_ix2 m X inb heq r d ⟨o + r.val, rows_le inb heq r⟩ (lane u d) rfl rfl).trans (h u _ d)

/-- 256 rows of one head of a block of 16-bit entries. -/
theorem Hd.ldb {m : View sig κ sp ⟨2, ![a, 512]⟩ .bf16} {X : BufTy.Contents (Elt Ideal) m.ty} {f : Fin 4 → ℕ → ℕ → ℝ}
    (h : Hd (φ := .bf16) (m.read (Elt Ideal) X) f) {off : Fin 2 → ℕ} {o : ℕ} {u : Fin 4}
    (inb : ∀ x, off x + (![256, 128] : Fin 2 → ℕ) x ≤ (![a, 512] : Fin 2 → ℕ) x) (heq : off = ![o, 128 * u.val]) :
    Re (φ := .bf16) (m.readAt (Elt Ideal) (Rect.unit (s := ⟨2, ![a, 512]⟩) off ![256, 128] inb).toLoadRect X) (fun r d => f u (o + r) d) :=
  fun r d => (readAt_ix2 m X inb heq r d ⟨o + r.val, rows_le inb heq r⟩ (lane u d) rfl rfl).trans (h u _ d)

/-- After 256 rows of head `u` are stored. -/
theorem Hd.store {m : View sig κ sp S4096x512 .f32} {B : BufTy.Contents (Elt Ideal) m.ty}
    {L : List (View.Piece (Elt Ideal) S4096x512 .f32)} {f : Fin 4 → ℕ → ℕ → ℝ} {g : ℕ → ℕ → ℝ}
    (h : Hd (φ := .f32) (m.read (Elt Ideal) (m.writes (Elt Ideal) B L)) f) {p : FVec Ideal S256x128 .f32} (hp : Re p g)
    {off : Fin 2 → ℕ} {o : ℕ} {u : Fin 4} (inb : ∀ x, off x + S256x128.size x ≤ S4096x512.size x) (heq : off = ![o, 128 * u.val]) :
    Hd (φ := .f32) (m.read (Elt Ideal) (m.writes (Elt Ideal) B (⟨Rect.unit (s := S4096x512) off S256x128.size inb, p⟩ :: L)))
      (fun u' s d => if u' = u ∧ o ≤ s ∧ s < o + 256 then g (s - o) d else f u' s d) := by
  intro u' s d
  beta_reduce
  by_cases hc : u' = u ∧ o ≤ s.val ∧ s.val < o + 256
  · rw [if_pos hc, ← hp ⟨s.val - o, by omega⟩ d]
    refine View.read_writes_cons_unit_of_mem m B inb p L _ (ix2 ⟨s.val - o, by omega⟩ d) heq fun x => ?_
    match x with
    | 0 => show s.val = o + (s.val - o); omega
    | 1 => show 128 * u'.val + d.val = 128 * u.val + d.val; rw [hc.1]
  · rw [if_neg hc, ← h u' s d]
    by_cases hu : u' = u
    · refine View.read_writes_cons_unit_of_not_mem m B inb p L _ heq 0 ?_
      show s.val < o ∨ o + 256 ≤ s.val
      have : ¬(o ≤ s.val ∧ s.val < o + 256) := fun h => hc ⟨hu, h⟩
      omega
    · refine View.read_writes_cons_unit_of_not_mem m B inb p L _ heq 1 ?_
      show 128 * u'.val + d.val < 128 * u.val ∨ 128 * u.val + 128 ≤ 128 * u'.val + d.val
      have h2 : u'.val ≠ u.val := fun h => hu (Fin.ext h)
      omega

/-- After 256 rows of every head are stored. -/
theorem Hd.store4 {m : View sig κ sp S4096x512 .f32} {B : BufTy.Contents (Elt Ideal) m.ty}
    {L : List (View.Piece (Elt Ideal) S4096x512 .f32)} {f g : Fin 4 → ℕ → ℕ → ℝ}
    (h : Hd (φ := .f32) (m.read (Elt Ideal) (m.writes (Elt Ideal) B L)) f) {p : Fin 4 → FVec Ideal S256x128 .f32}
    (hp : ∀ u, Re (p u) (g u)) {off : Fin 4 → Fin 2 → ℕ} {o : ℕ} (inb : ∀ u x, off u x + S256x128.size x ≤ S4096x512.size x)
    (heq : ∀ u : Fin 4, off u = ![o, 128 * u.val]) :
    Hd (φ := .f32) (m.read (Elt Ideal) (m.writes (Elt Ideal) B (([3, 2, 1, 0].map fun u => piece off inb u (p u)) ++ L)))
      (fun u s d => if o ≤ s ∧ s < o + 256 then g u (s - o) d else f u s d) := by
  refine ((((h.store (hp 0) (inb 0) (heq 0)).store (hp 1) (inb 1) (heq 1)).store (hp 2) (inb 2) (heq 2)).store (hp 3) (inb 3)
    (heq 3)).congr fun u s d _ _ => ?_
  by_cases hc : o ≤ s ∧ s < o + 256
  · simp only [hc, and_true, if_true]
    fin_cases u <;> simp
  · simp only [hc, and_false, if_false]

end Cert.KernelIdeal.Gen

end
-- ==== Proof.Point.lean ====
/-
  One grid point of the call: the state the loop leaves, the diagonal block after it, and what each of the call's three kinds
  of point leaves in the output blocks and in the two accumulated gradients.
-/
module

public import proofs.«01_k».proof.Proof.Store
public import proofs.«01_k».proof.Proof.Gen.KernelIdeal.Frame

@[expose] public section

set_option maxRecDepth 8192
set_option maxHeartbeats 4000000

noncomputable section

namespace Cert.KernelIdeal.Gen

open Idealize.ShloMosaic Idealize.ShloMosaic.TcCoe

variable {F : FTy → Type} [FloatOps F]

/-- Where each head's lanes of a 256-row block begin. -/
def offQ : Fin 4 → Fin 2 → ℕ
  | 0 => ![0, 0]
  | 1 => ![0, 128]
  | 2 => ![0, 256]
  | 3 => ![0, 384]
theorem offQ_inb : ∀ u a, offQ u a + S256x128.size a ≤ S256x512.size a := by decide
theorem offQ_inb1 : ∀ u a, offQ u a + S256x1.size a ≤ S256x512.size a := by decide
theorem offQ_eq : ∀ u : Fin 4, offQ u = ![0, 128 * u.val] := by decide

/-- Where the diagonal block of each head begins. -/
def offD (i : grid0.Coords) : Fin 4 → Fin 2 → ℕ
  | 0 => k0_off9 i
  | 1 => k0_off10 i
  | 2 => k0_off11 i
  | 3 => k0_off12 i
theorem offD_inb (i : grid0.Coords) : ∀ u a, offD i u a + S256x128.size a ≤ S4096x512.size a
  | 0 => k0_off9_inb i
  | 1 => k0_off10_inb i
  | 2 => k0_off11_inb i
  | 3 => k0_off12_inb i
theorem offD_eq (i : grid0.Coords) : ∀ u : Fin 4, offD i u = ![256 * (i 1).val, 128 * u.val]
  | 0 => k0_off9_eq i
  | 1 => k0_off10_eq i
  | 2 => k0_off11_eq i
  | 3 => k0_off12_eq i

/-- The loop before the diagonal runs once for each tile before this one; the loop for what is left over never runs. -/
theorem trips1 : ∀ i : grid0.Coords, Scf.trips (k0_t1_loop i).lb (k0_t1_loop i).ub (k0_t1_loop i).st = (i 1).val := by
  decide +kernel
theorem trips2 (i : grid0.Coords) : Scf.trips (k0_t2_loop i).lb (k0_t2_loop i).ub (k0_t2_loop i).st = 0 :=
  Nat.le_zero.mp (k0_t2_abs i).2.1

/-- One head's 128 lanes of a 256-row block. -/
def qv (m : Memref sig .tc .vmem S256x512 .bf16) (h : m.IsWhole) (x : Vec F S256x512 .bf16) (u : Fin 4) : FVec F S256x128 .bf16 :=
  shapeCast S256x128 (m.view.readAt (Elt F) (Rect.unit (s := S256x512) (offQ u) S256x128.size (offQ_inb u)).toLoadRect (h.unread x))
    shapeCasts_S256x128_S256x128
/-- The first of them, where the totals are. -/
def tw (m : Memref sig .tc .vmem S256x512 .f32) (h : m.IsWhole) (x : Vec F S256x512 .f32) (u : Fin 4) : Vec F S256x1 .f32 :=
  m.view.readAt (Elt F) (Rect.unit (s := S256x512) (offQ u) S256x1.size (offQ_inb1 u)).toLoadRect (h.unread x)
def tv (m : Memref sig .tc .vmem S256x512 .f32) (h : m.IsWhole) (x : Vec F S256x512 .f32) (u : Fin 4) : FVec F S256x1 .f32 :=
  shapeCast S256x1 (tw m h x u) shapeCasts_S256x1_S256x1

/-- The loop for what is left over leaves its state as it was. -/
theorem st2_zero (𝒱 : Variants) (c : Dev nD) (bd : Option 𝒱.V) (i : grid0.Coords) (arg2 : Memref sig .tc .vmem S256x512 .bf16) (harg2 : arg2.IsWhole) (arg3 : Memref
  sig .tc .vmem S4096x512 .bf16) (harg3 : arg3.IsWhole) (arg4 : Memref sig .tc .vmem S4096x512 .bf16) (harg4 : arg4.IsWhole) (arg5 : Memref sig .tc
  .vmem S256x512 .bf16) (harg5 : arg5.IsWhole) (arg6 : Memref sig .tc .vmem S256x512 .f32) (harg6 : arg6.IsWhole) (arg7 : Memref sig .tc .vmem S256x512
  .bf16) (harg7 : arg7.IsWhole) (arg8 : Memref sig .tc .vmem S4096x512 .bf16) (harg8 : arg8.IsWhole) (arg9 : Memref sig .tc .vmem S4096x512 .bf16)
  (harg9 : arg9.IsWhole) (arg10 : Memref sig .tc .vmem S4096x512 .f32) (harg10 : arg10.IsWhole) (arg11 : Memref sig .tc .vmem S4096x512 .f32) (harg11 :
  arg11.IsWhole) (arg1 : BitVec 32) (v8 : FVec F S256x256 .bf16) (v12 : FVec F S256x256 .bf16) (v15 : FVec F S256x128 .bf16) (v17 : FVec F S256x128
  .bf16) (v19 : FVec F S256x128 .bf16) (v21 : FVec F S256x128 .bf16) (v23 : FVec F S256x128 .bf16) (v25 : FVec F S256x128 .bf16) (v27 : FVec F S256x128
  .bf16) (v29 : FVec F S256x128 .bf16) (v31 : FVec F S256x1 .f32) (v33 : FVec F S256x1 .f32) (v34 : Vec F S256x1 .f32) (v36 : Vec F S256x1 .f32) (v47 :
  BitVec 32) (X_arg3 : BufTy.Contents (Elt F) arg3.view.ty) (X_arg4 : BufTy.Contents (Elt F) arg4.view.ty) (G_arg10 : BufTy.Contents (Elt F)
  arg10.view.ty) (G_arg11 : BufTy.Contents (Elt F) arg11.view.ty) (init : FVec F S256x128 .f32 × FVec F S256x1 .f32 × FVec F S256x1 .f32 × FVec F
  S256x128 .f32 × FVec F S256x1 .f32 × FVec F S256x1 .f32 × FVec F S256x128 .f32 × FVec F S256x1 .f32 × FVec F S256x1 .f32 × FVec F S256x128 .f32 × FVec
  F S256x1 .f32 × FVec F S256x1 .f32) (n : ℕ) (h : n = 0) :
    st_k0_t2 (F := F) 𝒱 c bd i arg2 harg2 arg3 harg3 arg4 harg4 arg5 harg5 arg6 harg6 arg7 harg7 arg8 harg8 arg9 harg9 arg10 harg10 arg11 harg11 arg1 v8 v12 v15 v17 v19 v21
      v23 v25 v27 v29 v31 v33 v34 v36 v47 X_arg3 X_arg4 G_arg10 G_arg11 init n = (init, [], []) := by
  subst h
  rfl

variable (c : Dev nD) (i : grid0.Coords) (arg2 : Memref sig .tc .vmem S256x512 .bf16) (harg2 : arg2.IsWhole) (arg3 : Memref sig .tc .vmem S4096x512 .bf16) (harg3 : arg3.IsWhole) (arg4 :
  Memref sig .tc .vmem S4096x512 .bf16) (harg4 : arg4.IsWhole) (arg5 : Memref sig .tc .vmem S256x512 .bf16) (harg5 : arg5.IsWhole) (arg6 : Memref sig
  .tc .vmem S256x512 .f32) (harg6 : arg6.IsWhole) (arg7 : Memref sig .tc .vmem S256x512 .bf16) (harg7 : arg7.IsWhole) (arg8 : Memref sig .tc .vmem
  S4096x512 .bf16) (harg8 : arg8.IsWhole) (arg9 : Memref sig .tc .vmem S4096x512 .bf16) (harg9 : arg9.IsWhole) (arg10 : Memref sig .tc .vmem S4096x512
  .f32) (harg10 : arg10.IsWhole) (arg11 : Memref sig .tc .vmem S4096x512 .f32) (harg11 : arg11.IsWhole)
  (x0 : Vec F S256x512 .bf16) (x1 : Vec F S4096x512 .bf16) (x2 : Vec F S4096x512 .bf16) (x3 : Vec F S256x512 .bf16)
  (x4 : Vec F S256x512 .f32) (xs0 : Vec F S4096x512 .f32) (xs1 : Vec F S4096x512 .f32)

/-- The four heads' rows at this point. -/
def rowsX (u : Fin 4) : Rows F := (qv arg2 harg2 x0 u, qv arg5 harg5 x3 u, tv arg6 harg6 x4 u)

theorem rowsOf_eq : rowsOf (qv arg2 harg2 x0 0) (qv arg2 harg2 x0 1) (qv arg2 harg2 x0 2) (qv arg2 harg2 x0 3) (qv arg5 harg5 x3 0) (qv arg5 harg5 x3 1) (qv arg5 harg5 x3 2) (qv
    arg5 harg5 x3 3) (tv arg6 harg6 x4 0) (tv arg6 harg6 x4 1) (tw arg6 harg6 x4 2) (tw arg6 harg6 x4 3) = rowsX arg2 harg2 arg5 harg5 arg6 harg6 x0 x3 x4 := by
  funext u
  fin_cases u <;> rfl

/-- The state before trip `n` of the loop that begins with `G10` and `G11` in the accumulated gradients. -/
def loop1 (G10 : BufTy.Contents (Elt F) arg10.view.ty) (G11 : BufTy.Contents (Elt F) arg11.view.ty) (n : ℕ) :
    Tri4 F × List (View.Piece (Elt F) S4096x512 .f32) × List (View.Piece (Elt F) S4096x512 .f32) :=
  st_k0_t1 Variants.none c none i arg2 harg2 arg3 harg3 arg4 harg4 arg5 harg5 arg6 harg6 arg7 harg7 arg8 harg8 arg9 harg9 arg10 harg10 arg11 harg11 (BitVec.ofNat
    32 (i 1).val) k0_pay121 k0_pay122 (qv arg2 harg2 x0 0) (qv arg2 harg2 x0 1) (qv arg2 harg2 x0 2) (qv arg2 harg2 x0 3) (qv arg5 harg5 x3 0) (qv arg5
    harg5 x3 1) (qv arg5 harg5 x3 2) (qv arg5 harg5 x3 3) (tv arg6 harg6 x4 0) (tv arg6 harg6 x4 1) (tw arg6 harg6 x4 2) (tw arg6 harg6 x4 3)
    (harg3.unread x1) (harg4.unread x2) G10 G11
    (k0_pay137, k0_pay136, k0_pay136, k0_pay138, k0_pay136, k0_pay136, k0_pay139, k0_pay136, k0_pay136, k0_pay140, k0_pay136, k0_pay136) n

/-- The same carried values, taken apart and put together. -/
theorem flat_headOf {α : Type} (s t : Tri4 F × α) (h : s = t) : flat (headOf s.1) = t.1 := by
  subst h
  rfl

/-- What the diagonal block masks. -/
def dmask (x : FVec F S256x256 .f32) : FVec F S256x256 .f32 := select k0_pay123 x (broadcast S256x256 (Scalar.ofBits .f32 0x00000000#32))

/-- One head's key rows and value rows of the diagonal. -/
def kd (m : Memref sig .tc .vmem S4096x512 .bf16) (h : m.IsWhole) (x : Vec F S4096x512 .bf16) (u : Fin 4) : FVec F S256x128 .bf16 :=
  lds m (h.unread x) (offD i u) (offD_inb i u)

/-- The carried values after the diagonal block, from `R` before it. -/
def diagR (R : Tri4 F) (u : Fin 4) : Tri F :=
  bStep dmask k0_pay121 k0_pay122 (rowsX arg2 harg2 arg5 harg5 arg6 harg6 x0 x3 x4 u) (kd i arg3 harg3 x1 u) (kd i arg4 harg4 x2 u) (headOf R u)
/-- The key gradient's rows after the diagonal block, from `old` before it, and the value gradient's. -/
def diagK (R : Tri4 F) (u : Fin 4) (old : FVec F S256x128 .f32) : FVec F S256x128 .f32 :=
  bDk dmask k0_pay121 k0_pay122 (rowsX arg2 harg2 arg5 harg5 arg6 harg6 x0 x3 x4 u) (kd i arg3 harg3 x1 u) (kd i arg4 harg4 x2 u) (headOf R u) old
def diagV (R : Tri4 F) (u : Fin 4) (old : FVec F S256x128 .f32) : FVec F S256x128 .f32 :=
  bDv dmask k0_pay121 (rowsX arg2 harg2 arg5 harg5 arg6 harg6 x0 x3 x4 u) (kd i arg3 harg3 x1 u) (headOf R u) old

/-- The pieces of the diagonal block, each over what the heads before it left. -/
def stack (m : Memref sig .tc .vmem S4096x512 .f32) (B : BufTy.Contents (Elt F) m.view.ty)
    (L : List (View.Piece (Elt F) S4096x512 .f32)) (p : Fin 4 → FVec F S256x128 .f32 → FVec F S256x128 .f32) :
    List (View.Piece (Elt F) S4096x512 .f32) :=
  have add (u : Fin 4) (L : List (View.Piece (Elt F) S4096x512 .f32)) :=
    piece (offD i) (offD_inb i) u (p u (ld128 m (m.view.writes (Elt F) B L) (offD i u) (offD_inb i u))) :: L
  add 3 (add 2 (add 1 (add 0 L)))

theorem stack_eq (m : Memref sig .tc .vmem S4096x512 .f32) (B : BufTy.Contents (Elt F) m.view.ty)
    (L : List (View.Piece (Elt F) S4096x512 .f32)) (p : Fin 4 → FVec F S256x128 .f32 → FVec F S256x128 .f32) :
    stack i m B L p = ([3, 2, 1, 0].map fun u => piece (offD i) (offD_inb i) u
      (p u (ld128 m (m.view.writes (Elt F) B L) (offD i u) (offD_inb i u)))) ++ L := by
  have sk (u u' : Fin 4) (hu : u ≠ u') (q : FVec F S256x128 .f32) (L : List (View.Piece (Elt F) S4096x512 .f32)) :
      ld128 m (m.view.writes (Elt F) B (piece (offD i) (offD_inb i) u' q :: L)) (offD i u) (offD_inb i u)
        = ld128 m (m.view.writes (Elt F) B L) (offD i u) (offD_inb i u) :=
    readAt_skip m.view B (offD_inb i u) (offD_inb i u') (offD_eq i u) (offD_eq i u') hu q L
  show _ :: _ :: _ :: _ :: L = _ :: _ :: _ :: _ :: L
  rw [sk 3 2 (by decide), sk 3 1 (by decide), sk 3 0 (by decide), sk 2 1 (by decide), sk 2 0 (by decide), sk 1 0 (by decide)]

/-- The query gradient's pieces. -/
def dqs (R : Tri4 F) : List (View.Piece (Elt F) S256x512 .bf16) :=
  [3, 2, 1, 0].map fun u => ⟨Rect.unit (s := S256x512) (offQ u) S256x128.size (offQ_inb u),
    truncf .bf16 (diagR i arg2 harg2 arg3 harg3 arg4 harg4 arg5 harg5 arg6 harg6 x0 x1 x2 x3 x4 R u).1 bitsLt_bf16_f32⟩

/-- The zeros the first tile of a group of heads stores over both accumulated gradients. -/
def zeros : List (View.Piece (Elt F) S4096x512 .f32) := [⟨Rect.unit (s := S4096x512) ![0, 0] S4096x512.size inb_S4096x512_S4096x512_0_0, k0_pay119⟩]
def zeros' : List (View.Piece (Elt F) S4096x512 .f32) := [⟨Rect.unit (s := S4096x512) ![0, 0] S4096x512.size inb_S4096x512_S4096x512_0_0, k0_pay120⟩]

end Cert.KernelIdeal.Gen

end
-- ==== Proof.Loop.lean ====
/-
  What the loop and the diagonal block of one grid point compute, over the real numbers: after the key rows before `S` the
  carried values are the sums over those rows, and the accumulated gradients of those rows include this tile's queries.
-/
module

public import proofs.«01_k».proof.Proof.Point
public import Idealize.ShloMosaic.Lib.WordCmp

@[expose] public section

set_option maxRecDepth 8192

noncomputable section

namespace Cert.KernelIdeal.Gen

open Finset Idealize.ShloMosaic Idealize.ShloMosaic.ValueIdx Idealize.ShloMosaic.TcCoe Cert.Stick

/-- The two triangles the sums are taken with, and the causal mask. -/
theorem bit_real (p : Prop) [Decidable p] :
    ((((BitVec.ofBool (decide p)).setWidth 32).toInt : ℝ) : EReal) = (((if p then 1 else 0 : ℝ)) : EReal) := by
  by_cases h : p <;> simp [h]
theorem re_upto : Re (φ := .bf16) (k0_pay121 (F := Ideal)) (fun a b => if a ≤ b then 1 else 0) := fun r c => by
  refine Eq.trans ?_ (bit_real (r.val ≤ c.val))
  show ((((IntOp.cmpi .sle (iota .tc S256x256 32 [0] _ (ix2 r c)) (iota .tc S256x256 32 [1] _ (ix2 r c))).setWidth 32).toInt : ℝ) : EReal) = _
  rw [show IntOp.cmpi .sle (iota .tc S256x256 32 [0] _ (ix2 r c)) (iota .tc S256x256 32 [1] _ (ix2 r c)) = _ from
    WordCmp.cmpi_sle_ofNat (a := 0 * 256 + r.val) (b := 0 * 256 + c.val) (by omega) (by omega)]
  simp only [Nat.zero_mul, Nat.zero_add]
theorem re_before : Re (φ := .bf16) (k0_pay122 (F := Ideal)) (fun a b => if a < b then 1 else 0) := fun r c => by
  refine Eq.trans ?_ (bit_real (r.val < c.val))
  show ((((IntOp.cmpi .slt (iota .tc S256x256 32 [0] _ (ix2 r c)) (iota .tc S256x256 32 [1] _ (ix2 r c))).setWidth 32).toInt : ℝ) : EReal) = _
  rw [show IntOp.cmpi .slt (iota .tc S256x256 32 [0] _ (ix2 r c)) (iota .tc S256x256 32 [1] _ (ix2 r c)) = _ from
    WordCmp.cmpi_slt_ofNat (a := 0 * 256 + r.val) (b := 0 * 256 + c.val) (by omega) (by omega)]
  simp only [Nat.zero_mul, Nat.zero_add]
theorem causal (r c : Fin 256) : k0_pay123 (ix2 r c) = if c.val < r.val then 1#1 else 0#1 := by
  show IntOp.cmpi .slt (iota .tc S256x256 32 [1] _ (ix2 r c)) (iota .tc S256x256 32 [0] _ (ix2 r c)) = _
  rw [show IntOp.cmpi .slt (iota .tc S256x256 32 [1] _ (ix2 r c)) (iota .tc S256x256 32 [0] _ (ix2 r c)) = _ from
    WordCmp.cmpi_slt_ofNat (a := 0 * 256 + c.val) (b := 0 * 256 + r.val) (by omega) (by omega)]
  simp only [Nat.zero_mul, Nat.zero_add]
  by_cases h : c.val < r.val <;> simp [h]

/-- The diagonal block's mask keeps the keys before the query. -/
theorem re_dmask {x : FVec Ideal S256x256 .f32} {f : ℕ → ℕ → ℝ} (t0 : ℕ) (h : Re x f) :
    Re (dmask x) (fun r c => if t0 + c < t0 + r then f r c else 0) :=
  (Re.select (p := fun r c => c < r) causal h re_zero).congr fun r c _ _ => by simp only [Nat.add_lt_add_iff_left]

variable (q k v y : Fin 4 → ℕ → ℕ → ℝ)

/-- What a point of the call has, once its queries have met the keys before `S`. -/
structure Inv (t0 S : ℕ) (R : Tri4 Ideal) (X10 X11 : FVec Ideal S4096x512 .f32) : Prop where
  c0 : ∀ u, Re (headOf R u).1 (fun r d => ∑ s ∈ range S, DZ (q u) (k u) (v u) (y u) (t0 + r) s * k u s d)
  c1 : ∀ u, Re (headOf R u).2.1 (fun r _ => ∑ s ∈ range S, L (q u) (k u) (t0 + r) s)
  c2 : ∀ u, Re (headOf R u).2.2 (fun r _ => ∑ s ∈ range S, G (q u) (k u) (v u) (y u) (t0 + r) s)
  dk : Hd X10 (fun u s d => ∑ t ∈ range (if s < S then t0 + 256 else t0), DZ (q u) (k u) (v u) (y u) t s * q u t d)
  dv : Hd X11 (fun u s d => ∑ t ∈ range (if s < S then t0 + 256 else t0), W (q u) (k u) t s * y u t d)

variable {q k v y}

/-- One block: 256 more keys. -/
theorem Inv.step {M : FVec Ideal S256x256 .f32 → FVec Ideal S256x256 .f32} {u8 u12 : FVec Ideal S256x256 .bf16}
    {h : Fin 4 → Rows Ideal} {K V : Fin 4 → FVec Ideal S256x128 .bf16} {R : Tri4 Ideal} {t0 S : ℕ}
    {arg10 arg11 : Memref sig .tc .vmem S4096x512 .f32} {B10 : BufTy.Contents (Elt Ideal) arg10.view.ty}
    {B11 : BufTy.Contents (Elt Ideal) arg11.view.ty} {L10 L11 : List (View.Piece (Elt Ideal) S4096x512 .f32)}
    {off : Fin 4 → Fin 2 → ℕ} (inb : ∀ u a, off u a + S256x128.size a ≤ S4096x512.size a) (heq : ∀ u : Fin 4, off u = ![S, 128 * u.val])
    (o : ∀ u, Ops M u8 u12 (h u).1 (h u).2.1 (K u) (V u) (h u).2.2 (headOf R u).2.1 (headOf R u).2.2 t0 S (q u) (k u) (v u) (y u))
    (n : Inv q k v y t0 S R (arg10.view.read (Elt Ideal) (arg10.view.writes (Elt Ideal) B10 L10))
      (arg11.view.read (Elt Ideal) (arg11.view.writes (Elt Ideal) B11 L11))) :
    Inv q k v y t0 (S + 256) (flat fun u => bStep M u8 u12 (h u) (K u) (V u) (headOf R u))
      (arg10.view.read (Elt Ideal) (arg10.view.writes (Elt Ideal) B10 (([3, 2, 1, 0].map fun u => piece off inb u
        (bDk M u8 u12 (h u) (K u) (V u) (headOf R u) (ld128 arg10 (arg10.view.writes (Elt Ideal) B10 L10) (off u) (inb u)))) ++ L10)))
      (arg11.view.read (Elt Ideal) (arg11.view.writes (Elt Ideal) B11 (([3, 2, 1, 0].map fun u => piece off inb u
        (bDv M u8 (h u) (K u) (headOf R u) (ld128 arg11 (arg11.view.writes (Elt Ideal) B11 L11) (off u) (inb u)))) ++ L11))) where
  c0 u := by rw [headOf_flat]; exact (o u).c0' (n.c0 u)
  c1 u := by rw [headOf_flat]; exact (o u).c1'
  c2 u := by rw [headOf_flat]; exact (o u).c2'
  dk := (n.dk.store4 (fun u => (o u).dk ((n.dk.ld (inb u) (heq u)).congr fun r d _ _ => by
      rw [if_neg (Nat.not_lt.mpr (Nat.le_add_right S r))])) inb heq).congr fun u s d _ _ => by
    by_cases h1 : S ≤ s ∧ s < S + 256
    · rw [if_pos h1, if_pos h1.2, Nat.add_sub_cancel' h1.1]
    · rw [if_neg h1]
      by_cases h2 : s < S
      · rw [if_pos h2, if_pos (Nat.lt_add_right 256 h2)]
      · rw [if_neg h2, if_neg fun h3 => h1 ⟨Nat.not_lt.mp h2, h3⟩]
  dv := (n.dv.store4 (fun u => (o u).dv ((n.dv.ld (inb u) (heq u)).congr fun r d _ _ => by
      rw [if_neg (Nat.not_lt.mpr (Nat.le_add_right S r))])) inb heq).congr fun u s d _ _ => by
    by_cases h1 : S ≤ s ∧ s < S + 256
    · rw [if_pos h1, if_pos h1.2, Nat.add_sub_cancel' h1.1]
    · rw [if_neg h1]
      by_cases h2 : s < S
      · rw [if_pos h2, if_pos (Nat.lt_add_right 256 h2)]
      · rw [if_neg h2, if_neg fun h3 => h1 ⟨Nat.not_lt.mp h2, h3⟩]

/-- What the blocks of a point hold: its queries, output gradients and totals, and every key and value. -/
structure Blocks (q k v y : Fin 4 → ℕ → ℕ → ℝ) (t0 : ℕ) (x0 : Vec Ideal S256x512 .bf16) (x1 x2 : Vec Ideal S4096x512 .bf16)
    (x3 : Vec Ideal S256x512 .bf16) (x4 : Vec Ideal S256x512 .f32) : Prop where
  tot : Hd (φ := .f32) x4 (fun u r _ => Stick.T (q u) (k u) (t0 + r))
  q : Hd (φ := .bf16) x0 (fun u r d => q u (t0 + r) d)
  k : Hd (φ := .bf16) x1 k
  v : Hd (φ := .bf16) x2 v
  y : Hd (φ := .bf16) x3 (fun u r d => y u (t0 + r) d)

variable {c : Dev nD} {i : grid0.Coords} {arg2 : Memref sig .tc .vmem S256x512 .bf16} {harg2 : arg2.IsWhole} {arg3 : Memref sig .tc .vmem S4096x512 .bf16} {harg3 : arg3.IsWhole} {arg4 :
  Memref sig .tc .vmem S4096x512 .bf16} {harg4 : arg4.IsWhole} {arg5 : Memref sig .tc .vmem S256x512 .bf16} {harg5 : arg5.IsWhole} {arg6 : Memref sig
  .tc .vmem S256x512 .f32} {harg6 : arg6.IsWhole} {arg7 : Memref sig .tc .vmem S256x512 .bf16} {harg7 : arg7.IsWhole} {arg8 : Memref sig .tc .vmem
  S4096x512 .bf16} {harg8 : arg8.IsWhole} {arg9 : Memref sig .tc .vmem S4096x512 .bf16} {harg9 : arg9.IsWhole} {arg10 : Memref sig .tc .vmem S4096x512
  .f32} {harg10 : arg10.IsWhole} {arg11 : Memref sig .tc .vmem S4096x512 .f32} {harg11 : arg11.IsWhole}
  {x0 : Vec Ideal S256x512 .bf16} {x1 : Vec Ideal S4096x512 .bf16} {x2 : Vec Ideal S4096x512 .bf16} {x3 : Vec Ideal S256x512 .bf16}
  {x4 : Vec Ideal S256x512 .f32}

theorem re_rows {t0 : ℕ} (b : Blocks q k v y t0 x0 x1 x2 x3 x4) (u : Fin 4) :
    Re (rowsX arg2 harg2 arg5 harg5 arg6 harg6 x0 x3 x4 u).1 (fun r d => q u (t0 + r) d)
      ∧ Re (rowsX arg2 harg2 arg5 harg5 arg6 harg6 x0 x3 x4 u).2.1 (fun r d => y u (t0 + r) d)
      ∧ Re (rowsX arg2 harg2 arg5 harg5 arg6 harg6 x0 x3 x4 u).2.2 (fun r _ => Stick.T (q u) (k u) (t0 + r)) := by
  have hq : Hd (φ := .bf16) (arg2.view.read (Elt Ideal) (harg2.unread x0)) (fun u r d => q u (t0 + r) d) := by
    rw [harg2.read_unread]; exact b.q
  have hy : Hd (φ := .bf16) (arg5.view.read (Elt Ideal) (harg5.unread x3)) (fun u r d => y u (t0 + r) d) := by
    rw [harg5.read_unread]; exact b.y
  refine ⟨((hq.ldb (offQ_inb u) (offQ_eq u)).congr fun r d _ _ => by rw [Nat.zero_add]).cast _,
    ((hy.ldb (offQ_inb u) (offQ_eq u)).congr fun r d _ _ => by rw [Nat.zero_add]).cast _, ?_⟩
  refine Re.cast (x := tw arg6 harg6 x4 u) (fun r d => ?_) shapeCasts_S256x1_S256x1
  refine (readAt_ix2 arg6.view (harg6.unread x4) (offQ_inb1 u) (offQ_eq u) r d r (lane u 0) (by omega)
    (by show 128 * u.val + 0 = _; omega)).trans ?_
  rw [harg6.read_unread]
  exact b.tot u r 0

theorem re_keys {x : Vec Ideal S4096x512 .bf16} {f : Fin 4 → ℕ → ℕ → ℝ} (h : Hd (φ := .bf16) x f)
    {m : Memref sig .tc .vmem S4096x512 .bf16} (hm : m.IsWhole) {off : Fin 2 → ℕ} {S : ℕ} {u : Fin 4}
    (inb : ∀ a, off a + S256x128.size a ≤ S4096x512.size a) (heq : off = ![S, 128 * u.val]) :
    Re (φ := .bf16) (lds m (hm.unread x) off inb) (fun r d => f u (S + r) d) := by
  have h' : Hd (φ := .bf16) (m.view.read (Elt Ideal) (hm.unread x)) f := by rw [hm.read_unread]; exact h
  exact (h'.ldb inb heq).cast _

/-- One more trip of the loop. -/
theorem loop1_succ {G10 : BufTy.Contents (Elt Ideal) arg10.view.ty} {G11 : BufTy.Contents (Elt Ideal) arg11.view.ty}
    (n : Fin (k0_t1_loop i).trips) :
    loop1 c i arg2 harg2 arg3 harg3 arg4 harg4 arg5 harg5 arg6 harg6 arg7 harg7 arg8 harg8 arg9 harg9 arg10 harg10 arg11 harg11 x0 x1 x2 x3 x4 G10 G11 (n.val + 1)
      = (flat fun u => bStep id k0_pay121 k0_pay122 (rowsX arg2 harg2 arg5 harg5 arg6 harg6 x0 x3 x4 u)
          (lds arg3 (harg3.unread x1) (offT i n u) (offT_inb i n u)) (lds arg4 (harg4.unread x2) (offT i n u) (offT_inb i n u))
          (headOf (loop1 c i arg2 harg2 arg3 harg3 arg4 harg4 arg5 harg5 arg6 harg6 arg7 harg7 arg8 harg8 arg9 harg9 arg10 harg10 arg11 harg11 x0 x1 x2 x3 x4 G10 G11 n.val).1 u),
        ([3, 2, 1, 0].map fun u => piece (offT i n) (offT_inb i n) u (bDk id k0_pay121 k0_pay122 (rowsX arg2 harg2 arg5 harg5 arg6 harg6 x0 x3 x4 u)
          (lds arg3 (harg3.unread x1) (offT i n u) (offT_inb i n u)) (lds arg4 (harg4.unread x2) (offT i n u) (offT_inb i n u))
          (headOf (loop1 c i arg2 harg2 arg3 harg3 arg4 harg4 arg5 harg5 arg6 harg6 arg7 harg7 arg8 harg8 arg9 harg9 arg10 harg10 arg11 harg11 x0 x1 x2 x3 x4 G10 G11 n.val).1 u)
          (ld128 arg10 (arg10.view.writes (Elt Ideal) G10 (loop1 c i arg2 harg2 arg3 harg3 arg4 harg4 arg5 harg5 arg6 harg6 arg7 harg7 arg8 harg8 arg9 harg9 arg10 harg10 arg11 harg11 x0 x1 x2 x3 x4 G10 G11 n.val).2.1) (offT i n u) (offT_inb i n u))))
          ++ (loop1 c i arg2 harg2 arg3 harg3 arg4 harg4 arg5 harg5 arg6 harg6 arg7 harg7 arg8 harg8 arg9 harg9 arg10 harg10 arg11 harg11 x0 x1 x2 x3 x4 G10 G11 n.val).2.1,
        ([3, 2, 1, 0].map fun u => piece (offT i n) (offT_inb i n) u (bDv id k0_pay121 (rowsX arg2 harg2 arg5 harg5 arg6 harg6 x0 x3 x4 u)
          (lds arg3 (harg3.unread x1) (offT i n u) (offT_inb i n u)) (headOf (loop1 c i arg2 harg2 arg3 harg3 arg4 harg4 arg5 harg5 arg6 harg6 arg7 harg7 arg8 harg8 arg9 harg9 arg10 harg10 arg11 harg11 x0 x1 x2 x3 x4 G10 G11 n.val).1 u)
          (ld128 arg11 (arg11.view.writes (Elt Ideal) G11 (loop1 c i arg2 harg2 arg3 harg3 arg4 harg4 arg5 harg5 arg6 harg6 arg7 harg7 arg8 harg8 arg9 harg9 arg10 harg10 arg11 harg11 x0 x1 x2 x3 x4 G10 G11 n.val).2.2) (offT i n u) (offT_inb i n u))))
          ++ (loop1 c i arg2 harg2 arg3 harg3 arg4 harg4 arg5 harg5 arg6 harg6 arg7 harg7 arg8 harg8 arg9 harg9 arg10 harg10 arg11 harg11 x0 x1 x2 x3 x4 G10 G11 n.val).2.2) := by
  unfold loop1
  rw [st_k0_t1_succ, tripR_eq, tripK_eq, tripV_eq, rowsOf_eq]

/-- The loop: before trip `n` the queries have met the keys before `256 n`. -/
theorem inv_loop (b : Blocks q k v y (256 * (i 1).val) x0 x1 x2 x3 x4) {G10 : BufTy.Contents (Elt Ideal) arg10.view.ty}
    {G11 : BufTy.Contents (Elt Ideal) arg11.view.ty}
    (h10 : Hd (φ := .f32) (arg10.view.read (Elt Ideal) G10)
      (fun u s d => ∑ t ∈ range (256 * (i 1).val), DZ (q u) (k u) (v u) (y u) t s * q u t d))
    (h11 : Hd (φ := .f32) (arg11.view.read (Elt Ideal) G11)
      (fun u s d => ∑ t ∈ range (256 * (i 1).val), W (q u) (k u) t s * y u t d)) (n : ℕ) (hn : n ≤ (i 1).val) :
    Inv q k v y (256 * (i 1).val) (256 * n) (loop1 c i arg2 harg2 arg3 harg3 arg4 harg4 arg5 harg5 arg6 harg6 arg7 harg7 arg8 harg8 arg9 harg9 arg10 harg10 arg11 harg11 x0 x1 x2 x3 x4 G10 G11 n).1
      (arg10.view.read (Elt Ideal) (arg10.view.writes (Elt Ideal) G10 (loop1 c i arg2 harg2 arg3 harg3 arg4 harg4 arg5 harg5 arg6 harg6 arg7 harg7 arg8 harg8 arg9 harg9 arg10 harg10 arg11 harg11 x0 x1 x2 x3 x4 G10 G11 n).2.1))
      (arg11.view.read (Elt Ideal) (arg11.view.writes (Elt Ideal) G11 (loop1 c i arg2 harg2 arg3 harg3 arg4 harg4 arg5 harg5 arg6 harg6 arg7 harg7 arg8 harg8 arg9 harg9 arg10 harg10 arg11 harg11 x0 x1 x2 x3 x4 G10 G11 n).2.2) ) := by
  induction n with
  | zero =>
    have z1 : Re (k0_pay136 (F := Ideal)) (fun _ _ => 0) := re_zero
    have z2 : Re (k0_pay137 (F := Ideal)) (fun _ _ => 0) := re_zero
    refine ⟨fun u => ?_, fun u => ?_, fun u => ?_, h10, h11⟩ <;> simp only [Nat.mul_zero, range_zero, sum_empty]
    · fin_cases u <;> exact z2
    · fin_cases u <;> exact z1
    · fin_cases u <;> exact z1
  | succ n ih =>
    have hk : n < (k0_t1_loop i).trips := by rw [show (k0_t1_loop i).trips = _ from trips1 i]; omega
    have n0 := ih (by omega)
    rw [loop1_succ ⟨n, hk⟩, Nat.mul_succ]
    dsimp only
    generalize loop1 c i arg2 harg2 arg3 harg3 arg4 harg4 arg5 harg5 arg6 harg6 arg7 harg7 arg8 harg8 arg9 harg9 arg10 harg10 arg11 harg11 x0 x1 x2 x3 x4 G10 G11 n = st at n0 ⊢
    exact n0.step (offT_inb i ⟨n, hk⟩) (offT_eq i ⟨n, hk⟩) fun u =>
      { mask := fun {x f} h => h.congr fun r c hr hc => by rw [if_pos]; omega
        upto := re_upto
        before := re_before
        q := (re_rows b u).1
        y := (re_rows b u).2.1
        k := re_keys b.k harg3 (offT_inb i ⟨n, hk⟩ u) (offT_eq i ⟨n, hk⟩ u)
        v := re_keys b.v harg4 (offT_inb i ⟨n, hk⟩ u) (offT_eq i ⟨n, hk⟩ u)
        tot := (re_rows b u).2.2
        c1 := n0.c1 u
        c2 := n0.c2 u }

/-- The diagonal block after the loop. -/
theorem inv_diag (b : Blocks q k v y (256 * (i 1).val) x0 x1 x2 x3 x4) {R : Tri4 Ideal} {B10 : BufTy.Contents (Elt Ideal) arg10.view.ty}
    {B11 : BufTy.Contents (Elt Ideal) arg11.view.ty} {L10 L11 : List (View.Piece (Elt Ideal) S4096x512 .f32)}
    (n : Inv q k v y (256 * (i 1).val) (256 * (i 1).val) R (arg10.view.read (Elt Ideal) (arg10.view.writes (Elt Ideal) B10 L10))
      (arg11.view.read (Elt Ideal) (arg11.view.writes (Elt Ideal) B11 L11))) :
    Inv q k v y (256 * (i 1).val) (256 * ((i 1).val + 1)) (flat (diagR i arg2 harg2 arg3 harg3 arg4 harg4 arg5 harg5 arg6 harg6 x0 x1 x2 x3 x4 R))
      (arg10.view.read (Elt Ideal) (arg10.view.writes (Elt Ideal) B10 (stack i arg10 B10 L10 (diagK i arg2 harg2 arg3 harg3 arg4 harg4 arg5 harg5 arg6 harg6 x0 x1 x2 x3 x4 R))))
      (arg11.view.read (Elt Ideal) (arg11.view.writes (Elt Ideal) B11 (stack i arg11 B11 L11 (diagV i arg2 harg2 arg3 harg3 arg5 harg5 arg6 harg6 x0 x1 x3 x4 R)))) := by
  rw [stack_eq, stack_eq, Nat.mul_succ]
  exact n.step (offD_inb i) (offD_eq i) fun u =>
    { mask := re_dmask _
      upto := re_upto
      before := re_before
      q := (re_rows b u).1
      y := (re_rows b u).2.1
      k := re_keys b.k harg3 (offD_inb i u) (offD_eq i u)
      v := re_keys b.v harg4 (offD_inb i u) (offD_eq i u)
      tot := (re_rows b u).2.2
      c1 := n.c1 u
      c2 := n.c2 u }

/-- After it every key has what this tile's queries add: a key after them gets nothing. -/
theorem Inv.all {t0 : ℕ} {R : Tri4 Ideal} {X10 X11 : FVec Ideal S4096x512 .f32} (n : Inv q k v y t0 (t0 + 256) R X10 X11) :
    Hd X10 (fun u s d => ∑ t ∈ range (t0 + 256), DZ (q u) (k u) (v u) (y u) t s * q u t d)
      ∧ Hd X11 (fun u s d => ∑ t ∈ range (t0 + 256), W (q u) (k u) t s * y u t d) := by
  have key (s : ℕ) (f : ℕ → ℝ) (hf : ∀ t, t ≤ s → f t = 0) :
      ∑ t ∈ range (if s < t0 + 256 then t0 + 256 else t0), f t = ∑ t ∈ range (t0 + 256), f t := by
    by_cases h : s < t0 + 256
    · rw [if_pos h]
    · rw [if_neg h]
      refine sum_subset (range_mono (Nat.le_add_right _ _)) fun t ht _ => hf t ?_
      have := mem_range.mp ht
      omega
  exact ⟨n.dk.congr fun u s d _ _ => key s _ fun t ht => by rw [DZ_zero _ _ _ _ ht, zero_mul],
    n.dv.congr fun u s d _ _ => key s _ fun t ht => by rw [W_zero _ _ ht, zero_mul]⟩

/-- The query gradient's block after the point. -/
theorem re_dqs {m : View sig .tc .vmem S256x512 .bf16} {B : BufTy.Contents (Elt Ideal) m.ty} {t0 S : ℕ} {R : Tri4 Ideal}
    {X10 X11 : FVec Ideal S4096x512 .f32}
    (n : Inv q k v y t0 S (flat (diagR i arg2 harg2 arg3 harg3 arg4 harg4 arg5 harg5 arg6 harg6 x0 x1 x2 x3 x4 R)) X10 X11) :
    Hd (φ := .bf16) (m.read (Elt Ideal) (m.writes (Elt Ideal) B (dqs i arg2 harg2 arg3 harg3 arg4 harg4 arg5 harg5 arg6 harg6 x0 x1 x2 x3 x4 R)))
      (fun u r d => ∑ s ∈ range S, DZ (q u) (k u) (v u) (y u) (t0 + r) s * k u s d) := by
  intro u r d
  have hv := n.c0 u r d
  rw [headOf_flat] at hv
  refine Eq.trans ?_ hv
  have hit (u' : Fin 4) (p : FVec Ideal S256x128 .bf16) (Ls : List (View.Piece (Elt Ideal) S256x512 .bf16)) (h : u' = u) :
      m.read (Elt Ideal) (m.writes (Elt Ideal) B (⟨Rect.unit (s := S256x512) (offQ u') S256x128.size (offQ_inb u'), p⟩ :: Ls)) (ix2 r (lane u d))
        = p (ix2 r d) :=
    View.read_writes_cons_unit_of_mem m B (offQ_inb u') p Ls _ (ix2 r d) (offQ_eq u') fun x => by
      subst h
      match x with
      | 0 => show r.val = 0 + r.val; omega
      | 1 => show 128 * u'.val + d.val = 128 * u'.val + d.val; rfl
  have miss (u' : Fin 4) (p : FVec Ideal S256x128 .bf16) (Ls : List (View.Piece (Elt Ideal) S256x512 .bf16)) (h : u' ≠ u) :
      m.read (Elt Ideal) (m.writes (Elt Ideal) B (⟨Rect.unit (s := S256x512) (offQ u') S256x128.size (offQ_inb u'), p⟩ :: Ls)) (ix2 r (lane u d))
        = m.read (Elt Ideal) (m.writes (Elt Ideal) B Ls) (ix2 r (lane u d)) :=
    View.read_writes_cons_unit_of_not_mem m B (offQ_inb u') p Ls _ (offQ_eq u') 1 (by
      show 128 * u.val + d.val < 128 * u'.val ∨ 128 * u'.val + 128 ≤ 128 * u.val + d.val
      have h2 : u'.val ≠ u.val := fun e => h (Fin.ext e)
      omega)
  show m.read (Elt Ideal) (m.writes (Elt Ideal) B (_ :: _ :: _ :: _ :: [])) _ = _
  by_cases h3 : 3 = u
  · subst h3; exact hit 3 _ _ rfl
  rw [miss 3 _ _ h3]
  by_cases h2 : 2 = u
  · subst h2; exact hit 2 _ _ rfl
  rw [miss 2 _ _ h2]
  by_cases h1 : 1 = u
  · subst h1; exact hit 1 _ _ rfl
  rw [miss 1 _ _ h1]
  by_cases h0 : 0 = u
  · subst h0; exact hit 0 _ _ rfl
  exfalso
  omega

end Cert.KernelIdeal.Gen

end
-- ==== Proof.RunA.lean ====
/-
  What the first tile of a group of heads stores: the query gradient's rows, and the pieces over the two accumulated gradients.
-/
module

public import proofs.«01_k».proof.Proof.Point

@[expose] public section

set_option maxRecDepth 8192
set_option maxHeartbeats 1000000

noncomputable section

namespace Cert.KernelIdeal.Gen

open Idealize.ShloMosaic Idealize.ShloMosaic.TcCoe

variable {F : FTy → Type} [FloatOps F]
variable (c : Dev nD) (i : grid0.Coords) (arg2 : Memref sig .tc .vmem S256x512 .bf16) (harg2 : arg2.IsWhole) (arg3 : Memref sig .tc .vmem S4096x512 .bf16) (harg3 : arg3.IsWhole) (arg4 :
  Memref sig .tc .vmem S4096x512 .bf16) (harg4 : arg4.IsWhole) (arg5 : Memref sig .tc .vmem S256x512 .bf16) (harg5 : arg5.IsWhole) (arg6 : Memref sig
  .tc .vmem S256x512 .f32) (harg6 : arg6.IsWhole) (arg7 : Memref sig .tc .vmem S256x512 .bf16) (harg7 : arg7.IsWhole) (arg8 : Memref sig .tc .vmem
  S4096x512 .bf16) (harg8 : arg8.IsWhole) (arg9 : Memref sig .tc .vmem S4096x512 .bf16) (harg9 : arg9.IsWhole) (arg10 : Memref sig .tc .vmem S4096x512
  .f32) (harg10 : arg10.IsWhole) (arg11 : Memref sig .tc .vmem S4096x512 .f32) (harg11 : arg11.IsWhole)
  (x0 : Vec F S256x512 .bf16) (x1 : Vec F S4096x512 .bf16) (x2 : Vec F S4096x512 .bf16) (x3 : Vec F S256x512 .bf16)
  (x4 : Vec F S256x512 .f32)

/-- The carried values before the diagonal block. -/
def carA : Tri4 F :=
  (kernelRun0_A.sl.r_12 c i arg2 harg2 arg3 harg3 arg4 harg4 arg5 harg5 arg6 harg6 arg7 harg7 arg8 harg8 arg9 harg9 arg10 harg10 arg11 harg11 x0 x1 x2 x3
      x4,
    kernelRun0_A.sl.r_13 c i arg2 harg2 arg3 harg3 arg4 harg4 arg5 harg5 arg6 harg6 arg7 harg7 arg8 harg8 arg9 harg9 arg10 harg10 arg11 harg11 x0 x1 x2 x3
      x4,
    kernelRun0_A.sl.r_14 c i arg2 harg2 arg3 harg3 arg4 harg4 arg5 harg5 arg6 harg6 arg7 harg7 arg8 harg8 arg9 harg9 arg10 harg10 arg11 harg11 x0 x1 x2 x3
      x4,
    kernelRun0_A.sl.r_15 c i arg2 harg2 arg3 harg3 arg4 harg4 arg5 harg5 arg6 harg6 arg7 harg7 arg8 harg8 arg9 harg9 arg10 harg10 arg11 harg11 x0 x1 x2 x3
      x4,
    kernelRun0_A.sl.r_16 c i arg2 harg2 arg3 harg3 arg4 harg4 arg5 harg5 arg6 harg6 arg7 harg7 arg8 harg8 arg9 harg9 arg10 harg10 arg11 harg11 x0 x1 x2 x3
      x4,
    kernelRun0_A.sl.r_17 c i arg2 harg2 arg3 harg3 arg4 harg4 arg5 harg5 arg6 harg6 arg7 harg7 arg8 harg8 arg9 harg9 arg10 harg10 arg11 harg11 x0 x1 x2 x3
      x4,
    kernelRun0_A.sl.r_18 c i arg2 harg2 arg3 harg3 arg4 harg4 arg5 harg5 arg6 harg6 arg7 harg7 arg8 harg8 arg9 harg9 arg10 harg10 arg11 harg11 x0 x1 x2 x3
      x4,
    kernelRun0_A.sl.r_19 c i arg2 harg2 arg3 harg3 arg4 harg4 arg5 harg5 arg6 harg6 arg7 harg7 arg8 harg8 arg9 harg9 arg10 harg10 arg11 harg11 x0 x1 x2 x3
      x4,
    kernelRun0_A.sl.r_20 c i arg2 harg2 arg3 harg3 arg4 harg4 arg5 harg5 arg6 harg6 arg7 harg7 arg8 harg8 arg9 harg9 arg10 harg10 arg11 harg11 x0 x1 x2 x3
      x4,
    kernelRun0_A.sl.r_21 c i arg2 harg2 arg3 harg3 arg4 harg4 arg5 harg5 arg6 harg6 arg7 harg7 arg8 harg8 arg9 harg9 arg10 harg10 arg11 harg11 x0 x1 x2 x3
      x4,
    kernelRun0_A.sl.r_22 c i arg2 harg2 arg3 harg3 arg4 harg4 arg5 harg5 arg6 harg6 arg7 harg7 arg8 harg8 arg9 harg9 arg10 harg10 arg11 harg11 x0 x1 x2 x3
      x4,
    kernelRun0_A.sl.r_23 c i arg2 harg2 arg3 harg3 arg4 harg4 arg5 harg5 arg6 harg6 arg7 harg7 arg8 harg8 arg9 harg9 arg10 harg10 arg11 harg11 x0 x1 x2 x3
      x4)

theorem carA_eq : carA c i arg2 harg2 arg3 harg3 arg4 harg4 arg5 harg5 arg6 harg6 arg7 harg7 arg8 harg8 arg9 harg9 arg10 harg10 arg11 harg11 x0 x1 x2 x3 x4
    = (loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).1 := by
  unfold carA kernelRun0_A.sl.r_12 kernelRun0_A.sl.r_13 kernelRun0_A.sl.r_14 kernelRun0_A.sl.r_15 kernelRun0_A.sl.r_16 kernelRun0_A.sl.r_17 kernelRun0_A.sl.r_18
    kernelRun0_A.sl.r_19 kernelRun0_A.sl.r_20 kernelRun0_A.sl.r_21 kernelRun0_A.sl.r_22 kernelRun0_A.sl.r_23
  rw [st2_zero (h := trips2 i), trips1]
  exact flat_headOf _ _ rfl

theorem preA_k : (kernelRun0_A.sl.HS0_1_1 c i arg2 harg2 arg3 harg3 arg4 harg4 arg5 harg5 arg6 harg6 arg7 harg7 arg8 harg8 arg9 harg9 arg10 harg10 arg11 harg11 x0 x1 x2 x3 x4).tail
    = (loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).2.1 ++ zeros := by
  unfold kernelRun0_A.sl.HS0_1_1
  rw [st2_zero (h := trips2 i), trips1]
  rfl

theorem preA_v : (kernelRun0_A.sl.HS1_1_1 c i arg2 harg2 arg3 harg3 arg4 harg4 arg5 harg5 arg6 harg6 arg7 harg7 arg8 harg8 arg9 harg9 arg10 harg10 arg11 harg11 x0 x1 x2 x3 x4).tail
    = (loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).2.2 ++ zeros' := by
  unfold kernelRun0_A.sl.HS1_1_1
  rw [st2_zero (h := trips2 i), trips1]
  rfl

theorem runA_q (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3
    x4).1
    = dqs i arg2 harg2 arg3 harg3 arg4 harg4 arg5 harg5 arg6 harg6 x0 x1 x2 x3 x4 (loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).1 := by
  rw [← carA_eq]
  unfold kernelRun0_A
  rfl

theorem runA_k (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3
    x4).2.2.2.1
    = stack i arg10 arg10.view.junk ((loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).2.1 ++ zeros)
      (diagK i arg2 harg2 arg3 harg3 arg4 harg4 arg5 harg5 arg6 harg6 x0 x1 x2 x3 x4 (loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).1) := by
  rw [← carA_eq, ← preA_k]
  unfold kernelRun0_A
  rfl

theorem runA_v (hc0 : cond0_0 i) (hc1 : ¬cond0_1 i) : (kernelRun0_A c i arg2 harg2 arg3 harg3 arg4 harg4 arg5 harg5 arg6 harg6 arg7 harg7 arg8 harg8 arg9 harg9 arg10 harg10 arg11 harg11 hc0 hc1 x0 x1 x2 x3
    x4).2.2.2.2.1
    = stack i arg11 arg11.view.junk ((loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).2.2 ++ zeros')
      (diagV i arg2 harg2 arg3 harg3 arg5 harg5 arg6 harg6 x0 x1 x3 x4 (loop1 c i arg2 harg2 arg3 harg3 arg4 harg4 arg5 harg5 arg6 harg6 arg7 harg7 arg8 harg8 arg9 harg9 arg10 harg10 arg11 harg11 x0 x1 x2 x3 x4
      (arg10.view.writes (Elt F) arg10.view.junk zeros) (arg11.view.writes (Elt F) arg11.view.junk zeros') (i 1).val).1) := by
  rw [← carA_eq, ← preA_v]
  unfold kernelRun0_A
  rfl

end Cert.KernelIdeal.Gen

end
-- ==== Proof.RunB.lean ====
/-
  What a tile in between stores: the query gradient's rows, and the pieces over the two accumulated gradients.
-/
module

public import proofs.«01_k».proof.Proof.Point

@[expose] public section

set_option maxRecDepth 8192
set_option maxHeartbeats 1000000

noncomputable section

namespace Cert.KernelIdeal.Gen

open Idealize.ShloMosaic Idealize.ShloMosaic.TcCoe

variable {F : FTy → Type} [FloatOps F]
variable (c : Dev nD) (i : grid0.Coords) (arg2 : Memref sig .tc .vmem S256x512 .bf16) (harg2 : arg2.IsWhole) (arg3 : Memref sig .tc .vmem S4096x512 .bf16) (harg3 : arg3.IsWhole) (arg4 :
  Memref sig .tc .vmem S4096x512 .bf16) (harg4 : arg4.IsWhole) (arg5 : Memref sig .tc .vmem S256x512 .bf16) (harg5 : arg5.IsWhole) (arg6 : Memref sig
  .tc .vmem S256x512 .f32) (harg6 : arg6.IsWhole) (arg7 : Memref sig .tc .vmem S256x512 .bf16) (harg7 : arg7.IsWhole) (arg8 : Memref sig .tc .vmem
  S4096x512 .bf16) (harg8 : arg8.IsWhole) (arg9 : Memref sig .tc .vmem S4096x512 .bf16) (harg9 : arg9.IsWhole) (arg10 : Memref sig .tc .vmem S4096x512
  .f32) (harg10 : arg10.IsWhole) (arg11 : Memref sig .tc .vmem S4096x512 .f32) (harg11 : arg11.IsWhole)
  (x0 : Vec F S256x512 .bf16) (x1 : Vec F S4096x512 .bf16) (x2 : Vec F S4096x512 .bf16) (x3 : Vec F S256x512 .bf16)
  (x4 : Vec F S256x512 .f32) (xs0 : Vec F S4096x512 .f32) (xs1 : Vec F S4096x512 .f32)

/-- The carried values before the diagonal block. -/
def carB : Tri4 F :=
  (kernelRun0_B.sl.r_12 c i arg2 harg2 arg3 harg3 arg4 harg4 arg5 harg5 arg6 harg6 arg7 harg7 arg8 harg8 arg9 harg9 arg10 harg10 arg11 harg11 x0 x1 x2 x3
      x4 xs0 xs1,
    kernelRun0_B.sl.r_13 c i arg2 harg2 arg3 harg3 arg4 harg4 arg5 harg5 arg6 harg6 arg7 harg7 arg8 harg8 arg9 harg9 arg10 harg10 arg11 harg11 x0 x1 x2 x3
      x4 xs0 xs1,
    kernelRun0_B.sl.r_14 c i arg2 harg2 arg3 harg3 arg4 harg4 arg5 harg5 arg6 harg6 arg7 harg7 arg8 harg8 arg9 harg9 arg10 harg10 arg11 harg11 x0 x1 x2 x3
      x4 xs0 xs1,
    kernelRun0_B.sl.r_15 c i arg2 harg2 arg3 harg3 arg4 harg4 arg5 harg5 arg6 harg6 arg7 harg7 arg8 harg8 arg9 harg9 arg10 harg10 arg11 harg11 x0 x1 x2 x3
      x4 xs0 xs1,
    kernelRun0_B.sl.r_16 c i arg2 harg2 arg3 harg3 arg4 harg4 arg5 harg5 arg6 harg6 arg7 harg7 arg8 harg8 arg9 harg9 arg10 harg10 arg11 harg11 x0 x1 x2 x3
      x4 xs0 xs1,
    kernelRun0_B.sl.r_17 c i arg2 harg2 arg3 harg3 arg4 harg4 arg5 harg5 arg6 harg6 arg7 harg7 arg8 harg8 arg9 harg9 arg10 harg10 arg11 harg11 x0 x1 x2 x3
      x4 xs0 xs1,
    kernelRun0_B.sl.r_18 c i arg2 harg2 arg3 harg3 arg4 harg4 arg5 harg5 arg6 harg6 arg7 harg7 arg8 harg8 arg9 harg9 arg10 harg10 arg11 harg11 x0 x1 x2 x3
      x4 xs0 xs1,
    kernelRun0_B.sl.r_19 c i arg2 harg2 arg3 harg3 arg4 harg4 arg5 harg5 arg6 harg6 arg7 harg7 arg8 harg8 arg9 harg9 arg10 harg10 arg11 harg11 x0 x1 x2 x3
      x4 xs0 xs1,
    kernelRun0_B.sl.r_20 c i arg2 harg2 arg3 harg3 arg4 harg4 arg5 harg5 arg6 harg6 arg7 harg7 arg8 harg8 arg9 harg9 arg10 harg10 arg11 harg11 x0 x1 x2 x3
      x4 xs0 xs1,
    kernelRun0_B.sl.r_21 c i arg2 harg2 arg3 harg3 arg4 harg4 arg5 harg5 arg6 harg6 arg7 harg7 arg8 harg8 arg9 harg9 arg10 harg10 arg11 harg11 x0 x1 x2 x3
      x4 xs0 xs1,
    kernelRun0_B.sl.r_22 c i arg2 harg2 arg3 harg3 arg4 harg4 arg5 harg5 arg6 harg6 arg7 harg7 arg8 harg8 arg9 harg9 arg10 harg10 arg11 harg11 x0 x1 x2 x3
      x4 xs0 xs1,
    kernelRun0_B.sl.r_23 c i arg2 harg2 arg3 harg3 arg4 harg4 arg5 harg5 arg6 harg6 arg7 harg7 arg8 harg8 arg9 harg9 arg10 harg10 arg11 harg11 x0 x1 x2 x3
      x4 xs0 xs1)

theorem carB_eq : carB c i arg2 harg2 arg3 harg3 arg4 harg4 arg5 harg5 arg6 harg6 arg7 harg7 arg8 harg8 arg9 harg9 arg10 harg10 arg11 harg11 x0 x1 x2 x3 x4 xs0 xs1
    = (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1 := by
  unfold carB kernelRun0_B.sl.r_12 kernelRun0_B.sl.r_13 kernelRun0_B.sl.r_14 kernelRun0_B.sl.r_15 kernelRun0_B.sl.r_16 kernelRun0_B.sl.r_17 kernelRun0_B.sl.r_18
    kernelRun0_B.sl.r_19 kernelRun0_B.sl.r_20 kernelRun0_B.sl.r_21 kernelRun0_B.sl.r_22 kernelRun0_B.sl.r_23
  rw [st2_zero (h := trips2 i), trips1]
  exact flat_headOf _ _ rfl

theorem preB_k : (kernelRun0_B.sl.HS0_1 c i arg2 harg2 arg3 harg3 arg4 harg4 arg5 harg5 arg6 harg6 arg7 harg7 arg8 harg8 arg9 harg9 arg10 harg10 arg11 harg11 x0 x1 x2 x3 x4 xs0 xs1).tail
    = (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.1 := by
  unfold kernelRun0_B.sl.HS0_1
  rw [st2_zero (h := trips2 i), trips1]
  rfl

theorem preB_v : (kernelRun0_B.sl.HS1_1 c i arg2 harg2 arg3 harg3 arg4 harg4 arg5 harg5 arg6 harg6 arg7 harg7 arg8 harg8 arg9 harg9 arg10 harg10 arg11 harg11 x0 x1 x2 x3 x4 xs0 xs1).tail
    = (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.2 := by
  unfold kernelRun0_B.sl.HS1_1
  rw [st2_zero (h := trips2 i), trips1]
  rfl

theorem runB_q (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 hc0 hc1 x0 x1 x2 x3
    x4 xs0 xs1).1
    = dqs i arg2 harg2 arg3 harg3 arg4 harg4 arg5 harg5 arg6 harg6 x0 x1 x2 x3 x4 (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1 := by
  rw [← carB_eq]
  unfold kernelRun0_B
  rfl

theorem runB_k (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 hc0 hc1 x0 x1 x2 x3
    x4 xs0 xs1).2.2.2.1
    = stack i arg10 (harg10.unread xs0) ((loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.1)
      (diagK i arg2 harg2 arg3 harg3 arg4 harg4 arg5 harg5 arg6 harg6 x0 x1 x2 x3 x4 (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1) := by
  rw [← carB_eq, ← preB_k]
  unfold kernelRun0_B
  rfl

theorem runB_v (hc0 : ¬cond0_0 i) (hc1 : ¬cond0_1 i) : (kernelRun0_B c i arg2 harg2 arg3 harg3 arg4 harg4 arg5 harg5 arg6 harg6 arg7 harg7 arg8 harg8 arg9 harg9 arg10 harg10 arg11 harg11 hc0 hc1 x0 x1 x2 x3
    x4 xs0 xs1).2.2.2.2.1
    = stack i arg11 (harg11.unread xs1) ((loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.2)
      (diagV i arg2 harg2 arg3 harg3 arg5 harg5 arg6 harg6 x0 x1 x3 x4 (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1) := by
  rw [← carB_eq, ← preB_v]
  unfold kernelRun0_B
  rfl

end Cert.KernelIdeal.Gen

end
-- ==== Proof.RunC.lean ====
/-
  What the last tile of a group of heads stores: the query gradient's rows, and the pieces over the two accumulated gradients.
-/
module

public import proofs.«01_k».proof.Proof.Point

@[expose] public section

set_option maxRecDepth 8192
set_option maxHeartbeats 1000000

noncomputable section

namespace Cert.KernelIdeal.Gen

open Idealize.ShloMosaic Idealize.ShloMosaic.TcCoe

variable {F : FTy → Type} [FloatOps F]
variable (c : Dev nD) (i : grid0.Coords) (arg2 : Memref sig .tc .vmem S256x512 .bf16) (harg2 : arg2.IsWhole) (arg3 : Memref sig .tc .vmem S4096x512 .bf16) (harg3 : arg3.IsWhole) (arg4 :
  Memref sig .tc .vmem S4096x512 .bf16) (harg4 : arg4.IsWhole) (arg5 : Memref sig .tc .vmem S256x512 .bf16) (harg5 : arg5.IsWhole) (arg6 : Memref sig
  .tc .vmem S256x512 .f32) (harg6 : arg6.IsWhole) (arg7 : Memref sig .tc .vmem S256x512 .bf16) (harg7 : arg7.IsWhole) (arg8 : Memref sig .tc .vmem
  S4096x512 .bf16) (harg8 : arg8.IsWhole) (arg9 : Memref sig .tc .vmem S4096x512 .bf16) (harg9 : arg9.IsWhole) (arg10 : Memref sig .tc .vmem S4096x512
  .f32) (harg10 : arg10.IsWhole) (arg11 : Memref sig .tc .vmem S4096x512 .f32) (harg11 : arg11.IsWhole)
  (x0 : Vec F S256x512 .bf16) (x1 : Vec F S4096x512 .bf16) (x2 : Vec F S4096x512 .bf16) (x3 : Vec F S256x512 .bf16)
  (x4 : Vec F S256x512 .f32) (xs0 : Vec F S4096x512 .f32) (xs1 : Vec F S4096x512 .f32)

/-- The carried values before the diagonal block. -/
def carC : Tri4 F :=
  (kernelRun0_C.sl.r_12 c i arg2 harg2 arg3 harg3 arg4 harg4 arg5 harg5 arg6 harg6 arg7 harg7 arg8 harg8 arg9 harg9 arg10 harg10 arg11 harg11 x0 x1 x2 x3
      x4 xs0 xs1,
    kernelRun0_C.sl.r_13 c i arg2 harg2 arg3 harg3 arg4 harg4 arg5 harg5 arg6 harg6 arg7 harg7 arg8 harg8 arg9 harg9 arg10 harg10 arg11 harg11 x0 x1 x2 x3
      x4 xs0 xs1,
    kernelRun0_C.sl.r_14 c i arg2 harg2 arg3 harg3 arg4 harg4 arg5 harg5 arg6 harg6 arg7 harg7 arg8 harg8 arg9 harg9 arg10 harg10 arg11 harg11 x0 x1 x2 x3
      x4 xs0 xs1,
    kernelRun0_C.sl.r_15 c i arg2 harg2 arg3 harg3 arg4 harg4 arg5 harg5 arg6 harg6 arg7 harg7 arg8 harg8 arg9 harg9 arg10 harg10 arg11 harg11 x0 x1 x2 x3
      x4 xs0 xs1,
    kernelRun0_C.sl.r_16 c i arg2 harg2 arg3 harg3 arg4 harg4 arg5 harg5 arg6 harg6 arg7 harg7 arg8 harg8 arg9 harg9 arg10 harg10 arg11 harg11 x0 x1 x2 x3
      x4 xs0 xs1,
    kernelRun0_C.sl.r_17 c i arg2 harg2 arg3 harg3 arg4 harg4 arg5 harg5 arg6 harg6 arg7 harg7 arg8 harg8 arg9 harg9 arg10 harg10 arg11 harg11 x0 x1 x2 x3
      x4 xs0 xs1,
    kernelRun0_C.sl.r_18 c i arg2 harg2 arg3 harg3 arg4 harg4 arg5 harg5 arg6 harg6 arg7 harg7 arg8 harg8 arg9 harg9 arg10 harg10 arg11 harg11 x0 x1 x2 x3
      x4 xs0 xs1,
    kernelRun0_C.sl.r_19 c i arg2 harg2 arg3 harg3 arg4 harg4 arg5 harg5 arg6 harg6 arg7 harg7 arg8 harg8 arg9 harg9 arg10 harg10 arg11 harg11 x0 x1 x2 x3
      x4 xs0 xs1,
    kernelRun0_C.sl.r_20 c i arg2 harg2 arg3 harg3 arg4 harg4 arg5 harg5 arg6 harg6 arg7 harg7 arg8 harg8 arg9 harg9 arg10 harg10 arg11 harg11 x0 x1 x2 x3
      x4 xs0 xs1,
    kernelRun0_C.sl.r_21 c i arg2 harg2 arg3 harg3 arg4 harg4 arg5 harg5 arg6 harg6 arg7 harg7 arg8 harg8 arg9 harg9 arg10 harg10 arg11 harg11 x0 x1 x2 x3
      x4 xs0 xs1,
    kernelRun0_C.sl.r_22 c i arg2 harg2 arg3 harg3 arg4 harg4 arg5 harg5 arg6 harg6 arg7 harg7 arg8 harg8 arg9 harg9 arg10 harg10 arg11 harg11 x0 x1 x2 x3
      x4 xs0 xs1,
    kernelRun0_C.sl.r_23 c i arg2 harg2 arg3 harg3 arg4 harg4 arg5 harg5 arg6 harg6 arg7 harg7 arg8 harg8 arg9 harg9 arg10 harg10 arg11 harg11 x0 x1 x2 x3
      x4 xs0 xs1)

theorem carC_eq : carC c i arg2 harg2 arg3 harg3 arg4 harg4 arg5 harg5 arg6 harg6 arg7 harg7 arg8 harg8 arg9 harg9 arg10 harg10 arg11 harg11 x0 x1 x2 x3 x4 xs0 xs1
    = (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1 := by
  unfold carC kernelRun0_C.sl.r_12 kernelRun0_C.sl.r_13 kernelRun0_C.sl.r_14 kernelRun0_C.sl.r_15 kernelRun0_C.sl.r_16 kernelRun0_C.sl.r_17 kernelRun0_C.sl.r_18
    kernelRun0_C.sl.r_19 kernelRun0_C.sl.r_20 kernelRun0_C.sl.r_21 kernelRun0_C.sl.r_22 kernelRun0_C.sl.r_23
  rw [st2_zero (h := trips2 i), trips1]
  exact flat_headOf _ _ rfl

theorem preC_k : (kernelRun0_C.sl.HS0_1 c i arg2 harg2 arg3 harg3 arg4 harg4 arg5 harg5 arg6 harg6 arg7 harg7 arg8 harg8 arg9 harg9 arg10 harg10 arg11 harg11 x0 x1 x2 x3 x4 xs0 xs1).tail
    = (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.1 := by
  unfold kernelRun0_C.sl.HS0_1
  rw [st2_zero (h := trips2 i), trips1]
  rfl

theorem preC_v : (kernelRun0_C.sl.HS1_1 c i arg2 harg2 arg3 harg3 arg4 harg4 arg5 harg5 arg6 harg6 arg7 harg7 arg8 harg8 arg9 harg9 arg10 harg10 arg11 harg11 x0 x1 x2 x3 x4 xs0 xs1).tail
    = (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.2 := by
  unfold kernelRun0_C.sl.HS1_1
  rw [st2_zero (h := trips2 i), trips1]
  rfl

theorem runC_q (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3
    x4 xs0 xs1).1
    = dqs i arg2 harg2 arg3 harg3 arg4 harg4 arg5 harg5 arg6 harg6 x0 x1 x2 x3 x4 (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1 := by
  rw [← carC_eq]
  unfold kernelRun0_C
  rfl

theorem runC_k (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3
    x4 xs0 xs1).2.2.2.1
    = stack i arg10 (harg10.unread xs0) ((loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.1)
      (diagK i arg2 harg2 arg3 harg3 arg4 harg4 arg5 harg5 arg6 harg6 x0 x1 x2 x3 x4 (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1) := by
  rw [← carC_eq, ← preC_k]
  unfold kernelRun0_C
  rfl

theorem runC_v (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3
    x4 xs0 xs1).2.2.2.2.1
    = stack i arg11 (harg11.unread xs1) ((loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).2.2)
      (diagV i arg2 harg2 arg3 harg3 arg5 harg5 arg6 harg6 x0 x1 x3 x4 (loop1 c i arg2 harg2 arg3 harg3 arg4 harg4 arg5 harg5 arg6 harg6 arg7 harg7 arg8 harg8 arg9 harg9 arg10 harg10 arg11 harg11 x0 x1 x2 x3 x4
      (harg10.unread xs0) (harg11.unread xs1) (i 1).val).1) := by
  rw [← carC_eq, ← preC_v]
  unfold kernelRun0_C
  rfl

/-- At the last tile both accumulated gradients are written out whole. -/
theorem runC_6 (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3
    x4 xs0 xs1).2.1
    = [⟨Rect.unit (s := S4096x512) ![0, 0] S4096x512.size inb_S4096x512_S4096x512_0_0, truncf .bf16 (arg10.view.readAt (Elt F)
        (Rect.unit (s := S4096x512) ![0, 0] S4096x512.size inb_S4096x512_S4096x512_0_0).toLoadRect
        (arg10.view.writes (Elt F) (harg10.unread xs0) (kernelRun0_C c i arg2 harg2 arg3 harg3 arg4 harg4 arg5 harg5 arg6 harg6 arg7 harg7 arg8 harg8 arg9 harg9 arg10 harg10 arg11 harg11 hc0 hc1 x0 x1 x2 x3
    x4 xs0 xs1).2.2.2.1)) bitsLt_bf16_f32⟩] := by
  unfold kernelRun0_C
  rfl
theorem runC_7 (hc0 : ¬cond0_0 i) (hc1 : cond0_1 i) : (kernelRun0_C c i arg2 harg2 arg3 harg3 arg4 harg4 arg5 harg5 arg6 harg6 arg7 harg7 arg8 harg8 arg9 harg9 arg10 harg10 arg11 harg11 hc0 hc1 x0 x1 x2 x3
    x4 xs0 xs1).2.2.1
    = [⟨Rect.unit (s := S4096x512) ![0, 0] S4096x512.size inb_S4096x512_S4096x512_0_0, truncf .bf16 (arg11.view.readAt (Elt F)
        (Rect.unit (s := S4096x512) ![0, 0] S4096x512.size inb_S4096x512_S4096x512_0_0).toLoadRect
        (arg11.view.writes (Elt F) (harg11.unread xs1) (kernelRun0_C c i arg2 harg2 arg3 harg3 arg4 harg4 arg5 harg5 arg6 harg6 arg7 harg7 arg8 harg8 arg9 harg9 arg10 harg10 arg11 harg11 hc0 hc1 x0 x1 x2 x3
    x4 xs0 xs1).2.2.2.2.1)) bitsLt_bf16_f32⟩] := by
  unfold kernelRun0_C
  rfl

end Cert.KernelIdeal.Gen

end
-- ==== Proof.Cases.lean ====
/-
  What each grid point leaves: its rows of the query gradient, and the key and value gradients with its queries added.
-/
module

public import proofs.«01_k».proof.Proof.Loop
public import proofs.«01_k».proof.Proof.RunA
public import proofs.«01_k».proof.Proof.RunB
public import proofs.«01_k».proof.Proof.RunC

@[expose] public section

set_option maxRecDepth 8192

noncomputable section

namespace Cert.KernelIdeal.Gen

open Finset Idealize.ShloMosaic Idealize.ShloMosaic.ValueIdx Idealize.ShloMosaic.TcCoe Cert.Stick

/-- The key and value gradients from the queries before row `t0`. -/
def Acc10 {φ : FTy} (q k v y : Fin 4 → ℕ → ℕ → ℝ) (t0 : ℕ) (x : FVec Ideal S4096x512 φ) : Prop :=
  Hd x (fun u s d => ∑ t ∈ range t0, DZ (q u) (k u) (v u) (y u) t s * q u t d)
def Acc11 {φ : FTy} (q k y : Fin 4 → ℕ → ℕ → ℝ) (t0 : ℕ) (x : FVec Ideal S4096x512 φ) : Prop :=
  Hd x (fun u s d => ∑ t ∈ range t0, W (q u) (k u) t s * y u t d)

section
variable {q k v y : Fin 4 → ℕ → ℕ → ℝ} {c : Dev nD} {i : grid0.Coords} {arg2 : Memref sig .tc .vmem S256x512 .bf16} {harg2 : arg2.IsWhole} {arg3 : Memref sig .tc .vmem S4096x512 .bf16} {harg3 : arg3.IsWhole} {arg4 :
  Memref sig .tc .vmem S4096x512 .bf16} {harg4 : arg4.IsWhole} {arg5 : Memref sig .tc .vmem S256x512 .bf16} {harg5 : arg5.IsWhole} {arg6 : Memref sig
  .tc .vmem S256x512 .f32} {harg6 : arg6.IsWhole} {arg7 : Memref sig .tc .vmem S256x512 .bf16} {harg7 : arg7.IsWhole} {arg8 : Memref sig .tc .vmem
  S4096x512 .bf16} {harg8 : arg8.IsWhole} {arg9 : Memref sig .tc .vmem S4096x512 .bf16} {harg9 : arg9.IsWhole} {arg10 : Memref sig .tc .vmem S4096x512
  .f32} {harg10 : arg10.IsWhole} {arg11 : Memref sig .tc .vmem S4096x512 .f32} {harg11 : arg11.IsWhole}
  {x0 : Vec Ideal S256x512 .bf16} {x1 : Vec Ideal S4096x512 .bf16} {x2 : Vec Ideal S4096x512 .bf16} {x3 : Vec Ideal S256x512 .bf16}
  {x4 : Vec Ideal S256x512 .f32}

/-- The diagonal block's results, after the loop's. -/
theorem after (b : Blocks q k v y (256 * (i 1).val) x0 x1 x2 x3 x4) {R : Tri4 Ideal} {B10 : BufTy.Contents (Elt Ideal) arg10.view.ty}
    {B11 : BufTy.Contents (Elt Ideal) arg11.view.ty} {L10 L11 : List (View.Piece (Elt Ideal) S4096x512 .f32)}
    {m : View sig .tc .vmem S256x512 .bf16} {B : BufTy.Contents (Elt Ideal) m.ty}
    (n : Inv q k v y (256 * (i 1).val) (256 * (i 1).val) R (arg10.view.read (Elt Ideal) (arg10.view.writes (Elt Ideal) B10 L10))
      (arg11.view.read (Elt Ideal) (arg11.view.writes (Elt Ideal) B11 L11))) :
    Hd (φ := .bf16) (m.read (Elt Ideal) (m.writes (Elt Ideal) B (dqs i arg2 harg2 arg3 harg3 arg4 harg4 arg5 harg5 arg6 harg6 x0 x1 x2 x3 x4 R)))
      (fun u r d => DQ (q u) (k u) (v u) (y u) (256 * (i 1).val + r) d)
    ∧ Acc10 (φ := .f32) q k v y (256 * ((i 1).val + 1)) (arg10.view.read (Elt Ideal) (arg10.view.writes (Elt Ideal) B10
        (stack i arg10 B10 L10 (diagK i arg2 harg2 arg3 harg3 arg4 harg4 arg5 harg5 arg6 harg6 x0 x1 x2 x3 x4 R))))
    ∧ Acc11 (φ := .f32) q k y (256 * ((i 1).val + 1)) (arg11.view.read (Elt Ideal) (arg11.view.writes (Elt Ideal) B11
        (stack i arg11 B11 L11 (diagV i arg2 harg2 arg3 harg3 arg5 harg5 arg6 harg6 x0 x1 x3 x4 R)))) := by
  have n' := inv_diag (harg2 := harg2) (harg3 := harg3) (harg4 := harg4) (harg5 := harg5) (harg6 := harg6) b n
  have hi : (i 1).val < 16 := (i 1).isLt
  refine ⟨(re_dqs n').congr fun u r d hr _ => DQ_eq _ _ _ _ (by omega) (by omega), ?_, ?_⟩
  · exact (Inv.all n').1
  · exact (Inv.all n').2

theorem caseB (hc0 : ¬cond0_0 i) (hc1 : ¬cond0_1 i) (b : Blocks q k v y (256 * (i 1).val) x0 x1 x2 x3 x4) {xs0 xs1 : Vec Ideal S4096x512 .f32}
    (h10 : Acc10 (φ := .f32) q k v y (256 * (i 1).val) xs0) (h11 : Acc11 (φ := .f32) q k y (256 * (i 1).val) xs1) :
    Hd (φ := .bf16) (out0_B_5 c i arg2 harg2 arg3 harg3 arg4 harg4 arg5 harg5 arg6 harg6 arg7 harg7 arg8 harg8 arg9 harg9 arg10 harg10 arg11 harg11 hc0 hc1 x0 x1 x2 x3 x4
      xs0 xs1) (fun u r d => DQ (q u) (k u) (v u) (y u) (256 * (i 1).val + r) d)
    ∧ Acc10 (φ := .f32) q k v y (256 * ((i 1).val + 1)) (sout0_B_0 c i arg2 harg2 arg3 harg3 arg4 harg4 arg5 harg5 arg6 harg6 arg7 harg7 arg8 harg8 arg9 harg9 arg10 harg10 arg11 harg11 hc0 hc1 x0 x1 x2 x3 x4
      xs0 xs1)
    ∧ Acc11 (φ := .f32) q k y (256 * ((i 1).val + 1)) (sout0_B_1 c i arg2 harg2 arg3 harg3 arg4 harg4 arg5 harg5 arg6 harg6 arg7 harg7 arg8 harg8 arg9 harg9 arg10 harg10 arg11 harg11 hc0 hc1 x0 x1 x2 x3 x4
      xs0 xs1) := by
  have n := inv_loop (c := c) (i := i) (harg2 := harg2) (harg3 := harg3) (harg4 := harg4) (harg5 := harg5) (harg6 := harg6)
    (harg7 := harg7) (harg8 := harg8) (harg9 := harg9) (harg10 := harg10) (harg11 := harg11)
    (G10 := harg10.unread xs0) (G11 := harg11.unread xs1) b (by rw [harg10.read_unread]; exact h10)
    (by rw [harg11.read_unread]; exact h11) (i 1).val le_rfl
  have e := after (harg2 := harg2) (harg3 := harg3) (harg4 := harg4) (harg5 := harg5) (harg6 := harg6) (m := VO0_5) (B := VO0_5.junk) b n
  rw [← runB_q (hc0 := hc0) (hc1 := hc1), ← runB_k (hc0 := hc0) (hc1 := hc1), ← runB_v (hc0 := hc0) (hc1 := hc1)] at e
  exact e

theorem caseC (hc0 : ¬cond0_0 i) (hc1 : cond0_1 i) (b : Blocks q k v y (256 * (i 1).val) x0 x1 x2 x3 x4) {xs0 xs1 : Vec Ideal S4096x512 .f32}
    (h10 : Acc10 (φ := .f32) q k v y (256 * (i 1).val) xs0) (h11 : Acc11 (φ := .f32) q k y (256 * (i 1).val) xs1) :
    Hd (φ := .bf16) (out0_C_5 c i arg2 harg2 arg3 harg3 arg4 harg4 arg5 harg5 arg6 harg6 arg7 harg7 arg8 harg8 arg9 harg9 arg10 harg10 arg11 harg11 hc0 hc1 x0 x1 x2 x3 x4
      xs0 xs1) (fun u r d => DQ (q u) (k u) (v u) (y u) (256 * (i 1).val + r) d)
    ∧ Acc10 (φ := .f32) q k v y (256 * ((i 1).val + 1)) (sout0_C_0 c i arg2 harg2 arg3 harg3 arg4 harg4 arg5 harg5 arg6 harg6 arg7 harg7 arg8 harg8 arg9 harg9 arg10 harg10 arg11 harg11 hc0 hc1 x0 x1 x2 x3 x4
      xs0 xs1)
    ∧ Acc11 (φ := .f32) q k y (256 * ((i 1).val + 1)) (sout0_C_1 c i arg2 harg2 arg3 harg3 arg4 harg4 arg5 harg5 arg6 harg6 arg7 harg7 arg8 harg8 arg9 harg9 arg10 harg10 arg11 harg11 hc0 hc1 x0 x1 x2 x3 x4
      xs0 xs1)
    ∧ Acc10 (φ := .bf16) q k v y (256 * ((i 1).val + 1)) (out0_C_6 c i arg2 harg2 arg3 harg3 arg4 harg4 arg5 harg5 arg6 harg6 arg7 harg7 arg8 harg8 arg9 harg9 arg10 harg10 arg11 harg11 hc0 hc1 x0 x1 x2 x3 x4
      xs0 xs1)
    ∧ Acc11 (φ := .bf16) q k y (256 * ((i 1).val + 1)) (out0_C_7 c i arg2 harg2 arg3 harg3 arg4 harg4 arg5 harg5 arg6 harg6 arg7 harg7 arg8 harg8 arg9 harg9 arg10 harg10 arg11 harg11 hc0 hc1 x0 x1 x2 x3 x4
      xs0 xs1) := by
  have n := inv_loop (c := c) (i := i) (harg2 := harg2) (harg3 := harg3) (harg4 := harg4) (harg5 := harg5) (harg6 := harg6)
    (harg7 := harg7) (harg8 := harg8) (harg9 := harg9) (harg10 := harg10) (harg11 := harg11)
    (G10 := harg10.unread xs0) (G11 := harg11.unread xs1) b (by rw [harg10.read_unread]; exact h10)
    (by rw [harg11.read_unread]; exact h11) (i 1).val le_rfl
  have e := after (harg2 := harg2) (harg3 := harg3) (harg4 := harg4) (harg5 := harg5) (harg6 := harg6) (m := VO0_5) (B := VO0_5.junk) b n
  rw [← runC_q (hc0 := hc0) (hc1 := hc1), ← runC_k (hc0 := hc0) (hc1 := hc1), ← runC_v (hc0 := hc0) (hc1 := hc1)] at e
  refine ⟨e.1, e.2.1, e.2.2, fun u s d => ?_, fun u s d => ?_⟩
  · unfold out0_C_6
    rw [runC_6, View.read_writes_full]
    exact (congrFun (View.readAt_full _ _ _) _).trans (e.2.1 u s d)
  · unfold out0_C_7
    rw [runC_7, View.read_writes_full]
    exact (congrFun (View.readAt_full _ _ _) _).trans (e.2.2 u s d)

end

section
variable {q k v y : Fin 4 → ℕ → ℕ → ℝ} {c : Dev nD} {i : grid0.Coords} {arg2 : Memref sig .tc .vmem S256x512 .bf16} {harg2 : arg2.IsWhole} {arg3 : Memref sig .tc .vmem S4096x512 .bf16} {harg3 : arg3.IsWhole} {arg4 :
  Memref sig .tc .vmem S4096x512 .bf16} {harg4 : arg4.IsWhole} {arg5 : Memref sig .tc .vmem S256x512 .bf16} {harg5 : arg5.IsWhole} {arg6 : Memref sig
  .tc .vmem S256x512 .f32} {harg6 : arg6.IsWhole} {arg7 : Memref sig .tc .vmem S256x512 .bf16} {harg7 : arg7.IsWhole} {arg8 : Memref sig .tc .vmem
  S4096x512 .bf16} {harg8 : arg8.IsWhole} {arg9 : Memref sig .tc .vmem S4096x512 .bf16} {harg9 : arg9.IsWhole}
  {x0 : Vec Ideal S256x512 .bf16} {x1 : Vec Ideal S4096x512 .bf16} {x2 : Vec Ideal S4096x512 .bf16} {x3 : Vec Ideal S256x512 .bf16}
  {x4 : Vec Ideal S256x512 .f32}

theorem caseA (hc0 : cond0_0 i) (hc1 : ¬cond0_1 i) (b : Blocks q k v y (256 * (i 1).val) x0 x1 x2 x3 x4)
    (h0 : (i 1).val = 0) :
    Hd (φ := .bf16) (out0_A_5 c i arg2 harg2 arg3 harg3 arg4 harg4 arg5 harg5 arg6 harg6 arg7 harg7 arg8 harg8 arg9 harg9 scM0_0 (Memref.isWhole_whole _) scM0_1
      (Memref.isWhole_whole _) hc0 hc1 x0 x1 x2 x3 x4) (fun u r d => DQ (q u) (k u) (v u) (y u) (256 * (i 1).val + r) d)
    ∧ Acc10 (φ := .f32) q k v y (256 * ((i 1).val + 1)) (sout0_A_0 c i arg2 harg2 arg3 harg3 arg4 harg4 arg5 harg5 arg6 harg6 arg7 harg7 arg8 harg8 arg9 harg9 scM0_0 (Memref.isWhole_whole _) scM0_1
      (Memref.isWhole_whole _) hc0 hc1 x0 x1 x2 x3 x4)
    ∧ Acc11 (φ := .f32) q k y (256 * ((i 1).val + 1)) (sout0_A_1 c i arg2 harg2 arg3 harg3 arg4 harg4 arg5 harg5 arg6 harg6 arg7 harg7 arg8 harg8 arg9 harg9 scM0_0 (Memref.isWhole_whole _) scM0_1
      (Memref.isWhole_whole _) hc0 hc1 x0 x1 x2 x3 x4) := by
  have z (m : View sig .tc .vmem S4096x512 .f32) {x : FVec Ideal S4096x512 .f32} (hx : x = broadcast S4096x512 (Scalar.ofBits .f32 0x00000000#32))
      (f : Fin 4 → ℕ → ℕ → ℕ → ℝ) :
      Hd (φ := .f32) (m.read (Elt Ideal) (m.writes (Elt Ideal) m.junk
        [⟨Rect.unit (s := S4096x512) ![0, 0] S4096x512.size inb_S4096x512_S4096x512_0_0, x⟩]))
        (fun u s d => ∑ t ∈ range (256 * (i 1).val), f u s d t) := by
    intro u s d
    rw [View.read_writes_full, h0, Nat.mul_zero]
    subst hx
    exact Ideal.ofBits_zero_f32
  have n := inv_loop (c := c) (i := i) (harg2 := harg2) (harg3 := harg3) (harg4 := harg4) (harg5 := harg5) (harg6 := harg6)
    (harg7 := harg7) (harg8 := harg8) (harg9 := harg9) (harg10 := Memref.isWhole_whole _)
    (harg11 := Memref.isWhole_whole _) (G10 := scM0_0.view.writes (Elt Ideal) scM0_0.view.junk zeros)
    (G11 := scM0_1.view.writes (Elt Ideal) scM0_1.view.junk zeros') b (z scM0_0.view (x := k0_pay119) rfl _) (z scM0_1.view (x := k0_pay120) rfl _) (i 1).val le_rfl
  rw [← View.writes_append, ← View.writes_append] at n
  have e := after (harg2 := harg2) (harg3 := harg3) (harg4 := harg4) (harg5 := harg5) (harg6 := harg6) (m := VO0_5) (B := VO0_5.junk) b n
  rw [← runA_q (hc0 := hc0) (hc1 := hc1), ← runA_k (hc0 := hc0) (hc1 := hc1), ← runA_v (hc0 := hc0) (hc1 := hc1)] at e
  exact e

end

end Cert.KernelIdeal.Gen

end
-- ==== Proof.Fold.lean ====
/-
  The grid read back: after the points of a group of heads the three arrays hold the gradients of its heads.
-/
module

public import proofs.«01_k».proof.Proof.Cases
public import proofs.«01_k».proof.Proof.Gen.KernelIdeal.Value

@[expose] public section

set_option maxRecDepth 8192

noncomputable section

namespace Cert.KernelIdeal.Value

open Finset Idealize.ShloMosaic Idealize.ShloMosaic.ValueIdx Idealize.ShloMosaic.TcCoe Cert.Stick Cert.KernelIdeal.Gen
open Idealize.SL Idealize.SL.Sem

theorem coord0 (t : Fin cfg0.N) : (grid0.coords t 0).val = t.val / 16 := by
  have ht : t.val < 32 := Nat.lt_of_lt_of_eq t.isLt N_0
  have e : (grid0.coords t 0).val = t.val / 16 % 2 := Pipeline.Grid.coords_val t 0 (by decide) rfl
  omega
theorem coord1 (t : Fin cfg0.N) : (grid0.coords t 1).val = t.val % 16 := by
  have e : (grid0.coords t 1).val = t.val / 1 % 16 := Pipeline.Grid.coords_val t 1 (by decide) rfl
  omega

/-- The four heads of a point's group, of all the heads. -/
def grp (f : ℕ → ℕ → ℕ → ℝ) (n : ℕ) (u : Fin 4) : ℕ → ℕ → ℝ := f (4 * (n / 16) + u.val)

variable (m : (ℓ : Loc nD τ sig) → Buf (Elt Ideal) ℓ) (c : Dev nD) (Q K X Y : ℕ → ℕ → ℕ → ℝ)

/-- What the arrays that the points read hold. -/
def Held : Prop := ∀ t : Fin cfg0.N, Blocks (grp Q t.val) (grp K t.val) (grp X t.val) (grp Y t.val) (256 * (grid0.coords t 1).val)
  (iblk m c 0 t) (iblk m c 1 t) (iblk m c 2 t) (iblk m c 3 t) (iblk m c 4 t)

/-- What a point has left. -/
structure Left (n : ℕ) (st : Vec Ideal S256x512 .bf16 × Vec Ideal S4096x512 .bf16 × Vec Ideal S4096x512 .bf16 × Vec Ideal S4096x512 .f32
    × Vec Ideal S4096x512 .f32) : Prop where
  dq : Hd (φ := .bf16) st.1 (fun u r d => DQ (grp Q n u) (grp K n u) (grp X n u) (grp Y n u) (256 * (n % 16) + r) d)
  dk : Acc10 (φ := .f32) (grp Q n) (grp K n) (grp X n) (grp Y n) (256 * (n % 16 + 1)) st.2.2.2.1
  dv : Acc11 (φ := .f32) (grp Q n) (grp K n) (grp Y n) (256 * (n % 16 + 1)) st.2.2.2.2
  outK : n % 16 = 15 → Acc10 (φ := .bf16) (grp Q n) (grp K n) (grp X n) (grp Y n) 4096 st.2.1
  outV : n % 16 = 15 → Acc11 (φ := .bf16) (grp Q n) (grp K n) (grp Y n) 4096 st.2.2.1

variable {m c Q K X Y}

theorem Left.of {n : ℕ} {a : FVec Ideal S256x512 .bf16} {b b' : FVec Ideal S4096x512 .bf16} {x x' : FVec Ideal S4096x512 .f32}
    (h1 : Hd a (fun u r d => DQ (grp Q n u) (grp K n u) (grp X n u) (grp Y n u) (256 * (n % 16) + r) d))
    (h2 : Acc10 (grp Q n) (grp K n) (grp X n) (grp Y n) (256 * (n % 16 + 1)) x)
    (h3 : Acc11 (grp Q n) (grp K n) (grp Y n) (256 * (n % 16 + 1)) x')
    (h4 : n % 16 = 15 → Acc10 (grp Q n) (grp K n) (grp X n) (grp Y n) 4096 b)
    (h5 : n % 16 = 15 → Acc11 (grp Q n) (grp K n) (grp Y n) 4096 b') : Left Q K X Y n (a, b, b', x, x') := ⟨h1, h2, h3, h4, h5⟩

theorem left_A (h : Held m c Q K X Y) (t : Fin cfg0.N) (h0 : t.val % 16 = 0) (acc) :
    Left Q K X Y t.val (stAt0 m c t.val t.isLt acc) := by
  have h1 : ¬t.val % 16 = 15 := by omega
  have e := caseA (c := c) (harg7 := hs0_5 t) (harg8 := hs0_6 t) (harg9 := hs0_7 t) (harg2 := hs0_0 t) (harg3 := hs0_1 t) (harg4 := hs0_2 t)
    (harg5 := hs0_3 t) (harg6 := hs0_4 t) ((hcond0_0 t).mpr h0) (fun h => h1 ((hcond0_1 t).mp h)) (h t) ((coord1 t).trans h0)
  rw [coord1] at e
  rw [stAt0_A m c t acc h0 h1]
  refine Left.of ?_ ?_ ?_ (fun h => absurd h h1) (fun h => absurd h h1)
  · exact e.1
  · exact e.2.1
  · exact e.2.2

theorem left_B (h : Held m c Q K X Y) (t : Fin cfg0.N) (h0 : ¬t.val % 16 = 0) (h1 : ¬t.val % 16 = 15) (acc)
    (h10 : Acc10 (φ := .f32) (grp Q t.val) (grp K t.val) (grp X t.val) (grp Y t.val) (256 * (t.val % 16)) acc.2.2.2.1)
    (h11 : Acc11 (φ := .f32) (grp Q t.val) (grp K t.val) (grp Y t.val) (256 * (t.val % 16)) acc.2.2.2.2) :
    Left Q K X Y t.val (stAt0 m c t.val t.isLt acc) := by
  have e := caseB (c := c) (harg7 := hs0_5 t) (harg8 := hs0_6 t) (harg9 := hs0_7 t) (harg2 := hs0_0 t) (harg3 := hs0_1 t) (harg4 := hs0_2 t)
    (harg5 := hs0_3 t) (harg6 := hs0_4 t) (harg10 := Memref.isWhole_whole cc0_scratch0) (harg11 := Memref.isWhole_whole cc0_scratch1)
    (fun h => h0 ((hcond0_0 t).mp h)) (fun h => h1 ((hcond0_1 t).mp h)) (h t)
    ((coord1 t).symm ▸ h10) ((coord1 t).symm ▸ h11)
  rw [coord1] at e
  rw [stAt0_B m c t acc h0 h1]
  refine Left.of ?_ ?_ ?_ (fun h => absurd h h1) (fun h => absurd h h1)
  · exact e.1
  · exact e.2.1
  · exact e.2.2

theorem left_C (h : Held m c Q K X Y) (t : Fin cfg0.N) (h1 : t.val % 16 = 15) (acc)
    (h10 : Acc10 (φ := .f32) (grp Q t.val) (grp K t.val) (grp X t.val) (grp Y t.val) (256 * (t.val % 16)) acc.2.2.2.1)
    (h11 : Acc11 (φ := .f32) (grp Q t.val) (grp K t.val) (grp Y t.val) (256 * (t.val % 16)) acc.2.2.2.2) :
    Left Q K X Y t.val (stAt0 m c t.val t.isLt acc) := by
  have h0 : ¬t.val % 16 = 0 := by omega
  have e := caseC (c := c) (harg7 := hs0_5 t) (harg8 := hs0_6 t) (harg9 := hs0_7 t) (harg2 := hs0_0 t) (harg3 := hs0_1 t) (harg4 := hs0_2 t)
    (harg5 := hs0_3 t) (harg6 := hs0_4 t) (harg10 := Memref.isWhole_whole cc0_scratch0) (harg11 := Memref.isWhole_whole cc0_scratch1)
    (fun h => h0 ((hcond0_0 t).mp h)) ((hcond0_1 t).mpr h1) (h t)
    ((coord1 t).symm ▸ h10) ((coord1 t).symm ▸ h11)
  rw [coord1] at e
  have hz : 256 * (t.val % 16 + 1) = 4096 := by omega
  rw [stAt0_C m c t acc h0 h1]
  rw [hz] at e
  refine Left.of ?_ ?_ ?_ (fun _ => ?_) (fun _ => ?_)
  · exact e.1
  · rw [hz]; exact e.2.1
  · rw [hz]; exact e.2.2.1
  · exact e.2.2.2.1
  · exact e.2.2.2.2

/-- Every point. -/
theorem left (h : Held m c Q K X Y) (n : ℕ) (hn : 0 + n < cfg0.N) :
    Left Q K X Y n (Pipeline.accAt (fun n h => stAt0 m c n h junk0) (stAt0 m c) 0 n hn) := by
  induction n with
  | zero => exact left_A h ⟨0, hn⟩ rfl _
  | succ n ih =>
    have n0 := ih (by omega)
    have hn' : n + 1 < cfg0.N := by omega
    have e : Pipeline.accAt (fun n h => stAt0 m c n h junk0) (stAt0 m c) 0 (n + 1) hn
        = stAt0 m c (n + 1) hn' (Pipeline.accAt (fun n h => stAt0 m c n h junk0) (stAt0 m c) 0 n (by omega)) := by
      rw [Pipeline.accAt_succ]
      congr 1
      omega
    rw [e]
    by_cases h0 : (n + 1) % 16 = 0
    · exact left_A h ⟨n + 1, hn'⟩ h0 _
    have hg (f : ℕ → ℕ → ℕ → ℝ) : grp f n = grp f (n + 1) := by
      unfold grp
      rw [show (n + 1) / 16 = n / 16 by omega]
    have hm : n % 16 + 1 = (n + 1) % 16 := by omega
    have k1 := n0.dk
    have k2 := n0.dv
    rw [hg, hg, hg, hg, hm] at k1
    rw [hg, hg, hg, hm] at k2
    by_cases h1 : (n + 1) % 16 = 15
    · exact left_C h ⟨n + 1, hn'⟩ h1 _ k1 k2
    · exact left_B h ⟨n + 1, hn'⟩ h0 h1 _ k1 k2

/-- A column of an array over all the heads. -/
abbrev col (h : Fin 8) (d : Fin 128) : Fin 1024 := ⟨128 * h.val + d.val, by omega⟩

theorem loc_lane (h : Fin 8) (d : Fin 128) : (128 * h.val + d.val) % 512 = (lane (⟨h.val % 4, Nat.mod_lt _ (by decide)⟩ : Fin 4) d).val := by
  show _ = 128 * (h.val % 4) + d.val
  omega

/-- The query gradient. -/
theorem read5 (hh : Held m c Q K X Y) (r : Fin 4096) (h : Fin 8) (d : Fin 128) :
    G5 m c (ix2 r (col h d)) = ((DQ (Q h) (K h) (X h) (Y h) r d : ℝ) : EReal) := by
  have hp : pt5Of (ix2 r (col h d)) < cfg0.N := by
    rw [show cfg0.N = 32 from N_0]
    show 1 * (r.val / 256 - 0) + 16 * ((128 * h.val + d.val) / 512 - 0) < 32
    omega
  have hn : pt5Of (ix2 r (col h d)) = r.val / 256 + 16 * (h.val / 4) := by
    show 1 * (r.val / 256 - 0) + 16 * ((128 * h.val + d.val) / 512 - 0) = _
    omega
  have e := (left hh _ (show 0 + pt5Of (ix2 r (col h d)) < cfg0.N by omega)).dq ⟨h.val % 4, Nat.mod_lt _ (by decide)⟩
    ⟨r.val % 256, Nat.mod_lt _ (by decide)⟩ d
  unfold G5
  rw [dif_pos hp]
  refine Eq.trans (congrArg _ (funext fun a => ?_)) (e.trans ?_)
  · match a with
    | ⟨0, _⟩ => rfl
    | ⟨1, _⟩ => exact Fin.ext (loc_lane h d)
  · have hg (f : ℕ → ℕ → ℕ → ℝ) : grp f (pt5Of (ix2 r (col h d))) ⟨h.val % 4, Nat.mod_lt _ (by decide)⟩ = f h := by
      rw [hn]
      unfold grp
      congr 1
      show 4 * ((r.val / 256 + 16 * (h.val / 4)) / 16) + h.val % 4 = h.val
      omega
    beta_reduce
    rw [hg, hg, hg, hg, hn]
    congr 2
    show 256 * ((r.val / 256 + 16 * (h.val / 4)) % 16) + r.val % 256 = r.val
    omega

/-- The key gradient. -/
theorem read6 (hh : Held m c Q K X Y) (s : Fin 4096) (h : Fin 8) (d : Fin 128) :
    G6 m c (ix2 s (col h d)) = ((DK (Q h) (K h) (X h) (Y h) s d : ℝ) : EReal) := by
  have hn : pt6Of (ix2 s (col h d)) = 16 * (h.val / 4) + 15 := by
    show 16 * (2 * (s.val / 4096 - 0) + 1 * ((128 * h.val + d.val) / 512 - 0)) + 15 = _
    omega
  have hp : pt6Of (ix2 s (col h d)) < cfg0.N := by
    rw [show cfg0.N = 32 from N_0, hn]
    omega
  have e := (left hh _ (show 0 + pt6Of (ix2 s (col h d)) < cfg0.N by omega)).outK (by rw [hn]; omega) ⟨h.val % 4, Nat.mod_lt _ (by decide)⟩
    ⟨s.val % 4096, Nat.mod_lt _ (by decide)⟩ d
  unfold G6
  rw [dif_pos hp]
  refine Eq.trans (congrArg _ (funext fun a => ?_)) (e.trans ?_)
  · match a with
    | ⟨0, _⟩ => rfl
    | ⟨1, _⟩ => exact Fin.ext (loc_lane h d)
  · have hg (f : ℕ → ℕ → ℕ → ℝ) : grp f (pt6Of (ix2 s (col h d))) ⟨h.val % 4, Nat.mod_lt _ (by decide)⟩ = f h := by
      rw [hn]
      unfold grp
      congr 1
      show 4 * ((16 * (h.val / 4) + 15) / 16) + h.val % 4 = h.val
      omega
    beta_reduce
    simp only [hg]
    rw [Nat.mod_eq_of_lt s.isLt]
    rfl

/-- The value gradient. -/
theorem read7 (hh : Held m c Q K X Y) (s : Fin 4096) (h : Fin 8) (d : Fin 128) :
    G7 m c (ix2 s (col h d)) = ((DV (Q h) (K h) (Y h) s d : ℝ) : EReal) := by
  have hn : pt7Of (ix2 s (col h d)) = 16 * (h.val / 4) + 15 := by
    show 16 * (2 * (s.val / 4096 - 0) + 1 * ((128 * h.val + d.val) / 512 - 0)) + 15 = _
    omega
  have hp : pt7Of (ix2 s (col h d)) < cfg0.N := by
    rw [show cfg0.N = 32 from N_0, hn]
    omega
  have e := (left hh _ (show 0 + pt7Of (ix2 s (col h d)) < cfg0.N by omega)).outV (by rw [hn]; omega) ⟨h.val % 4, Nat.mod_lt _ (by decide)⟩
    ⟨s.val % 4096, Nat.mod_lt _ (by decide)⟩ d
  unfold G7
  rw [dif_pos hp]
  refine Eq.trans (congrArg _ (funext fun a => ?_)) (e.trans ?_)
  · match a with
    | ⟨0, _⟩ => rfl
    | ⟨1, _⟩ => exact Fin.ext (loc_lane h d)
  · have hg (f : ℕ → ℕ → ℕ → ℝ) : grp f (pt7Of (ix2 s (col h d))) ⟨h.val % 4, Nat.mod_lt _ (by decide)⟩ = f h := by
      rw [hn]
      unfold grp
      congr 1
      show 4 * ((16 * (h.val / 4) + 15) / 16) + h.val % 4 = h.val
      omega
    beta_reduce
    simp only [hg]
    rw [Nat.mod_eq_of_lt s.isLt]
    rfl

end Cert.KernelIdeal.Value

end
-- ==== Proof.Soft.lean ====
/-
  Two spellings the host uses, at the ideal values and at finite arguments: `log (1 + e^x)` as a maximum, a branch for
  an argument that is no number, and a logarithm; and a running sum as a sum over a window.
-/
module

public import proofs.«01_k».proof.Proof.Re

@[expose] public section

noncomputable section

namespace Cert.Stick

open Finset Idealize.ShloMosaic Idealize.ShloMosaic.ValueIdx

/-- The host's `log (1 + e^z)`, the zero it compares with being `n`. -/
def soft (n z : Ideal .f32) : Ideal .f32 :=
  Scalar.select (FloatOps.cmpf .une (FloatOps.subf z n) (FloatOps.subf z n)) (FloatOps.addf z n)
    (FloatOps.addf (FloatOps.maximumf z n) (FloatOps.hostUnary .log1p (FloatOps.hostUnary .exp (FloatOps.hostNegf (FloatOps.hostAbsf (FloatOps.subf z n))))))

theorem cmp_une_self (x : EReal) : Ideal.cmp .une x x = 0#1 := by simp [Ideal.cmp]

theorem soft_coe (x : ℝ) : soft (0 : EReal) (x : EReal) = ((sp x : ℝ) : EReal) := by
  have e : FloatOps.cmpf .une (FloatOps.subf (F := Ideal) (φ := .f32) (x : EReal) (0 : EReal)) (FloatOps.subf (F := Ideal) (φ := .f32) (x : EReal) (0 : EReal)) = 0#1 :=
    cmp_une_self _
  rw [soft, e, select_zero]
  show Max.max (x : EReal) 0 + Ideal.log (1 + Ideal.exp (-(Max.max ((x : EReal) - 0) (-((x : EReal) - 0))))) = _
  rw [sub_zero, ← EReal.coe_neg, ← EReal.coe_zero, ← EReal.coe_strictMono.monotone.map_max, ← EReal.coe_strictMono.monotone.map_max,
    ← EReal.coe_neg, Ideal.exp_coe, ← EReal.coe_one, ← EReal.coe_add, Ideal.log_coe,
    if_neg (not_le.2 (by positivity)), ← EReal.coe_add, ← sp_eq, zero_sub]

/-- A number replaced by zero where it is infinite: a finite one is kept. -/
theorem cmp_top (x : ℝ) : Ideal.cmp .oeq (x : EReal) (Ideal.ofBits .f32 0x7F800000#32) = 0#1 := by
  have e : Ideal.ofBits .f32 0x7F800000#32 = (⊤ : EReal) := by simp [Ideal.ofBits, Ideal.ieee]
  rw [e]; simp [Ideal.cmp]

/-- A fold that adds is the sum of its terms, from where it starts. -/
theorem foldl_add {ι : Type*} (g : ι → EReal) (l : List ι) (z : EReal) : l.foldl (fun r n => r + g n) z = z + (l.map g).sum := by
  induction l generalizing z with
  | nil => simp
  | cons a l ih => rw [List.foldl_cons, ih, List.map_cons, List.sum_cons, add_assoc]

theorem numel_row (M : ℕ) : (⟨3, ![1, 1, M]⟩ : Shape).numel = M := by
  simp [Shape.numel, Fin.prod_univ_three]

/-- A position of a window of one row along the last axis is its place in the row. -/
theorem row_place {M : ℕ} (n : Fin (⟨3, ![1, 1, M]⟩ : Shape).numel) (a : Fin 3) :
    ((⟨3, ![1, 1, M]⟩ : Shape).rowMajor.symm n a).val = if a = 2 then n.val else 0 := by
  have h := Shape.rowMajor_val_three ((⟨3, ![1, 1, M]⟩ : Shape).rowMajor.symm n)
  rw [Equiv.apply_symm_apply] at h
  have h0 : ((⟨3, ![1, 1, M]⟩ : Shape).rowMajor.symm n (0 : Fin 3)).val < 1 := ((⟨3, ![1, 1, M]⟩ : Shape).rowMajor.symm n (0 : Fin 3)).isLt
  have h1 : ((⟨3, ![1, 1, M]⟩ : Shape).rowMajor.symm n (1 : Fin 3)).val < 1 := ((⟨3, ![1, 1, M]⟩ : Shape).rowMajor.symm n (1 : Fin 3)).isLt
  match a with
  | ⟨0, _⟩ => exact (Nat.lt_one_iff.1 h0)
  | ⟨1, _⟩ => exact (Nat.lt_one_iff.1 h1)
  | ⟨2, _⟩ =>
    have z0 := Nat.lt_one_iff.1 h0
    have z1 := Nat.lt_one_iff.1 h1
    rw [z0, z1] at h
    refine Eq.trans ?_ (if_pos rfl).symm
    rw [h]
    show _ = (0 * 1 + 0) * M + _
    rw [Nat.zero_mul]
    exact (Nat.zero_add _).symm

/-- A window along the last axis, padded by `l` at the front: the sum of the entries the window meets. -/
theorem window_sum {A N M l u : ℕ} {t0 : Shape} (x : FVec Ideal ⟨3, ![A, N, M]⟩ .f32) (f : ℕ → ℝ) (h : Fin A) (t : Fin N)
    (hx : ∀ s : Fin M, x (ix3 h t s) = ((f s : ℝ) : EReal)) (init : FVec Ideal t0 .f32) (hu : 0 < t0.numel)
    (hi : init (Shape.Idx.first hu) = (0 : EReal))
    (hw : (⟨3, ![A, N, M]⟩ : Shape).ReduceWindows ![1, 1, M] ![1, 1, 1] ![0, 0, l] ![0, 0, u] ⟨3, ![A, N, M]⟩) (s : Fin M) :
    Host.reduceWindowAdd ![1, 1, M] ![1, 1, 1] ![0, 0, l] ![0, 0, u] x init hw hu (ix3 h t s)
      = ((∑ w ∈ range M, (if l ≤ s.val + w ∧ s.val + w - l < M then f (s.val + w - l) else 0) : ℝ) : EReal) := by
  have e : Host.reduceWindowAdd ![1, 1, M] ![1, 1, 1] ![0, 0, l] ![0, 0, u] x init hw hu (ix3 h t s)
      = (List.finRange (⟨3, ![1, 1, M]⟩ : Shape).numel).foldl (fun r n => r
        + (((fun w : ℕ => if l ≤ s.val + w ∧ s.val + w - l < M then f (s.val + w - l) else 0) n.val : ℝ) : EReal)) 0 := by
    show Host.reduceWindow _ _ _ _ _ _ _ hw _ _ = _
    unfold Host.reduceWindow
    dsimp only
    rw [hi]
    congr 1
    funext r n
    congr 1
    have w0 := row_place n 0
    have w1 := row_place n 1
    have w2 := row_place n 2
    rw [if_neg (by decide)] at w0 w1
    rw [if_pos rfl] at w2
    have i0 : h.val < A := h.isLt
    have i1 : t.val < N := t.isLt
    split
    · next hin =>
      have h2 := hin 2
      change l ≤ s.val * 1 + ((⟨3, ![1, 1, M]⟩ : Shape).rowMajor.symm n 2).val ∧ s.val * 1 + ((⟨3, ![1, 1, M]⟩ : Shape).rowMajor.symm n 2).val - l < M at h2
      rw [w2, Nat.mul_one] at h2
      rw [if_pos h2]
      refine (congrArg x (funext fun a => Fin.ext ?_)).trans (hx ⟨s.val + n.val - l, h2.2⟩)
      match a with
      | ⟨0, _⟩ =>
        show h.val * 1 + ((⟨3, ![1, 1, M]⟩ : Shape).rowMajor.symm n 0).val - 0 = h.val
        rw [w0]; omega
      | ⟨1, _⟩ =>
        show t.val * 1 + ((⟨3, ![1, 1, M]⟩ : Shape).rowMajor.symm n 1).val - 0 = t.val
        rw [w1]; omega
      | ⟨2, _⟩ =>
        show s.val * 1 + ((⟨3, ![1, 1, M]⟩ : Shape).rowMajor.symm n 2).val - l = s.val + n.val - l
        rw [w2]; omega
    · next hin =>
      rw [if_neg fun hh => hin fun a => by
        match a with
        | ⟨0, _⟩ =>
          show 0 ≤ h.val * 1 + ((⟨3, ![1, 1, M]⟩ : Shape).rowMajor.symm n 0).val ∧ h.val * 1 + ((⟨3, ![1, 1, M]⟩ : Shape).rowMajor.symm n 0).val - 0 < A
          rw [w0]; omega
        | ⟨1, _⟩ =>
          show 0 ≤ t.val * 1 + ((⟨3, ![1, 1, M]⟩ : Shape).rowMajor.symm n 1).val ∧ t.val * 1 + ((⟨3, ![1, 1, M]⟩ : Shape).rowMajor.symm n 1).val - 0 < N
          rw [w1]; omega
        | ⟨2, _⟩ =>
          show l ≤ s.val * 1 + ((⟨3, ![1, 1, M]⟩ : Shape).rowMajor.symm n 2).val ∧ s.val * 1 + ((⟨3, ![1, 1, M]⟩ : Shape).rowMajor.symm n 2).val - l < M
          rw [w2, Nat.mul_one]; exact hh]
      exact EReal.coe_zero.symm
  rw [e, foldl_add, zero_add]
  generalize (fun w : ℕ => if l ≤ s.val + w ∧ s.val + w - l < M then f (s.val + w - l) else 0) = g
  rw [← List.ofFn_eq_map, List.sum_ofFn, ← coe_sum, Fin.sum_univ_eq_sum_range g, numel_row]

/-- The window that starts at `s` meets the entries from `s` on. -/
theorem window_from (f : ℕ → ℝ) {s M : ℕ} (hs : s ≤ M) :
    ∑ w ∈ range M, (if 0 ≤ s + w ∧ s + w - 0 < M then f (s + w - 0) else 0) = ∑ j ∈ range M, f j - ∑ j ∈ range s, f j := by
  obtain ⟨n, rfl⟩ := Nat.exists_eq_add_of_le hs
  rw [Finset.sum_range_add f s n, add_sub_cancel_left, Nat.add_comm s n, Finset.sum_range_add _ n s]
  have e : ∑ x ∈ range s, (if 0 ≤ s + (n + x) ∧ s + (n + x) - 0 < n + s then f (s + (n + x) - 0) else 0) = 0 :=
    Finset.sum_eq_zero fun x _ => if_neg (by omega)
  rw [e, add_zero]
  exact Finset.sum_congr rfl fun x hx => if_pos (by have := Finset.mem_range.1 hx; omega)

/-- The window that ends at `s` meets the entries up to `s`. -/
theorem window_upto (f : ℕ → ℝ) {s M l : ℕ} (hl : l + 1 = M) (hs : s < M) :
    ∑ w ∈ range M, (if l ≤ s + w ∧ s + w - l < M then f (s + w - l) else 0) = ∑ j ∈ range (s + 1), f j := by
  subst hl
  obtain ⟨n, rfl⟩ := Nat.exists_eq_add_of_le (Nat.lt_succ_iff.1 hs)
  rw [show s + n + 1 = n + (s + 1) by omega, Finset.sum_range_add _ n (s + 1)]
  have e : ∑ x ∈ range n, (if s + n ≤ s + x ∧ s + x - (s + n) < n + (s + 1) then f (s + x - (s + n)) else 0) = 0 :=
    Finset.sum_eq_zero fun x hx => if_neg (by have := Finset.mem_range.1 hx; omega)
  rw [e, zero_add]
  refine Finset.sum_congr rfl fun x hx => (if_pos (by have := Finset.mem_range.1 hx; omega)).trans (congrArg f (by omega))

/-- The lanes `o + 128 h …` of an array: those of head `h` of the part that starts at `o`. -/
def head (A : ℕ → ℕ → ℝ) (o h : ℕ) : ℕ → ℕ → ℝ := fun r d => A r (o + (128 * h + d))

/-- An array of rows of 128 lanes a head, read where a flat position says. -/
theorem read_head {C : ℕ} {x : FVec Ideal ⟨2, ![4096, C]⟩ .f32} {A : ℕ → ℕ → ℝ} (hA : Re x A) (o r h d : ℕ) (hh : h < 8) (hd : d < 128)
    (i : (⟨2, ![4096, C]⟩ : Shape).Idx) (h0 : (i 0).val = ((r * 8 + h) * 128 + d) / 1024)
    (h1 : (i 1).val = o + ((r * 8 + h) * 128 + d) % 1024) : x i = ((head A o h r d : ℝ) : EReal) := by
  rw [eq_ix2 i]
  refine (hA _ _).trans (congrArg _ ?_)
  show A (i 0).val (i 1).val = A r (o + (128 * h + d))
  rw [h0, h1, show ((r * 8 + h) * 128 + d) / 1024 = r by omega, show ((r * 8 + h) * 128 + d) % 1024 = 128 * h + d by omega]

end Cert.Stick
-- ==== Proof.Host.lean ====
/-
  What the host hands the kernel: the two arrays it narrows, and the sums of the logarithms.
-/
module

public import proofs.«01_k».proof.Proof.Fold
public import proofs.«01_k».proof.Proof.Soft
public import Idealize.ShloMosaic.Lib.StableHlo.RunRead
public import Idealize.ShloMosaic.Lib.StableHlo.ReadAt
public import Idealize.ShloMosaic.Lib.Claim

@[expose] public section

set_option maxRecDepth 8192

noncomputable section

namespace Cert.KernelIdeal.Value

open Finset Idealize.ShloMosaic Idealize.ShloMosaic.ValueIdx Idealize.ShloMosaic.TcCoe Cert.Stick Cert.KernelIdeal.Gen
open Idealize.SL Idealize.SL.Sem

/-- The scaled scores. -/
def hz (a : FVec Ideal S4096x3072 .f32) : FVec Ideal S8x4096x4096 .f32 :=
  mulf (Host.dotGeneral dot_S4096x8x128_S4096x8x128_S8x4096x4096_2_2_0_0_1_1 none
    (shapeCast S4096x8x128 (extractStridedSlice S4096x1024 ![0, 0] a slices_S4096x3072_S4096x1024_0_0) shapeCasts_S4096x1024_S4096x8x128)
    (shapeCast S4096x8x128 (extractStridedSlice S4096x1024 ![0, 1024] a slices_S4096x3072_S4096x1024_0_1024) shapeCasts_S4096x1024_S4096x8x128))
    (broadcastInDim S8x4096x4096 ![] bcast_S_S8x4096x4096 (constant (F := Ideal) S_ .f32 0x3DB504F3#32))

/-- The mask. -/
def hmask : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- `log (1 + e^z)` of an array. -/
def hsoft (z : FVec Ideal S8x4096x4096 .f32) : FVec Ideal S8x4096x4096 .f32 := fun i => soft (Ideal.ofBits .f32 0x00000000#32) (z i)

/-- The logarithms, masked. -/
def hlogs (z : FVec Ideal S8x4096x4096 .f32) : FVec Ideal S8x4096x4096 .f32 :=
  select (broadcastInDim S8x4096x4096 ![1, 2] bcast_S4096x4096_S8x4096x4096_1_2 hmask) (Host.negf (hsoft (Host.negf (Host.negf z))))
    (broadcastInDim S8x4096x4096 ![] bcast_S_S8x4096x4096 (constant (F := Ideal) S_ .f32 0x00000000#32))

/-- Their sums, one per row and head, repeated over the head's lanes. -/
def htot (l : FVec Ideal S8x4096x4096 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1
      (transpose S4096x8 [1, 0] (Host.reduceAdd l (constant (F := Ideal) S_ .f32 0x00000000#32) reducesTo_S8x4096x4096_S8x4096_d2 h_S_)
        transposes_S8x4096_S4096x8_1_0))) shapeCasts_S4096x8x128_S4096x1024

variable (m : (ℓ : Loc nD τ sig) → Buf (Elt Ideal) ℓ) (c : Dev nD)

theorem V22 : (V m c main_v22 : FVec Ideal S4096x3072 .bf16) = (truncf .bf16 (m (c.tc.loc main_arg0) : FVec Ideal S4096x3072 .f32) bitsLt_bf16_f32 : FVec Ideal S4096x3072 .bf16) := by
  unfold V
  after_reads_simp
theorem V23 : (V m c main_v23 : FVec Ideal S4096x1024 .bf16) = (truncf .bf16 (m (c.tc.loc main_arg1) : FVec Ideal S4096x1024 .f32) bitsLt_bf16_f32 : FVec Ideal S4096x1024 .bf16) := by
  unfold V
  after_reads_simp

theorem V21 : (V m c main_v21 : FVec Ideal S4096x1024 .f32) = htot (hlogs (hz (m (c.tc.loc main_arg0)))) := by
  unfold V
  after_reads_simp
  simp -implicitDefEqProofs only [StableHlo.TRef.toBuf, StableHlo.TRef.ofBuf, cast_cast, cast_eq]
  rfl

end Cert.KernelIdeal.Value
-- ==== Proof.Tot.lean ====
/-
  The sums the host computes, at finite arguments.
-/
module

public import proofs.«01_k».proof.Proof.Host
public import Idealize.ShloMosaic.Lib.WordCmp

@[expose] public section

set_option maxRecDepth 8192

noncomputable section

namespace Cert.KernelIdeal.Value

open Idealize.ShloMosaic.ValueIdx hiding ix1 ix2 ix3
open Finset Idealize.ShloMosaic Idealize.ShloMosaic.TcCoe Cert.Stick Cert.KernelIdeal.Gen

/-- The dimension numbers of the host's product of the heads. -/
abbrev HD : DotDims S4096x8x128 S4096x8x128 S8x4096x4096 := dot_S4096x8x128_S4096x8x128_S8x4096x4096_2_2_0_0_1_1

/-- A row of the left factor comes from the result's second axis … -/
theorem heads_row (i : S8x4096x4096.Idx) (q : HD.contr.Idx) : (HD.lhsIdx i q (0 : Fin 3)).val = (i (1 : Fin 3)).val := by
  unfold DotDims.lhsIdx
  rw [dif_neg (show ¬(0 : Fin 3) ∈ HD.lhsBatch by decide), dif_pos (show (0 : Fin 3) ∈ HD.lhsNonContracting by decide)]
  rfl
/-- … and its head from the first. -/
theorem heads_head (i : S8x4096x4096.Idx) (q : HD.contr.Idx) : (HD.lhsIdx i q (1 : Fin 3)).val = (i (0 : Fin 3)).val := by
  unfold DotDims.lhsIdx
  rw [dif_pos (show (1 : Fin 3) ∈ HD.lhsBatch by decide)]
  rfl
/-- A row of the right factor comes from the third … -/
theorem heads_row' (i : S8x4096x4096.Idx) (q : HD.contr.Idx) : (HD.rhsIdx i q (0 : Fin 3)).val = (i (2 : Fin 3)).val := by
  unfold DotDims.rhsIdx
  rw [dif_neg (show ¬(0 : Fin 3) ∈ HD.rhsBatch by decide), dif_pos (show (0 : Fin 3) ∈ HD.rhsNonContracting by decide)]
  rfl
/-- … and its head from the first. -/
theorem heads_head' (i : S8x4096x4096.Idx) (q : HD.contr.Idx) : (HD.rhsIdx i q (1 : Fin 3)).val = (i (0 : Fin 3)).val := by
  unfold DotDims.rhsIdx
  rw [dif_pos (show (1 : Fin 3) ∈ HD.rhsBatch by decide)]
  rfl

/-- The product of the heads at an index. -/
theorem heads_dot (x y : FVec Ideal S4096x8x128 .f32) (i : S8x4096x4096.Idx) :
    Host.dotGeneral HD none x y i = ∑ k : Fin 128, x (ix3 (i 1) (i 0) k) * y (ix3 (i 2) (i 0) k) := by
  simp only [Host.dotGeneral]
  rw [Ideal.dotGeneral_apply, ← Equiv.sum_comp (contrEquiv1 HD 128 rfl rfl).symm]
  refine Finset.sum_congr rfl fun k _ => ?_
  have hk := contrEquiv1_symm_val HD 128 rfl rfl k
  generalize (contrEquiv1 HD 128 rfl rfl).symm k = q at hk ⊢
  have el : HD.lhsIdx i q = ix3 (i 1) (i 0) k := funext fun a => Fin.ext (by
    match a with
    | ⟨0, _⟩ => exact heads_row i q
    | ⟨1, _⟩ => exact heads_head i q
    | ⟨2, _⟩ => exact (HD.lhsIdx_val_of_single rfl i _).trans hk)
  have er : HD.rhsIdx i q = ix3 (i 2) (i 0) k := funext fun a => Fin.ext (by
    match a with
    | ⟨0, _⟩ => exact heads_row' i q
    | ⟨1, _⟩ => exact heads_head' i q
    | ⟨2, _⟩ => exact (HD.rhsIdx_val_of_single rfl i _).trans hk)
  rw [el, er]
  rfl

variable {a : FVec Ideal S4096x3072 .f32} {A : ℕ → ℕ → ℝ}

/-- A part of `qkv` cut into heads. -/
theorem part {o : ℕ} (hA : Re a A) (hs : S4096x3072.Slices ![0, o] S4096x1024) (r : Fin 4096) (h : Fin 8) (d : Fin 128) :
    shapeCast S4096x8x128 (extractStridedSlice S4096x1024 ![0, o] a hs) shapeCasts_S4096x1024_S4096x8x128 (ix3 r h d)
      = ((head A o h.val r.val d.val : ℝ) : EReal) := by
  have ho : o + 1024 ≤ 3072 := hs.2 1
  rw [shapeCast_apply _ _ (ix3 r h d) (ix2 r (col h d)),
    extractStridedSlice_apply _ a hs (ix2 r (col h d)) (ix2 r (⟨o + (128 * h.val + d.val), by have := h.isLt; have := d.isLt; omega⟩ : Fin 3072))]
  · exact hA _ _
  · intro b
    match b with
    | ⟨0, _⟩ => exact (Nat.zero_add _).symm
    | ⟨1, _⟩ => rfl
  · rw [Shape.rowMajor_val_two, Shape.rowMajor_val_three]
    show r.val * 1024 + (128 * h.val + d.val) = (r.val * 8 + h.val) * 128 + d.val
    omega

/-- The scaled scores. -/
theorem hz_at (hA : Re a A) (h : Fin 8) (t s : Fin 4096) :
    hz a (ix3 h t s) = ((Z (head A 0 h.val) (head A 1024 h.val) t.val s.val : ℝ) : EReal) := by
  refine (congrArg₂ (fun x y : EReal => x * y) (heads_dot _ _ (ix3 h t s)) ofBits_scale).trans ?_
  unfold Z
  rw [EReal.coe_mul, Finset.sum_range, coe_sum]
  congr 1
  refine Finset.sum_congr rfl fun k _ => ?_
  rw [EReal.coe_mul]
  exact congrArg₂ (fun x y : EReal => x * y) (part hA _ t h k) (part hA _ s h k)

/-- The mask's column numbers. -/
theorem col_at (t s : Fin 4096) : broadcastInDim S4096x4096 ![0, 1] bcast_S1x4096_S4096x4096_0_1
    (broadcastInDim S1x4096 ![1] bcast_S4096_S1x4096_1 (iotaInDim S4096 32 0)) (ix2 t s) = BitVec.ofNat 32 s.val := by
  refine (broadcastInDim_apply _ bcast_S1x4096_S4096x4096_0_1 _ (ix2 t s) (ix2 (0 : Fin 1) s) fun k => ?_).trans
    ((broadcastInDim_apply _ bcast_S4096_S1x4096_1 _ (ix2 (0 : Fin 1) s) (ix1 s) fun k => ?_).trans rfl)
  · match k with
    | ⟨0, _⟩ => rfl
    | ⟨1, _⟩ => rfl
  · match k with
    | ⟨0, _⟩ => rfl
/-- The mask's row numbers. -/
theorem row_at (t s : Fin 4096) : broadcastInDim S4096x4096 ![0, 1] bcast_S4096x1_S4096x4096_0_1
    (broadcastInDim S4096x1 ![0] bcast_S4096_S4096x1_0 (iotaInDim S4096 32 0)) (ix2 t s) = BitVec.ofNat 32 t.val := by
  refine (broadcastInDim_apply _ bcast_S4096x1_S4096x4096_0_1 _ (ix2 t s) (ix2 t (0 : Fin 1)) fun k => ?_).trans
    ((broadcastInDim_apply _ bcast_S4096_S4096x1_0 _ (ix2 t (0 : Fin 1)) (ix1 t) fun k => ?_).trans rfl)
  · match k with
    | ⟨0, _⟩ => rfl
    | ⟨1, _⟩ => rfl
  · match k with
    | ⟨0, _⟩ => rfl
/-- The mask. -/
theorem hmask_at (t s : Fin 4096) : hmask (ix2 t s) = BitVec.ofBool (decide (s.val < t.val)) :=
  (congrArg₂ (IntOp.cmpi .slt) (col_at t s) (row_at t s)).trans
    (WordCmp.cmpi_slt_ofNat (a := s.val) (b := t.val) (by have := s.isLt; omega) (by have := t.isLt; omega))

/-- The logarithms. -/
theorem hlogs_at (hA : Re a A) (h : Fin 8) (t s : Fin 4096) :
    hlogs (hz a) (ix3 h t s) = ((L (head A 0 h.val) (head A 1024 h.val) t.val s.val : ℝ) : EReal) := by
  have hz0 : Ideal.ofBits .f32 0x00000000#32 = 0 := by simp [Ideal.ofBits, Ideal.ieee]
  show Scalar.select (broadcastInDim S8x4096x4096 ![1, 2] _ hmask (ix3 h t s)) (-(soft (Ideal.ofBits .f32 0x00000000#32) (- -(hz a (ix3 h t s)))) : EReal)
    (Ideal.ofBits .f32 0x00000000#32) = _
  rw [broadcastInDim_apply _ bcast_S4096x4096_S8x4096x4096_1_2 _ (ix3 h t s) (ix2 t s), hmask_at, hz_at hA, neg_neg, hz0, soft_coe]
  · unfold L
    by_cases hs : s.val < t.val
    · rw [if_pos hs, decide_eq_true hs]; exact (select_one _ _).trans (EReal.coe_neg _).symm
    · rw [if_neg hs, decide_eq_false hs]; exact (select_zero _ _).trans EReal.coe_zero.symm
  · intro k
    match k with
    | ⟨0, _⟩ => rfl
    | ⟨1, _⟩ => rfl

/-- The last axis may be summed. -/
theorem reduces_last : S8x4096x4096.Reduces [2] S8x4096 := by decide

/-- Their sums, at a row and a lane of a head. -/
theorem htot_at (hA : Re a A) (r : Fin 4096) (h : Fin 8) (d : Fin 128) :
    htot (hlogs (hz a)) (ix2 r (col h d)) = ((Stick.T (head A 0 h.val) (head A 1024 h.val) r.val : ℝ) : EReal) := by
  have hz0 : Ideal.ofBits .f32 0x00000000#32 = 0 := by simp [Ideal.ofBits, Ideal.ieee]
  unfold htot
  rw [shapeCast_apply _ _ (ix2 r (col h d)) (ix3 r h d),
    broadcastInDim_apply _ bcast_S4096x8x1_S4096x8x128_0_1_2 _ (ix3 r h d) (ix3 r h (0 : Fin 1)),
    broadcastInDim_apply _ bcast_S4096x8_S4096x8x1_0_1 _ (ix3 r h (0 : Fin 1)) (ix2 r h),
    transpose_apply [1, 0] _ transposes_S8x4096_S4096x8_1_0 (ix2 r h) (ix2 h r)]
  · rw [hostReduceAdd_apply, Ideal.hostReduceAdd_single _ reduces_last]
    show Ideal.ofBits .f32 0x00000000#32 + ∑ k : Fin 4096, hlogs (hz a) (reduces_last.lift (ix2 h r) k) = _
    rw [hz0, zero_add]
    unfold Stick.T
    rw [Finset.sum_range, coe_sum]
    refine Finset.sum_congr rfl fun k _ => ?_
    refine (congrArg _ (funext fun b => ?_)).trans (hlogs_at hA h r k)
    match b with
    | ⟨0, _⟩ => rfl
    | ⟨1, _⟩ => rfl
    | ⟨2, _⟩ => rfl
  · intro b
    match b with
    | ⟨0, _⟩ => rfl
    | ⟨1, _⟩ => rfl
  · intro k
    match k with
    | ⟨0, _⟩ => rfl
    | ⟨1, _⟩ => rfl
  · intro k
    match k with
    | ⟨0, _⟩ => rfl
    | ⟨1, _⟩ => rfl
    | ⟨2, _⟩ => rfl
  · rw [Shape.rowMajor_val_two, Shape.rowMajor_val_three]
    show (r.val * 8 + h.val) * 128 + d.val = r.val * 1024 + (128 * h.val + d.val)
    omega

end Cert.KernelIdeal.Value
-- ==== Proof.Ref.lean ====
/-
  What the reference computes at finite arguments: each of its arrays at an index, and so its three results.
-/
module

public import proofs.«01_k».proof.Proof.Soft
public import proofs.«01_k».proof.Proof.Gen.ReferenceIdeal.Read
public import Idealize.ShloMosaic.Lib.KernelVsHost
public import Idealize.ShloMosaic.Lib.WordCmp

@[expose] public section

noncomputable section

namespace Cert.Stick.Ref

open Finset Idealize.ShloMosaic Idealize.ShloMosaic.ValueIdx Cert.ReferenceIdeal Cert.ReferenceIdeal.Gen Cert.ReferenceIdeal.Read

variable {x0 : FVec Ideal S4096x3072 .f32} {x1 : FVec Ideal S4096x1024 .f32} {A B : ℕ → ℕ → ℝ}

/-- The heads of `qkv` and of the gradient. -/
abbrev Qh (A : ℕ → ℕ → ℝ) (h : ℕ) := head A 0 h
abbrev Kh (A : ℕ → ℕ → ℝ) (h : ℕ) := head A 1024 h
abbrev Xh (A : ℕ → ℕ → ℝ) (h : ℕ) := head A 2048 h
abbrev Yh (B : ℕ → ℕ → ℝ) (h : ℕ) := head B 0 h

theorem v4 (hA : Re x0 A) (i : S8x4096x128.Idx) : val_main_v4 (F := Ideal) x0 i = ((Qh A (i 0).val (i 1).val (i 2).val : ℝ) : EReal) := by
  rw [val_main_v4_apply, val_main_v3_apply, val_main_v0_apply]
  exact read_head hA 0 (i 1).val (i 0).val (i 2).val (i 0).isLt (i 2).isLt _ rfl (Nat.zero_add _).symm

theorem v6 (hA : Re x0 A) (i : S8x4096x128.Idx) : val_main_v6 (F := Ideal) x0 i = ((Kh A (i 0).val (i 1).val (i 2).val : ℝ) : EReal) := by
  rw [val_main_v6_apply, val_main_v5_apply, val_main_v1_apply]
  exact read_head hA 1024 (i 1).val (i 0).val (i 2).val (i 0).isLt (i 2).isLt _ rfl rfl

theorem v8 (hA : Re x0 A) (i : S8x4096x128.Idx) : val_main_v8 (F := Ideal) x0 i = ((Xh A (i 0).val (i 1).val (i 2).val : ℝ) : EReal) := by
  rw [val_main_v8_apply, val_main_v7_apply, val_main_v2_apply]
  exact read_head hA 2048 (i 1).val (i 0).val (i 2).val (i 0).isLt (i 2).isLt _ rfl rfl

theorem v36 (hB : Re x1 B) (i : S8x4096x128.Idx) : val_main_v36 (F := Ideal) x1 i = ((Yh B (i 0).val (i 1).val (i 2).val : ℝ) : EReal) := by
  rw [val_main_v36_apply, val_main_v35_apply]
  exact read_head hB 0 (i 1).val (i 0).val (i 2).val (i 0).isLt (i 2).isLt _ rfl (Nat.zero_add _).symm

/-- A sum of products of real numbers, over the positions of one axis. -/
theorem sum_mul {n : ℕ} {x y : Fin n → EReal} {f g : ℕ → ℝ} (hx : ∀ k, x k = ((f k.val : ℝ) : EReal)) (hy : ∀ k, y k = ((g k.val : ℝ) : EReal)) :
    ∑ k : Fin n, x k * y k = ((∑ k ∈ range n, f k * g k : ℝ) : EReal) := by
  rw [Finset.sum_range, coe_sum]
  exact Finset.sum_congr rfl fun k _ => by rw [hx, hy, EReal.coe_mul]

/-- The scaled scores. -/
theorem v11 (hA : Re x0 A) (i : S8x4096x4096.Idx) :
    val_main_v11 (F := Ideal) x0 i = ((Z (Qh A (i 0).val) (Kh A (i 0).val) (i 1).val (i 2).val : ℝ) : EReal) := by
  rw [val_main_v11_apply, val_main_v9_apply, val_main_v10_apply, val_main_cst_apply]
  refine Eq.trans (congrArg₂ (fun a b : EReal => a * b) (sum_mul (f := Qh A (i 0).val (i 1).val) (g := Kh A (i 0).val (i 2).val) (fun k => v4 hA _) (fun k => v6 hA _)) ofBits_scale) ?_
  rw [← EReal.coe_mul]
  rfl

/-- The mask: a key row before the query row. -/
theorem v18 (i : S4096x4096.Idx) : val_main_v18 (F := Ideal) i = if (i 1).val < (i 0).val then 1#1 else 0#1 := by
  rw [val_main_v18_apply, val_main_v16_apply, val_main_v13_apply, val_main_v12_apply, val_main_v17_apply, val_main_v15_apply, val_main_v14_apply]
  have h0 : (i 0).val < 4096 := (i 0).isLt
  have h1 : (i 1).val < 4096 := (i 1).isLt
  refine (WordCmp.cmpi_slt_ofNat (a := (i 1).val) (b := (i 0).val) (by omega) (by omega)).trans ?_
  by_cases h : (i 1).val < (i 0).val <;> simp [h]

/-- A choice by the mask. -/
theorem choose {c : BitVec 1} {p : Prop} [Decidable p] {x y : EReal} {a b : ℝ} (hc : c = if p then 1#1 else 0#1) (hx : x = (a : EReal)) (hy : y = (b : EReal)) :
    Scalar.select c x y = ((if p then a else b : ℝ) : EReal) := by
  rw [hc, hx, hy]
  by_cases h : p
  · rw [if_pos h, if_pos h]; exact select_one _ _
  · rw [if_neg h, if_neg h]; exact select_zero _ _

theorem mask (i : S8x4096x4096.Idx) : val_main_v21_1 (F := Ideal) i = if (i 2).val < (i 1).val then 1#1 else 0#1 := by
  rw [val_main_v21_1_apply]; exact v18 _

theorem mask' (i : S8x4096x4096.Idx) : val_main_v31_1 (F := Ideal) i = if (i 2).val < (i 1).val then 1#1 else 0#1 := by
  rw [val_main_v31_1_apply]; exact v18 _

theorem zero_bits : (FloatOps.ofBits (F := Ideal) .f32 0x00000000#32 : EReal) = 0 := by
  show Ideal.ofBits .f32 0x00000000#32 = 0
  simp [Ideal.ofBits, Ideal.ieee]

/-- `log (1 + e^z)` of the scores, from their double negation. -/
theorem soft_pos (hA : Re x0 A) (i : S8x4096x4096.Idx) :
    val_main_call0_v0 (F := Ideal) x0 i = ((Z (Qh A (i 0).val) (Kh A (i 0).val) (i 1).val (i 2).val : ℝ) : EReal) := by
  rw [val_main_call0_v0_apply, val_main_v19_apply, v11 hA]
  exact neg_neg _

theorem soft_neg (hA : Re x0 A) (i : S8x4096x4096.Idx) :
    val_main_call3_v0 (F := Ideal) x0 i = ((-Z (Qh A (i 0).val) (Kh A (i 0).val) (i 1).val (i 2).val : ℝ) : EReal) := by
  rw [val_main_call3_v0_apply, v11 hA]
  exact (EReal.coe_neg _).symm

theorem sp_pos (hA : Re x0 A) (i : S8x4096x4096.Idx) :
    val_main_call0_v1_0 (F := Ideal) x0 i = ((sp (Z (Qh A (i 0).val) (Kh A (i 0).val) (i 1).val (i 2).val) : ℝ) : EReal) := by
  have e : val_main_call0_v1_0 (F := Ideal) x0 i = soft (FloatOps.ofBits .f32 0x00000000#32) (val_main_call0_v0 (F := Ideal) x0 i) := by
    rw [val_main_call0_v1_0_apply, val_main_call0_call0_v4_apply, val_main_call0_call0_v6_apply, val_main_call0_call0_v11_apply,
      val_main_call0_call0_v10_apply, val_main_call0_call0_v9_apply, val_main_call0_call0_v8_apply, val_main_call0_call0_v7_apply,
      val_main_call0_call0_v1_apply, val_main_call0_call0_v3_apply, val_main_call0_call0_v0_apply, val_main_call0_call0_v2_apply,
      val_main_call0_call0_v5_apply, val_main_call0_call0_cst_apply]
    rfl
  rw [e, zero_bits, soft_pos hA]
  exact soft_coe _

theorem sp_minus (hA : Re x0 A) (i : S8x4096x4096.Idx) :
    val_main_call3_v1_0 (F := Ideal) x0 i = ((sp (-Z (Qh A (i 0).val) (Kh A (i 0).val) (i 1).val (i 2).val) : ℝ) : EReal) := by
  have e : val_main_call3_v1_0 (F := Ideal) x0 i = soft (FloatOps.ofBits .f32 0x00000000#32) (val_main_call3_v0 (F := Ideal) x0 i) := by
    rw [val_main_call3_v1_0_apply, val_main_call3_call0_v4_apply, val_main_call3_call0_v6_apply, val_main_call3_call0_v11_apply,
      val_main_call3_call0_v10_apply, val_main_call3_call0_v9_apply, val_main_call3_call0_v8_apply, val_main_call3_call0_v7_apply,
      val_main_call3_call0_v1_apply, val_main_call3_call0_v3_apply, val_main_call3_call0_v0_apply, val_main_call3_call0_v2_apply,
      val_main_call3_call0_v5_apply, val_main_call3_call0_cst_apply]
    rfl
  rw [e, zero_bits, soft_neg hA]
  exact soft_coe _

/-- A finite number is not replaced. -/
theorem keep {c : Ideal .f32} (hc : c = FloatOps.ofBits (F := Ideal) .f32 0x7F800000#32) {x y : Ideal .f32} {a : ℝ} (hx : x = ((a : ℝ) : EReal)) :
    Scalar.select (FloatOps.cmpf .oeq x c) y x = ((a : ℝ) : EReal) := by
  rw [hc, hx]
  refine Eq.trans (congrArg (fun b => Scalar.select b y ((a : ℝ) : EReal)) (cmp_top a)) (select_zero _ _)

theorem diff_exp {x y : Ideal .f32} {a b : ℝ} (hx : x = ((a : ℝ) : EReal)) (hy : y = ((b : ℝ) : EReal)) :
    FloatOps.hostUnary .exp (FloatOps.subf x y) = ((Real.exp (a - b) : ℝ) : EReal) := by
  rw [hx, hy]
  show Ideal.exp ((a : EReal) - (b : EReal)) = _
  rw [← EReal.coe_sub, Ideal.exp_coe]

/-- The derivative of `log (1 + e^z)`. -/
theorem v20_1 (hA : Re x0 A) (i : S8x4096x4096.Idx) :
    val_main_v20_1 (F := Ideal) x0 i = ((Real.exp (Z (Qh A (i 0).val) (Kh A (i 0).val) (i 1).val (i 2).val
      - sp (Z (Qh A (i 0).val) (Kh A (i 0).val) (i 1).val (i 2).val)) : ℝ) : EReal) := by
  rw [val_main_v20_1_apply, val_main_call0_call0_v21_apply, val_main_call0_call0_v16_apply, val_main_call0_call0_v20_apply,
    val_main_call0_call0_v14_apply, val_main_call0_call0_v18_apply]
  exact diff_exp (keep (by rw [val_main_call0_call0_v13_apply, val_main_call0_call0_cst_0_apply]) (soft_pos hA i))
    (keep (by rw [val_main_call0_call0_v17_apply, val_main_call0_call0_cst_2_apply]) (sp_pos hA i))

theorem v28_1 (hA : Re x0 A) (i : S8x4096x4096.Idx) :
    val_main_v28_1 (F := Ideal) x0 i = ((Real.exp (-sp (Z (Qh A (i 0).val) (Kh A (i 0).val) (i 1).val (i 2).val)) : ℝ) : EReal) := by
  rw [val_main_v28_1_apply, val_main_call3_call0_v21_apply, val_main_call3_call0_v16_apply, val_main_call3_call0_v20_apply,
    val_main_call3_call0_v14_apply, val_main_call3_call0_v18_apply]
  refine (diff_exp (keep (by rw [val_main_call3_call0_v13_apply, val_main_call3_call0_cst_0_apply]) (soft_neg hA i))
    (keep (by rw [val_main_call3_call0_v17_apply, val_main_call3_call0_cst_2_apply]) (sp_minus hA i))).trans ?_
  rw [sp_neg]
  congr 2
  ring

theorem neg_coe {x : Ideal .f32} {a : ℝ} (hx : x = ((a : ℝ) : EReal)) : FloatOps.hostNegf x = ((-a : ℝ) : EReal) := by
  rw [hx]; exact (EReal.coe_neg a).symm
theorem mul_coe {x y : Ideal .f32} {a b : ℝ} (hx : x = ((a : ℝ) : EReal)) (hy : y = ((b : ℝ) : EReal)) : FloatOps.mulf x y = ((a * b : ℝ) : EReal) := by
  rw [hx, hy]; exact (EReal.coe_mul a b).symm
theorem add_coe {x y : Ideal .f32} {a b : ℝ} (hx : x = ((a : ℝ) : EReal)) (hy : y = ((b : ℝ) : EReal)) : FloatOps.addf x y = ((a + b : ℝ) : EReal) := by
  rw [hx, hy]; exact (EReal.coe_add a b).symm

/-- The logarithms of the shares left, masked. -/
theorem v21_0 (hA : Re x0 A) (i : S8x4096x4096.Idx) :
    val_main_v21_0 (F := Ideal) x0 i = ((L (Qh A (i 0).val) (Kh A (i 0).val) (i 1).val (i 2).val : ℝ) : EReal) := by
  rw [val_main_v21_0_apply, val_main_v20_0_apply]
  refine choose (mask i) (neg_coe (sp_pos hA i)) ?_
  rw [val_main_call1_v2_apply, val_main_call1_v0_apply, val_main_cst_0_apply]
  exact zero_bits.trans EReal.coe_zero.symm

/-- Their sums from a key row on. -/
theorem v22 (hA : Re x0 A) (h : Fin 8) (t s : Fin 4096) :
    val_main_v22 (F := Ideal) x0 (ix3 h t s) = ((T (Qh A h.val) (Kh A h.val) t.val - ∑ j ∈ range s.val, L (Qh A h.val) (Kh A h.val) t.val j : ℝ) : EReal) := by
  unfold val_main_v22
  refine (window_sum (val_main_v21_0 (F := Ideal) x0) (L (Qh A h.val) (Kh A h.val) t.val) h t (fun s => v21_0 hA _) _ _ ?_ _ s).trans
    (congrArg _ (window_from _ s.isLt.le))
  rw [val_main_call2_v0_apply, val_main_call2_cst_apply]
  exact zero_bits

/-- The sums over the key rows after a key row. -/
theorem v26 (hA : Re x0 A) (h : Fin 8) (t s : Fin 4096) :
    val_main_v26 (F := Ideal) x0 (ix3 h t s)
      = ((T (Qh A h.val) (Kh A h.val) t.val - ∑ j ∈ range (s.val + 1), L (Qh A h.val) (Kh A h.val) t.val j : ℝ) : EReal) := by
  unfold val_main_v26
  by_cases hs : s.val < 4095
  · refine (concatenate_pair_apply_left (s₁ := S8x4096x4095) (s₂ := S8x4096x1) (t := S8x4096x4096) 2 _ _ _ (ix3 h t s) rfl (ix3 h t (⟨s.val, hs⟩ : Fin 4095)) (fun b => ?_)).trans ?_
    · match b with
      | ⟨0, _⟩ => rfl
      | ⟨1, _⟩ => rfl
      | ⟨2, _⟩ => rfl
    · rw [val_main_v23_apply, eq_ix3 (idx_main_v23 _)]
      refine (v22 hA _ _ _).trans ?_
      show ((T (Qh A h.val) (Kh A h.val) t.val - ∑ j ∈ range (1 + s.val), L (Qh A h.val) (Kh A h.val) t.val j : ℝ) : EReal) = _
      rw [Nat.add_comm]
  · have hs' : s.val = 4095 := by have := s.isLt; omega
    refine (concatenate_pair_apply_right (s₁ := S8x4096x4095) (s₂ := S8x4096x1) (t := S8x4096x4096) 2 _ _ _ (ix3 h t s) rfl rfl (ix3 h t (0 : Fin 1)) (fun b hb => ?_) ?_).trans ?_
    · match b with
      | ⟨0, _⟩ => rfl
      | ⟨1, _⟩ => rfl
      | ⟨2, _⟩ => exact absurd rfl hb
    · show 0 + 4095 = s.val
      omega
    · rw [val_main_v25_apply, val_main_cst_1_apply, hs']
      exact zero_bits.trans ((congrArg _ (sub_self _)).trans EReal.coe_zero).symm

end Cert.Stick.Ref
-- ==== Proof.RefGrad.lean ====
/-
  The gradients the reference computes at finite arguments.
-/
module

public import proofs.«01_k».proof.Proof.Ref

@[expose] public section

noncomputable section

namespace Cert.Stick.Ref

open Finset Idealize.ShloMosaic Idealize.ShloMosaic.ValueIdx Cert.ReferenceIdeal Cert.ReferenceIdeal.Gen Cert.ReferenceIdeal.Read

variable {x0 : FVec Ideal S4096x3072 .f32} {x1 : FVec Ideal S4096x1024 .f32} {A B : ℕ → ℕ → ℝ}

/-- The weight before its mask. -/
theorem v30 (hA : Re x0 A) (h : Fin 8) (t s : Fin 4096) :
    val_main_v30 (F := Ideal) x0 (ix3 h t s) = ((Real.exp (Z (Qh A h.val) (Kh A h.val) t.val s.val - sp (Z (Qh A h.val) (Kh A h.val) t.val s.val)
      + (T (Qh A h.val) (Kh A h.val) t.val - ∑ j ∈ range (s.val + 1), L (Qh A h.val) (Kh A h.val) t.val j)) : ℝ) : EReal) := by
  rw [val_main_v30_apply, val_main_v29_apply, val_main_v28_0_apply,
    show FloatOps.addf (FloatOps.hostNegf (val_main_call3_v1_0 (F := Ideal) x0 (ix3 h t s))) (val_main_v26 (F := Ideal) x0 (ix3 h t s)) = _ from
      add_coe (neg_coe (sp_minus hA (ix3 h t s))) (v26 hA h t s), sp_neg]
  refine (Ideal.exp_coe _).trans ?_
  congr 3
  exact neg_sub _ _

/-- The weight. -/
theorem v31_0 (hA : Re x0 A) (h : Fin 8) (t s : Fin 4096) :
    val_main_v31_0 (F := Ideal) x0 (ix3 h t s) = ((W (Qh A h.val) (Kh A h.val) t.val s.val : ℝ) : EReal) := by
  rw [val_main_v31_0_apply]
  refine choose (mask' _) (v30 hA h t s) ?_
  rw [val_main_call4_v2_apply, val_main_call4_v0_apply, val_main_cst_3_apply]
  exact zero_bits.trans EReal.coe_zero.symm

/-- The weight's gradient. -/
theorem v39 (hA : Re x0 A) (hB : Re x1 B) (i : S8x4096x4096.Idx) :
    val_main_v39 (F := Ideal) x0 x1 i = ((DW (Xh A (i 0).val) (Yh B (i 0).val) (i 1).val (i 2).val : ℝ) : EReal) := by
  rw [val_main_v39_apply]
  exact sum_mul (f := Yh B (i 0).val (i 1).val) (g := Xh A (i 0).val (i 2).val) (fun k => v36 hB _) (fun k => v8 hA _)

/-- The gradient of the weight's logarithm. -/
theorem v41 (hA : Re x0 A) (hB : Re x1 B) (h : Fin 8) (t s : Fin 4096) :
    val_main_v41 (F := Ideal) x0 x1 (ix3 h t s) = ((G (Qh A h.val) (Kh A h.val) (Xh A h.val) (Yh B h.val) t.val s.val : ℝ) : EReal) := by
  rw [val_main_v41_apply, val_main_v40_apply]
  refine (mul_coe (choose (b := 0) (mask' _) (v39 hA hB _) ?_) (v30 hA h t s)).trans (congrArg _ ?_)
  · rw [val_main_call5_v0_apply, val_main_call5_cst_apply]
    exact zero_bits.trans EReal.coe_zero.symm
  · show (if s.val < t.val then DW (Xh A h.val) (Yh B h.val) t.val s.val else 0) * _ = _
    unfold G W
    by_cases hs : s.val < t.val
    · rw [if_pos hs, if_pos hs]
    · rw [if_neg hs, if_neg hs, zero_mul, mul_zero]

/-- The gradients before a key row, the row they belong to moved by one. -/
theorem v45 (hA : Re x0 A) (hB : Re x1 B) (h : Fin 8) (t s : Fin 4096) :
    val_main_v45 (F := Ideal) x0 x1 (ix3 h t s)
      = (((if s.val = 0 then 0 else G (Qh A h.val) (Kh A h.val) (Xh A h.val) (Yh B h.val) t.val (s.val - 1)) : ℝ) : EReal) := by
  unfold val_main_v45
  by_cases hs : s.val = 0
  · rw [if_pos hs]
    refine (pad_apply_of_not_inside _ _ _ _ _ _ _ (ix3 h t s) 2 (fun hh => ?_)).trans ?_
    · have h1 : 1 ≤ s.val := hh.1
      omega
    · rw [val_main_cst_4_apply]
      exact zero_bits.trans EReal.coe_zero.symm
  · rw [if_neg hs]
    have hlt := s.isLt
    refine (pad_apply_of_inside _ _ _ _ _ _ _ (ix3 h t s) (ix3 h t (⟨s.val - 1, by omega⟩ : Fin 4095)) (fun a => ?_)).trans ?_
    · match a with
      | ⟨0, _⟩ => show h.val = 0 + h.val * 1; omega
      | ⟨1, _⟩ => show t.val = 0 + t.val * 1; omega
      | ⟨2, _⟩ => show s.val = 1 + (s.val - 1) * 1; omega
    · rw [val_main_v43_apply, eq_ix3 (idx_main_v43 _)]
      exact v41 hA hB _ _ _

/-- Their sums before a key row. -/
theorem v46 (hA : Re x0 A) (hB : Re x1 B) (h : Fin 8) (t s : Fin 4096) :
    val_main_v46 (F := Ideal) x0 x1 (ix3 h t s)
      = ((∑ j ∈ range s.val, G (Qh A h.val) (Kh A h.val) (Xh A h.val) (Yh B h.val) t.val j : ℝ) : EReal) := by
  unfold val_main_v46
  have e := window_sum (l := 4095) (u := 0) (val_main_v45 (F := Ideal) x0 x1)
    (fun s => if s = 0 then 0 else G (Qh A h.val) (Kh A h.val) (Xh A h.val) (Yh B h.val) t.val (s - 1)) h t (fun s => v45 hA hB h t s)
    (val_main_call7_v0 (F := Ideal)) h_S_
    (by rw [val_main_call7_v0_apply, val_main_call7_cst_apply]; exact zero_bits)
    reduceWindows_S8x4096x4096_S8x4096x4096_w1s1p0_0_w1s1p0_0_w4096s1p4095_0 s
  refine e.trans (congrArg Real.toEReal ?_)
  refine (window_upto (fun s => if s = 0 then 0 else G (Qh A h.val) (Kh A h.val) (Xh A h.val) (Yh B h.val) t.val (s - 1))
    (s := s.val) (M := 4096) (l := 4095) (by norm_num) s.isLt).trans ?_
  rw [Finset.sum_range_succ', if_pos rfl, add_zero]
  exact Finset.sum_congr rfl fun j _ => if_neg (Nat.succ_ne_zero j)

/-- The gradient of the scores' products. -/
theorem v52 (hA : Re x0 A) (hB : Re x1 B) (h : Fin 8) (t s : Fin 4096) :
    val_main_v52 (F := Ideal) x0 x1 (ix3 h t s) = ((DZ (Qh A h.val) (Kh A h.val) (Xh A h.val) (Yh B h.val) t.val s.val : ℝ) : EReal) := by
  rw [val_main_v52_apply, val_main_v50_apply, val_main_v42_apply, val_main_call6_v1_apply, val_main_call6_v0_apply, val_main_v49_apply,
    val_main_v48_apply, val_main_call9_v1_apply, val_main_call9_v0_apply, val_main_v47_apply, val_main_v51_apply, val_main_cst_5_apply]
  refine (mul_coe (add_coe (neg_coe (mul_coe (neg_coe (v41 hA hB h t s)) (v28_1 hA _)))
    (neg_coe (neg_coe (mul_coe (neg_coe (choose (b := 0) (mask _) (v46 hA hB h t s) ?_)) (v20_1 hA _))))) ofBits_scale).trans (congrArg _ ?_)
  · rw [val_main_call8_v0_apply, val_main_call8_cst_apply]
    exact zero_bits.trans EReal.coe_zero.symm
  · show (-(-G (Qh A h.val) (Kh A h.val) (Xh A h.val) (Yh B h.val) t.val s.val * Real.exp (-sp (Z (Qh A h.val) (Kh A h.val) t.val s.val)))
      + - -(-(if s.val < t.val then ∑ j ∈ range s.val, G (Qh A h.val) (Kh A h.val) (Xh A h.val) (Yh B h.val) t.val j else 0)
        * Real.exp (Z (Qh A h.val) (Kh A h.val) t.val s.val - sp (Z (Qh A h.val) (Kh A h.val) t.val s.val)))) * scale = _
    by_cases hs : s.val < t.val
    · unfold DZ
      rw [if_pos hs, if_pos hs]
      ring
    · rw [if_neg hs, DZ_zero _ _ _ _ (Nat.le_of_not_lt hs), G_zero _ _ _ _ (Nat.le_of_not_lt hs)]
      ring

/-- The three gradients, per head. -/
theorem v54 (hA : Re x0 A) (hB : Re x1 B) (i : S8x4096x128.Idx) :
    val_main_v54 (F := Ideal) x0 x1 i = ((DQ (Qh A (i 0).val) (Kh A (i 0).val) (Xh A (i 0).val) (Yh B (i 0).val) (i 1).val (i 2).val : ℝ) : EReal) := by
  rw [val_main_v54_apply]
  exact sum_mul (f := DZ (Qh A (i 0).val) (Kh A (i 0).val) (Xh A (i 0).val) (Yh B (i 0).val) (i 1).val) (g := fun s => Kh A (i 0).val s (i 2).val)
    (fun k => (congrArg (val_main_v52 (F := Ideal) x0 x1) (eq_ix3 (lidx_main_v54 i k))).trans (v52 hA hB _ _ _)) (fun k => v6 hA _)

theorem v53 (hA : Re x0 A) (hB : Re x1 B) (i : S8x4096x128.Idx) :
    val_main_v53 (F := Ideal) x0 x1 i = ((DK (Qh A (i 0).val) (Kh A (i 0).val) (Xh A (i 0).val) (Yh B (i 0).val) (i 1).val (i 2).val : ℝ) : EReal) := by
  rw [val_main_v53_apply]
  exact sum_mul (f := fun t => DZ (Qh A (i 0).val) (Kh A (i 0).val) (Xh A (i 0).val) (Yh B (i 0).val) t (i 1).val) (g := fun t => Qh A (i 0).val t (i 2).val)
    (fun k => (congrArg (val_main_v52 (F := Ideal) x0 x1) (eq_ix3 (lidx_main_v53 i k))).trans (v52 hA hB _ _ _)) (fun k => v4 hA _)

theorem v37 (hA : Re x0 A) (hB : Re x1 B) (i : S8x128x4096.Idx) :
    val_main_v37 (F := Ideal) x0 x1 i = ((DV (Qh A (i 0).val) (Kh A (i 0).val) (Yh B (i 0).val) (i 2).val (i 1).val : ℝ) : EReal) := by
  rw [val_main_v37_apply]
  refine (sum_mul (f := fun t => Yh B (i 0).val t (i 1).val) (g := fun t => W (Qh A (i 0).val) (Kh A (i 0).val) t (i 2).val)
    (fun k => v36 hB _) (fun k => (congrArg (val_main_v31_0 (F := Ideal) x0) (eq_ix3 (ridx_main_v37 i k))).trans (v31_0 hA _ _ _))).trans
    (congrArg _ (Finset.sum_congr rfl fun t _ => mul_comm _ _))

/-- A head's function at a flat position's head, row and lane. -/
theorem place (f : ℕ → ℕ → ℕ → ℝ) (r c : ℕ) (hc : c < 1024) :
    f ((r * 1024 + c) / 128 % 8) ((r * 1024 + c) / 1024) ((r * 1024 + c) % 128) = f (c / 128) r (c % 128) := by
  rw [show (r * 1024 + c) / 1024 = r by omega, show (r * 1024 + c) / 128 % 8 = c / 128 by omega, show (r * 1024 + c) % 128 = c % 128 by omega]

/-- The three results. -/
theorem v61 (hA : Re x0 A) (hB : Re x1 B) (i : S4096x1024.Idx) :
    val_main_v61 (F := Ideal) x0 x1 i
      = ((DQ (Qh A ((i 1).val / 128)) (Kh A ((i 1).val / 128)) (Xh A ((i 1).val / 128)) (Yh B ((i 1).val / 128)) (i 0).val ((i 1).val % 128) : ℝ) : EReal) := by
  rw [val_main_v61_apply, val_main_v60_apply, val_main_v59_apply]
  exact (v54 hA hB _).trans (congrArg _ (place (fun h => DQ (Qh A h) (Kh A h) (Xh A h) (Yh B h)) _ _ (i 1).isLt))

theorem v62 (hA : Re x0 A) (hB : Re x1 B) (i : S4096x1024.Idx) :
    val_main_v62 (F := Ideal) x0 x1 i
      = ((DK (Qh A ((i 1).val / 128)) (Kh A ((i 1).val / 128)) (Xh A ((i 1).val / 128)) (Yh B ((i 1).val / 128)) (i 0).val ((i 1).val % 128) : ℝ) : EReal) := by
  rw [val_main_v62_apply, val_main_v58_apply, val_main_v57_apply]
  exact (v53 hA hB _).trans (congrArg _ (place (fun h => DK (Qh A h) (Kh A h) (Xh A h) (Yh B h)) _ _ (i 1).isLt))

theorem v63 (hA : Re x0 A) (hB : Re x1 B) (i : S4096x1024.Idx) :
    val_main_v63 (F := Ideal) x0 x1 i
      = ((DV (Qh A ((i 1).val / 128)) (Kh A ((i 1).val / 128)) (Yh B ((i 1).val / 128)) (i 0).val ((i 1).val % 128) : ℝ) : EReal) := by
  rw [val_main_v63_apply, val_main_v56_apply, val_main_v55_apply, val_main_v38_apply]
  exact (v37 hA hB _).trans (congrArg _ (place (fun h => DV (Qh A h) (Kh A h) (Yh B h)) _ _ (i 1).isLt))

end Cert.Stick.Ref
-- ==== Proof.Hold.lean ====
/-
  What the kernel's windows hold at a grid point, for finite arguments.
-/
module

public import proofs.«01_k».proof.Proof.Tot
public import proofs.«01_k».proof.Proof.RefGrad
public import Idealize.ShloMosaic.Lib.Pipeline.ValueKit.Geometry

@[expose] public section

set_option maxRecDepth 8192

noncomputable section

namespace Cert.KernelIdeal.Value

open Idealize.ShloMosaic.ValueIdx hiding ix1 ix2 ix3 eq_ix2
open Finset Idealize.ShloMosaic Idealize.ShloMosaic.TcCoe Cert.Stick Cert.KernelIdeal.Gen

/-- Which block each input window takes at a grid point. -/
theorem idx : ∀ t : Fin cfg0.N,
    win0_0.index t = ![t.val % 16, t.val / 16] ∧ win0_1.index t = ![0, 2 + t.val / 16] ∧ win0_2.index t = ![0, 4 + t.val / 16]
      ∧ win0_3.index t = ![t.val % 16, t.val / 16] ∧ win0_4.index t = ![t.val % 16, t.val / 16] := by
  decide +kernel

variable (m : (ℓ : Loc nD τ sig) → Buf (Elt Ideal) ℓ) (c : Dev nD)

/-- Window 0: rows of the queries. -/
theorem blk0 (t : Fin cfg0.N) (y : S256x512.Idx) (i : S4096x3072.Idx) (h0 : (i 0).val = t.val % 16 * 256 + (y 0).val)
    (h1 : (i 1).val = t.val / 16 * 512 + (y 1).val) : iblk m c 0 t y = V m c main_v22 i := by
  refine congrArg (V m c main_v22) (funext fun a => Fin.ext ?_)
  blk_simp [(idx t).1]
  match a with
  | ⟨0, _⟩ => exact h0.symm
  | ⟨1, _⟩ => exact h1.symm

/-- Window 1: all keys of a group of heads. -/
theorem blk1 (t : Fin cfg0.N) (y : S4096x512.Idx) (i : S4096x3072.Idx) (h0 : (i 0).val = (y 0).val)
    (h1 : (i 1).val = (2 + t.val / 16) * 512 + (y 1).val) : iblk m c 1 t y = V m c main_v22 i := by
  refine congrArg (V m c main_v22) (funext fun a => Fin.ext ?_)
  blk_simp [(idx t).2.1]
  match a with
  | ⟨0, _⟩ => exact (Nat.zero_mul _ ▸ Nat.zero_add _).trans h0.symm
  | ⟨1, _⟩ => exact h1.symm

/-- Window 2: all values of a group of heads. -/
theorem blk2 (t : Fin cfg0.N) (y : S4096x512.Idx) (i : S4096x3072.Idx) (h0 : (i 0).val = (y 0).val)
    (h1 : (i 1).val = (4 + t.val / 16) * 512 + (y 1).val) : iblk m c 2 t y = V m c main_v22 i := by
  refine congrArg (V m c main_v22) (funext fun a => Fin.ext ?_)
  blk_simp [(idx t).2.2.1]
  match a with
  | ⟨0, _⟩ => exact (Nat.zero_mul _ ▸ Nat.zero_add _).trans h0.symm
  | ⟨1, _⟩ => exact h1.symm

/-- Window 3: rows of the gradient. -/
theorem blk3 (t : Fin cfg0.N) (y : S256x512.Idx) (i : S4096x1024.Idx) (h0 : (i 0).val = t.val % 16 * 256 + (y 0).val)
    (h1 : (i 1).val = t.val / 16 * 512 + (y 1).val) : iblk m c 3 t y = V m c main_v23 i := by
  refine congrArg (V m c main_v23) (funext fun a => Fin.ext ?_)
  blk_simp [(idx t).2.2.2.1]
  match a with
  | ⟨0, _⟩ => exact h0.symm
  | ⟨1, _⟩ => exact h1.symm

/-- Window 4: rows of the sums. -/
theorem blk4 (t : Fin cfg0.N) (y : S256x512.Idx) (i : S4096x1024.Idx) (h0 : (i 0).val = t.val % 16 * 256 + (y 0).val)
    (h1 : (i 1).val = t.val / 16 * 512 + (y 1).val) : iblk m c 4 t y = V m c main_v21 i := by
  refine congrArg (V m c main_v21) (funext fun a => Fin.ext ?_)
  blk_simp [(idx t).2.2.2.2]
  match a with
  | ⟨0, _⟩ => exact h0.symm
  | ⟨1, _⟩ => exact h1.symm

variable {A B : ℕ → ℕ → ℝ}

/-- An array at an index, by the index's numbers. -/
theorem re_at {R C : ℕ} {φ : FTy} {x : FVec Ideal ⟨2, ![R, C]⟩ φ} (hA : Re x A) {i : (⟨2, ![R, C]⟩ : Shape).Idx} {r k : ℕ}
    (h0 : (i 0).val = r) (h1 : (i 1).val = k) : x i = ((A r k : ℝ) : EReal) := by
  subst h0 h1
  exact (congrArg x (eq_ix2 i)).trans (hA _ _)

/-- The windows hold the arguments' heads and the sums. -/
theorem held (hA : Re (φ := .f32) (m (c.tc.loc main_arg0)) A) (hB : Re (φ := .f32) (m (c.tc.loc main_arg1)) B) :
    Held m c (Ref.Qh A) (Ref.Kh A) (Ref.Xh A) (Ref.Yh B) := fun t => by
  have ht : t.val < 32 := t.isLt.trans_eq N_0
  have e1 := coord1 t
  refine ⟨fun u r d => ?_, fun u r d => ?_, fun u r d => ?_, fun u r d => ?_, fun u r d => ?_⟩
  · have hr : t.val % 16 * 256 + r.val < 4096 := by omega
    have hu : 4 * (t.val / 16) + u.val < 8 := by omega
    refine (blk4 m c t _ (ix2 (⟨t.val % 16 * 256 + r.val, hr⟩ : Fin 4096) (col ⟨4 * (t.val / 16) + u.val, hu⟩ d)) rfl ?_).trans ?_
    · show 128 * (4 * (t.val / 16) + u.val) + d.val = t.val / 16 * 512 + (128 * u.val + d.val)
      omega
    · refine (congrFun (V21 m c) _).trans ((htot_at hA _ _ _).trans (congrArg (fun n => ((Stick.T (head A 0 (4 * (t.val / 16) + u.val))
        (head A 1024 (4 * (t.val / 16) + u.val)) n : ℝ) : EReal)) ?_))
      show t.val % 16 * 256 + r.val = 256 * (grid0.coords t 1).val + r.val
      omega
  · refine (blk0 m c t _ (ix2 (⟨t.val % 16 * 256 + r.val, by omega⟩ : Fin 4096) (⟨t.val / 16 * 512 + (lane u d).val, by omega⟩ : Fin 3072)) rfl rfl).trans ?_
    refine (congrFun (V22 m c) _).trans (re_at hA ?_ ?_)
    · show t.val % 16 * 256 + r.val = 256 * (grid0.coords t 1).val + r.val
      omega
    · show t.val / 16 * 512 + (128 * u.val + d.val) = 0 + (128 * (4 * (t.val / 16) + u.val) + d.val)
      omega
  · refine (blk1 m c t _ (ix2 r (⟨(2 + t.val / 16) * 512 + (lane u d).val, by omega⟩ : Fin 3072)) rfl rfl).trans ?_
    refine (congrFun (V22 m c) _).trans (re_at hA rfl ?_)
    show (2 + t.val / 16) * 512 + (128 * u.val + d.val) = 1024 + (128 * (4 * (t.val / 16) + u.val) + d.val)
    omega
  · refine (blk2 m c t _ (ix2 r (⟨(4 + t.val / 16) * 512 + (lane u d).val, by omega⟩ : Fin 3072)) rfl rfl).trans ?_
    refine (congrFun (V22 m c) _).trans (re_at hA rfl ?_)
    show (4 + t.val / 16) * 512 + (128 * u.val + d.val) = 2048 + (128 * (4 * (t.val / 16) + u.val) + d.val)
    omega
  · refine (blk3 m c t _ (ix2 (⟨t.val % 16 * 256 + r.val, by omega⟩ : Fin 4096) (⟨t.val / 16 * 512 + (lane u d).val, by omega⟩ : Fin 1024)) rfl rfl).trans ?_
    refine (congrFun (V23 m c) _).trans (re_at hB ?_ ?_)
    · show t.val % 16 * 256 + r.val = 256 * (grid0.coords t 1).val + r.val
      omega
    · show t.val / 16 * 512 + (128 * u.val + d.val) = 0 + (128 * (4 * (t.val / 16) + u.val) + d.val)
      omega

end Cert.KernelIdeal.Value
-- ==== Proof.Equal.lean ====
/-
  The kernel's three arrays are the reference's.
-/
module

public import proofs.«01_k».proof.Proof.Hold

@[expose] public section

noncomputable section

namespace Cert.KernelIdeal.Value

open Idealize.ShloMosaic.ValueIdx hiding ix1 ix2 ix3 eq_ix2
open Idealize.ShloMosaic Idealize.ShloMosaic.TcCoe Cert.Stick Cert.KernelIdeal.Gen Cert.ReferenceIdeal.Read

variable (m : (ℓ : Loc nD τ sig) → Buf (Elt Ideal) ℓ) (c : Dev nD) {A B : ℕ → ℕ → ℝ}

/-- A place of an array of eight heads is a row and a lane of a head. -/
theorem at_col (i : S4096x1024.Idx) :
    i = ix2 (i 0) (col ⟨(i 1).val / 128, by have : (i 1).val < 1024 := (i 1).isLt; omega⟩ ⟨(i 1).val % 128, Nat.mod_lt _ (by decide)⟩) := by
  funext a
  match a with
  | ⟨0, _⟩ => rfl
  | ⟨1, _⟩ =>
    refine Fin.ext ?_
    show (i 1).val = 128 * ((i 1).val / 128) + (i 1).val % 128
    omega

/-- The queries' gradient. -/
theorem dq_eq (hA : Re (φ := .f32) (m (c.tc.loc main_arg0)) A) (hB : Re (φ := .f32) (m (c.tc.loc main_arg1)) B) :
    G5 m c = val_main_v61 (F := Ideal) (m (c.tc.loc main_arg0)) (m (c.tc.loc main_arg1)) := by
  funext i
  exact (congrArg (G5 m c) (at_col i)).trans ((read5 (held m c hA hB) _ _ _).trans (Ref.v61 hA hB i).symm)

/-- The keys' gradient. -/
theorem dk_eq (hA : Re (φ := .f32) (m (c.tc.loc main_arg0)) A) (hB : Re (φ := .f32) (m (c.tc.loc main_arg1)) B) :
    G6 m c = val_main_v62 (F := Ideal) (m (c.tc.loc main_arg0)) (m (c.tc.loc main_arg1)) := by
  funext i
  exact (congrArg (G6 m c) (at_col i)).trans ((read6 (held m c hA hB) _ _ _).trans (Ref.v62 hA hB i).symm)

/-- The values' gradient. -/
theorem dv_eq (hA : Re (φ := .f32) (m (c.tc.loc main_arg0)) A) (hB : Re (φ := .f32) (m (c.tc.loc main_arg1)) B) :
    G7 m c = val_main_v63 (F := Ideal) (m (c.tc.loc main_arg0)) (m (c.tc.loc main_arg1)) := by
  funext i
  exact (congrArg (G7 m c) (at_col i)).trans ((read7 (held m c hA hB) _ _ _).trans (Ref.v63 hA hB i).symm)

end Cert.KernelIdeal.Value
-- ==== Proof.Finite.lean ====
/-
  What the precondition says: both arguments hold real numbers.
-/
module

public import proofs.«01_k».proof.Defs
public import proofs.«01_k».proof.Proof.Re

@[expose] public section

noncomputable section

namespace Cert.Stick

open Idealize.ShloMosaic Idealize.ShloMosaic.ValueIdx Idealize.SL.Sem

/-- The precondition's two broadcasts are of a scalar. -/
theorem pre_facts : Cert.Pre_finite.Facts where
  bcast_S_S4096x3072 := by decide
  bcast_S_S4096x1024 := by decide

/-- A value whose absolute value is less than `+∞` is a real number. -/
theorem real_of_abs (x : EReal)
    (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  have hlt : max x (-x) < ⊤ := by
    by_contra hn
    rw [htop] at h
    simp [Ideal.cmp, hn] at h
  rw [max_lt_iff] at hlt
  refine EReal.coe_toReal hlt.1.ne fun hb => ?_
  rw [hb, EReal.neg_bot] at hlt
  exact lt_irrefl _ hlt.2

/-- An array of real numbers, read off by row and column. -/
theorem exists_re {R C : ℕ} (x : FVec Ideal ⟨2, ![R, C]⟩ .f32)
    (h : ∀ i, Ideal.cmp .olt (max (x i : EReal) (-(x i : EReal))) (Ideal.ofBits .f32 0x7F800000#32) = 1#1) : ∃ A, Re x A := by
  refine ⟨fun r c => if hb : r < R ∧ c < C then EReal.toReal (x (ix2 ⟨r, hb.1⟩ ⟨c, hb.2⟩)) else 0, fun r c => ?_⟩
  beta_reduce
  rw [dif_pos ⟨r.isLt, c.isLt⟩]
  exact (real_of_abs _ (h _)).symm

/-- Both arguments, on any device. -/
theorem args_real (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) :
    (∃ A, Re (a := 4096) (b := 3072) (φ := .f32) (m ((c.tc : Thread Cert.KernelIdeal.nD Cert.KernelIdeal.τ).loc Cert.KernelIdeal.main_arg0)) A)
      ∧ ∃ B, Re (a := 4096) (b := 1024) (φ := .f32) (m ((c.tc : Thread Cert.KernelIdeal.nD Cert.KernelIdeal.τ).loc Cert.KernelIdeal.main_arg1)) B :=
  ⟨exists_re _ fun i => congrFun (h c).1 i, exists_re _ fun i => congrFun (h c).2 i⟩

end Cert.Stick
-- ==== Proof.FwdBlock.lean ====
/-
  What one block of the forward attention computes for one head: 256 query rows against 256 key rows.  The key rows are
  met from the last to the first, so what is carried is what the key rows after the block give.  `M` is the identity below
  the diagonal and the mask of the block on it.
-/
module

public import proofs.«01_k».proof.Proof.Re
public import proofs.«01_k».proof.Proof.Gen.Kernel28Ideal

@[expose] public section

noncomputable section

namespace Cert.Stick

open Finset

variable (q k v : ℕ → ℕ → ℝ)

/-- The attention: the values weighted. -/
def Attn (t d : ℕ) : ℝ := ∑ s ∈ range 4096, W q k t s * v s d

/-- A sum weighted by `1` after a position of a tile of `n`, `0` up to it. -/
theorem sum_after (f : ℕ → ℝ) (n c : ℕ) (h : c < n) :
    ∑ a ∈ range n, f a * (if c < a then 1 else 0) = ∑ a ∈ range n, f a - ∑ a ∈ range (c + 1), f a := by
  rw [← sum_upto f n c h, ← Finset.sum_sub_distrib]
  refine Finset.sum_congr rfl fun a _ => ?_
  by_cases hc : c < a
  · rw [if_pos hc, if_neg (by omega)]; ring
  · rw [if_neg hc, if_pos (by omega)]; ring

/-- Key rows from the query row on give nothing. -/
theorem attn_left {t d n : ℕ} (h : t ≤ n) (hn : n ≤ 4096) : Attn q k v t d - ∑ s ∈ range n, W q k t s * v s d = 0 := by
  refine sub_eq_zero.mpr (Finset.sum_subset (range_mono hn) fun x _ hx => ?_).symm
  rw [W_zero q k (h.trans (Nat.le_of_not_lt fun hh => hx (Finset.mem_range.2 hh))), zero_mul]
theorem tot_left {t n : ℕ} (h : t ≤ n) (hn : n ≤ 4096) : T q k t - ∑ s ∈ range n, L q k t s = 0 := by
  refine sub_eq_zero.mpr (Finset.sum_subset (range_mono hn) fun x _ hx => ?_).symm
  exact L_zero q k (h.trans (Nat.le_of_not_lt fun hh => hx (Finset.mem_range.2 hh)))

end Cert.Stick

namespace Cert.Kernel28Ideal.Gen

open Idealize.ShloMosaic

section Text

variable {F : FTy → Type} [FloatOps F]

/-- The scores. -/
def bZ (q k : FVec F S256x128 .bf16) : FVec F S256x256 .f32 :=
  mulf (matmul dot_S256x128_S256x128_S256x256_1_1_0_0_n_n none q k (constant S256x256 .f32 0x00000000#32))
    (broadcast S256x256 (Scalar.ofBits .f32 0x3DB504F3#32))
/-- `log (1 + e^z)`. -/
def bSp (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))
/-- Its negation. -/
def bNeg (s : FVec F S256x256 .f32) : FVec F S256x256 .f32 :=
  subf (broadcast S256x256 (Scalar.ofBits .f32 0x00000000#32)) s
/-- A product with a matrix of zeros and ones, the left factor split in two. -/
def bSplit (x : FVec F S256x256 .f32) (u : FVec F S256x256 .bf16) : FVec F S256x256 .f32 :=
  addf (matmul dot_S256x256_S256x256_S256x256_1_0_0_1_n_n none (truncf .bf16 x bitsLt_bf16_f32) u (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) u (constant S256x256 .f32 0x00000000#32))

variable (M : FVec F S256x256 .f32 → FVec F S256x256 .f32) (u5 : FVec F S256x256 .bf16)
  (q k v : FVec F S256x128 .bf16) (c1 : FVec F S256x1 .f32) (c0 : FVec F S256x128 .f32)

/-- The weights. -/
def bW : FVec F S256x256 .f32 :=
  M (exp (addf (addf (subf (bZ q k) (bSp (bZ q k))) (bSplit (M (bNeg (bSp (bZ q k)))) u5))
    (broadcastTo S256x256 c1 broadcasts_S256x1_S256x256)))
/-- The sum of the rows of `x`, added to `c`. -/
def bRow (c : FVec F S256x1 .f32) (x : FVec F S256x256 .f32) : FVec F S256x1 .f32 :=
  addf c (shapeCast S256x1 (multiReduction .add [1] S256 x 0x00000000#32 reduces_S256x256_S256 (.inl rfl) rfl) shapeCasts_S256_S256x1)
/-- The two carried values after the block. -/
def bC0 : FVec F S256x128 .f32 :=
  addf c0 (matmul dot_S256x256_S256x128_S256x128_1_0_0_1_n_n none (truncf .bf16 (bW M u5 q k c1) bitsLt_bf16_f32) v
    (constant S256x128 .f32 0x00000000#32))
def bC1 : FVec F S256x1 .f32 := bRow c1 (M (bNeg (bSp (bZ q k))))

end Text

section Values

open Cert.Stick Finset

variable {M : FVec Ideal S256x256 .f32 → FVec Ideal S256x256 .f32} {u5 : FVec Ideal S256x256 .bf16}
  {q k v : FVec Ideal S256x128 .bf16} {c1 : FVec Ideal S256x1 .f32} {c0 : FVec Ideal S256x128 .f32}
  {t0 s0 : ℕ} {Q K V : ℕ → ℕ → ℝ}

theorem re_zero {a b : ℕ} : Re (φ := .f32) (broadcast (⟨2, ![a, b]⟩ : Shape) (Scalar.ofBits (F := Ideal) .f32 0x00000000#32)) (fun _ _ => 0) :=
  Re.splat (Ideal.ofBits_zero_f32.trans EReal.coe_zero.symm)
theorem re_czero {a b : ℕ} : Re (constant (F := Ideal) (⟨2, ![a, b]⟩ : Shape) .f32 0x00000000#32) (fun _ _ => 0) := re_zero
theorem re_one {a b : ℕ} : Re (φ := .f32) (broadcast (⟨2, ![a, b]⟩ : Shape) (Scalar.ofBits (F := Ideal) .f32 0x3F800000#32)) (fun _ _ => 1) :=
  Re.splat (Ideal.ofBits_one_f32.trans EReal.coe_one.symm)
theorem re_scale {a b : ℕ} : Re (φ := .f32) (broadcast (⟨2, ![a, b]⟩ : Shape) (Scalar.ofBits (F := Ideal) .f32 0x3DB504F3#32)) (fun _ _ => scale) :=
  Re.splat ofBits_scale

/-- The operands of a block: query rows from `t0`, key rows from `s0`, and the mask `s < t` of the block. -/
structure Ops (M : FVec Ideal S256x256 .f32 → FVec Ideal S256x256 .f32) (u5 : FVec Ideal S256x256 .bf16)
    (q k v : FVec Ideal S256x128 .bf16) (c0 : FVec Ideal S256x128 .f32) (c1 : FVec Ideal S256x1 .f32) (t0 s0 : ℕ) (Q K V : ℕ → ℕ → ℝ) : Prop where
  mask : ∀ {x f}, Re x f → Re (M x) (fun r c => if s0 + c < t0 + r then f r c else 0)
  after : Re u5 (fun a b => if b < a then 1 else 0)
  q : Re q (fun r d => Q (t0 + r) d)
  k : Re k (fun r d => K (s0 + r) d)
  v : Re v (fun r d => V (s0 + r) d)
  c0 : Re c0 (fun r d => Attn Q K V (t0 + r) d - ∑ s ∈ range (s0 + 256), W Q K (t0 + r) s * V s d)
  c1 : Re c1 (fun r _ => T Q K (t0 + r) - ∑ s ∈ range (s0 + 256), L Q K (t0 + r) s)

theorem re_sp {z : FVec Ideal S256x256 .f32} {f : ℕ → ℕ → ℝ} (h : Re z f) : Re (bSp z) (fun r c => sp (f r c)) :=
  ((h.max re_zero).add ((re_one.add (re_zero.sub h.abs).exp).log fun _ _ => by positivity)).congr fun r c _ _ => sp_eq _

theorem re_neg {z : FVec Ideal S256x256 .f32} {f : ℕ → ℕ → ℝ} (h : Re z f) : Re (bNeg z) (fun r c => -f r c) :=
  (re_zero.sub h).congr fun r c _ _ => zero_sub _

theorem re_split {x : FVec Ideal S256x256 .f32} {u : FVec Ideal S256x256 .bf16} {f g : ℕ → ℕ → ℝ} (h : Re x f) (hu : Re u g) :
    Re (bSplit x u) (fun r c => ∑ d ∈ range 256, f r d * g d c) :=
  (Re.add (Re.dot (h.trunc bitsLt_bf16_f32) hu none re_czero)
    (Re.dot ((h.sub ((h.trunc bitsLt_bf16_f32).ext bitsLt_bf16_f32)).trunc bitsLt_bf16_f32) hu none re_czero)).congr
    fun r c _ _ => by simp

theorem re_row {c : FVec Ideal S256x1 .f32} {x : FVec Ideal S256x256 .f32} {f g : ℕ → ℕ → ℝ} (hc : Re c g) (hx : Re x f) :
    Re (bRow c x) (fun r d => g r d + ∑ e ∈ range 256, f r e) :=
  hc.add (hx.rowSum _ reduces_S256x256_S256 _ _ shapeCasts_S256_S256x1)

variable (o : Ops M u5 q k v c0 c1 t0 s0 Q K V)
include o

theorem Ops.z : Re (bZ q k) (fun r c => Z Q K (t0 + r) (s0 + c)) := (o.q.dotT o.k none re_czero).mul re_scale

theorem Ops.keep : Re (M (bNeg (bSp (bZ q k)))) (fun r c => L Q K (t0 + r) (s0 + c)) := o.mask (re_neg (re_sp o.z))

theorem Ops.w : Re (bW M u5 q k c1) (fun r c => W Q K (t0 + r) (s0 + c)) :=
  (o.mask (((o.z.sub (re_sp o.z)).add (re_split o.keep o.after)).add
    (o.c1.cols broadcasts_S256x1_S256x256 (by decide))).exp).congr fun r c _ hc => by
      have e1 := sum_tile (L Q K (t0 + r)) s0 256
      have e2 := sum_tile (L Q K (t0 + r)) s0 (c + 1)
      rw [← add_assoc] at e2
      rw [sum_after (fun a => L Q K (t0 + r) (s0 + a)) 256 c hc, W, ← e1, ← e2]
      refine congrArg (fun x => if s0 + c < t0 + r then Real.exp x else 0) ?_
      ring

theorem Ops.c0' : Re (bC0 M u5 q k v c1 c0) (fun r d => Attn Q K V (t0 + r) d - ∑ s ∈ range s0, W Q K (t0 + r) s * V s d) :=
  (o.c0.add ((o.w.trunc bitsLt_bf16_f32).dot o.v none re_czero)).congr fun r d _ _ => by
    have e := sum_tile (fun s => W Q K (t0 + r) s * V s d) s0 256
    rw [← e]
    ring

theorem Ops.c1' : Re (bC1 M q k c1) (fun r _ => T Q K (t0 + r) - ∑ s ∈ range s0, L Q K (t0 + r) s) :=
  (re_row o.c1 o.keep).congr fun r _ _ _ => by
    have e := sum_tile (L Q K (t0 + r)) s0 256
    rw [← e]
    ring

end Values

end Cert.Kernel28Ideal.Gen

end
-- ==== Proof.FwdPoint.lean ====
/-
  One grid point of the forward attention: the diagonal block, the loop over the key tiles before it from the last to the
  first, and the pieces the point stores.
-/
module

public import proofs.«01_k».proof.Proof.FwdBlock
public import proofs.«01_k».proof.Proof.Gen.Kernel28Ideal.Frame

@[expose] public section

set_option maxRecDepth 8192
set_option maxHeartbeats 4000000

noncomputable section

namespace Cert.Kernel28Ideal.Gen

open Idealize.ShloMosaic Idealize.ShloMosaic.TcCoe

variable {F : FTy → Type} [FloatOps F]

/-- What is carried for one head: the partial attention and the running row sum. -/
abbrev Pr (F : FTy → Type) : Type := FVec F S256x128 .f32 × FVec F S256x1 .f32
/-- What is carried for the four heads of a group. -/
abbrev Pr4 (F : FTy → Type) : Type := FVec F S256x128 .f32 × FVec F S256x1 .f32 × FVec F S256x128 .f32 × FVec F S256x1 .f32
  × FVec F S256x128 .f32 × FVec F S256x1 .f32 × FVec F S256x128 .f32 × FVec F S256x1 .f32

/-- The four heads' carried values, head by head. -/
def flat (f : Fin 4 → Pr F) : Pr4 F := ((f 0).1, (f 0).2, (f 1).1, (f 1).2, (f 2).1, (f 2).2, (f 3).1, (f 3).2)
/-- One head's part of them. -/
def headOf (t : Pr4 F) : Fin 4 → Pr F
  | 0 => (t.1, t.2.1)
  | 1 => (t.2.2.1, t.2.2.2.1)
  | 2 => (t.2.2.2.2.1, t.2.2.2.2.2.1)
  | 3 => (t.2.2.2.2.2.2.1, t.2.2.2.2.2.2.2)

theorem headOf_flat (f : Fin 4 → Pr F) (u : Fin 4) : headOf (flat f) u = f u := by
  fin_cases u <;> rfl

/-- One block's step of what is carried. -/
def bStep (M : FVec F S256x256 .f32 → FVec F S256x256 .f32) (u5 : FVec F S256x256 .bf16) (q k v : FVec F S256x128 .bf16) (c : Pr F) : Pr F :=
  (bC0 M u5 q k v c.2 c.1, bC1 M q k c.2)

/-- 256 rows and 128 lanes of a block of 4096 rows, as it is loaded and reshaped to itself. -/
abbrev ld128 {e : EltTy} (m : Memref sig .tc .vmem S4096x512 e) (X : BufTy.Contents (Elt F) m.view.ty) (off : Fin 2 → ℕ)
    (h : ∀ a, off a + S256x128.size a ≤ S4096x512.size a) : Vec F S256x128 e :=
  m.view.readAt (Elt F) (Rect.unit (s := S4096x512) off S256x128.size h).toLoadRect X
abbrev lds {e : EltTy} (m : Memref sig .tc .vmem S4096x512 e) (X : BufTy.Contents (Elt F) m.view.ty) (off : Fin 2 → ℕ)
    (h : ∀ a, off a + S256x128.size a ≤ S4096x512.size a) : Vec F S256x128 e :=
  shapeCast S256x128 (ld128 m X off h) shapeCasts_S256x128_S256x128

/-- The queries of the four heads, from the words the loop is given. -/
def four (v8 v10 v12 v14 : FVec F S256x128 .bf16) : Fin 4 → FVec F S256x128 .bf16
  | 0 => v8
  | 1 => v10
  | 2 => v12
  | 3 => v14

/-- Where a trip reads for each head. -/
def offT (i : grid0.Coords) (k : Fin (k0_t1_loop i).trips) : Fin 4 → Fin 2 → ℕ
  | 0 => k0_off5 i k
  | 1 => k0_off6 i k
  | 2 => k0_off7 i k
  | 3 => k0_off8 i k
theorem offT_inb (i : grid0.Coords) (k : Fin (k0_t1_loop i).trips) : ∀ u a, offT i k u a + S256x128.size a ≤ S4096x512.size a
  | 0 => k0_off5_inb i k
  | 1 => k0_off6_inb i k
  | 2 => k0_off7_inb i k
  | 3 => k0_off8_inb i k
theorem offT_0 : ∀ (i : grid0.Coords) (k : Fin (k0_t1_loop i).trips), k0_off5 i k = ![256 * ((i 1).val - 1 - k.val), 0] := by decide +kernel
theorem offT_1 : ∀ (i : grid0.Coords) (k : Fin (k0_t1_loop i).trips), k0_off6 i k = ![256 * ((i 1).val - 1 - k.val), 128] := by decide +kernel
theorem offT_2 : ∀ (i : grid0.Coords) (k : Fin (k0_t1_loop i).trips), k0_off7 i k = ![256 * ((i 1).val - 1 - k.val), 256] := by decide +kernel
theorem offT_3 : ∀ (i : grid0.Coords) (k : Fin (k0_t1_loop i).trips), k0_off8 i k = ![256 * ((i 1).val - 1 - k.val), 384] := by decide +kernel
theorem offT_eq (i : grid0.Coords) (k : Fin (k0_t1_loop i).trips) : ∀ u : Fin 4, offT i k u = ![256 * ((i 1).val - 1 - k.val), 128 * u.val]
  | 0 => offT_0 i k
  | 1 => offT_1 i k
  | 2 => offT_2 i k
  | 3 => offT_3 i k

/-- Where each head's lanes of a 256-row block begin. -/
def offQ : Fin 4 → Fin 2 → ℕ
  | 0 => ![0, 0]
  | 1 => ![0, 128]
  | 2 => ![0, 256]
  | 3 => ![0, 384]
theorem offQ_inb : ∀ u a, offQ u a + S256x128.size a ≤ S256x512.size a := by decide
theorem offQ_eq : ∀ u : Fin 4, offQ u = ![0, 128 * u.val] := by decide

/-- Where the diagonal block of each head begins. -/
def offD (i : grid0.Coords) : Fin 4 → Fin 2 → ℕ
  | 0 => k0_off1 i
  | 1 => k0_off2 i
  | 2 => k0_off3 i
  | 3 => k0_off4 i
theorem offD_inb (i : grid0.Coords) : ∀ u a, offD i u a + S256x128.size a ≤ S4096x512.size a
  | 0 => k0_off1_inb i
  | 1 => k0_off2_inb i
  | 2 => k0_off3_inb i
  | 3 => k0_off4_inb i
theorem offD_eq (i : grid0.Coords) : ∀ u : Fin 4, offD i u = ![256 * (i 1).val, 128 * u.val]
  | 0 => k0_off1_eq i
  | 1 => k0_off2_eq i
  | 2 => k0_off3_eq i
  | 3 => k0_off4_eq i

/-- The loop after the diagonal runs once for each tile before this one; the loop for what is left over never runs. -/
theorem trips1 : ∀ i : grid0.Coords, Scf.trips (k0_t1_loop i).lb (k0_t1_loop i).ub (k0_t1_loop i).st = (i 1).val := by
  decide +kernel
theorem trips2 (i : grid0.Coords) : Scf.trips (k0_t2_loop i).lb (k0_t2_loop i).ub (k0_t2_loop i).st = 0 :=
  Nat.le_zero.mp (k0_t2_abs i).2.1

/-- One head's 128 lanes of a 256-row block. -/
def qv (m : Memref sig .tc .vmem S256x512 .bf16) (h : m.IsWhole) (x : Vec F S256x512 .bf16) (u : Fin 4) : FVec F S256x128 .bf16 :=
  shapeCast S256x128 (m.view.readAt (Elt F) (Rect.unit (s := S256x512) (offQ u) S256x128.size (offQ_inb u)).toLoadRect (h.unread x))
    shapeCasts_S256x128_S256x128
/-- The state before trip `n` of the loop, from `init` before the first. -/
def steps (i : grid0.Coords) (arg3 : Memref sig .tc .vmem S4096x512 .bf16) (arg4 : Memref sig .tc .vmem S4096x512 .bf16)
    (X3 : BufTy.Contents (Elt F) arg3.view.ty) (X4 : BufTy.Contents (Elt F) arg4.view.ty) (u5 : FVec F S256x256 .bf16)
    (q : Fin 4 → FVec F S256x128 .bf16) (init : Pr4 F) : ℕ → Pr4 F
  | 0 => init
  | n + 1 => if h : n < (k0_t1_loop i).trips then
      flat fun u => bStep id u5 (q u) (lds arg3 X3 (offT i ⟨n, h⟩ u) (offT_inb i ⟨n, h⟩ u)) (lds arg4 X4 (offT i ⟨n, h⟩ u) (offT_inb i ⟨n, h⟩ u))
        (headOf (steps i arg3 arg4 X3 X4 u5 q init n) u)
    else steps i arg3 arg4 X3 X4 u5 q init n

section Loops

variable (𝒱 : Variants) (c : Dev nD) (bd : Option 𝒱.V) (i : grid0.Coords) (arg2 : Memref sig .tc .vmem S256x512 .bf16) (harg2 : arg2.IsWhole) (arg3 : Memref sig .tc .vmem S4096x512 .bf16)
  (harg3 : arg3.IsWhole) (arg4 : Memref sig .tc .vmem S4096x512 .bf16) (harg4 : arg4.IsWhole) (arg5 : Memref sig .tc .vmem S256x512 .bf16)
  (harg5 : arg5.IsWhole) (arg6 : Memref sig .tc .vmem S256x512 .f32) (harg6 : arg6.IsWhole)
  (arg1 : BitVec 32) (v5 : FVec F S256x256 .bf16) (v8 v10 v12 v14 : FVec F S256x128 .bf16) (v16 v18 : FVec F S256x1 .f32)
  (v19 : FVec F S256x128 .f32) (v20 : FVec F S256x1 .f32) (v21 : FVec F S256x128 .f32) (v22 : FVec F S256x1 .f32) (v24 : BitVec 32)
  (v92 v96 v100 v104 v158 v160 : FVec F S256x256 .f32) (v166 v172 : FVec F S256x128 .f32)
  (X_arg3 : BufTy.Contents (Elt F) arg3.view.ty) (X_arg4 : BufTy.Contents (Elt F) arg4.view.ty)

/-- What a trip carries on. -/
theorem tripR_eq (k : Fin (k0_t1_loop i).trips) (acc : Pr4 F) :
    tripR_k0_t1 𝒱 c bd i arg2 harg2 arg3 harg3 arg4 harg4 arg5 harg5 arg6 harg6 arg1 v5 v8 v10 v12 v14 v16 v18 v19 v20 v21 v22 v24 v92 v96 v100 v104 v158 v160 v166 v172 X_arg3 X_arg4 k acc
    = flat fun u => bStep id v5 (four v8 v10 v12 v14 u)
        (lds arg3 X_arg3 (offT i k u) (offT_inb i k u)) (lds arg4 X_arg4 (offT i k u) (offT_inb i k u)) (headOf acc u) := by
  unfold tripR_k0_t1 trip_k0_t1
  rfl

/-- The loop's state. -/
theorem st1_eq (init : Pr4 F) (n : ℕ) (hn : n ≤ (k0_t1_loop i).trips) :
    st_k0_t1 𝒱 c bd i arg2 harg2 arg3 harg3 arg4 harg4 arg5 harg5 arg6 harg6 arg1 v5 v8 v10 v12 v14 v16 v18 v19 v20 v21 v22 v24 v92 v96 v100 v104 v158 v160 v166 v172 X_arg3 X_arg4 init n
    = steps i arg3 arg4 X_arg3 X_arg4 v5 (four v8 v10 v12 v14) init n := by
  induction n with
  | zero => rfl
  | succ n ih =>
    have hk : n < (k0_t1_loop i).trips := hn
    have e := st_k0_t1_succ 𝒱 c bd i arg2 harg2 arg3 harg3 arg4 harg4 arg5 harg5 arg6 harg6 arg1 v5 v8 v10 v12 v14 v16 v18 v19 v20 v21 v22 v24 v92 v96 v100 v104 v158 v160 v166 v172 X_arg3 X_arg4 init ⟨n, hk⟩
    refine e.trans ?_
    rw [tripR_eq, steps, dif_pos hk, ih hk.le]

/-- The loop for what is left over leaves its state as it was. -/
theorem st2_zero (v201 : BitVec 32) (init : Pr4 F) (n : ℕ) (h : n = 0) :
    st_k0_t2 𝒱 c bd i arg2 harg2 arg3 harg3 arg4 harg4 arg5 harg5 arg6 harg6 arg1 v5 v8 v10 v12 v14 v16 v18 v19 v20 v21 v22 v24 v92 v96 v100 v104 v158 v160 v166 v172 v201 X_arg3 X_arg4 init n = init := by
  subst h
  rfl

end Loops

/-- What the diagonal block masks. -/
def dmask (x : FVec F S256x256 .f32) : FVec F S256x256 .f32 := select k0_pay49 x (broadcast S256x256 (Scalar.ofBits .f32 0x00000000#32))

/-- One head's key rows and value rows of the diagonal. -/
def kd (i : grid0.Coords) (m : Memref sig .tc .vmem S4096x512 .bf16) (h : m.IsWhole) (x : Vec F S4096x512 .bf16) (u : Fin 4) : FVec F S256x128 .bf16 :=
  lds m (h.unread x) (offD i u) (offD_inb i u)

/-- The zeros before the diagonal block. -/
def zero2 : Pr F := (k0_pay54, k0_pay55)

section Point

variable (c : Dev nD) (i : grid0.Coords) (arg2 : Memref sig .tc .vmem S256x512 .bf16) (harg2 : arg2.IsWhole) (arg3 : Memref sig .tc .vmem S4096x512 .bf16)
  (harg3 : arg3.IsWhole) (arg4 : Memref sig .tc .vmem S4096x512 .bf16) (harg4 : arg4.IsWhole) (arg5 : Memref sig .tc .vmem S256x512 .bf16)
  (harg5 : arg5.IsWhole) (arg6 : Memref sig .tc .vmem S256x512 .f32) (harg6 : arg6.IsWhole)
  (x0 : Vec F S256x512 .bf16) (x1 : Vec F S4096x512 .bf16) (x2 : Vec F S4096x512 .bf16)

/-- The carried values after the diagonal block. -/
def diag : Pr4 F := flat fun u => bStep dmask k0_pay48 (qv arg2 harg2 x0 u) (kd i arg3 harg3 x1 u) (kd i arg4 harg4 x2 u) zero2

/-- The carried values after the loop. -/
def fin1 : Pr4 F :=
  steps i arg3 arg4 (harg3.unread x1) (harg4.unread x2) k0_pay48
    (four (qv arg2 harg2 x0 0) (qv arg2 harg2 x0 1) (qv arg2 harg2 x0 2) (qv arg2 harg2 x0 3)) (diag i arg2 harg2 arg3 harg3 arg4 harg4 x0 x1 x2) (i 1).val

/-- The attention's pieces, and the sums'. -/
def ys (R : Pr4 F) : List (View.Piece (Elt F) S256x512 .bf16) :=
  [3, 2, 1, 0].map fun u => ⟨Rect.unit (s := S256x512) (offQ u) S256x128.size (offQ_inb u), truncf .bf16 (headOf R u).1 bitsLt_bf16_f32⟩
def ts (R : Pr4 F) : List (View.Piece (Elt F) S256x512 .f32) :=
  [3, 2, 1, 0].map fun u => ⟨Rect.unit (s := S256x512) (offQ u) S256x128.size (offQ_inb u),
    broadcastTo S256x128 (shapeCast S256x1 (headOf R u).2 shapeCasts_S256x1_S256x1) broadcasts_S256x1_S256x128⟩

theorem run_y : (kernelRun0_A c i arg2 harg2 arg3 harg3 arg4 harg4 arg5 harg5 arg6 harg6 x0 x1 x2).1 = ys (fin1 i arg2 harg2 arg3 harg3 arg4 harg4 x0 x1 x2) := by
  unfold kernelRun0_A
  show List.cons _ _ = List.cons _ _
  unfold kernelRun0_A.sl.r_25 kernelRun0_A.sl.r_27
  rw [st2_zero (h := trips2 i), trips1, st1_eq (hn := (trips1 i).ge)]
  rfl

theorem run_t : (kernelRun0_A c i arg2 harg2 arg3 harg3 arg4 harg4 arg5 harg5 arg6 harg6 x0 x1 x2).2.1 = ts (fin1 i arg2 harg2 arg3 harg3 arg4 harg4 x0 x1 x2) := by
  unfold kernelRun0_A
  show List.cons _ _ = List.cons _ _
  unfold kernelRun0_A.sl.r_26 kernelRun0_A.sl.r_28 kernelRun0_A.sl.r_29
  rw [st2_zero (h := trips2 i), trips1, st1_eq (hn := (trips1 i).ge)]
  rfl

end Point

end Cert.Kernel28Ideal.Gen

end
-- ==== Proof.FwdLoop.lean ====
/-
  What one grid point of the forward attention computes, over the real numbers: once its queries have met the keys from `S` on,
  the carried values are the attention and the row sum without the terms of the keys before `S`.
-/
module

public import proofs.«01_k».proof.Proof.FwdPoint
public import Idealize.ShloMosaic.Lib.WordCmp
public import Idealize.ShloMosaic.Lib.VecWindow
public import Idealize.ShloMosaic.Lib.WritesUnit
public import Idealize.ShloMosaic.Lib.WholeRead

@[expose] public section

set_option maxRecDepth 8192

noncomputable section

namespace Cert.Kernel28Ideal.Gen

open Finset Idealize.ShloMosaic Idealize.ShloMosaic.ValueIdx Idealize.ShloMosaic.TcCoe Cert.Stick

/-- Lane `d` of head `u`. -/
def lane (u : Fin 4) (d : Fin 128) : Fin 512 := ⟨128 * u.val + d.val, by omega⟩

theorem lane_surj (c : Fin 512) : ∃ u d, c = lane u d :=
  ⟨⟨c.val / 128, by omega⟩, ⟨c.val % 128, by omega⟩, Fin.ext (by show c.val = 128 * (c.val / 128) + c.val % 128; omega)⟩

/-- The block `x` of `a` rows holds, head by head, the reals `f`. -/
def Hd {a : ℕ} {φ : FTy} (x : FVec Ideal ⟨2, ![a, 512]⟩ φ) (f : Fin 4 → ℕ → ℕ → ℝ) : Prop :=
  ∀ (u : Fin 4) (r : Fin a) (d : Fin 128), x (ix2 r (lane u d)) = ((f u r d : ℝ) : EReal)

theorem Hd.congr {a : ℕ} {φ : FTy} {x : FVec Ideal ⟨2, ![a, 512]⟩ φ} {f g : Fin 4 → ℕ → ℕ → ℝ} (h : Hd x f)
    (e : ∀ u r d, r < a → d < 128 → f u r d = g u r d) : Hd x g := fun u r d => by
  rw [h, e u r d r.isLt d.isLt]

variable {κ : Kind} {sp : Space} {φ : FTy} {e : EltTy} {a n w : ℕ}

/-- A window of a block, entry by entry. -/
theorem readAt_ix2 {F : FTy → Type} (m : View sig κ sp ⟨2, ![a, w]⟩ e) (X : BufTy.Contents (Elt F) m.ty) {off : Fin 2 → ℕ} {o p b l : ℕ}
    (inb : ∀ x, off x + (![b, l] : Fin 2 → ℕ) x ≤ (![a, w] : Fin 2 → ℕ) x) (heq : off = ![o, p]) (r : Fin b) (d : Fin l)
    (r' : Fin a) (c : Fin w) (hr : r'.val = o + r.val) (hc : c.val = p + d.val) :
    m.readAt (Elt F) (Rect.unit (s := ⟨2, ![a, w]⟩) off ![b, l] inb).toLoadRect X (ix2 r d) = m.read (Elt F) X (ix2 r' c) := by
  subst heq
  show m.read (Elt F) X ((Rect.unit (s := ⟨2, ![a, w]⟩) ![o, p] ![b, l] inb).emb (ix2 r d)) = _
  congr 1
  funext x
  refine Fin.ext ?_
  show (![o, p] : Fin 2 → ℕ) x + 1 * (ix2 r d x).val = _
  match x with
  | 0 => show o + 1 * r.val = r'.val; omega
  | 1 => show p + 1 * d.val = c.val; omega

theorem rows_le {off : Fin 2 → ℕ} {o p b l : ℕ} (inb : ∀ x, off x + (![b, l] : Fin 2 → ℕ) x ≤ (![a, w] : Fin 2 → ℕ) x)
    (heq : off = ![o, p]) (r : Fin b) : o + r.val < a := by
  have : o + b ≤ a := by have := inb 0; rw [heq] at this; exact this
  omega

/-- 256 rows of one head of a block of 16-bit entries. -/
theorem Hd.ldb {m : View sig κ sp ⟨2, ![a, 512]⟩ .bf16} {X : BufTy.Contents (Elt Ideal) m.ty} {f : Fin 4 → ℕ → ℕ → ℝ}
    (h : Hd (φ := .bf16) (m.read (Elt Ideal) X) f) {off : Fin 2 → ℕ} {o : ℕ} {u : Fin 4}
    (inb : ∀ x, off x + (![256, 128] : Fin 2 → ℕ) x ≤ (![a, 512] : Fin 2 → ℕ) x) (heq : off = ![o, 128 * u.val]) :
    Re (φ := .bf16) (m.readAt (Elt Ideal) (Rect.unit (s := ⟨2, ![a, 512]⟩) off ![256, 128] inb).toLoadRect X) (fun r d => f u (o + r) d) :=
  fun r d => (readAt_ix2 m X inb heq r d ⟨o + r.val, rows_le inb heq r⟩ (lane u d) rfl rfl).trans (h u _ d)

theorem headOf_flat' (f : Fin 4 → Pr Ideal) (u : Fin 4) : headOf (flat f) u = f u := by
  fin_cases u <;> rfl

/-- The triangle the sums are taken with, and the causal mask. -/
theorem bit_real (p : Prop) [Decidable p] :
    ((((BitVec.ofBool (decide p)).setWidth 32).toInt : ℝ) : EReal) = (((if p then 1 else 0 : ℝ)) : EReal) := by
  by_cases h : p <;> simp [h]
theorem re_after : Re (φ := .bf16) (k0_pay48 (F := Ideal)) (fun a b => if b < a then 1 else 0) := fun r c => by
  refine Eq.trans ?_ (bit_real (c.val < r.val))
  show ((((IntOp.cmpi .sgt (iota .tc S256x256 32 [0] _ (ix2 r c)) (iota .tc S256x256 32 [1] _ (ix2 r c))).setWidth 32).toInt : ℝ) : EReal) = _
  rw [show IntOp.cmpi .sgt (iota .tc S256x256 32 [0] _ (ix2 r c)) (iota .tc S256x256 32 [1] _ (ix2 r c)) = _ from
    WordCmp.cmpi_sgt_ofNat (a := 0 * 256 + r.val) (b := 0 * 256 + c.val) (by omega) (by omega)]
  simp only [Nat.zero_mul, Nat.zero_add]
theorem causal (r c : Fin 256) : k0_pay49 (ix2 r c) = if c.val < r.val then 1#1 else 0#1 := by
  show IntOp.cmpi .slt (iota .tc S256x256 32 [1] _ (ix2 r c)) (iota .tc S256x256 32 [0] _ (ix2 r c)) = _
  rw [show IntOp.cmpi .slt (iota .tc S256x256 32 [1] _ (ix2 r c)) (iota .tc S256x256 32 [0] _ (ix2 r c)) = _ from
    WordCmp.cmpi_slt_ofNat (a := 0 * 256 + c.val) (b := 0 * 256 + r.val) (by omega) (by omega)]
  simp only [Nat.zero_mul, Nat.zero_add]
  by_cases h : c.val < r.val <;> simp [h]

/-- The diagonal block's mask keeps the keys before the query. -/
theorem re_dmask {x : FVec Ideal S256x256 .f32} {f : ℕ → ℕ → ℝ} (t0 : ℕ) (h : Re x f) :
    Re (dmask x) (fun r c => if t0 + c < t0 + r then f r c else 0) :=
  (Re.select (p := fun r c => c < r) causal h re_zero).congr fun r c _ _ => by simp only [Nat.add_lt_add_iff_left]

variable (q k v : Fin 4 → ℕ → ℕ → ℝ)

/-- What is carried once the queries from `t0` have met the keys from `S` on. -/
structure Inv (t0 S : ℕ) (R : Pr4 Ideal) : Prop where
  c0 : ∀ u, Re (headOf R u).1 (fun r d => Attn (q u) (k u) (v u) (t0 + r) d - ∑ s ∈ range S, W (q u) (k u) (t0 + r) s * v u s d)
  c1 : ∀ u, Re (headOf R u).2 (fun r _ => T (q u) (k u) (t0 + r) - ∑ s ∈ range S, L (q u) (k u) (t0 + r) s)

variable {q k v}

/-- One block: 256 more keys. -/
theorem Inv.step {M : FVec Ideal S256x256 .f32 → FVec Ideal S256x256 .f32} {u5 : FVec Ideal S256x256 .bf16}
    {h K V : Fin 4 → FVec Ideal S256x128 .bf16} {R : Fin 4 → Pr Ideal} {t0 S : ℕ}
    (o : ∀ u, Ops M u5 (h u) (K u) (V u) (R u).1 (R u).2 t0 S (q u) (k u) (v u)) :
    Inv q k v t0 S (flat fun u => bStep M u5 (h u) (K u) (V u) (R u)) where
  c0 u := by rw [headOf_flat']; exact (o u).c0'
  c1 u := by rw [headOf_flat']; exact (o u).c1'

/-- What the blocks of a point hold: its queries, and every key and value. -/
structure Blocks (q k v : Fin 4 → ℕ → ℕ → ℝ) (t0 : ℕ) (x0 : Vec Ideal S256x512 .bf16) (x1 x2 : Vec Ideal S4096x512 .bf16) : Prop where
  q : Hd (φ := .bf16) x0 (fun u r d => q u (t0 + r) d)
  k : Hd (φ := .bf16) x1 k
  v : Hd (φ := .bf16) x2 v

variable {c : Dev nD} {i : grid0.Coords} {arg2 : Memref sig .tc .vmem S256x512 .bf16} {harg2 : arg2.IsWhole} {arg3 : Memref sig .tc .vmem S4096x512 .bf16}
  {harg3 : arg3.IsWhole} {arg4 : Memref sig .tc .vmem S4096x512 .bf16} {harg4 : arg4.IsWhole} {arg5 : Memref sig .tc .vmem S256x512 .bf16}
  {harg5 : arg5.IsWhole} {arg6 : Memref sig .tc .vmem S256x512 .f32} {harg6 : arg6.IsWhole}
  {x0 : Vec Ideal S256x512 .bf16} {x1 : Vec Ideal S4096x512 .bf16} {x2 : Vec Ideal S4096x512 .bf16}

theorem re_rows {t0 : ℕ} (b : Blocks q k v t0 x0 x1 x2) (u : Fin 4) : Re (qv arg2 harg2 x0 u) (fun r d => q u (t0 + r) d) := by
  have hq : Hd (φ := .bf16) (arg2.view.read (Elt Ideal) (harg2.unread x0)) (fun u r d => q u (t0 + r) d) := by
    rw [harg2.read_unread]; exact b.q
  exact ((hq.ldb (offQ_inb u) (offQ_eq u)).congr fun r d _ _ => by rw [Nat.zero_add]).cast _

theorem re_keys {x : Vec Ideal S4096x512 .bf16} {f : Fin 4 → ℕ → ℕ → ℝ} (h : Hd (φ := .bf16) x f)
    {m : Memref sig .tc .vmem S4096x512 .bf16} (hm : m.IsWhole) {off : Fin 2 → ℕ} {S : ℕ} {u : Fin 4}
    (inb : ∀ a, off a + S256x128.size a ≤ S4096x512.size a) (heq : off = ![S, 128 * u.val]) :
    Re (φ := .bf16) (lds m (hm.unread x) off inb) (fun r d => f u (S + r) d) := by
  have h' : Hd (φ := .bf16) (m.view.read (Elt Ideal) (hm.unread x)) f := by rw [hm.read_unread]; exact h
  exact (h'.ldb inb heq).cast _

/-- The four heads' rows, head by head. -/
theorem four_eq (u : Fin 4) : four (qv arg2 harg2 x0 0) (qv arg2 harg2 x0 1) (qv arg2 harg2 x0 2) (qv arg2 harg2 x0 3) u = qv arg2 harg2 x0 u := by
  fin_cases u <;> rfl

/-- The diagonal block. -/
theorem inv_diag (b : Blocks q k v (256 * (i 1).val) x0 x1 x2) :
    Inv q k v (256 * (i 1).val) (256 * (i 1).val) (diag i arg2 harg2 arg3 harg3 arg4 harg4 x0 x1 x2) := by
  have hi : (i 1).val < 16 := (i 1).isLt
  have z0 : Re (k0_pay54 (F := Ideal)) (fun _ _ => 0) := re_zero
  have z1 : Re (k0_pay55 (F := Ideal)) (fun _ _ => 0) := re_zero
  exact Inv.step fun u =>
    { mask := re_dmask _
      after := re_after
      q := re_rows b u
      k := re_keys b.k harg3 (offD_inb i u) (offD_eq i u)
      v := re_keys b.v harg4 (offD_inb i u) (offD_eq i u)
      c0 := z0.congr fun r d hr _ => (attn_left (q u) (k u) (v u) (by omega) (by omega)).symm
      c1 := z1.congr fun r d hr _ => (tot_left (q u) (k u) (by omega) (by omega)).symm }

/-- The loop: after trip `n` the queries have met the keys from `256 (i - n)` on. -/
theorem inv_steps (b : Blocks q k v (256 * (i 1).val) x0 x1 x2) (n : ℕ) (hn : n ≤ (i 1).val) :
    Inv q k v (256 * (i 1).val) (256 * ((i 1).val - n)) (steps i arg3 arg4 (harg3.unread x1) (harg4.unread x2) k0_pay48
      (four (qv arg2 harg2 x0 0) (qv arg2 harg2 x0 1) (qv arg2 harg2 x0 2) (qv arg2 harg2 x0 3)) (diag i arg2 harg2 arg3 harg3 arg4 harg4 x0 x1 x2) n) := by
  induction n with
  | zero => exact inv_diag b
  | succ n ih =>
    have hk : n < (k0_t1_loop i).trips := by rw [show (k0_t1_loop i).trips = _ from trips1 i]; omega
    have n0 := ih (by omega)
    rw [steps, dif_pos hk]
    have e : 256 * ((i 1).val - n) = 256 * ((i 1).val - (n + 1)) + 256 := by omega
    have e' : (i 1).val - 1 - n = (i 1).val - (n + 1) := by omega
    have eo (u : Fin 4) : offT i ⟨n, hk⟩ u = ![256 * ((i 1).val - (n + 1)), 128 * u.val] := by
      rw [offT_eq]; show ![256 * ((i 1).val - 1 - n), 128 * u.val] = _; rw [e']
    rw [e] at n0
    exact Inv.step fun u =>
      { mask := fun {x f} h => h.congr fun r c hr hc => by rw [if_pos]; omega
        after := re_after
        q := by rw [four_eq]; exact re_rows b u
        k := re_keys b.k harg3 (offT_inb i ⟨n, hk⟩ u) (eo u)
        v := re_keys b.v harg4 (offT_inb i ⟨n, hk⟩ u) (eo u)
        c0 := n0.c0 u
        c1 := n0.c1 u }

/-- What is carried at the end: the attention and the row sums. -/
theorem re_fin (b : Blocks q k v (256 * (i 1).val) x0 x1 x2) (u : Fin 4) :
    Re (headOf (fin1 i arg2 harg2 arg3 harg3 arg4 harg4 x0 x1 x2) u).1 (fun r d => Attn (q u) (k u) (v u) (256 * (i 1).val + r) d)
      ∧ Re (headOf (fin1 i arg2 harg2 arg3 harg3 arg4 harg4 x0 x1 x2) u).2 (fun r _ => T (q u) (k u) (256 * (i 1).val + r)) := by
  have h := inv_steps (arg2 := arg2) (harg2 := harg2) (arg3 := arg3) (harg3 := harg3) (arg4 := arg4) (harg4 := harg4) b (i 1).val le_rfl
  rw [Nat.sub_self, Nat.mul_zero] at h
  exact ⟨(h.c0 u).congr fun r d _ _ => by rw [range_zero, sum_empty, sub_zero], (h.c1 u).congr fun r d _ _ => by rw [range_zero, sum_empty, sub_zero]⟩

/-- The block of the attention after the point. -/
theorem re_ys (b : Blocks q k v (256 * (i 1).val) x0 x1 x2) {m : View sig .tc .vmem S256x512 .bf16} {B : BufTy.Contents (Elt Ideal) m.ty} :
    Hd (φ := .bf16) (m.read (Elt Ideal) (m.writes (Elt Ideal) B (ys (fin1 i arg2 harg2 arg3 harg3 arg4 harg4 x0 x1 x2))))
      (fun u r d => Attn (q u) (k u) (v u) (256 * (i 1).val + r) d) := by
  intro u r d
  have hv := ((re_fin (arg2 := arg2) (harg2 := harg2) (arg3 := arg3) (harg3 := harg3) (arg4 := arg4) (harg4 := harg4) b u).1.trunc bitsLt_bf16_f32) r d
  refine Eq.trans ?_ hv
  have hit (u' : Fin 4) (p : FVec Ideal S256x128 .bf16) (Ls : List (View.Piece (Elt Ideal) S256x512 .bf16)) (h : u' = u) :
      m.read (Elt Ideal) (m.writes (Elt Ideal) B (⟨Rect.unit (s := S256x512) (offQ u') S256x128.size (offQ_inb u'), p⟩ :: Ls)) (ix2 r (lane u d))
        = p (ix2 r d) :=
    View.read_writes_cons_unit_of_mem m B (offQ_inb u') p Ls _ (ix2 r d) (offQ_eq u') fun x => by
      subst h
      match x with
      | 0 => show r.val = 0 + r.val; omega
      | 1 => show 128 * u'.val + d.val = 128 * u'.val + d.val; rfl
  have miss (u' : Fin 4) (p : FVec Ideal S256x128 .bf16) (Ls : List (View.Piece (Elt Ideal) S256x512 .bf16)) (h : u' ≠ u) :
      m.read (Elt Ideal) (m.writes (Elt Ideal) B (⟨Rect.unit (s := S256x512) (offQ u') S256x128.size (offQ_inb u'), p⟩ :: Ls)) (ix2 r (lane u d))
        = m.read (Elt Ideal) (m.writes (Elt Ideal) B Ls) (ix2 r (lane u d)) :=
    View.read_writes_cons_unit_of_not_mem m B (offQ_inb u') p Ls _ (offQ_eq u') 1 (by
      show 128 * u.val + d.val < 128 * u'.val ∨ 128 * u'.val + 128 ≤ 128 * u.val + d.val
      have h2 : u'.val ≠ u.val := fun e => h (Fin.ext e)
      omega)
  show m.read (Elt Ideal) (m.writes (Elt Ideal) B (_ :: _ :: _ :: _ :: [])) _ = _
  by_cases h3 : 3 = u
  · subst h3; exact hit 3 _ _ rfl
  rw [miss 3 _ _ h3]
  by_cases h2 : 2 = u
  · subst h2; exact hit 2 _ _ rfl
  rw [miss 2 _ _ h2]
  by_cases h1 : 1 = u
  · subst h1; exact hit 1 _ _ rfl
  rw [miss 1 _ _ h1]
  by_cases h0 : 0 = u
  · subst h0; exact hit 0 _ _ rfl
  exfalso
  omega

/-- The block of the row sums after the point. -/
theorem re_ts (b : Blocks q k v (256 * (i 1).val) x0 x1 x2) {m : View sig .tc .vmem S256x512 .f32} {B : BufTy.Contents (Elt Ideal) m.ty} :
    Hd (φ := .f32) (m.read (Elt Ideal) (m.writes (Elt Ideal) B (ts (fin1 i arg2 harg2 arg3 harg3 arg4 harg4 x0 x1 x2))))
      (fun u r d => Stick.T (q u) (k u) (256 * (i 1).val + r)) := by
  intro u r d
  have hv := (((re_fin (arg2 := arg2) (harg2 := harg2) (arg3 := arg3) (harg3 := harg3) (arg4 := arg4) (harg4 := harg4) b u).2.cast shapeCasts_S256x1_S256x1).cols broadcasts_S256x1_S256x128 (by decide)) r d
  refine Eq.trans ?_ hv
  have hit (u' : Fin 4) (p : FVec Ideal S256x128 .f32) (Ls : List (View.Piece (Elt Ideal) S256x512 .f32)) (h : u' = u) :
      m.read (Elt Ideal) (m.writes (Elt Ideal) B (⟨Rect.unit (s := S256x512) (offQ u') S256x128.size (offQ_inb u'), p⟩ :: Ls)) (ix2 r (lane u d))
        = p (ix2 r d) :=
    View.read_writes_cons_unit_of_mem m B (offQ_inb u') p Ls _ (ix2 r d) (offQ_eq u') fun x => by
      subst h
      match x with
      | 0 => show r.val = 0 + r.val; omega
      | 1 => show 128 * u'.val + d.val = 128 * u'.val + d.val; rfl
  have miss (u' : Fin 4) (p : FVec Ideal S256x128 .f32) (Ls : List (View.Piece (Elt Ideal) S256x512 .f32)) (h : u' ≠ u) :
      m.read (Elt Ideal) (m.writes (Elt Ideal) B (⟨Rect.unit (s := S256x512) (offQ u') S256x128.size (offQ_inb u'), p⟩ :: Ls)) (ix2 r (lane u d))
        = m.read (Elt Ideal) (m.writes (Elt Ideal) B Ls) (ix2 r (lane u d)) :=
    View.read_writes_cons_unit_of_not_mem m B (offQ_inb u') p Ls _ (offQ_eq u') 1 (by
      show 128 * u.val + d.val < 128 * u'.val ∨ 128 * u'.val + 128 ≤ 128 * u.val + d.val
      have h2 : u'.val ≠ u.val := fun e => h (Fin.ext e)
      omega)
  show m.read (Elt Ideal) (m.writes (Elt Ideal) B (_ :: _ :: _ :: _ :: [])) _ = _
  by_cases h3 : 3 = u
  · subst h3; exact hit 3 _ _ rfl
  rw [miss 3 _ _ h3]
  by_cases h2 : 2 = u
  · subst h2; exact hit 2 _ _ rfl
  rw [miss 2 _ _ h2]
  by_cases h1 : 1 = u
  · subst h1; exact hit 1 _ _ rfl
  rw [miss 1 _ _ h1]
  by_cases h0 : 0 = u
  · subst h0; exact hit 0 _ _ rfl
  exfalso
  omega

/-- What the point leaves in its two output blocks. -/
theorem out_y (b : Blocks q k v (256 * (i 1).val) x0 x1 x2) :
    Hd (φ := .bf16) (out0_A_3 c i arg2 harg2 arg3 harg3 arg4 harg4 arg5 harg5 arg6 harg6 x0 x1 x2)
      (fun u r d => Attn (q u) (k u) (v u) (256 * (i 1).val + r) d) := by
  unfold out0_A_3
  rw [run_y]
  exact re_ys b
theorem out_t (b : Blocks q k v (256 * (i 1).val) x0 x1 x2) :
    Hd (φ := .f32) (out0_A_4 c i arg2 harg2 arg3 harg3 arg4 harg4 arg5 harg5 arg6 harg6 x0 x1 x2)
      (fun u r d => Stick.T (q u) (k u) (256 * (i 1).val + r)) := by
  unfold out0_A_4
  rw [run_t]
  exact re_ts b

end Cert.Kernel28Ideal.Gen

end
-- ==== Proof.FwdRef.lean ====
/-
  What the forward reference computes at a finite argument: each of its arrays at an index, and so its two results.
-/
module

public import proofs.«01_k».proof.Proof.RefGrad
public import proofs.«01_k».proof.Proof.FwdBlock
public import proofs.«01_k».proof.Proof.Gen.Reference28Ideal.Read

@[expose] public section

noncomputable section

namespace Cert.Stick.FwdRef

open Finset Idealize.ShloMosaic Idealize.ShloMosaic.ValueIdx Cert.Reference28Ideal Cert.Reference28Ideal.Gen Cert.Reference28Ideal.Read
open Cert.Stick.Ref (Qh Kh Xh sum_mul choose zero_bits neg_coe mul_coe add_coe place)

variable {x0 : FVec Ideal S4096x3072 .f32} {A : ℕ → ℕ → ℝ}

theorem v4 (hA : Re x0 A) (i : S8x4096x128.Idx) : val_main_v4 (F := Ideal) x0 i = ((Qh A (i 0).val (i 1).val (i 2).val : ℝ) : EReal) := by
  rw [val_main_v4_apply, val_main_v3_apply, val_main_v0_apply]
  exact read_head hA 0 (i 1).val (i 0).val (i 2).val (i 0).isLt (i 2).isLt _ rfl (Nat.zero_add _).symm

theorem v6 (hA : Re x0 A) (i : S8x4096x128.Idx) : val_main_v6 (F := Ideal) x0 i = ((Kh A (i 0).val (i 1).val (i 2).val : ℝ) : EReal) := by
  rw [val_main_v6_apply, val_main_v5_apply, val_main_v1_apply]
  exact read_head hA 1024 (i 1).val (i 0).val (i 2).val (i 0).isLt (i 2).isLt _ rfl rfl

theorem v8 (hA : Re x0 A) (i : S8x4096x128.Idx) : val_main_v8 (F := Ideal) x0 i = ((Xh A (i 0).val (i 1).val (i 2).val : ℝ) : EReal) := by
  rw [val_main_v8_apply, val_main_v7_apply, val_main_v2_apply]
  exact read_head hA 2048 (i 1).val (i 0).val (i 2).val (i 0).isLt (i 2).isLt _ rfl rfl

/-- The scaled scores. -/
theorem v11 (hA : Re x0 A) (i : S8x4096x4096.Idx) :
    val_main_v11 (F := Ideal) x0 i = ((Z (Qh A (i 0).val) (Kh A (i 0).val) (i 1).val (i 2).val : ℝ) : EReal) := by
  rw [val_main_v11_apply, val_main_v9_apply, val_main_v10_apply, val_main_cst_apply]
  refine Eq.trans (congrArg₂ (fun a b : EReal => a * b) (sum_mul (f := Qh A (i 0).val (i 1).val) (g := Kh A (i 0).val (i 2).val) (fun k => v4 hA _) (fun k => v6 hA _)) ofBits_scale) ?_
  rw [← EReal.coe_mul]
  rfl

/-- The mask: a key row before the query row. -/
theorem v18 (i : S4096x4096.Idx) : val_main_v18 (F := Ideal) i = if (i 1).val < (i 0).val then 1#1 else 0#1 := by
  rw [val_main_v18_apply, val_main_v16_apply, val_main_v13_apply, val_main_v12_apply, val_main_v17_apply, val_main_v15_apply, val_main_v14_apply]
  have h0 : (i 0).val < 4096 := (i 0).isLt
  have h1 : (i 1).val < 4096 := (i 1).isLt
  refine (WordCmp.cmpi_slt_ofNat (a := (i 1).val) (b := (i 0).val) (by omega) (by omega)).trans ?_
  by_cases h : (i 1).val < (i 0).val <;> simp [h]

theorem mask (i : S8x4096x4096.Idx) : val_main_call1_v1 (F := Ideal) i = if (i 2).val < (i 1).val then 1#1 else 0#1 := by
  rw [val_main_call1_v1_apply]; exact v18 _

theorem mask' (i : S8x4096x4096.Idx) : val_main_call4_v1 (F := Ideal) i = if (i 2).val < (i 1).val then 1#1 else 0#1 := by
  rw [val_main_call4_v1_apply]; exact v18 _

/-- `log (1 + e^z)` of the scores, from their double negation. -/
theorem soft_pos (hA : Re x0 A) (i : S8x4096x4096.Idx) :
    val_main_call0_v0 (F := Ideal) x0 i = ((Z (Qh A (i 0).val) (Kh A (i 0).val) (i 1).val (i 2).val : ℝ) : EReal) := by
  rw [val_main_call0_v0_apply, val_main_v19_apply, v11 hA]
  exact neg_neg _

theorem soft_neg (hA : Re x0 A) (i : S8x4096x4096.Idx) :
    val_main_call3_v0 (F := Ideal) x0 i = ((-Z (Qh A (i 0).val) (Kh A (i 0).val) (i 1).val (i 2).val : ℝ) : EReal) := by
  rw [val_main_call3_v0_apply, v11 hA]
  exact (EReal.coe_neg _).symm

theorem sp_pos (hA : Re x0 A) (i : S8x4096x4096.Idx) :
    val_main_call0_v1 (F := Ideal) x0 i = ((sp (Z (Qh A (i 0).val) (Kh A (i 0).val) (i 1).val (i 2).val) : ℝ) : EReal) := by
  have e : val_main_call0_v1 (F := Ideal) x0 i = soft (FloatOps.ofBits .f32 0x00000000#32) (val_main_call0_v0 (F := Ideal) x0 i) := by
    rw [val_main_call0_v1_apply, val_main_call0_call0_v4_apply, val_main_call0_call0_v6_apply, val_main_call0_call0_v11_apply,
      val_main_call0_call0_v10_apply, val_main_call0_call0_v9_apply, val_main_call0_call0_v8_apply, val_main_call0_call0_v7_apply,
      val_main_call0_call0_v1_apply, val_main_call0_call0_v3_apply, val_main_call0_call0_v0_apply, val_main_call0_call0_v2_apply,
      val_main_call0_call0_v5_apply, val_main_call0_call0_cst_apply]
    rfl
  rw [e, zero_bits, soft_pos hA]
  exact soft_coe _

theorem sp_minus (hA : Re x0 A) (i : S8x4096x4096.Idx) :
    val_main_call3_v1 (F := Ideal) x0 i = ((sp (-Z (Qh A (i 0).val) (Kh A (i 0).val) (i 1).val (i 2).val) : ℝ) : EReal) := by
  have e : val_main_call3_v1 (F := Ideal) x0 i = soft (FloatOps.ofBits .f32 0x00000000#32) (val_main_call3_v0 (F := Ideal) x0 i) := by
    rw [val_main_call3_v1_apply, val_main_call3_call0_v4_apply, val_main_call3_call0_v6_apply, val_main_call3_call0_v11_apply,
      val_main_call3_call0_v10_apply, val_main_call3_call0_v9_apply, val_main_call3_call0_v8_apply, val_main_call3_call0_v7_apply,
      val_main_call3_call0_v1_apply, val_main_call3_call0_v3_apply, val_main_call3_call0_v0_apply, val_main_call3_call0_v2_apply,
      val_main_call3_call0_v5_apply, val_main_call3_call0_cst_apply]
    rfl
  rw [e, zero_bits, soft_neg hA]
  exact soft_coe _

/-- The logarithms of the shares left, masked. -/
theorem v21 (hA : Re x0 A) (i : S8x4096x4096.Idx) :
    val_main_v21 (F := Ideal) x0 i = ((L (Qh A (i 0).val) (Kh A (i 0).val) (i 1).val (i 2).val : ℝ) : EReal) := by
  rw [val_main_v21_apply, val_main_v20_apply]
  refine choose (mask i) (neg_coe (sp_pos hA i)) ?_
  rw [val_main_call1_v2_apply, val_main_call1_v0_apply, val_main_cst_0_apply]
  exact zero_bits.trans EReal.coe_zero.symm

/-- Their sums from a key row on. -/
theorem v22 (hA : Re x0 A) (h : Fin 8) (t s : Fin 4096) :
    val_main_v22 (F := Ideal) x0 (ix3 h t s) = ((T (Qh A h.val) (Kh A h.val) t.val - ∑ j ∈ range s.val, L (Qh A h.val) (Kh A h.val) t.val j : ℝ) : EReal) := by
  unfold val_main_v22
  refine (window_sum (val_main_v21 (F := Ideal) x0) (L (Qh A h.val) (Kh A h.val) t.val) h t (fun s => v21 hA _) _ _ ?_ _ s).trans
    (congrArg _ (window_from _ s.isLt.le))
  rw [val_main_call2_v0_apply, val_main_call2_cst_apply]
  exact zero_bits

/-- The sums over the key rows after a key row. -/
theorem v26 (hA : Re x0 A) (h : Fin 8) (t s : Fin 4096) :
    val_main_v26 (F := Ideal) x0 (ix3 h t s)
      = ((T (Qh A h.val) (Kh A h.val) t.val - ∑ j ∈ range (s.val + 1), L (Qh A h.val) (Kh A h.val) t.val j : ℝ) : EReal) := by
  unfold val_main_v26
  by_cases hs : s.val < 4095
  · refine (concatenate_pair_apply_left (s₁ := S8x4096x4095) (s₂ := S8x4096x1) (t := S8x4096x4096) 2 _ _ _ (ix3 h t s) rfl (ix3 h t (⟨s.val, hs⟩ : Fin 4095)) (fun b => ?_)).trans ?_
    · match b with
      | ⟨0, _⟩ => rfl
      | ⟨1, _⟩ => rfl
      | ⟨2, _⟩ => rfl
    · rw [val_main_v23_apply, eq_ix3 (idx_main_v23 _)]
      refine (v22 hA _ _ _).trans ?_
      show ((T (Qh A h.val) (Kh A h.val) t.val - ∑ j ∈ range (1 + s.val), L (Qh A h.val) (Kh A h.val) t.val j : ℝ) : EReal) = _
      rw [Nat.add_comm]
  · have hs' : s.val = 4095 := by have := s.isLt; omega
    refine (concatenate_pair_apply_right (s₁ := S8x4096x4095) (s₂ := S8x4096x1) (t := S8x4096x4096) 2 _ _ _ (ix3 h t s) rfl rfl (ix3 h t (0 : Fin 1)) (fun b hb => ?_) ?_).trans ?_
    · match b with
      | ⟨0, _⟩ => rfl
      | ⟨1, _⟩ => rfl
      | ⟨2, _⟩ => exact absurd rfl hb
    · show 0 + 4095 = s.val
      omega
    · rw [val_main_v25_apply, val_main_cst_1_apply, hs']
      exact zero_bits.trans ((congrArg _ (sub_self _)).trans EReal.coe_zero).symm

/-- The weight before its mask. -/
theorem v29 (hA : Re x0 A) (h : Fin 8) (t s : Fin 4096) :
    val_main_v29 (F := Ideal) x0 (ix3 h t s) = ((Real.exp (Z (Qh A h.val) (Kh A h.val) t.val s.val - sp (Z (Qh A h.val) (Kh A h.val) t.val s.val)
      + (T (Qh A h.val) (Kh A h.val) t.val - ∑ j ∈ range (s.val + 1), L (Qh A h.val) (Kh A h.val) t.val j)) : ℝ) : EReal) := by
  rw [val_main_v29_apply, val_main_v28_apply,
    val_main_v27_apply,
    show FloatOps.addf (FloatOps.hostNegf (val_main_call3_v1 (F := Ideal) x0 (ix3 h t s))) (val_main_v26 (F := Ideal) x0 (ix3 h t s)) = _ from
      add_coe (neg_coe (sp_minus hA (ix3 h t s))) (v26 hA h t s), sp_neg]
  refine (Ideal.exp_coe _).trans ?_
  congr 3
  exact neg_sub _ _

/-- The weight. -/
theorem v30 (hA : Re x0 A) (h : Fin 8) (t s : Fin 4096) :
    val_main_v30 (F := Ideal) x0 (ix3 h t s) = ((W (Qh A h.val) (Kh A h.val) t.val s.val : ℝ) : EReal) := by
  rw [val_main_v30_apply]
  refine choose (mask' _) (v29 hA h t s) ?_
  rw [val_main_call4_v2_apply, val_main_call4_v0_apply, val_main_cst_2_apply]
  exact zero_bits.trans EReal.coe_zero.symm

/-- The attention, per head. -/
theorem v31 (hA : Re x0 A) (i : S8x4096x128.Idx) :
    val_main_v31 (F := Ideal) x0 i = ((Attn (Qh A (i 0).val) (Kh A (i 0).val) (Xh A (i 0).val) (i 1).val (i 2).val : ℝ) : EReal) := by
  rw [val_main_v31_apply]
  exact sum_mul (f := W (Qh A (i 0).val) (Kh A (i 0).val) (i 1).val) (g := fun s => Xh A (i 0).val s (i 2).val)
    (fun k => (congrArg (val_main_v30 (F := Ideal) x0) (eq_ix3 (lidx_main_v31 i k))).trans (v30 hA _ _ _)) (fun k => v8 hA _)

/-- The sums of the logarithms. -/
theorem v32 (hA : Re x0 A) (i : S8x4096.Idx) :
    val_main_v32 (F := Ideal) x0 i = ((T (Qh A (i 0).val) (Kh A (i 0).val) (i 1).val : ℝ) : EReal) := by
  rw [val_main_v32_apply, val_main_cst_3_apply]
  refine (congrArg (fun z : EReal => z + ∑ k : Fin 4096, val_main_v21 (F := Ideal) x0 (idx_main_v32 i k)) zero_bits).trans ((zero_add _).trans ?_)
  unfold T
  rw [Finset.sum_range, coe_sum]
  exact Finset.sum_congr rfl fun k _ => v21 hA _

/-- The two results. -/
theorem v39 (hA : Re x0 A) (i : S4096x1024.Idx) :
    val_main_v39 (F := Ideal) x0 i
      = ((Attn (Qh A ((i 1).val / 128)) (Kh A ((i 1).val / 128)) (Xh A ((i 1).val / 128)) (i 0).val ((i 1).val % 128) : ℝ) : EReal) := by
  rw [val_main_v39_apply, val_main_v38_apply, val_main_v37_apply]
  exact (v31 hA _).trans (congrArg _ (place (fun h => Attn (Qh A h) (Kh A h) (Xh A h)) _ _ (i 1).isLt))

theorem v36 (hA : Re x0 A) (i : S4096x1024.Idx) :
    val_main_v36 (F := Ideal) x0 i = ((T (Qh A ((i 1).val / 128)) (Kh A ((i 1).val / 128)) (i 0).val : ℝ) : EReal) := by
  rw [val_main_v36_apply, val_main_v35_apply, val_main_v34_apply, val_main_v33_apply]
  exact (v32 hA _).trans (congrArg _ (place (fun h t _ => T (Qh A h) (Kh A h) t) _ _ (i 1).isLt))

end Cert.Stick.FwdRef
-- ==== Proof.FwdGrid.lean ====
/-
  The forward attention's grid read back: its two arrays are the reference's.
-/
module

public import proofs.«01_k».proof.Proof.FwdLoop
public import proofs.«01_k».proof.Proof.FwdRef
public import proofs.«01_k».proof.Proof.Gen.Kernel28Ideal.Value
public import Idealize.ShloMosaic.Lib.Pipeline.ValueKit.Geometry
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel28Ideal.Value

open Idealize.ShloMosaic.ValueIdx hiding ix1 ix2 ix3 eq_ix2
open Finset Idealize.ShloMosaic Idealize.ShloMosaic.TcCoe Cert.Stick Cert.Kernel28Ideal.Gen
open Idealize.SL Idealize.SL.Sem

theorem coord1 (t : Fin cfg0.N) : (grid0.coords t 1).val = t.val % 16 := by
  have e : (grid0.coords t 1).val = t.val / 1 % 16 := Pipeline.Grid.coords_val t 1 (by decide) rfl
  omega

/-- The four heads of a point's group, of all the heads. -/
def grp (f : ℕ → ℕ → ℕ → ℝ) (n : ℕ) (u : Fin 4) : ℕ → ℕ → ℝ := f (4 * (n / 16) + u.val)

/-- A column of an array over all the heads. -/
abbrev col (h : Fin 8) (d : Fin 128) : Fin 1024 := ⟨128 * h.val + d.val, by omega⟩

/-- Which block each window takes at a grid point. -/
theorem idx : ∀ t : Fin cfg0.N,
    win0_0.index t = ![t.val % 16, t.val / 16] ∧ win0_1.index t = ![0, 2 + t.val / 16] ∧ win0_2.index t = ![0, 4 + t.val / 16] := by
  decide +kernel
theorem idx_out3 : ∀ t : Fin cfg0.N, win0_3.index t (0 : Fin 2) = t.val % 16 ∧ win0_3.index t (1 : Fin 2) = t.val / 16 := by
  decide +kernel
theorem idx_out4 : ∀ t : Fin cfg0.N, win0_4.index t (0 : Fin 2) = t.val % 16 ∧ win0_4.index t (1 : Fin 2) = t.val / 16 := by
  decide +kernel

/-- Every point writes its two blocks back. -/
theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)

variable (m : (ℓ : Loc nD τ sig) → Buf (Elt Ideal) ℓ) (c : Dev nD)

theorem V0 : (V m c main_v0 : FVec Ideal S4096x3072 .bf16) = (truncf .bf16 (m (c.tc.loc main_arg0) : FVec Ideal S4096x3072 .f32) bitsLt_bf16_f32 : FVec Ideal S4096x3072 .bf16) := by
  unfold V
  after_reads_simp

/-- Window 0: rows of the queries. -/
theorem blk0 (t : Fin cfg0.N) (y : S256x512.Idx) (i : S4096x3072.Idx) (h0 : (i 0).val = t.val % 16 * 256 + (y 0).val)
    (h1 : (i 1).val = t.val / 16 * 512 + (y 1).val) : iblk m c 0 t y = V m c main_v0 i := by
  refine congrArg (V m c main_v0) (funext fun a => Fin.ext ?_)
  blk_simp [(idx t).1]
  match a with
  | ⟨0, _⟩ => exact h0.symm
  | ⟨1, _⟩ => exact h1.symm

/-- Window 1: all keys of a group of heads. -/
theorem blk1 (t : Fin cfg0.N) (y : S4096x512.Idx) (i : S4096x3072.Idx) (h0 : (i 0).val = (y 0).val)
    (h1 : (i 1).val = (2 + t.val / 16) * 512 + (y 1).val) : iblk m c 1 t y = V m c main_v0 i := by
  refine congrArg (V m c main_v0) (funext fun a => Fin.ext ?_)
  blk_simp [(idx t).2.1]
  match a with
  | ⟨0, _⟩ => exact (Nat.zero_mul _ ▸ Nat.zero_add _).trans h0.symm
  | ⟨1, _⟩ => exact h1.symm

/-- Window 2: all values of a group of heads. -/
theorem blk2 (t : Fin cfg0.N) (y : S4096x512.Idx) (i : S4096x3072.Idx) (h0 : (i 0).val = (y 0).val)
    (h1 : (i 1).val = (4 + t.val / 16) * 512 + (y 1).val) : iblk m c 2 t y = V m c main_v0 i := by
  refine congrArg (V m c main_v0) (funext fun a => Fin.ext ?_)
  blk_simp [(idx t).2.2]
  match a with
  | ⟨0, _⟩ => exact (Nat.zero_mul _ ▸ Nat.zero_add _).trans h0.symm
  | ⟨1, _⟩ => exact h1.symm

/-- What the arrays that the points read hold. -/
def Held (Q K X : ℕ → ℕ → ℕ → ℝ) : Prop := ∀ t : Fin cfg0.N, Blocks (grp Q t.val) (grp K t.val) (grp X t.val) (256 * (grid0.coords t 1).val)
  (iblk m c 0 t) (iblk m c 1 t) (iblk m c 2 t)

variable {A : ℕ → ℕ → ℝ}

/-- An array at an index, by the index's numbers. -/
theorem re_at {R C : ℕ} {φ : FTy} {x : FVec Ideal ⟨2, ![R, C]⟩ φ} (hA : Re x A) {i : (⟨2, ![R, C]⟩ : Shape).Idx} {r k : ℕ}
    (h0 : (i 0).val = r) (h1 : (i 1).val = k) : x i = ((A r k : ℝ) : EReal) := by
  subst h0 h1
  exact (congrArg x (eq_ix2 i)).trans (hA _ _)

/-- The windows hold the argument's heads. -/
theorem held (hA : Re (φ := .f32) (m (c.tc.loc main_arg0)) A) : Held m c (Ref.Qh A) (Ref.Kh A) (Ref.Xh A) := fun t => by
  have ht : t.val < 32 := t.isLt.trans_eq N_0
  have e1 := coord1 t
  refine ⟨fun u r d => ?_, fun u r d => ?_, fun u r d => ?_⟩
  · refine (blk0 m c t _ (ix2 (⟨t.val % 16 * 256 + r.val, by omega⟩ : Fin 4096) (⟨t.val / 16 * 512 + (lane u d).val, by omega⟩ : Fin 3072)) rfl rfl).trans ?_
    refine (congrFun (V0 m c) _).trans (re_at hA ?_ ?_)
    · show t.val % 16 * 256 + r.val = 256 * (grid0.coords t 1).val + r.val
      omega
    · show t.val / 16 * 512 + (128 * u.val + d.val) = 0 + (128 * (4 * (t.val / 16) + u.val) + d.val)
      omega
  · refine (blk1 m c t _ (ix2 r (⟨(2 + t.val / 16) * 512 + (lane u d).val, by omega⟩ : Fin 3072)) rfl rfl).trans ?_
    refine (congrFun (V0 m c) _).trans (re_at hA rfl ?_)
    show (2 + t.val / 16) * 512 + (128 * u.val + d.val) = 1024 + (128 * (4 * (t.val / 16) + u.val) + d.val)
    omega
  · refine (blk2 m c t _ (ix2 r (⟨(4 + t.val / 16) * 512 + (lane u d).val, by omega⟩ : Fin 3072)) rfl rfl).trans ?_
    refine (congrFun (V0 m c) _).trans (re_at hA rfl ?_)
    show (4 + t.val / 16) * 512 + (128 * u.val + d.val) = 2048 + (128 * (4 * (t.val / 16) + u.val) + d.val)
    omega

variable {m c} {Q K X : ℕ → ℕ → ℕ → ℝ}

/-- The attention, read back. -/
theorem read3 (hh : Held m c Q K X) (r : Fin 4096) (h : Fin 8) (d : Fin 128) :
    ((dats m 0 c).arrAt 3 cfg0.N : FVec Ideal S4096x1024 .bf16) (ix2 r (col h d)) = ((Attn (Q h) (K h) (X h) r d : ℝ) : EReal) := by
  have hp : r.val / 256 + 16 * (h.val / 4) < cfg0.N := by
    rw [show cfg0.N = 32 from N_0]
    omega
  obtain ⟨t, ht⟩ : ∃ t : Fin cfg0.N, t.val = r.val / 256 + 16 * (h.val / 4) := ⟨⟨_, hp⟩, rfl⟩
  have e := congrFun ((blocks3 m c t (flush3 t)).trans (flushed3_A m c t))
    (ix2 (⟨r.val % 256, Nat.mod_lt _ (by decide)⟩ : Fin 256) (lane (⟨h.val % 4, Nat.mod_lt _ (by decide)⟩ : Fin 4) d))
  obtain ⟨e0, e1⟩ := idx_out3 t
  have hg (f : ℕ → ℕ → ℕ → ℝ) : grp f t.val ⟨h.val % 4, Nat.mod_lt _ (by decide)⟩ = f h := by
    unfold grp
    congr 1
    show 4 * (t.val / 16) + h.val % 4 = h.val
    omega
  have hr : 256 * (grid0.coords t 1).val + r.val % 256 = r.val := by
    rw [coord1]
    omega
  refine Eq.trans (congrArg ((dats m 0 c).arrAt 3 cfg0.N : FVec Ideal S4096x1024 .bf16) (funext fun a => Fin.ext ?_)) (e.trans ?_)
  · match a with
    | ⟨0, _⟩ =>
      show r.val = win0_3.index t (0 : Fin 2) * 256 + 1 * (r.val % 256)
      rw [e0]; omega
    | ⟨1, _⟩ =>
      show 128 * h.val + d.val = win0_3.index t (1 : Fin 2) * 512 + 1 * (128 * (h.val % 4) + d.val)
      rw [e1]; omega
  · refine ((out_y (hh t)) ⟨h.val % 4, Nat.mod_lt _ (by decide)⟩ ⟨r.val % 256, Nat.mod_lt _ (by decide)⟩ d).trans ?_
    beta_reduce
    simp only [hg]
    rw [hr]

/-- The row sums, read back. -/
theorem read4 (hh : Held m c Q K X) (r : Fin 4096) (h : Fin 8) (d : Fin 128) :
    ((dats m 0 c).arrAt 4 cfg0.N : FVec Ideal S4096x1024 .f32) (ix2 r (col h d)) = ((Stick.T (Q h) (K h) r : ℝ) : EReal) := by
  have hp : r.val / 256 + 16 * (h.val / 4) < cfg0.N := by
    rw [show cfg0.N = 32 from N_0]
    omega
  obtain ⟨t, ht⟩ : ∃ t : Fin cfg0.N, t.val = r.val / 256 + 16 * (h.val / 4) := ⟨⟨_, hp⟩, rfl⟩
  have e := congrFun ((blocks4 m c t (flush4 t)).trans (flushed4_A m c t))
    (ix2 (⟨r.val % 256, Nat.mod_lt _ (by decide)⟩ : Fin 256) (lane (⟨h.val % 4, Nat.mod_lt _ (by decide)⟩ : Fin 4) d))
  obtain ⟨e0, e1⟩ := idx_out4 t
  have hg (f : ℕ → ℕ → ℕ → ℝ) : grp f t.val ⟨h.val % 4, Nat.mod_lt _ (by decide)⟩ = f h := by
    unfold grp
    congr 1
    show 4 * (t.val / 16) + h.val % 4 = h.val
    omega
  have hr : 256 * (grid0.coords t 1).val + r.val % 256 = r.val := by
    rw [coord1]
    omega
  refine Eq.trans (congrArg ((dats m 0 c).arrAt 4 cfg0.N : FVec Ideal S4096x1024 .f32) (funext fun a => Fin.ext ?_)) (e.trans ?_)
  · match a with
    | ⟨0, _⟩ =>
      show r.val = win0_4.index t (0 : Fin 2) * 256 + 1 * (r.val % 256)
      rw [e0]; omega
    | ⟨1, _⟩ =>
      show 128 * h.val + d.val = win0_4.index t (1 : Fin 2) * 512 + 1 * (128 * (h.val % 4) + d.val)
      rw [e1]; omega
  · refine ((out_t (hh t)) ⟨h.val % 4, Nat.mod_lt _ (by decide)⟩ ⟨r.val % 256, Nat.mod_lt _ (by decide)⟩ d).trans ?_
    beta_reduce
    simp only [hg]
    rw [hr]

/-- A place of an array of eight heads is a row and a lane of a head. -/
theorem at_col (i : S4096x1024.Idx) :
    i = ix2 (i 0) (col ⟨(i 1).val / 128, by have : (i 1).val < 1024 := (i 1).isLt; omega⟩ ⟨(i 1).val % 128, Nat.mod_lt _ (by decide)⟩) := by
  funext a
  match a with
  | ⟨0, _⟩ => rfl
  | ⟨1, _⟩ =>
    refine Fin.ext ?_
    show (i 1).val = 128 * ((i 1).val / 128) + (i 1).val % 128
    omega

/-- The attention. -/
theorem y_eq (hA : Re (φ := .f32) (m (c.tc.loc main_arg0)) A) :
    (dats m 0 c).arrAt 3 cfg0.N = Cert.Reference28Ideal.Read.val_main_v39 (F := Ideal) (m (c.tc.loc main_arg0)) := by
  funext i
  exact (congrArg ((dats m 0 c).arrAt 3 cfg0.N : FVec Ideal S4096x1024 .bf16) (at_col i)).trans
    ((read3 (held m c hA) _ _ _).trans (FwdRef.v39 hA i).symm)

/-- The row sums. -/
theorem t_eq (hA : Re (φ := .f32) (m (c.tc.loc main_arg0)) A) :
    (dats m 0 c).arrAt 4 cfg0.N = Cert.Reference28Ideal.Read.val_main_v36 (F := Ideal) (m (c.tc.loc main_arg0)) := by
  funext i
  exact (congrArg ((dats m 0 c).arrAt 4 cfg0.N : FVec Ideal S4096x1024 .f32) (at_col i)).trans
    ((read4 (held m c hA) _ _ _).trans (FwdRef.v36 hA i).symm)

end Cert.Kernel28Ideal.Value

end
-- ==== Proof.Dact.lean ====
/-
  The gradients of the gate and of its factor: the array the kernel leaves is the reference's.
-/
module

public import proofs.«01_k».proof.Proof.Gen.Kernel2Ideal.Value
public import proofs.«01_k».proof.Proof.Gen.Reference2Ideal.Read
public import proofs.«01_k».proof.Proof.Re
import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel2Ideal.Value

open Idealize.ShloMosaic Idealize.ShloMosaic.TcCoe Cert.Kernel2Ideal.Gen Cert.Reference2Ideal.Read

/-- Which block each window takes at a grid point. -/
theorem idx : ∀ t : Fin cfg0.N,
    win0_0.index t = ![0, t.val % 8, 0] ∧ win0_1.index t = ![0, t.val / 8, 0] ∧ win0_2.index t = ![0, 0, t.val % 8, t.val / 8]
      ∧ win0_4.index t = ![0, 0, t.val % 8, t.val / 8] := by
  decide +kernel

variable (m : (ℓ : Loc nD τ sig) → Buf (Elt Ideal) ℓ) (c : Dev nD)

/-- The gate's logistic. -/
def gsig (g : EReal) : EReal := Ideal.div 1 (1 + Ideal.exp (0 - g))

/-- The gradients, the gate's and then its factor's: each a product with what comes back through the layer's second matrix. -/
def da (a : FVec Ideal S2x1x4096x5632 .f32) (w : FVec Ideal S5632x2048 .f32) (z : FVec Ideal S4096x2048 .f32) : FVec Ideal S2x1x4096x5632 .bf16 :=
  fun i =>
    if (i 0).val < 1 then
      (∑ k : Fin 2048, z (ix2 (i 2) k) * w (ix2 (i 3) k)) * a (ix4 1 0 (i 2) (i 3)) * gsig (a (ix4 0 0 (i 2) (i 3)))
        * (1 + a (ix4 0 0 (i 2) (i 3)) * (1 - gsig (a (ix4 0 0 (i 2) (i 3)))))
    else (∑ k : Fin 2048, z (ix2 (i 2) k) * w (ix2 (i 3) k)) * a (ix4 0 0 (i 2) (i 3)) * gsig (a (ix4 0 0 (i 2) (i 3)))

theorem at2 : (dats m 0 c).arrAt 4 cfg0.N = da (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  canon_tiles x h
  · refine Eq.trans ?_ (if_neg (c := ((win0_4.blk t).view.emb y 0).val < 1) ?_).symm
    · pointwise [k0_pay1, k0_pay6, k0_pay4, k0_pay3, k0_pay2, gsig]
      blk_point [iblk, idx t]
    · blk_simp [idx t]
      omega
  · refine Eq.trans ?_ (if_pos (c := ((win0_4.blk t).view.emb y 0).val < 1) ?_).symm
    · pointwise [k0_pay5, k0_pay4, k0_pay3, k0_pay2, gsig]
      blk_point [iblk, idx t]
    · blk_simp [idx t]
      omega

/-- The logistic of a real number. -/
theorem gsig_coe (g : ℝ) : gsig g = ((1 / (1 + Real.exp (-g)) : ℝ) : EReal) := by
  have h : (1 + Real.exp (-g) : ℝ) ≠ 0 := (add_pos one_pos (Real.exp_pos _)).ne'
  rw [gsig, zero_sub, ← EReal.coe_neg, Ideal.exp_coe, ← EReal.coe_one, ← EReal.coe_add, Ideal.div_coe h, ← EReal.coe_mul, one_mul]

/-- The gradient of the gate's half, as the product rule writes it and as one product. -/
theorem gate_eq (D u g : ℝ) :
    (D : EReal) * u * Ideal.div 1 (1 + Ideal.exp (-(g : EReal))) +
        g * (D * u) * (Ideal.div 1 (1 + Ideal.exp (-(g : EReal))) * (1 - Ideal.div 1 (1 + Ideal.exp (-(g : EReal))))) =
      D * u * gsig g * (1 + g * (1 - gsig g)) := by
  have e : Ideal.div 1 (1 + Ideal.exp (-(g : EReal))) = gsig g := by rw [gsig, zero_sub]
  rw [e, gsig_coe]
  generalize 1 / (1 + Real.exp (-g)) = q
  rw [← EReal.coe_one]
  simp only [← EReal.coe_sub, ← EReal.coe_mul, ← EReal.coe_add]
  exact congrArg _ (by ring)

/-- The gradient of the other half. -/
theorem up_eq (D g : ℝ) :
    (g : EReal) * Ideal.div 1 (1 + Ideal.exp (-(g : EReal))) * D = D * g * gsig g := by
  have e : Ideal.div 1 (1 + Ideal.exp (-(g : EReal))) = gsig g := by rw [gsig, zero_sub]
  rw [e, mul_comm, mul_assoc]

/-- The reference's gradients, for finite arguments. -/
theorem ref2 (a : FVec Ideal S2x1x4096x5632 .f32) (w : FVec Ideal S5632x2048 .f32) (z : FVec Ideal S4096x2048 .f32)
    (ha : ∃ A : S2x1x4096x5632.Idx → ℝ, a = fun i => (A i : EReal)) (hw : ∃ W : S5632x2048.Idx → ℝ, w = fun i => (W i : EReal))
    (hz : ∃ Z : S4096x2048.Idx → ℝ, z = fun i => (Z i : EReal)) :
    val_main_v15 (F := Ideal) a w z = da a w z := by
  obtain ⟨A, rfl⟩ := ha
  obtain ⟨W, rfl⟩ := hw
  obtain ⟨Z, rfl⟩ := hz
  funext i
  pointwise [val_main_v15, val_main_v14, val_main_v13, val_main_v12, val_main_v11, val_main_v10, val_main_v9, val_main_v8,
    val_main_v7, val_main_v3, val_main_v2, val_main_v1, val_main_v0, val_main_v4_0, val_main_v4_1, val_main_v4_2,
    val_main_call0_v0, val_main_call0_v1, val_main_call0_v2, val_main_call0_v3, val_main_call0_v4, val_main_call0_v6, val_main_call0_v7,
    val_main_call0_cst, val_main_call0_cst_0, val_main_call0_cst_1, val_main_call1_v0, val_main_call1_v1, val_main_call1_v2]
  have s : ∑ k : Fin 2048, (Z (ix2 (i 2) k) : EReal) * W (ix2 (i 3) k) = ((∑ k : Fin 2048, Z (ix2 (i 2) k) * W (ix2 (i 3) k) : ℝ) : EReal) := by
    rw [Cert.Stick.coe_sum]
    exact Fin.sum_fin_congr fun k => (EReal.coe_mul _ _).symm
  unfold da
  rw [s]
  split
  · exact gate_eq _ _ _
  · exact up_eq _ _

end Cert.Kernel2Ideal.Value
-- ==== Proof.DwOut.lean ====
/-
  The gradient of the second matrix of the feed-forward layer: the array the kernel leaves is the reference's.
-/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel3Ideal.Value

open Idealize.ShloMosaic Idealize.ShloMosaic.TcCoe Cert.Kernel3Ideal.Gen

/-- Which block each window takes at a grid point. -/
theorem idx : ∀ t : Fin cfg0.N,
    win0_0.index t = ![0, 0, t.val % 11] ∧ win0_1.index t = ![0, 0, t.val / 11] ∧ win0_2.index t = ![0, t.val % 11, t.val / 11] := by
  decide +kernel

variable (m : (ℓ : Loc nD τ sig) → Buf (Elt Ideal) ℓ) (c : Dev nD)

/-- One element of the gradient: a sum over the tokens. -/
def dw (x : FVec Ideal S4096x5632 .f32) (z : FVec Ideal S4096x2048 .f32) : FVec Ideal S1x5632x2048 .bf16 :=
  fun i => ∑ k : Fin 4096, x (ix2 k (i 1)) * z (ix2 k (i 2))

theorem at3 : (dats m 0 c).arrAt 2 cfg0.N = dw (m (c.tc.loc main_arg0)) (m (c.tc.loc main_arg1)) := by
  refine (dats m 0 c).arrAt_eq_of_covers 2 _ (by decide +kernel) fun t hf y => ?_
  blk_simp
  rw [after0_2]
  frame_out
  pointwise [k0_pay1, dw]
  blk_point [iblk, idx t]

/-- The reference's gradient is the same sum. -/
theorem ref3 (x : FVec Ideal S4096x5632 .f32) (z : FVec Ideal S4096x2048 .f32) :
    Cert.Reference3Ideal.Read.val_main_v5 (F := Ideal) x z = dw x z := by
  funext i
  pointwise [Cert.Reference3Ideal.Read.val_main_v5, Cert.Reference3Ideal.Read.val_main_v4, Cert.Reference3Ideal.Read.val_main_v3,
    Cert.Reference3Ideal.Read.val_main_v2, dw]
  exact Finset.sum_congr rfl fun k _ => mul_comm _ _

end Cert.Kernel3Ideal.Value
-- ==== Proof.DwIn.lean ====
/-
  The gradient of the first matrix of the feed-forward layer: the array the kernel leaves is the reference's.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel4Ideal.Value

open Idealize.ShloMosaic Idealize.ShloMosaic.TcCoe Cert.Kernel4Ideal.Gen Cert.Reference4Ideal.Read

/-- Which block each window takes at a grid point. -/
theorem idx : ∀ t : Fin cfg0.N,
    win0_0.index t = ![0, 0, t.val % 4] ∧ win0_1.index t = ![t.val / 8, 0, t.val / 4 % 2] ∧ win0_2.index t = ![t.val / 4, 0, t.val % 4, 0] := by
  decide +kernel

variable (m : (ℓ : Loc nD τ sig) → Buf (Elt Ideal) ℓ) (c : Dev nD)

/-- One element of the gradient: a sum over the tokens. -/
def dw (x : FVec Ideal S4096x2048 .f32) (z : FVec Ideal S2x4096x5632 .f32) : FVec Ideal S4x2x2048x1408 .bf16 :=
  fun i => ∑ k : Fin 4096, x (ix2 k (i 2)) *
    z (ix3 ⟨(i 0).val / 2, by have : (i 0).val < 4 := (i 0).isLt; omega⟩ k
      ⟨(i 0).val % 2 * 2816 + (i 1).val * 1408 + (i 3).val, by
        have : (i 1).val < 2 := (i 1).isLt
        have : (i 3).val < 1408 := (i 3).isLt
        omega⟩)

theorem at4 : (dats m 0 c).arrAt 2 cfg0.N = dw (m (c.tc.loc main_arg0)) (m (c.tc.loc main_arg1)) := by
  refine (dats m 0 c).arrAt_eq_of_covers 2 _ (by decide +kernel) fun t hf y => ?_
  blk_simp
  rw [after0_2]
  frame_out
  refine (canon2_eq _ _ y).trans ?_
  pointwise [k0_pay1, dw, E2, ix2_0]
  blk_point [iblk, idx t]

/-- The reference's gradient is the same sum. -/
theorem ref4 (x : FVec Ideal S4096x2048 .f32) (z : FVec Ideal S2x4096x5632 .f32) :
    val_main_v11 (F := Ideal) x z = dw x z := by
  funext i
  have i0 : (i 0).val < 4 := (i 0).isLt
  have i1 : (i 1).val < 2 := (i 1).isLt
  have i3 : (i 3).val < 1408 := (i 3).isLt
  pointwise [val_main_v11, val_main_v10, val_main_v9, val_main_v8, val_main_v7, val_main_v6, val_main_v5, val_main_v4, val_main_v3,
    val_main_v2, dw]
  refine Finset.sum_congr rfl fun k _ => (mul_comm _ _).trans (congrArg _ ?_)
  split <;> refine congrArg z (funext fun a => Fin.ext ?_)
  all_goals
    match a with
    | ⟨0, _⟩ => simp [ix3]; omega
    | ⟨1, _⟩ => rfl
    | ⟨2, _⟩ => simp [ix3]; omega

end Cert.Kernel4Ideal.Value
-- ==== Proof.Dy.lean ====
/-
  The gradient of the feed-forward layer's input: the array the kernel leaves is the reference's.
-/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel5Ideal.Value

open Idealize.ShloMosaic Idealize.ShloMosaic.TcCoe Cert.Kernel5Ideal.Gen Cert.Reference5Ideal.Read

/-- Which block each window takes at a grid point. -/
theorem idx : ∀ t : Fin cfg0.N,
    win0_0.index t = ![t.val % 8 / 4, t.val / 8, t.val % 4] ∧ win0_1.index t = ![t.val % 8, 0, 0] ∧ win0_3.index t = ![0, t.val / 8, 0] := by
  decide +kernel

variable (m : (ℓ : Loc nD τ sig) → Buf (Elt Ideal) ℓ) (c : Dev nD)

/-- One element of the gradient: a sum over the layer's columns, the gate's and then the other half's. -/
def dy (z : FVec Ideal S2x4096x5632 .f32) (w : FVec Ideal S2048x11264 .f32) : FVec Ideal S1x4096x2048 .f32 :=
  fun i => ∑ k : Fin 11264, z (ix3 ⟨k.val / 5632, by omega⟩ (i 1) ⟨k.val % 5632, by omega⟩) * w (ix2 (i 2) k)

/-- What one grid point adds. -/
def part (p : Vec Ideal S1x1024x1408 .bf16) (q : Vec Ideal S1x2048x1408 .bf16) : Vec Ideal S1x1024x2048 .f32 :=
  fun j => ∑ k : Fin 1408, p (ix3 0 (j 1) k) * q (ix3 0 (j 2) k)

theorem pay2_at (p : Vec Ideal S1x1024x1408 .bf16) (q : Vec Ideal S1x2048x1408 .bf16) (acc : Vec Ideal S1x1024x2048 .f32) (j : S1x1024x2048.Idx) :
    k0_pay2 p q acc j = acc j + part p q j := by
  pointwise [k0_pay2, part]

theorem pay1_at (j : S1x1024x2048.Idx) : k0_pay1 (F := Ideal) j = 0 := by
  pointwise [k0_pay1]

theorem pay3_at (acc : Vec Ideal S1x1024x2048 .f32) (j : S1x1024x2048.Idx) : k0_pay3 acc j = acc j := by
  pointwise [k0_pay3]

theorem acc5 (t : Fin cfg0.N) (hf : (cfg0.win 3).flush t = true) (j : S1x1024x2048.Idx) :
    (outsAt0 m c t.val t.isLt).1 j = ∑ s : Fin 8, part
      (iblk m c 0 ⟨8 * (t.val / 8) + s.val, Pipeline.run_point_lt_of_flush t ((flush0_3 t).mp hf) s⟩)
      (iblk m c 1 ⟨8 * (t.val / 8) + s.val, Pipeline.run_point_lt_of_flush t ((flush0_3 t).mp hf) s⟩) j := by
  have h7 := (flush0_3 t).mp hf
  have h0 : ¬t.val % 8 = 0 := by omega
  have e : (outsAt0 m c t.val t.isLt).1 j = (outsAt0 m c t.val t.isLt).2 j := by
    rw [outsAt0_C m c t h0 h7]
    frame_out
    rw [pay3_at]
  rw [e, Pipeline.eq_sum_fin_of_reset_step_apply_of_flush (fun n h => (outsAt0 m c n h).2) 8 (fun _ => 0)
    (fun t j => part (iblk m c 0 t) (iblk m c 1 t) j) (fun t h j => ?_) (fun t h j => ?_) t h7 j, zero_add]
  · rw [outsAt0_A m c t h (by omega)]
    frame_out
    rw [pay2_at, pay1_at]
  · by_cases h7 : t.val % 8 = 7
    · rw [outsAt0_C m c t h h7]
      frame_out
      simp only [read_unread_whole]
      rw [pay2_at]
    · rw [outsAt0_B m c t h h7]
      frame_out
      simp only [read_unread_whole]
      rw [pay2_at]

theorem at5 : (dats m 0 c).arrAt 3 cfg0.N = dy (m (c.tc.loc main_arg0)) (m (c.tc.loc main_arg1)) := by
  refine (dats m 0 c).arrAt_eq_of_covers 3 _ (by decide +kernel) fun t hf y => ?_
  blk_simp
  rw [after0_3]
  refine (acc5 m c t hf y).trans ?_
  refine Fin.sum_mul_add_congr (S := 8) (n := 1408) fun s k hl => ?_
  congr 1
  · blk_ext [iblk, idx t, idx ⟨8 * (t.val / 8) + s.val, Pipeline.run_point_lt_of_flush t ((flush0_3 t).mp hf) s⟩]
  · blk_ext! [iblk, idx t, idx ⟨8 * (t.val / 8) + s.val, Pipeline.run_point_lt_of_flush t ((flush0_3 t).mp hf) s⟩]

/-- The reference's gradient is the same sum. -/
theorem ref5 (z : FVec Ideal S2x4096x5632 .f32) (w : FVec Ideal S2048x11264 .f32) :
    val_main_v8 (F := Ideal) z w = dy z w := by
  funext i
  pointwise [val_main_v8, val_main_v7, val_main_v6, val_main_v5, val_main_v4, val_main_v3, val_main_v2, dy]
  refine Eq.trans ?_ (Fin.sum_univ_add (a := 5632) (b := 5632) _).symm
  refine congrArg₂ (· + ·) (Finset.sum_congr rfl fun k _ => ?_) (Finset.sum_congr rfl fun k _ => ?_)
  all_goals
    refine congrArg₂ (· * ·) (congrArg z (funext fun a => Fin.ext ?_)) rfl
    match a with
    | ⟨0, _⟩ => simp [ix3]; try omega
    | ⟨1, _⟩ => rfl
    | ⟨2, _⟩ => simp [ix3]; try omega

end Cert.Kernel5Ideal.Value
-- ==== Proof.NormGrad.lean ====
/-
  A root-mean-square norm's reciprocal root and its gradient over the extended reals: the kernel's form of the row's
  gradient and the one a plain derivative of the norm gives are the same, whatever the row holds.
-/
module

public import Idealize.ShloMosaic.PureOps.Ideal.Laws
public import Idealize.ShloMosaic.Lib.IdealHost

@[expose] public section

noncomputable section

namespace Cert.Norm

open Idealize.ShloMosaic

/-- A row's mean square, and the small number added to it. -/
abbrev msq (h : Fin 2048 → EReal) : EReal :=
  Ideal.div (∑ k, h k * h k) (Ideal.ofBits .f32 0x45000000#32) + Ideal.ofBits .f32 0x358637BD#32

/-- The reciprocal of its root. -/
abbrev rinv (h : Fin 2048 → EReal) : EReal := Ideal.rsqrt (msq h)

/-- The row's length. -/
theorem length : Ideal.ofBits .f32 0x45000000#32 = ((2048 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem step : Ideal.ofBits .f32 0x3A000000#32 = ((1 / 2048 : ℝ) : EReal) := by
  simp [Ideal.ofBits, Ideal.ieee, -EReal.coe_mul]; norm_num

/-- The small number is real and positive. -/
theorem eps : ∃ e : ℝ, 0 < e ∧ Ideal.ofBits .f32 0x358637BD#32 = (e : EReal) := by
  refine ⟨_, ?_, by simp [Ideal.ofBits, Ideal.ieee, -EReal.coe_mul]; rfl⟩
  norm_num

theorem mean (x : EReal) : Ideal.div x (Ideal.ofBits .f32 0x45000000#32) = x * ((1 / 2048 : ℝ) : EReal) := by
  rw [length, Ideal.div_coe (by norm_num)]

theorem sq_nonneg (x : EReal) : 0 ≤ x * x := by
  induction x with
  | bot => simp
  | top => simp
  | coe r => exact_mod_cast mul_self_nonneg r

/-- The reciprocal root is a real number that is not negative, and dividing it by the mean square gives its cube. -/
theorem inv_real (h : Fin 2048 → EReal) :
    ∃ r : ℝ, 0 ≤ r ∧ rinv h = (r : EReal) ∧ Ideal.div (rinv h) (msq h) = ((r * r * r : ℝ) : EReal) := by
  obtain ⟨e, he, hb⟩ := eps
  have hs : (0 : EReal) ≤ (∑ k, h k * h k) * ((1 / 2048 : ℝ) : EReal) :=
    mul_nonneg (Finset.sum_nonneg fun k _ => sq_nonneg (h k)) (by exact_mod_cast (by norm_num : (0 : ℝ) ≤ 1 / 2048))
  unfold rinv msq
  rw [mean, hb]
  generalize (∑ k, h k * h k) * ((1 / 2048 : ℝ) : EReal) = s at hs
  induction s with
  | bot => simp at hs
  | top =>
    refine ⟨0, le_refl _, ?_, ?_⟩
    · simp
    · simp [Ideal.div]
  | coe s =>
    have s0 : (0 : ℝ) ≤ s := by exact_mod_cast hs
    have p : 0 < s + e := by linarith
    rw [← EReal.coe_add, Ideal.rsqrt_coe, if_neg (not_lt.mpr p.le), if_neg p.ne']
    refine ⟨(Real.sqrt (s + e))⁻¹, by positivity, rfl, ?_⟩
    rw [Ideal.div_coe p.ne', ← EReal.coe_mul]
    congr 1
    rw [mul_assoc, ← mul_inv, Real.mul_self_sqrt p.le, one_div]

/-- A real number that is not negative may be taken out of a sum. -/
theorem sum_mul {ι : Type*} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

theorem add_self (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul]; congr 1; ring

/-- The row's gradient, in the kernel's form and as the derivative of the norm. -/
theorem grad (A h : Fin 2048 → EReal) (j : Fin 2048) :
    rinv h * (A j - h j * rinv h * Ideal.div (∑ k, A k * (h k * rinv h)) (Ideal.ofBits .f32 0x45000000#32)) =
      A j * rinv h + h j * Ideal.div ((∑ k, h k * A k) * (Ideal.ofBits .f32 0xBF000000#32 * Ideal.div (rinv h) (msq h)))
          (Ideal.ofBits .f32 0x45000000#32) +
        Ideal.div ((∑ k, h k * A k) * (Ideal.ofBits .f32 0xBF000000#32 * Ideal.div (rinv h) (msq h)))
          (Ideal.ofBits .f32 0x45000000#32) * h j := by
  obtain ⟨r, hr, e, e3⟩ := inv_real h
  have hs : ∑ k, A k * (h k * (r : EReal)) = (∑ k, h k * A k) * (r : EReal) :=
    (Finset.sum_congr rfl fun k _ => by ac_rfl).trans (sum_mul _ (fun k => h k * A k) r hr)
  rw [e3, e, hs, mean, mean, neg_half]
  generalize ∑ k, h k * A k = s
  rw [EReal.mul_sub_of_nonneg_of_ne_top (by exact_mod_cast hr) (EReal.coe_ne_top r), add_assoc,
    mul_comm _ (h j), add_self, sub_eq_add_neg, ← EReal.coe_mul]
  congr 1
  · exact mul_comm _ _
  · have a : (r : EReal) * (h j * r * (s * r * ((1 / 2048 : ℝ) : EReal))) =
        h j * s * ((1 / 2048 : ℝ) : EReal) * ((r : EReal) * r * r) := by ac_rfl
    have b : h j * (s * ((-(1 / 2) * (r * r * r) : ℝ) : EReal) * ((1 / 2048 : ℝ) : EReal)) * ((2 : ℝ) : EReal) =
        h j * s * ((1 / 2048 : ℝ) : EReal) * (((-(1 / 2) * (r * r * r) : ℝ) : EReal) * ((2 : ℝ) : EReal)) := by ac_rfl
    rw [a, b, ← mul_neg, ← EReal.coe_mul, ← EReal.coe_mul, ← EReal.coe_mul, ← EReal.coe_neg]
    congr 2
    ring

end Cert.Norm
-- ==== Proof.NormParts.lean ====
/-
  What comes back through a root-mean-square norm and its modulation, as arrays: the gradients of the stream, of the
  shift, of the scale and of the norm's weight, and those of the sub-layer below, added to the stream through a gate.
-/
module

public import proofs.«01_k».proof.Proof.NormGrad
public import Idealize.ShloMosaic.Lib.Pointwise

@[expose] public section

noncomputable section

namespace Cert.Norm

open Idealize.ShloMosaic

/-- An array over the tokens, a row of it, and a grid point's block of it. -/
abbrev Stream := FVec Ideal ⟨2, ![4096, 2048]⟩ .f32
abbrev Row := FVec Ideal ⟨2, ![1, 2048]⟩ .f32
abbrev Block := Vec Ideal ⟨2, ![256, 2048]⟩ .f32

/-- The gradient of the stream: what comes from above and what comes back through the norm. -/
def dh (dy h up : Stream) (nw sc : Row) : Stream :=
  fun i => up (ix2 (i 0) (i 1)) + rinv (fun k => h (ix2 (i 0) k)) *
    (dy (ix2 (i 0) (i 1)) * (nw (ix2 0 (i 1)) * (1 + sc (ix2 0 (i 1)))) - h (ix2 (i 0) (i 1)) * rinv (fun k => h (ix2 (i 0) k)) *
      Ideal.div (∑ k : Fin 2048, dy (ix2 (i 0) k) * (nw (ix2 0 k) * (1 + sc (ix2 0 k))) * (h (ix2 (i 0) k) * rinv (fun k => h (ix2 (i 0) k))))
        (Ideal.ofBits .f32 0x45000000#32))

/-- The gradient of the shift. -/
def dsh (dy : Stream) : Row := fun i => ∑ k : Fin 4096, dy (ix2 k (i 1))

/-- The gradient of the scale. -/
def dsc (dy h : Stream) (nw : Row) : Row :=
  fun i => ∑ k : Fin 4096, dy (ix2 k (i 1)) * (h (ix2 k (i 1)) * rinv (fun l => h (ix2 k l))) * nw (ix2 0 (i 1))

/-- The gradient of the norm's weight. -/
def dn (dy h : Stream) (sc : Row) : Row :=
  fun i => ∑ k : Fin 4096, dy (ix2 k (i 1)) * (h (ix2 k (i 1)) * rinv (fun l => h (ix2 k l))) * (1 + sc (ix2 0 (i 1)))

/-- The gradient of the sub-layer's result below, `c` the constant its gate is multiplied by. -/
def dO (c : EReal) (d : Stream) (g : Row) : FVec Ideal ⟨2, ![4096, 2048]⟩ .bf16 := fun i => d (ix2 (i 0) (i 1)) * (c * g (ix2 0 (i 1)))

/-- The gradient of its gate. -/
def dG (c : EReal) (d o : Stream) : Row := fun i => ∑ k : Fin 4096, d (ix2 k (i 1)) * o (ix2 k (i 1)) * c

/-- What one grid point adds to the three sums over the tokens. -/
def partSh (p : Block) : Row := fun j => ∑ k : Fin 256, p (ix2 k (j 1))
def partSc (p h : Block) (nw : Row) : Row :=
  fun j => ∑ k : Fin 256, p (ix2 k (j 1)) * (h (ix2 k (j 1)) * rinv (fun l => h (ix2 k l))) * nw (ix2 0 (j 1))
def partN (p h : Block) (sc : Row) : Row :=
  fun j => ∑ k : Fin 256, p (ix2 k (j 1)) * (h (ix2 k (j 1)) * rinv (fun l => h (ix2 k l))) * (1 + sc (ix2 0 (j 1)))
def partG (c : EReal) (d : Block) (o : Vec Ideal ⟨2, ![256, 2048]⟩ .bf16) : Row := fun j => ∑ k : Fin 256, d (ix2 k (j 1)) * o (ix2 k (j 1)) * c

end Cert.Norm
-- ==== Proof.Norm3Grad.lean ====
/-
  The second feed-forward layer's norm and modulation, backwards, and on into the mixer's residual sum: the arrays the
  kernel leaves are the reference's.
-/
module

public import proofs.«01_k».proof.Proof.Gen.Kernel19Ideal.Value
public import proofs.«01_k».proof.Proof.Gen.Reference19Ideal.Read
public import proofs.«01_k».proof.Proof.NormParts
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel19Ideal.Value

open Idealize.ShloMosaic Idealize.ShloMosaic.TcCoe Cert.Kernel19Ideal.Gen Cert.Reference19Ideal.Read

open Cert.Norm

/-- Which block each window takes at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, 0] ∧ win0_5.index t = ![0, 0] ∧ win0_6.index t = ![0, 0] ∧ win0_7.index t = ![t.val, 0]
      ∧ win0_8.index t = ![t.val, 0] ∧ win0_9.index t = ![0, 0] ∧ win0_10.index t = ![0, 0] ∧ win0_11.index t = ![0, 0]
      ∧ win0_12.index t = ![0, 0] := by
  decide +kernel

variable (m : (ℓ : Loc nD τ sig) → Buf (Elt Ideal) ℓ) (c : Dev nD)

/-- The stream's gradient of this call's arguments. -/
def up (m : (ℓ : Loc nD τ sig) → Buf (Elt Ideal) ℓ) (c : Dev nD) : Stream :=
  dh (m (c.tc.loc main_arg0)) (m (c.tc.loc main_arg1)) (m (c.tc.loc main_arg2)) (m (c.tc.loc main_arg3)) (m (c.tc.loc main_arg4))

/-- A grid point's block of it. -/
def blk (m : (ℓ : Loc nD τ sig) → Buf (Elt Ideal) ℓ) (c : Dev nD) (t : Fin cfg0.N) : Block :=
  k0_pay6 (iblk m c 0 t) (iblk m c 1 t) (iblk m c 2 t) (iblk m c 4 t) (iblk m c 5 t)

theorem blk_up (t : Fin cfg0.N) (y : S256x2048.Idx) (i : S4096x2048.Idx) (h0 : (i 0).val = 256 * t.val + (y 0).val)
    (h1 : (i 1).val = (y 1).val) : blk m c t y = up m c i := by
  unfold blk up
  pointwise [k0_pay6, k0_pay5, k0_pay4, dh, rinv, msq]
  blk_point [iblk, idx t]

theorem at19a : (dats m 0 c).arrAt 7 cfg0.N = up m c := by
  refine (dats m 0 c).arrAt_eq_of_covers 7 _ (by decide +kernel) fun t hf y => ?_
  blk_simp
  rw [after0_7]
  by_cases h0 : t.val % 16 = 0
  · rw [outsAt0_A m c t h0]
    frame_out
    pointwise [k0_pay6, k0_pay5, k0_pay4, up, dh, rinv, msq]
    blk_point [iblk, idx t]
  · rw [outsAt0_B m c t h0]
    frame_out
    pointwise [k0_pay6, k0_pay5, k0_pay4, up, dh, rinv, msq]
    blk_point [iblk, idx t]

theorem at19b : (dats m 0 c).arrAt 8 cfg0.N = dO 1 (up m c) (m (c.tc.loc main_arg6)) := by
  refine (dats m 0 c).arrAt_eq_of_covers 8 _ (by decide +kernel) fun t hf y => ?_
  blk_simp
  rw [after0_8]
  by_cases h0 : t.val % 16 = 0
  · rw [outsAt0_A m c t h0]
    frame_out
    pointwise [k0_pay12, k0_pay6, k0_pay5, k0_pay4, dO, up, dh, rinv, msq]
    blk_point [iblk, idx t]
  · rw [outsAt0_B m c t h0]
    frame_out
    pointwise [k0_pay12, k0_pay6, k0_pay5, k0_pay4, dO, up, dh, rinv, msq]
    blk_point [iblk, idx t]

theorem zero9 (j : S1x2048.Idx) : k0_pay13 (F := Ideal) j = 0 := by pointwise [k0_pay13]
theorem zero10 (j : S1x2048.Idx) : k0_pay14 (F := Ideal) j = 0 := by pointwise [k0_pay14]
theorem zero11 (j : S1x2048.Idx) : k0_pay15 (F := Ideal) j = 0 := by pointwise [k0_pay15]
theorem zero12 (j : S1x2048.Idx) : k0_pay16 (F := Ideal) j = 0 := by pointwise [k0_pay16]

theorem add9 (p : Vec Ideal S256x2048 .f32) (acc : Vec Ideal S1x2048 .f32) (j : S1x2048.Idx) : k0_pay17 (k0_pay7 p) acc j = acc j + partSh p j := by
  pointwise [k0_pay17, k0_pay7, partSh]
theorem add10 (p h : Vec Ideal S256x2048 .f32) (nw acc : Vec Ideal S1x2048 .f32) (j : S1x2048.Idx) :
    k0_pay18 (k0_pay8 p h) (k0_pay9 nw) acc j = acc j + partSc p h nw j := by
  pointwise [k0_pay18, k0_pay8, k0_pay9, k0_pay5, k0_pay4, partSc, rinv, msq]
theorem add11 (p h : Vec Ideal S256x2048 .f32) (sc acc : Vec Ideal S1x2048 .f32) (j : S1x2048.Idx) :
    k0_pay1 (k0_pay10 p sc (k0_pay5 h)) acc j = acc j + partN p h sc j := by
  pointwise [k0_pay1, k0_pay10, k0_pay5, k0_pay4, partN, rinv, msq]
theorem add12 (d : Vec Ideal S256x2048 .f32) (o : Vec Ideal S256x2048 .bf16) (acc : Vec Ideal S1x2048 .f32) (j : S1x2048.Idx) :
    k0_pay2 (k0_pay11 (k0_pay3 o) d) acc j = acc j + partG 1 d o j := by
  pointwise [k0_pay2, k0_pay11, k0_pay3, partG]

theorem at19c : (dats m 0 c).arrAt 9 cfg0.N = dsh (m (c.tc.loc main_arg0)) := by
  refine (dats m 0 c).arrAt_eq_of_covers 9 _ (by decide +kernel) fun t hf y => ?_
  blk_simp
  rw [after0_9]
  have last := (flush0_9 t).mp hf
  refine (Pipeline.eq_sum_fin_of_reset_step_apply_of_flush (fun n h => (outsAt0 m c n h).2.2.1) 16 (fun _ => 0)
    (fun t j => partSh (iblk m c 0 t) j) (fun t h j => ?_) (fun t h j => ?_) t last y).trans ?_
  · rw [outsAt0_A m c t h]
    frame_out
    rw [add9, zero9]
  · rw [outsAt0_B m c t h]
    frame_out
    rw [add9]
  rw [zero_add]
  refine Fin.sum_mul_add_congr (S := 16) (n := 256) fun s k hl => ?_
  blk_ext [iblk, idx t, idx ⟨16 * (t.val / 16) + s.val, Pipeline.run_point_lt_of_flush t last s⟩]

theorem at19d : (dats m 0 c).arrAt 10 cfg0.N = dsc (m (c.tc.loc main_arg0)) (m (c.tc.loc main_arg1)) (m (c.tc.loc main_arg3)) := by
  refine (dats m 0 c).arrAt_eq_of_covers 10 _ (by decide +kernel) fun t hf y => ?_
  blk_simp
  rw [after0_10]
  have last := (flush0_10 t).mp hf
  refine (Pipeline.eq_sum_fin_of_reset_step_apply_of_flush (fun n h => (outsAt0 m c n h).2.2.2.1) 16 (fun _ => 0)
    (fun t j => partSc (iblk m c 0 t) (iblk m c 1 t) (iblk m c 4 t) j) (fun t h j => ?_) (fun t h j => ?_) t last y).trans ?_
  · rw [outsAt0_A m c t h]
    frame_out
    rw [add10, zero10]
  · rw [outsAt0_B m c t h]
    frame_out
    rw [add10]
  rw [zero_add]
  refine Fin.sum_mul_add_congr (S := 16) (n := 256) fun s k hl => ?_
  blk_point [iblk, idx t, idx ⟨16 * (t.val / 16) + s.val, Pipeline.run_point_lt_of_flush t last s⟩]

theorem at19e : (dats m 0 c).arrAt 11 cfg0.N = dn (m (c.tc.loc main_arg0)) (m (c.tc.loc main_arg1)) (m (c.tc.loc main_arg4)) := by
  refine (dats m 0 c).arrAt_eq_of_covers 11 _ (by decide +kernel) fun t hf y => ?_
  blk_simp
  rw [after0_11]
  have last := (flush0_11 t).mp hf
  refine (Pipeline.eq_sum_fin_of_reset_step_apply_of_flush (fun n h => (outsAt0 m c n h).2.2.2.2.1) 16 (fun _ => 0)
    (fun t j => partN (iblk m c 0 t) (iblk m c 1 t) (iblk m c 5 t) j) (fun t h j => ?_) (fun t h j => ?_) t last y).trans ?_
  · rw [outsAt0_A m c t h]
    frame_out
    rw [add11, zero11]
  · rw [outsAt0_B m c t h]
    frame_out
    rw [add11]
  rw [zero_add]
  refine Fin.sum_mul_add_congr (S := 16) (n := 256) fun s k hl => ?_
  blk_point [iblk, idx t, idx ⟨16 * (t.val / 16) + s.val, Pipeline.run_point_lt_of_flush t last s⟩]

theorem at19f : (dats m 0 c).arrAt 12 cfg0.N = dG 1 (up m c) (m (c.tc.loc main_arg5)) := by
  refine (dats m 0 c).arrAt_eq_of_covers 12 _ (by decide +kernel) fun t hf y => ?_
  blk_simp
  rw [after0_12]
  have last := (flush0_12 t).mp hf
  refine (Pipeline.eq_sum_fin_of_reset_step_apply_of_flush (fun n h => (outsAt0 m c n h).2.2.2.2.2) 16 (fun _ => 0)
    (fun t j => partG 1 (blk m c t) (iblk m c 3 t) j) (fun t h j => ?_) (fun t h j => ?_) t last y).trans ?_
  · rw [outsAt0_A m c t h]
    frame_out
    rw [add12, zero12]
    rfl
  · rw [outsAt0_B m c t h]
    frame_out
    rw [add12]
    rfl
  rw [zero_add]
  refine Fin.sum_mul_add_congr (S := 16) (n := 256) fun s k hl => ?_
  have l : 16 * (t.val / 16) + s.val < cfg0.N := Pipeline.run_point_lt_of_flush t last s
  have z : t.val / 16 = 0 := Nat.div_eq_of_lt (t.isLt.trans_le (by decide +kernel))
  congr 1
  refine congrArg₂ (· * ·) (blk_up m c ⟨_, l⟩ _ _ ?_ ?_) ?_
  · blk_simp [idx t]; (try dsimp only); omega
  · blk_simp [idx t]
  · blk_ext! [iblk, idx t, idx ⟨16 * (t.val / 16) + s.val, l⟩]

/-- The reference's gradient of the stream is the derivative of the norm. -/
theorem ref19a (dy h up : FVec Ideal S4096x2048 .f32) (nw sc : FVec Ideal S1x2048 .f32) :
    val_main_v49 (F := Ideal) dy h up nw sc = dh dy h up nw sc := by
  funext i
  refine Eq.trans ?_ (congrArg (up (ix2 (i 0) (i 1)) + ·)
    (grad (fun k => dy (ix2 (i 0) k) * (nw (ix2 0 k) * (1 + sc (ix2 0 k)))) (fun k => h (ix2 (i 0) k)) (i 1))).symm
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v29, val_main_v28, val_main_v22, val_main_v17, val_main_v16, val_main_v11, val_main_v10, val_main_v9, val_main_v8,
    val_main_v7, val_main_v6, val_main_v5, val_main_v4, val_main_v3, val_main_v2, val_main_v1, val_main_cst, val_main_cst_0,
    val_main_cst_1, val_main_cst_2, val_main_cst_3, val_main_cst_4, val_main_cst_5, val_main_cst_6, val_main_cst_7, val_main_cst_8,
    val_main_cst_9, val_main_cst_10, rinv, msq]
  have e (a b d : EReal) : a * (1 + b) * d = a * (d * (1 + b)) := by ac_rfl
  simp only [Fin.sum_univ_one, e]

theorem ref19c (dy : FVec Ideal S4096x2048 .f32) : val_main_v24 (F := Ideal) dy = dsh dy := by
  funext i
  pointwise [val_main_v24, val_main_v23, val_main_cst_5, dsh]

theorem ref19d (dy h : FVec Ideal S4096x2048 .f32) (nw : FVec Ideal S1x2048 .f32) : val_main_v27 (F := Ideal) dy h nw = dsc dy h nw := by
  funext i
  pointwise [val_main_v27, val_main_v26, val_main_v25, val_main_v22, val_main_v15, val_main_v14, val_main_v13, val_main_v12, val_main_v8, val_main_v7, val_main_v6, val_main_v5,
    val_main_v4, val_main_v3, val_main_v2, val_main_v1, val_main_cst_0, val_main_cst_1, val_main_cst_2, val_main_cst_6, dsc, rinv, msq]
  exact Fin.sum_fin_congr fun k => by ac_rfl

theorem ref19e (dy h : FVec Ideal S4096x2048 .f32) (sc : FVec Ideal S1x2048 .f32) : val_main_v32 (F := Ideal) dy h sc = dn dy h sc := by
  funext i
  pointwise [val_main_v32, val_main_v31, val_main_v30, val_main_v29, val_main_v28, val_main_v22, val_main_v17, val_main_v16, val_main_v13, val_main_v12, val_main_v8, val_main_v7,
    val_main_v6, val_main_v5, val_main_v4, val_main_v3, val_main_v2, val_main_v1, val_main_cst_0, val_main_cst_1, val_main_cst_2,
    val_main_cst_4, val_main_cst_7, dn, rinv, msq]
  exact Fin.sum_fin_congr fun k => by ac_rfl

/-- The gradients of the sub-layer below, of the stream's. -/
theorem ref19b (dy h u : FVec Ideal S4096x2048 .f32) (nw sc g : FVec Ideal S1x2048 .f32) : val_main_v58 (F := Ideal) dy h u nw sc g = dO 1 (dh dy h u nw sc) g := by
  funext i
  rw [← ref19a]
  generalize hd : val_main_v49 (F := Ideal) dy h u nw sc = d
  pointwise [val_main_v58, val_main_v54, val_main_v53, hd, dO]
  exact mul_comm _ _

theorem ref19f (dy h u : FVec Ideal S4096x2048 .f32) (nw sc : FVec Ideal S1x2048 .f32) (o : FVec Ideal S4096x2048 .f32) :
    val_main_v57 (F := Ideal) dy h u nw sc o = dG 1 (dh dy h u nw sc) o := by
  funext i
  rw [← ref19a]
  generalize hd : val_main_v49 (F := Ideal) dy h u nw sc = d
  pointwise [val_main_v57, val_main_v56, val_main_v55, val_main_cst_11, hd, dG]

end Cert.Kernel19Ideal.Value
-- ==== Proof.Norm2Grad.lean ====
/-
  The mixer's norm and modulation, backwards, and on into the first feed-forward layer's residual sum: the arrays the
  kernel leaves are the reference's.
-/
module

public import proofs.«01_k».proof.Proof.Gen.Kernel20Ideal.Value
public import proofs.«01_k».proof.Proof.Gen.Reference20Ideal.Read
public import proofs.«01_k».proof.Proof.NormParts
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel20Ideal.Value

open Idealize.ShloMosaic Idealize.ShloMosaic.TcCoe Cert.Kernel20Ideal.Gen Cert.Reference20Ideal.Read

open Cert.Norm

/-- Which block each window takes at a grid point. -/
theorem idx : ∀ t : Fin cfg0.N,
    win0_0.index t = ![t.val, 0] ∧ win0_1.index t = ![t.val, 0] ∧ win0_2.index t = ![t.val, 0] ∧ win0_3.index t = ![t.val, 0]
      ∧ win0_4.index t = ![0, 0] ∧ win0_5.index t = ![0, 0] ∧ win0_6.index t = ![0, 0] ∧ win0_7.index t = ![t.val, 0]
      ∧ win0_8.index t = ![t.val, 0] ∧ win0_9.index t = ![0, 0] ∧ win0_10.index t = ![0, 0] ∧ win0_11.index t = ![0, 0]
      ∧ win0_12.index t = ![0, 0] := by
  decide +kernel

variable (m : (ℓ : Loc nD τ sig) → Buf (Elt Ideal) ℓ) (c : Dev nD)

/-- The stream's gradient of this call's arguments. -/
def up (m : (ℓ : Loc nD τ sig) → Buf (Elt Ideal) ℓ) (c : Dev nD) : Stream :=
  dh (m (c.tc.loc main_arg0)) (m (c.tc.loc main_arg1)) (m (c.tc.loc main_arg2)) (m (c.tc.loc main_arg3)) (m (c.tc.loc main_arg4))

/-- A grid point's block of it. -/
def blk (m : (ℓ : Loc nD τ sig) → Buf (Elt Ideal) ℓ) (c : Dev nD) (t : Fin cfg0.N) : Block :=
  k0_pay6 (iblk m c 0 t) (iblk m c 1 t) (iblk m c 2 t) (iblk m c 4 t) (iblk m c 5 t)

theorem blk_up (t : Fin cfg0.N) (y : S256x2048.Idx) (i : S4096x2048.Idx) (h0 : (i 0).val = 256 * t.val + (y 0).val)
    (h1 : (i 1).val = (y 1).val) : blk m c t y = up m c i := by
  unfold blk up
  pointwise [k0_pay6, k0_pay5, k0_pay4, dh, rinv, msq]
  blk_point [iblk, idx t]

theorem at20a : (dats m 0 c).arrAt 7 cfg0.N = up m c := by
  refine (dats m 0 c).arrAt_eq_of_covers 7 _ (by decide +kernel) fun t hf y => ?_
  blk_simp
  rw [after0_7]
  by_cases h0 : t.val % 16 = 0
  · rw [outsAt0_A m c t h0]
    frame_out
    pointwise [k0_pay6, k0_pay5, k0_pay4, up, dh, rinv, msq]
    blk_point [iblk, idx t]
  · rw [outsAt0_B m c t h0]
    frame_out
    pointwise [k0_pay6, k0_pay5, k0_pay4, up, dh, rinv, msq]
    blk_point [iblk, idx t]

theorem at20b : (dats m 0 c).arrAt 8 cfg0.N = dO (Ideal.ofBits .f32 0x3F000000#32) (up m c) (m (c.tc.loc main_arg6)) := by
  refine (dats m 0 c).arrAt_eq_of_covers 8 _ (by decide +kernel) fun t hf y => ?_
  blk_simp
  rw [after0_8]
  by_cases h0 : t.val % 16 = 0
  · rw [outsAt0_A m c t h0]
    frame_out
    pointwise [k0_pay12, k0_pay6, k0_pay5, k0_pay4, dO, up, dh, rinv, msq]
    blk_point [iblk, idx t]
  · rw [outsAt0_B m c t h0]
    frame_out
    pointwise [k0_pay12, k0_pay6, k0_pay5, k0_pay4, dO, up, dh, rinv, msq]
    blk_point [iblk, idx t]

theorem zero9 (j : S1x2048.Idx) : k0_pay13 (F := Ideal) j = 0 := by pointwise [k0_pay13]
theorem zero10 (j : S1x2048.Idx) : k0_pay14 (F := Ideal) j = 0 := by pointwise [k0_pay14]
theorem zero11 (j : S1x2048.Idx) : k0_pay15 (F := Ideal) j = 0 := by pointwise [k0_pay15]
theorem zero12 (j : S1x2048.Idx) : k0_pay16 (F := Ideal) j = 0 := by pointwise [k0_pay16]

theorem add9 (p : Vec Ideal S256x2048 .f32) (acc : Vec Ideal S1x2048 .f32) (j : S1x2048.Idx) : k0_pay17 (k0_pay7 p) acc j = acc j + partSh p j := by
  pointwise [k0_pay17, k0_pay7, partSh]
theorem add10 (p h : Vec Ideal S256x2048 .f32) (nw acc : Vec Ideal S1x2048 .f32) (j : S1x2048.Idx) :
    k0_pay18 (k0_pay8 p h) (k0_pay9 nw) acc j = acc j + partSc p h nw j := by
  pointwise [k0_pay18, k0_pay8, k0_pay9, k0_pay5, k0_pay4, partSc, rinv, msq]
theorem add11 (p h : Vec Ideal S256x2048 .f32) (sc acc : Vec Ideal S1x2048 .f32) (j : S1x2048.Idx) :
    k0_pay1 (k0_pay10 p sc (k0_pay5 h)) acc j = acc j + partN p h sc j := by
  pointwise [k0_pay1, k0_pay10, k0_pay5, k0_pay4, partN, rinv, msq]
theorem add12 (d : Vec Ideal S256x2048 .f32) (o : Vec Ideal S256x2048 .bf16) (acc : Vec Ideal S1x2048 .f32) (j : S1x2048.Idx) :
    k0_pay2 (k0_pay11 (k0_pay3 o) d) acc j = acc j + partG (Ideal.ofBits .f32 0x3F000000#32) d o j := by
  pointwise [k0_pay2, k0_pay11, k0_pay3, partG]

theorem at20c : (dats m 0 c).arrAt 9 cfg0.N = dsh (m (c.tc.loc main_arg0)) := by
  refine (dats m 0 c).arrAt_eq_of_covers 9 _ (by decide +kernel) fun t hf y => ?_
  blk_simp
  rw [after0_9]
  have last := (flush0_9 t).mp hf
  refine (Pipeline.eq_sum_fin_of_reset_step_apply_of_flush (fun n h => (outsAt0 m c n h).2.2.1) 16 (fun _ => 0)
    (fun t j => partSh (iblk m c 0 t) j) (fun t h j => ?_) (fun t h j => ?_) t last y).trans ?_
  · rw [outsAt0_A m c t h]
    frame_out
    rw [add9, zero9]
  · rw [outsAt0_B m c t h]
    frame_out
    rw [add9]
  rw [zero_add]
  refine Fin.sum_mul_add_congr (S := 16) (n := 256) fun s k hl => ?_
  blk_ext [iblk, idx t, idx ⟨16 * (t.val / 16) + s.val, Pipeline.run_point_lt_of_flush t last s⟩]

theorem at20d : (dats m 0 c).arrAt 10 cfg0.N = dsc (m (c.tc.loc main_arg0)) (m (c.tc.loc main_arg1)) (m (c.tc.loc main_arg3)) := by
  refine (dats m 0 c).arrAt_eq_of_covers 10 _ (by decide +kernel) fun t hf y => ?_
  blk_simp
  rw [after0_10]
  have last := (flush0_10 t).mp hf
  refine (Pipeline.eq_sum_fin_of_reset_step_apply_of_flush (fun n h => (outsAt0 m c n h).2.2.2.1) 16 (fun _ => 0)
    (fun t j => partSc (iblk m c 0 t) (iblk m c 1 t) (iblk m c 4 t) j) (fun t h j => ?_) (fun t h j => ?_) t last y).trans ?_
  · rw [outsAt0_A m c t h]
    frame_out
    rw [add10, zero10]
  · rw [outsAt0_B m c t h]
    frame_out
    rw [add10]
  rw [zero_add]
  refine Fin.sum_mul_add_congr (S := 16) (n := 256) fun s k hl => ?_
  blk_point [iblk, idx t, idx ⟨16 * (t.val / 16) + s.val, Pipeline.run_point_lt_of_flush t last s⟩]

theorem at20e : (dats m 0 c).arrAt 11 cfg0.N = dn (m (c.tc.loc main_arg0)) (m (c.tc.loc main_arg1)) (m (c.tc.loc main_arg4)) := by
  refine (dats m 0 c).arrAt_eq_of_covers 11 _ (by decide +kernel) fun t hf y => ?_
  blk_simp
  rw [after0_11]
  have last := (flush0_11 t).mp hf
  refine (Pipeline.eq_sum_fin_of_reset_step_apply_of_flush (fun n h => (outsAt0 m c n h).2.2.2.2.1) 16 (fun _ => 0)
    (fun t j => partN (iblk m c 0 t) (iblk m c 1 t) (iblk m c 5 t) j) (fun t h j => ?_) (fun t h j => ?_) t last y).trans ?_
  · rw [outsAt0_A m c t h]
    frame_out
    rw [add11, zero11]
  · rw [outsAt0_B m c t h]
    frame_out
    rw [add11]
  rw [zero_add]
  refine Fin.sum_mul_add_congr (S := 16) (n := 256) fun s k hl => ?_
  blk_point [iblk, idx t, idx ⟨16 * (t.val / 16) + s.val, Pipeline.run_point_lt_of_flush t last s⟩]

theorem at20f : (dats m 0 c).arrAt 12 cfg0.N = dG (Ideal.ofBits .f32 0x3F000000#32) (up m c) (m (c.tc.loc main_arg5)) := by
  refine (dats m 0 c).arrAt_eq_of_covers 12 _ (by decide +kernel) fun t hf y => ?_
  blk_simp
  rw [after0_12]
  have last := (flush0_12 t).mp hf
  refine (Pipeline.eq_sum_fin_of_reset_step_apply_of_flush (fun n h => (outsAt0 m c n h).2.2.2.2.2) 16 (fun _ => 0)
    (fun t j => partG (Ideal.ofBits .f32 0x3F000000#32) (blk m c t) (iblk m c 3 t) j) (fun t h j => ?_) (fun t h j => ?_) t last y).trans ?_
  · rw [outsAt0_A m c t h]
    frame_out
    rw [add12, zero12]
    rfl
  · rw [outsAt0_B m c t h]
    frame_out
    rw [add12]
    rfl
  rw [zero_add]
  refine Fin.sum_mul_add_congr (S := 16) (n := 256) fun s k hl => ?_
  have l : 16 * (t.val / 16) + s.val < cfg0.N := Pipeline.run_point_lt_of_flush t last s
  have z : t.val / 16 = 0 := Nat.div_eq_of_lt (t.isLt.trans_le (by decide +kernel))
  congr 1
  refine congrArg₂ (· * ·) (blk_up m c ⟨_, l⟩ _ _ ?_ ?_) ?_
  · blk_simp [idx t]; (try dsimp only); omega
  · blk_simp [idx t]
  · blk_ext! [iblk, idx t, idx ⟨16 * (t.val / 16) + s.val, l⟩]

/-- The reference's gradient of the stream is the derivative of the norm. -/
theorem ref20a (dy h up : FVec Ideal S4096x2048 .f32) (nw sc : FVec Ideal S1x2048 .f32) :
    val_main_v49 (F := Ideal) dy h up nw sc = dh dy h up nw sc := by
  funext i
  refine Eq.trans ?_ (congrArg (up (ix2 (i 0) (i 1)) + ·)
    (grad (fun k => dy (ix2 (i 0) k) * (nw (ix2 0 k) * (1 + sc (ix2 0 k)))) (fun k => h (ix2 (i 0) k)) (i 1))).symm
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v29, val_main_v28, val_main_v22, val_main_v17, val_main_v16, val_main_v11, val_main_v10, val_main_v9, val_main_v8,
    val_main_v7, val_main_v6, val_main_v5, val_main_v4, val_main_v3, val_main_v2, val_main_v1, val_main_cst, val_main_cst_0,
    val_main_cst_1, val_main_cst_2, val_main_cst_3, val_main_cst_4, val_main_cst_5, val_main_cst_6, val_main_cst_7, val_main_cst_8,
    val_main_cst_9, val_main_cst_10, rinv, msq]
  have e (a b d : EReal) : a * (1 + b) * d = a * (d * (1 + b)) := by ac_rfl
  simp only [Fin.sum_univ_one, e]

theorem ref20c (dy : FVec Ideal S4096x2048 .f32) : val_main_v24 (F := Ideal) dy = dsh dy := by
  funext i
  pointwise [val_main_v24, val_main_v23, val_main_cst_5, dsh]

theorem ref20d (dy h : FVec Ideal S4096x2048 .f32) (nw : FVec Ideal S1x2048 .f32) : val_main_v27 (F := Ideal) dy h nw = dsc dy h nw := by
  funext i
  pointwise [val_main_v27, val_main_v26, val_main_v25, val_main_v22, val_main_v15, val_main_v14, val_main_v13, val_main_v12, val_main_v8, val_main_v7, val_main_v6, val_main_v5,
    val_main_v4, val_main_v3, val_main_v2, val_main_v1, val_main_cst_0, val_main_cst_1, val_main_cst_2, val_main_cst_6, dsc, rinv, msq]
  exact Fin.sum_fin_congr fun k => by ac_rfl

theorem ref20e (dy h : FVec Ideal S4096x2048 .f32) (sc : FVec Ideal S1x2048 .f32) : val_main_v32 (F := Ideal) dy h sc = dn dy h sc := by
  funext i
  pointwise [val_main_v32, val_main_v31, val_main_v30, val_main_v29, val_main_v28, val_main_v22, val_main_v17, val_main_v16, val_main_v13, val_main_v12, val_main_v8, val_main_v7,
    val_main_v6, val_main_v5, val_main_v4, val_main_v3, val_main_v2, val_main_v1, val_main_cst_0, val_main_cst_1, val_main_cst_2,
    val_main_cst_4, val_main_cst_7, dn, rinv, msq]
  exact Fin.sum_fin_congr fun k => by ac_rfl

/-- The gradients of the sub-layer below, of the stream's. -/
theorem ref20b (dy h u : FVec Ideal S4096x2048 .f32) (nw sc g : FVec Ideal S1x2048 .f32) : val_main_v62 (F := Ideal) dy h u nw sc g = dO (Ideal.ofBits .f32 0x3F000000#32) (dh dy h u nw sc) g := by
  funext i
  rw [← ref20a]
  generalize hd : val_main_v49 (F := Ideal) dy h u nw sc = d
  pointwise [val_main_v62, val_main_v56, val_main_v55, val_main_v51, val_main_v50, val_main_cst_11, hd, dO]
  ac_rfl

theorem ref20f (dy h u : FVec Ideal S4096x2048 .f32) (nw sc : FVec Ideal S1x2048 .f32) (o : FVec Ideal S4096x2048 .f32) :
    val_main_v61 (F := Ideal) dy h u nw sc o = dG (Ideal.ofBits .f32 0x3F000000#32) (dh dy h u nw sc) o := by
  funext i
  rw [← ref20a]
  generalize hd : val_main_v49 (F := Ideal) dy h u nw sc = d
  pointwise [val_main_v61, val_main_v60, val_main_v59, val_main_v58, val_main_v57, val_main_cst_12, val_main_cst_13, hd, dG]
  rw [half, mul_comm]
  exact (sum_mul _ _ _ (by norm_num)).symm

end Cert.Kernel20Ideal.Value
-- ==== Proof.Norm1Grad.lean ====
/-
  The first feed-forward layer's norm and modulation, backwards: the arrays the kernel leaves are the reference's.
-/
module

public import proofs.«01_k».proof.Proof.Gen.Kernel21Ideal.Value
public import proofs.«01_k».proof.Proof.Gen.Reference21Ideal.Read
public import proofs.«01_k».proof.Proof.NormParts
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel21Ideal.Value

open Idealize.ShloMosaic Idealize.ShloMosaic.TcCoe Cert.Kernel21Ideal.Gen Cert.Reference21Ideal.Read

open Cert.Norm

/-- Which block each window takes at a grid point. -/
theorem idx : ∀ t : Fin cfg0.N,
    win0_0.index t = ![t.val, 0] ∧ win0_1.index t = ![t.val, 0] ∧ win0_2.index t = ![t.val, 0] ∧ win0_3.index t = ![0, 0]
      ∧ win0_4.index t = ![0, 0] ∧ win0_5.index t = ![t.val, 0] ∧ win0_6.index t = ![0, 0] ∧ win0_7.index t = ![0, 0]
      ∧ win0_8.index t = ![0, 0] := by
  decide +kernel

variable (m : (ℓ : Loc nD τ sig) → Buf (Elt Ideal) ℓ) (c : Dev nD)

theorem at21a : (dats m 0 c).arrAt 5 cfg0.N =
    dh (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  by_cases h0 : t.val % 16 = 0
  · rw [outsAt0_A m c t h0]
    frame_out
    pointwise [k0_pay9, k0_pay8, k0_pay7, dh, rinv, msq]
    blk_point [iblk, idx t]
  · rw [outsAt0_B m c t h0]
    frame_out
    pointwise [k0_pay9, k0_pay8, k0_pay7, dh, rinv, msq]
    blk_point [iblk, idx t]

theorem zero6 (j : S1x2048.Idx) : k0_pay1 (F := Ideal) j = 0 := by pointwise [k0_pay1]
theorem zero7 (j : S1x2048.Idx) : k0_pay2 (F := Ideal) j = 0 := by pointwise [k0_pay2]
theorem zero8 (j : S1x2048.Idx) : k0_pay3 (F := Ideal) j = 0 := by pointwise [k0_pay3]

theorem add6 (p : Vec Ideal S256x2048 .f32) (acc : Vec Ideal S1x2048 .f32) (j : S1x2048.Idx) :
    k0_pay4 (k0_pay10 p) acc j = acc j + partSh p j := by
  pointwise [k0_pay4, k0_pay10, partSh]
theorem add7 (p h : Vec Ideal S256x2048 .f32) (nw : Vec Ideal S1x2048 .f32) (acc : Vec Ideal S1x2048 .f32) (j : S1x2048.Idx) :
    k0_pay5 (k0_pay11 p h nw) acc j = acc j + partSc p h nw j := by
  pointwise [k0_pay5, k0_pay11, k0_pay8, k0_pay7, partSc, rinv, msq]
theorem add8 (p h : Vec Ideal S256x2048 .f32) (sc : Vec Ideal S1x2048 .f32) (acc : Vec Ideal S1x2048 .f32) (j : S1x2048.Idx) :
    k0_pay6 sc (k0_pay12 p h) k0_pay13 acc j = acc j + partN p h sc j := by
  pointwise [k0_pay6, k0_pay12, k0_pay13, k0_pay8, k0_pay7, partN, rinv, msq]

theorem at21b : (dats m 0 c).arrAt 6 cfg0.N = dsh (m (c.tc.loc main_arg0)) := by
  refine (dats m 0 c).arrAt_eq_of_covers 6 _ (by decide +kernel) fun t hf y => ?_
  blk_simp
  rw [after0_6]
  have last := (flush0_6 t).mp hf
  refine (Pipeline.eq_sum_fin_of_reset_step_apply_of_flush (fun n h => (outsAt0 m c n h).2.1) 16 (fun _ => 0)
    (fun t j => partSh (iblk m c 0 t) j) (fun t h j => ?_) (fun t h j => ?_) t last y).trans ?_
  · rw [outsAt0_A m c t h]
    frame_out
    rw [add6, zero6]
  · rw [outsAt0_B m c t h]
    frame_out
    rw [add6]
  rw [zero_add]
  refine Fin.sum_mul_add_congr (S := 16) (n := 256) fun s k hl => ?_
  blk_ext [iblk, idx t, idx ⟨16 * (t.val / 16) + s.val, Pipeline.run_point_lt_of_flush t last s⟩]

theorem at21c : (dats m 0 c).arrAt 7 cfg0.N = dsc (m (c.tc.loc main_arg0)) (m (c.tc.loc main_arg1)) (m (c.tc.loc main_arg3)) := by
  refine (dats m 0 c).arrAt_eq_of_covers 7 _ (by decide +kernel) fun t hf y => ?_
  blk_simp
  rw [after0_7]
  have last := (flush0_7 t).mp hf
  refine (Pipeline.eq_sum_fin_of_reset_step_apply_of_flush (fun n h => (outsAt0 m c n h).2.2.1) 16 (fun _ => 0)
    (fun t j => partSc (iblk m c 0 t) (iblk m c 1 t) (iblk m c 3 t) j) (fun t h j => ?_) (fun t h j => ?_) t last y).trans ?_
  · rw [outsAt0_A m c t h]
    frame_out
    rw [add7, zero7]
  · rw [outsAt0_B m c t h]
    frame_out
    rw [add7]
  rw [zero_add]
  refine Fin.sum_mul_add_congr (S := 16) (n := 256) fun s k hl => ?_
  blk_point [iblk, idx t, idx ⟨16 * (t.val / 16) + s.val, Pipeline.run_point_lt_of_flush t last s⟩]

theorem at21d : (dats m 0 c).arrAt 8 cfg0.N = dn (m (c.tc.loc main_arg0)) (m (c.tc.loc main_arg1)) (m (c.tc.loc main_arg4)) := by
  refine (dats m 0 c).arrAt_eq_of_covers 8 _ (by decide +kernel) fun t hf y => ?_
  blk_simp
  rw [after0_8]
  have last := (flush0_8 t).mp hf
  refine (Pipeline.eq_sum_fin_of_reset_step_apply_of_flush (fun n h => (outsAt0 m c n h).2.2.2) 16 (fun _ => 0)
    (fun t j => partN (iblk m c 0 t) (iblk m c 1 t) (iblk m c 4 t) j) (fun t h j => ?_) (fun t h j => ?_) t last y).trans ?_
  · rw [outsAt0_A m c t h]
    frame_out
    rw [add8, zero8]
  · rw [outsAt0_B m c t h]
    frame_out
    rw [add8]
  rw [zero_add]
  refine Fin.sum_mul_add_congr (S := 16) (n := 256) fun s k hl => ?_
  blk_point [iblk, idx t, idx ⟨16 * (t.val / 16) + s.val, Pipeline.run_point_lt_of_flush t last s⟩]

/-- The reference's gradient of the stream is the derivative of the norm. -/
theorem ref21a (dy h up : FVec Ideal S4096x2048 .f32) (nw sc : FVec Ideal S1x2048 .f32) :
    val_main_v49 (F := Ideal) dy h up nw sc = dh dy h up nw sc := by
  funext i
  refine Eq.trans ?_ (congrArg (up (ix2 (i 0) (i 1)) + ·)
    (grad (fun k => dy (ix2 (i 0) k) * (nw (ix2 0 k) * (1 + sc (ix2 0 k)))) (fun k => h (ix2 (i 0) k)) (i 1))).symm
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v29, val_main_v28, val_main_v22, val_main_v17, val_main_v16, val_main_v11, val_main_v10, val_main_v9, val_main_v8,
    val_main_v7, val_main_v6, val_main_v5, val_main_v4, val_main_v3, val_main_v2, val_main_v1, val_main_cst, val_main_cst_0,
    val_main_cst_1, val_main_cst_2, val_main_cst_3, val_main_cst_4, val_main_cst_5, val_main_cst_6, val_main_cst_7, val_main_cst_8,
    val_main_cst_9, val_main_cst_10, rinv, msq]
  have e (a b d : EReal) : a * (1 + b) * d = a * (d * (1 + b)) := by ac_rfl
  simp only [Fin.sum_univ_one, e]

theorem ref21b (dy : FVec Ideal S4096x2048 .f32) : val_main_v24 (F := Ideal) dy = dsh dy := by
  funext i
  pointwise [val_main_v24, val_main_v23, val_main_cst_5, dsh]

theorem ref21c (dy h : FVec Ideal S4096x2048 .f32) (nw : FVec Ideal S1x2048 .f32) : val_main_v27 (F := Ideal) dy h nw = dsc dy h nw := by
  funext i
  pointwise [val_main_v27, val_main_v26, val_main_v25, val_main_v22, val_main_v15, val_main_v14, val_main_v13, val_main_v12, val_main_v8, val_main_v7, val_main_v6, val_main_v5,
    val_main_v4, val_main_v3, val_main_v2, val_main_v1, val_main_cst_0, val_main_cst_1, val_main_cst_2, val_main_cst_6, dsc, rinv, msq]
  exact Fin.sum_fin_congr fun k => by ac_rfl

theorem ref21d (dy h : FVec Ideal S4096x2048 .f32) (sc : FVec Ideal S1x2048 .f32) : val_main_v32 (F := Ideal) dy h sc = dn dy h sc := by
  funext i
  pointwise [val_main_v32, val_main_v31, val_main_v30, val_main_v29, val_main_v28, val_main_v22, val_main_v17, val_main_v16, val_main_v13, val_main_v12, val_main_v8, val_main_v7,
    val_main_v6, val_main_v5, val_main_v4, val_main_v3, val_main_v2, val_main_v1, val_main_cst_0, val_main_cst_1, val_main_cst_2,
    val_main_cst_4, val_main_cst_7, dn, rinv, msq]
  exact Fin.sum_fin_congr fun k => by ac_rfl

end Cert.Kernel21Ideal.Value
-- ==== Proof.Loss.lean ====
/-
  The loss, and back through the last norm into the second feed-forward layer's residual sum: the arrays the kernel leaves
  are the reference's.
-/
module

public import proofs.«01_k».proof.Proof.Gen.Kernel22Ideal.Value
public import proofs.«01_k».proof.Proof.Gen.Reference22Ideal.Read
public import proofs.«01_k».proof.Proof.NormParts
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel22Ideal.Value

open Idealize.ShloMosaic Idealize.ShloMosaic.TcCoe Cert.Kernel22Ideal.Gen Cert.Reference22Ideal.Read

open Cert.Norm

/-- Which block each window takes at a grid point. -/
theorem idx : ∀ t : Fin cfg0.N,
    win0_0.index t = ![t.val, 0] ∧ win0_1.index t = ![t.val, 0] ∧ win0_2.index t = ![t.val, 0] ∧ win0_3.index t = ![0, 0]
      ∧ win0_4.index t = ![0, 0] ∧ win0_5.index t = ![t.val, 0] ∧ win0_6.index t = ![t.val, 0] ∧ win0_7.index t = ![0, 0]
      ∧ win0_8.index t = ![0, 0] ∧ win0_9.index t = ![0, 0] := by
  decide +kernel

variable (m : (ℓ : Loc nD τ sig) → Buf (Elt Ideal) ℓ) (c : Dev nD)

/-- How far the normed stream is from the target. -/
def err (h target : Stream) (nw : Row) : Stream :=
  fun i => h (ix2 (i 0) (i 1)) * rinv (fun k => h (ix2 (i 0) k)) * nw (ix2 0 (i 1)) - target (ix2 (i 0) (i 1))

/-- Half the sum over the tokens of the mean square distance, on every lane. -/
def loss (h target : Stream) (nw : Row) : FVec Ideal S1x128 .f32 :=
  fun _ => ∑ k : Fin 4096, Ideal.ofBits .f32 0x3F000000#32 *
    Ideal.div (∑ j : Fin 2048, err h target nw (ix2 k j) * err h target nw (ix2 k j)) (Ideal.ofBits .f32 0x45000000#32)

/-- The gradient of the normed stream. -/
def dz (h target : Stream) (nw : Row) : Stream := fun i => err h target nw (ix2 (i 0) (i 1)) * Ideal.ofBits .f32 0x3A000000#32

/-- The gradient of the stream. -/
def dx (h target : Stream) (nw : Row) : Stream :=
  fun i => rinv (fun k => h (ix2 (i 0) k)) *
    (dz h target nw (ix2 (i 0) (i 1)) * nw (ix2 0 (i 1)) - h (ix2 (i 0) (i 1)) * rinv (fun k => h (ix2 (i 0) k)) *
      Ideal.div (∑ k : Fin 2048, dz h target nw (ix2 (i 0) k) * nw (ix2 0 k) * (h (ix2 (i 0) k) * rinv (fun k => h (ix2 (i 0) k))))
        (Ideal.ofBits .f32 0x45000000#32))

/-- The gradient of the norm's weight. -/
def dw (h target : Stream) (nw : Row) : Row :=
  fun i => ∑ k : Fin 4096, dz h target nw (ix2 k (i 1)) * (h (ix2 k (i 1)) * rinv (fun l => h (ix2 k l)))

/-- The stream's gradient of this call's arguments. -/
def up (m : (ℓ : Loc nD τ sig) → Buf (Elt Ideal) ℓ) (c : Dev nD) : Stream :=
  dx (m (c.tc.loc main_arg0)) (m (c.tc.loc main_arg1)) (m (c.tc.loc main_arg2))

/-- A grid point's block of it. -/
def blk (m : (ℓ : Loc nD τ sig) → Buf (Elt Ideal) ℓ) (c : Dev nD) (t : Fin cfg0.N) : Block :=
  k0_pay6 (iblk m c 0 t) (iblk m c 1 t) (iblk m c 3 t)

theorem blk_up (t : Fin cfg0.N) (y : S256x2048.Idx) (i : S4096x2048.Idx) (h0 : (i 0).val = 256 * t.val + (y 0).val)
    (h1 : (i 1).val = (y 1).val) : blk m c t y = up m c i := by
  unfold blk up
  pointwise [k0_pay6, k0_pay5, k0_pay4, k0_pay3, k0_pay2, dx, dz, err, rinv, msq]
  blk_point [iblk, idx t]

theorem at22a : (dats m 0 c).arrAt 5 cfg0.N = up m c := by
  refine (dats m 0 c).arrAt_eq_of_covers 5 _ (by decide +kernel) fun t hf y => ?_
  blk_simp
  rw [after0_5]
  by_cases h0 : t.val % 16 = 0
  · rw [outsAt0_A m c t h0]
    frame_out
    pointwise [k0_pay6, k0_pay5, k0_pay4, k0_pay3, k0_pay2, up, dx, dz, err, rinv, msq]
    blk_point [iblk, idx t]
  · rw [outsAt0_B m c t h0]
    frame_out
    pointwise [k0_pay6, k0_pay5, k0_pay4, k0_pay3, k0_pay2, up, dx, dz, err, rinv, msq]
    blk_point [iblk, idx t]

theorem at22b : (dats m 0 c).arrAt 6 cfg0.N = dO (Ideal.ofBits .f32 0x3F000000#32) (up m c) (m (c.tc.loc main_arg4)) := by
  refine (dats m 0 c).arrAt_eq_of_covers 6 _ (by decide +kernel) fun t hf y => ?_
  blk_simp
  rw [after0_6]
  by_cases h0 : t.val % 16 = 0
  · rw [outsAt0_A m c t h0]
    frame_out
    pointwise [k0_pay8, k0_pay6, k0_pay5, k0_pay4, k0_pay3, k0_pay2, dO, up, dx, dz, err, rinv, msq]
    blk_point [iblk, idx t]
  · rw [outsAt0_B m c t h0]
    frame_out
    pointwise [k0_pay8, k0_pay6, k0_pay5, k0_pay4, k0_pay3, k0_pay2, dO, up, dx, dz, err, rinv, msq]
    blk_point [iblk, idx t]

/-- What one grid point adds to the loss and to the gradient of the norm's weight. -/
def partL (h target : Block) (nw : Row) : Vec Ideal S1x128 .f32 :=
  fun _ => ∑ k : Fin 256, Ideal.ofBits .f32 0x3F000000#32 * Ideal.div (∑ j : Fin 2048,
    (h (ix2 k j) * rinv (fun l => h (ix2 k l)) * nw (ix2 0 j) - target (ix2 k j)) *
      (h (ix2 k j) * rinv (fun l => h (ix2 k l)) * nw (ix2 0 j) - target (ix2 k j))) (Ideal.ofBits .f32 0x45000000#32)
def partW (h target : Block) (nw : Row) : Row :=
  fun i => ∑ k : Fin 256, (h (ix2 k (i 1)) * rinv (fun l => h (ix2 k l)) * nw (ix2 0 (i 1)) - target (ix2 k (i 1))) *
    Ideal.ofBits .f32 0x3A000000#32 * (h (ix2 k (i 1)) * rinv (fun l => h (ix2 k l)))

theorem zero7 (j : S1x128.Idx) : k0_pay9 (F := Ideal) j = 0 := by pointwise [k0_pay9]
theorem zero8 (j : S1x2048.Idx) : k0_pay10 (F := Ideal) j = 0 := by pointwise [k0_pay10]
theorem zero9 (j : S1x2048.Idx) : k0_pay11 (F := Ideal) j = 0 := by pointwise [k0_pay11]

/-- The half multiplies each term of a sum. -/
theorem half_sum {n : ℕ} (f : Fin n → EReal) :
    Ideal.ofBits .f32 0x3F000000#32 * ∑ k, f k = ∑ k, Ideal.ofBits .f32 0x3F000000#32 * f k := by
  rw [half, mul_comm, ← sum_mul _ _ _ (by norm_num)]
  exact Finset.sum_congr rfl fun k _ => mul_comm _ _

theorem add7 (h g : Vec Ideal S256x2048 .f32) (nw : Vec Ideal S1x2048 .f32) (acc : Vec Ideal S1x128 .f32) (j : S1x128.Idx) :
    k0_pay12 (k0_pay7 h g nw) acc j = acc j + partL h g nw j := by
  rw [partL, ← half_sum]
  pointwise [k0_pay12, k0_pay7, k0_pay4, k0_pay3, k0_pay2, rinv, msq]
theorem add8 (h g : Vec Ideal S256x2048 .f32) (nw acc : Vec Ideal S1x2048 .f32) (j : S1x2048.Idx) :
    k0_pay13 (k0_pay3 h) (k0_pay5 h g nw) acc j = acc j + partW h g nw j := by
  pointwise [k0_pay13, k0_pay5, k0_pay4, k0_pay3, k0_pay2, partW, rinv, msq]
theorem add9 (o : Vec Ideal S256x2048 .bf16) (d : Vec Ideal S256x2048 .f32) (acc : Vec Ideal S1x2048 .f32) (j : S1x2048.Idx) :
    k0_pay14 (k0_pay1 o) d acc j = acc j + partG (Ideal.ofBits .f32 0x3F000000#32) d o j := by
  pointwise [k0_pay14, k0_pay1, partG]

theorem at22c : (dats m 0 c).arrAt 7 cfg0.N = loss (m (c.tc.loc main_arg0)) (m (c.tc.loc main_arg1)) (m (c.tc.loc main_arg2)) := by
  refine (dats m 0 c).arrAt_eq_of_covers 7 _ (by decide +kernel) fun t hf y => ?_
  blk_simp
  rw [after0_7]
  have last := (flush0_7 t).mp hf
  refine (Pipeline.eq_sum_fin_of_reset_step_apply_of_flush (fun n h => (outsAt0 m c n h).2.2.1) 16 (fun _ => 0)
    (fun t j => partL (iblk m c 0 t) (iblk m c 1 t) (iblk m c 3 t) j) (fun t h j => ?_) (fun t h j => ?_) t last y).trans ?_
  · rw [outsAt0_A m c t h]
    frame_out
    rw [add7, zero7]
  · rw [outsAt0_B m c t h]
    frame_out
    rw [add7]
  rw [zero_add]
  refine Fin.sum_mul_add_congr (S := 16) (n := 256) fun s k hl => ?_
  simp only [dz, err]
  blk_point [iblk, idx t, idx ⟨16 * (t.val / 16) + s.val, Pipeline.run_point_lt_of_flush t last s⟩]

theorem at22d : (dats m 0 c).arrAt 8 cfg0.N = dw (m (c.tc.loc main_arg0)) (m (c.tc.loc main_arg1)) (m (c.tc.loc main_arg2)) := by
  refine (dats m 0 c).arrAt_eq_of_covers 8 _ (by decide +kernel) fun t hf y => ?_
  blk_simp
  rw [after0_8]
  have last := (flush0_8 t).mp hf
  refine (Pipeline.eq_sum_fin_of_reset_step_apply_of_flush (fun n h => (outsAt0 m c n h).2.2.2.1) 16 (fun _ => 0)
    (fun t j => partW (iblk m c 0 t) (iblk m c 1 t) (iblk m c 3 t) j) (fun t h j => ?_) (fun t h j => ?_) t last y).trans ?_
  · rw [outsAt0_A m c t h]
    frame_out
    rw [add8, zero8]
  · rw [outsAt0_B m c t h]
    frame_out
    rw [add8]
  rw [zero_add]
  refine Fin.sum_mul_add_congr (S := 16) (n := 256) fun s k hl => ?_
  simp only [dz, err]
  blk_point [iblk, idx t, idx ⟨16 * (t.val / 16) + s.val, Pipeline.run_point_lt_of_flush t last s⟩]

theorem at22e : (dats m 0 c).arrAt 9 cfg0.N = dG (Ideal.ofBits .f32 0x3F000000#32) (up m c) (m (c.tc.loc main_arg3)) := by
  refine (dats m 0 c).arrAt_eq_of_covers 9 _ (by decide +kernel) fun t hf y => ?_
  blk_simp
  rw [after0_9]
  have last := (flush0_9 t).mp hf
  refine (Pipeline.eq_sum_fin_of_reset_step_apply_of_flush (fun n h => (outsAt0 m c n h).2.2.2.2) 16 (fun _ => 0)
    (fun t j => partG (Ideal.ofBits .f32 0x3F000000#32) (blk m c t) (iblk m c 2 t) j) (fun t h j => ?_) (fun t h j => ?_) t last y).trans ?_
  · rw [outsAt0_A m c t h]
    frame_out
    rw [add9, zero9]
    rfl
  · rw [outsAt0_B m c t h]
    frame_out
    rw [add9]
    rfl
  rw [zero_add]
  refine Fin.sum_mul_add_congr (S := 16) (n := 256) fun s k hl => ?_
  have l : 16 * (t.val / 16) + s.val < cfg0.N := Pipeline.run_point_lt_of_flush t last s
  have z : t.val / 16 = 0 := Nat.div_eq_of_lt (t.isLt.trans_le (by decide +kernel))
  congr 1
  refine congrArg₂ (· * ·) (blk_up m c ⟨_, l⟩ _ _ ?_ ?_) ?_
  · blk_simp [idx t]; (try dsimp only); omega
  · blk_simp [idx t]
  · blk_ext! [iblk, idx t, idx ⟨16 * (t.val / 16) + s.val, l⟩]

/-- The derivative of half the mean of a square is the number over the row's length. -/
theorem slope (e : EReal) :
    Ideal.div (Ideal.ofBits .f32 0x3F000000#32 * 1) (Ideal.ofBits .f32 0x45000000#32) * (Ideal.ofBits .f32 0x40000000#32 * e) =
      e * Ideal.ofBits .f32 0x3A000000#32 := by
  rw [mean, half, two, step, mul_one, ← mul_assoc, mul_comm, ← EReal.coe_mul, ← EReal.coe_mul]
  congr 2
  norm_num

theorem ref22z (h g : FVec Ideal S4096x2048 .f32) (nw : FVec Ideal S1x2048 .f32) : val_main_v29 (F := Ideal) h g nw = dz h g nw := by
  funext i
  rw [dz, ← slope]
  pointwise [val_main_v29, val_main_v28, val_main_v27, val_main_v26, val_main_v25, val_main_v24, val_main_v18, val_main_v17, val_main_cst_3,
    val_main_cst_8, val_main_cst_9, val_main_cst_10, val_main_v15, val_main_v14, val_main_v13, val_main_v12, val_main_v11, val_main_v8, val_main_v7, val_main_v6, val_main_v5, val_main_v4, val_main_v3, val_main_v2, val_main_v1, val_main_v0,
    val_main_cst, val_main_cst_0, val_main_cst_1, err, rinv, msq]

/-- The reference's gradient of the stream is the derivative of the norm. -/
theorem ref22a (h g : FVec Ideal S4096x2048 .f32) (nw : FVec Ideal S1x2048 .f32) : val_main_v48 (F := Ideal) h g nw = dx h g nw := by
  funext i
  refine Eq.trans ?_ (grad (fun k => dz h g nw (ix2 (i 0) k) * nw (ix2 0 k)) (fun k => h (ix2 (i 0) k)) (i 1)).symm
  rw [← ref22z]
  generalize hz : val_main_v29 (F := Ideal) h g nw = z
  pointwise [val_main_v48, val_main_v47, val_main_v46, val_main_v45, val_main_v44, val_main_v43, val_main_v42,
    val_main_v41, val_main_v40, val_main_v39, val_main_v38, val_main_v37, val_main_v36, val_main_v35, val_main_v34, val_main_v33,
    hz, val_main_v10, val_main_v9, val_main_v8, val_main_v7, val_main_v6, val_main_v5, val_main_v4, val_main_v3, val_main_v2, val_main_v1, val_main_v0,
    val_main_cst, val_main_cst_0, val_main_cst_1,
    val_main_cst_2, val_main_cst_12, val_main_cst_13, val_main_cst_14, rinv, msq]
  simp only [Fin.sum_univ_one]

/-- The gradients of the sub-layer below, of the stream's. -/
theorem ref22b (h g : FVec Ideal S4096x2048 .f32) (nw b : FVec Ideal S1x2048 .f32) : val_main_v61 (F := Ideal) h g nw b = dO (Ideal.ofBits .f32 0x3F000000#32) (dx h g nw) b := by
  funext i
  rw [← ref22a]
  generalize hd : val_main_v48 (F := Ideal) h g nw = d
  pointwise [val_main_v61, val_main_v55, val_main_v54, val_main_v50, val_main_v49, val_main_cst_15, hd, dO]
  ac_rfl

theorem ref22c (h g : FVec Ideal S4096x2048 .f32) (nw : FVec Ideal S1x2048 .f32) : val_main_v62 (F := Ideal) h g nw = loss h g nw := by
  funext i
  rw [loss, ← half_sum]
  pointwise [val_main_v62, val_main_v23, val_main_v22, val_main_v21, val_main_v20, val_main_v19, val_main_v16, val_main_cst_4,
    val_main_cst_5, val_main_cst_6, val_main_cst_7, val_main_v15, val_main_v14, val_main_v13, val_main_v12, val_main_v11, val_main_v8, val_main_v7, val_main_v6, val_main_v5, val_main_v4, val_main_v3, val_main_v2, val_main_v1, val_main_v0,
    val_main_cst, val_main_cst_0, val_main_cst_1, err, rinv, msq]

theorem ref22d (h g : FVec Ideal S4096x2048 .f32) (nw : FVec Ideal S1x2048 .f32) : val_main_v32 (F := Ideal) h g nw = dw h g nw := by
  funext i
  rw [dw, ← ref22z]
  generalize hz : val_main_v29 (F := Ideal) h g nw = z
  pointwise [val_main_v32, val_main_v31, val_main_v30, val_main_cst_11, hz, val_main_v12, val_main_v11, val_main_v8, val_main_v7, val_main_v6, val_main_v5, val_main_v4, val_main_v3, val_main_v2, val_main_v1, val_main_v0,
    val_main_cst, val_main_cst_0, val_main_cst_1, rinv, msq]
  exact Fin.sum_fin_congr fun k => by ac_rfl

theorem ref22e (h g : FVec Ideal S4096x2048 .f32) (nw : FVec Ideal S1x2048 .f32) (o : FVec Ideal S4096x2048 .f32) : val_main_v60 (F := Ideal) h g nw o = dG (Ideal.ofBits .f32 0x3F000000#32) (dx h g nw) o := by
  funext i
  rw [← ref22a]
  generalize hd : val_main_v48 (F := Ideal) h g nw = d
  pointwise [val_main_v60, val_main_v59, val_main_v58, val_main_v57, val_main_v56, val_main_cst_16, val_main_cst_17, hd, dG]
  rw [half, mul_comm]
  exact (sum_mul _ _ _ (by norm_num)).symm

end Cert.Kernel22Ideal.Value
-- ==== Proof.DwAda.lean ====
/-
  The gradient of the modulation's matrix: the array the kernel leaves is the reference's.
-/
module

public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel23Ideal.Value

open Idealize.ShloMosaic Idealize.ShloMosaic.TcCoe Cert.Kernel23Ideal.Gen Cert.Reference23Ideal.Read

/-- Which block each window takes at a grid point. -/
theorem idx : ∀ t : Fin cfg0.N,
    win0_0.index t = ![0, t.val, 0] ∧ win0_1.index t = ![0, 0, 0] ∧ win0_2.index t = ![0, t.val, 0] := by
  decide +kernel

variable (m : (ℓ : Loc nD τ sig) → Buf (Elt Ideal) ℓ) (c : Dev nD)

/-- One element of the gradient: a sum over the devices' conditioning vectors. -/
def dw (x : FVec Ideal S8x2048 .f32) (z : FVec Ideal S8x2304 .f32) : FVec Ideal S1x2048x2304 .f32 :=
  fun i => ∑ k : Fin 8, x (ix2 k (i 1)) * z (ix2 k (i 2))

/-- A sum whose terms vanish after the eighth. -/
theorem sum_first (f : Fin 128 → EReal) (g : Fin 8 → EReal) (h : ∀ k : Fin 128, f k = if l : k.val < 8 then g ⟨k.val, l⟩ else 0) :
    ∑ k, f k = ∑ k, g k := by
  rw [Fin.sum_univ_add (a := 8) (b := 120)]
  have z : ∑ k : Fin 120, f (Fin.natAdd 8 k) = 0 := Finset.sum_eq_zero fun k _ => by
    rw [h, dif_neg (by simp)]
  rw [z, add_zero]
  exact Finset.sum_congr rfl fun k _ => by rw [h, dif_pos (by simp)]; rfl

/-- The number the rows are filled with. -/
theorem zero : FloatOps.sitofp (F := Ideal) .f32 (0#32) = (0 : EReal) := by
  change (((0#32 : BitVec 32).toInt : ℝ) : EReal) = 0
  simp

/-- The two operands as the grid finds them: the arguments, and zeros from row eight of the contracted axis on. -/
theorem left (i : S1x2048x128.Idx) :
    V m c main_v3 i = if l : (i 2).val < 8 then m (c.tc.loc main_arg0) (ix2 ⟨(i 2).val, l⟩ (i 1)) else (0 : EReal) := by
  simp only [V, List.flatten_cons, List.flatten_nil, List.append_nil, List.cons_append, List.nil_append]
  entry_read
  simp -implicitDefEqProofs only [StableHlo.TRef.toBuf, StableHlo.TRef.ofBuf, cast_cast, cast_eq]
  pointwise
  rw [zero]

theorem right (i : S1x128x2304.Idx) :
    V m c main_v4 i = if l : (i 1).val < 8 then m (c.tc.loc main_arg1) (ix2 ⟨(i 1).val, l⟩ (i 2)) else (0 : EReal) := by
  simp only [V, List.flatten_cons, List.flatten_nil, List.append_nil, List.cons_append, List.nil_append]
  entry_read
  simp -implicitDefEqProofs only [StableHlo.TRef.toBuf, StableHlo.TRef.ofBuf, cast_cast, cast_eq]
  pointwise
  rw [zero]

theorem at23 : (dats m 0 c).arrAt 2 cfg0.N = dw (m (c.tc.loc main_arg0)) (m (c.tc.loc main_arg1)) := by
  refine (dats m 0 c).arrAt_eq_of_covers 2 _ (by decide +kernel) fun t hf y => ?_
  blk_simp
  rw [after0_2]
  frame_out
  pointwise [k0_pay1, dw]
  refine sum_first _ _ fun k => ?_
  have a : iblk m c 0 t (ix3 0 (y 1) k) = V m c main_v3 (ix3 0 ((win0_2.blk t).view.emb y 1) k) := by
    blk_ext [iblk, idx t]
  have b : iblk m c 1 t (ix3 0 k (y 2)) = V m c main_v4 (ix3 0 k ((win0_2.blk t).view.emb y 2)) := by
    blk_ext [iblk, idx t]
  rw [a, b, left, right]
  by_cases l : k.val < 8
  · rw [dif_pos l]
    exact congrArg₂ (· * ·) (dif_pos l) (dif_pos l)
  · rw [dif_neg l]
    exact (congrArg₂ (· * ·) (dif_neg l) (dif_neg l)).trans (mul_zero _)

theorem ref23 (x : FVec Ideal S8x2048 .f32) (z : FVec Ideal S8x2304 .f32) : val_main_v4 (F := Ideal) x z = dw x z := by
  funext i
  pointwise [val_main_v4, val_main_v3, val_main_v2, dw]
  exact Fin.sum_fin_congr fun k => mul_comm _ _

end Cert.Kernel23Ideal.Value
-- ==== Proof.NormMod.lean ====
/-
  A sub-layer's norm and modulation: the array the kernel leaves is the reference's.
-/
module

public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel24Ideal.Value

open Idealize.ShloMosaic Idealize.ShloMosaic.TcCoe Cert.Kernel24Ideal.Gen Cert.Reference24Ideal.Read

/-- Which block each window takes at a grid point. -/
theorem idx : ∀ t : Fin cfg0.N,
    win0_0.index t = ![t.val, 0] ∧ win0_1.index t = ![0, 0] ∧ win0_2.index t = ![0, 0] ∧ win0_3.index t = ![0, 0]
      ∧ win0_4.index t = ![t.val, 0] := by
  decide +kernel

variable (m : (ℓ : Loc nD τ sig) → Buf (Elt Ideal) ℓ) (c : Dev nD)

/-- One element of the layer's input. -/
def y (h : FVec Ideal S4096x2048 .f32) (nw sc sh : FVec Ideal S1x2048 .f32) : FVec Ideal S4096x2048 .bf16 :=
  fun i => h (ix2 (i 0) (i 1)) * Ideal.rsqrt (Ideal.div (∑ k : Fin 2048, h (ix2 (i 0) k) * h (ix2 (i 0) k)) (Ideal.ofBits .f32 0x45000000#32) +
    Ideal.ofBits .f32 0x358637BD#32) * nw (ix2 0 (i 1)) * (1 + sc (ix2 0 (i 1))) + sh (ix2 0 (i 1))

theorem at24 : (dats m 0 c).arrAt 4 cfg0.N =
    y (m (c.tc.loc main_arg0)) (m (c.tc.loc main_arg1)) (m (c.tc.loc main_arg2)) (m (c.tc.loc main_arg3)) := by
  refine (dats m 0 c).arrAt_eq_of_covers 4 _ (by decide +kernel) fun t hf j => ?_
  blk_simp
  rw [after0_4]
  frame_out
  pointwise [k0_pay1, y]
  blk_point [iblk, idx t]

theorem ref24 (h : FVec Ideal S4096x2048 .f32) (nw sc sh : FVec Ideal S1x2048 .f32) : val_main_v18 (F := Ideal) h nw sc sh = y h nw sc sh := by
  funext i
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2, y]

end Cert.Kernel24Ideal.Value
-- ==== Proof.SiluC.lean ====
/-
  The activation of the conditioning vectors: the array the kernel leaves is the reference's.
-/
module

public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel25Ideal.Value

open Idealize.ShloMosaic Idealize.ShloMosaic.TcCoe Cert.Kernel25Ideal.Gen Cert.Reference25Ideal.Read

/-- Every window takes its whole array. -/
theorem idx : ∀ t : Fin cfg0.N, win0_0.index t = ![0, 0] ∧ win0_1.index t = ![0, 0] := by
  decide +kernel

variable (m : (ℓ : Loc nD τ sig) → Buf (Elt Ideal) ℓ) (c : Dev nD)

/-- One element of the activation. -/
def act (x : FVec Ideal S8x2048 .f32) : FVec Ideal S8x2048 .f32 :=
  fun i => x (ix2 (i 0) (i 1)) * Ideal.div 1 (1 + Ideal.exp (0 - x (ix2 (i 0) (i 1))))

theorem at25 : (dats m 0 c).arrAt 1 cfg0.N = act (m (c.tc.loc main_arg0)) := by
  refine (dats m 0 c).arrAt_eq_of_covers 1 _ (by decide +kernel) fun t hf y => ?_
  blk_simp
  rw [after0_1]
  frame_out
  pointwise [k0_pay1, act]
  blk_point [iblk, idx t]

theorem ref25 (x : FVec Ideal S8x2048 .f32) : val_main_v0 (F := Ideal) x = act x := by
  funext i
  pointwise [val_main_v0, val_main_call0_v5, val_main_call0_v4, val_main_call0_v3, val_main_call0_v2, val_main_call0_v1,
    val_main_call0_v0, val_main_call0_cst, val_main_call0_cst_0, act]
  rw [zero_sub]

end Cert.Kernel25Ideal.Value
-- ==== Proof.Modulation.lean ====
/-
  The modulation: the array the kernel leaves is the reference's.
-/
module

public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel26Ideal.Value

open Idealize.ShloMosaic Idealize.ShloMosaic.TcCoe Cert.Kernel26Ideal.Gen Cert.Reference26Ideal.Read

/-- Which block each window takes at a grid point. -/
theorem idx : ∀ t : Fin cfg0.N,
    win0_0.index t = ![0, 0, t.val] ∧ win0_1.index t = ![0, t.val, 0] ∧ win0_2.index t = ![0, 0] ∧ win0_3.index t = ![0, 0, 0] := by
  decide +kernel

variable (m : (ℓ : Loc nD τ sig) → Buf (Elt Ideal) ℓ) (c : Dev nD)

/-- One element of the modulation. -/
def out (x : FVec Ideal S8x2048 .f32) (w : FVec Ideal S2048x2304 .f32) (b : FVec Ideal S1x2304 .f32) : FVec Ideal S1x8x2304 .f32 :=
  fun i => (∑ k : Fin 2048, x (ix2 (i 1) k) * w (ix2 k (i 2))) + b (ix2 0 (i 2))

/-- What one grid point adds. -/
def part (p : Vec Ideal S1x8x512 .f32) (q : Vec Ideal S1x512x2304 .f32) : Vec Ideal S1x8x2304 .f32 :=
  fun j => ∑ k : Fin 512, p (ix3 0 (j 1) k) * q (ix3 0 k (j 2))

theorem pay2_at (p : Vec Ideal S1x8x512 .f32) (q : Vec Ideal S1x512x2304 .f32) (acc : Vec Ideal S1x8x2304 .f32) (j : S1x8x2304.Idx) :
    k0_pay2 p q acc j = acc j + part p q j := by
  pointwise [k0_pay2, part]

theorem pay1_at (j : S1x8x2304.Idx) : k0_pay1 (F := Ideal) j = 0 := by
  pointwise [k0_pay1]

theorem pay3_at (acc : Vec Ideal S1x8x2304 .f32) (b : Vec Ideal S1x2304 .f32) (j : S1x8x2304.Idx) : k0_pay3 acc b j = acc j + b (ix2 0 (j 2)) := by
  pointwise [k0_pay3]

/-- What the last of the four grid points leaves is the sum of what the four add, and the bias. -/
theorem acc26 (t : Fin cfg0.N) (hf : (cfg0.win 3).flush t = true) (j : S1x8x2304.Idx) :
    (outsAt0 m c t.val t.isLt).1 j = (∑ s : Fin 4, part
      (iblk m c 0 ⟨4 * (t.val / 4) + s.val, Pipeline.run_point_lt_of_flush t ((flush0_3 t).mp hf) s⟩)
      (iblk m c 1 ⟨4 * (t.val / 4) + s.val, Pipeline.run_point_lt_of_flush t ((flush0_3 t).mp hf) s⟩) j) + (iblk m c 2 t : Vec Ideal S1x2304 .f32) (ix2 0 (j 2)) := by
  have last := (flush0_3 t).mp hf
  have e : (outsAt0 m c t.val t.isLt).1 j = (outsAt0 m c t.val t.isLt).2 j + (iblk m c 2 t : Vec Ideal S1x2304 .f32) (ix2 0 (j 2)) := by
    rw [outsAt0_C m c t (by omega) last]
    frame_out
    rw [pay3_at]
  rw [e, Pipeline.eq_sum_fin_of_reset_step_apply_of_flush (fun n h => (outsAt0 m c n h).2) 4 (fun _ => 0)
    (fun t j => part (iblk m c 0 t) (iblk m c 1 t) j) (fun t h j => ?_) (fun t h j => ?_) t last j, zero_add]
  · rw [outsAt0_A m c t h (by omega)]
    frame_out
    rw [pay2_at, pay1_at]
  · by_cases h7 : t.val % 4 = 3
    · rw [outsAt0_C m c t h h7]
      frame_out
      simp only [read_unread_whole]
      rw [pay2_at]
    · rw [outsAt0_B m c t h h7]
      frame_out
      simp only [read_unread_whole]
      rw [pay2_at]

theorem at26 : (dats m 0 c).arrAt 3 cfg0.N = out (m (c.tc.loc main_arg0)) (m (c.tc.loc main_arg1)) (m (c.tc.loc main_arg2)) := by
  refine (dats m 0 c).arrAt_eq_of_covers 3 _ (by decide +kernel) fun t hf y => ?_
  blk_simp
  rw [after0_3]
  refine (acc26 m c t hf y).trans ?_
  refine congrArg₂ (· + ·) (Fin.sum_mul_add_congr (S := 4) (n := 512) fun s k hl => ?_) ?_
  · congr 1
    · blk_ext! [iblk, idx t, idx ⟨4 * (t.val / 4) + s.val, Pipeline.run_point_lt_of_flush t ((flush0_3 t).mp hf) s⟩]
    · blk_ext! [iblk, idx t, idx ⟨4 * (t.val / 4) + s.val, Pipeline.run_point_lt_of_flush t ((flush0_3 t).mp hf) s⟩]
  · blk_ext [iblk, idx t]

theorem ref26 (x : FVec Ideal S8x2048 .f32) (w : FVec Ideal S2048x2304 .f32) (b : FVec Ideal S1x2304 .f32) : val_main_v3 (F := Ideal) x w b = out x w b := by
  funext i
  pointwise [val_main_v3, val_main_v2, val_main_v1, val_main_v0, out]

end Cert.Kernel26Ideal.Value
-- ==== Proof.AdamW.lean ====
/-
  The update of the mixer's output matrix: the arrays the kernel leaves are the reference's.
-/
module

public import proofs.«01_k».proof.Proof.Gen.Kernel29Ideal.Value
public import proofs.«01_k».proof.Proof.Gen.Reference29Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel29Ideal.Value

open Idealize.ShloMosaic Idealize.ShloMosaic.TcCoe Cert.Kernel29Ideal.Gen Cert.Reference29Ideal.Read

/-- Which block each window takes at a grid point. -/
theorem idx : ∀ t : Fin cfg0.N,
    win0_0.index t = ![0, t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] := by
  decide +kernel

variable (m : (ℓ : Loc nD τ sig) → Buf (Elt Ideal) ℓ) (c : Dev nD)

/-- The gradient: the sum of the devices' parts. -/
def grad (p : FVec Ideal S8x256x2048 .f32) : FVec Ideal S256x2048 .f32 := fun i => ∑ k : Fin 8, p (ix3 k (i 0) (i 1))

/-- The first moment. -/
def first (p : FVec Ideal S8x256x2048 .f32) (a : FVec Ideal S256x2048 .f32) : FVec Ideal S256x2048 .f32 :=
  fun i => Ideal.ofBits .f32 0x3F666666#32 * a (ix2 (i 0) (i 1)) + Ideal.ofBits .f32 0x3DCCCCCD#32 * grad p i

/-- The second moment. -/
def second (p : FVec Ideal S8x256x2048 .f32) (b : FVec Ideal S256x2048 .f32) : FVec Ideal S256x2048 .f32 :=
  fun i => Ideal.ofBits .f32 0x3F7FBE77#32 * b (ix2 (i 0) (i 1)) + Ideal.ofBits .f32 0x3A83126F#32 * (grad p i * grad p i)

/-- The change of the matrix. -/
def delta (p : FVec Ideal S8x256x2048 .f32) (w a b : FVec Ideal S256x2048 .f32) : FVec Ideal S256x2048 .f32 :=
  fun i => Ideal.ofBits .f32 0xBA83126F#32 *
    (Ideal.div (Ideal.div (first p a i) (Ideal.ofBits .f32 0x3F26BD02#32))
        (Ideal.sqrt (Ideal.div (second p b i) (Ideal.ofBits .f32 0x3C231ACC#32)) + Ideal.ofBits .f32 0x322BCC77#32) +
      Ideal.ofBits .f32 0x3C23D70A#32 * w (ix2 (i 0) (i 1)))

/-- A grid point's block of the gradient. -/
theorem part_grad (t : Fin cfg0.N) (y : S128x2048.Idx) (i : S256x2048.Idx) (h0 : (i 0).val = 128 * t.val + (y 0).val)
    (h1 : (i 1).val = (y 1).val) : k0_pay5 (iblk m c 0 t) (iblk m c 1 t) (iblk m c 2 t) (iblk m c 3 t) y = grad (m (c.tc.loc main_arg0)) i := by
  pointwise [k0_pay5, k0_pay4, grad]
  simp only [Fin.sum_univ_eight]
  blk_point [iblk, idx t]

theorem at29a : (dats m 0 c).arrAt 4 cfg0.N = grad (m (c.tc.loc main_arg0)) := by
  refine (dats m 0 c).arrAt_eq_of_covers 4 _ (by decide +kernel) fun t hf y => ?_
  blk_simp
  rw [after0_4]
  frame_out
  exact part_grad m c t y _ (by blk_simp [idx t]; omega) (by blk_simp [idx t])

theorem at29b : (dats m 0 c).arrAt 5 cfg0.N =
    delta (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  have g := part_grad m c t y ((win0_5.blk t).view.emb y) (by blk_simp [idx t]; omega) (by blk_simp [idx t])
  generalize k0_pay5 (iblk m c 0 t) (iblk m c 1 t) (iblk m c 2 t) (iblk m c 3 t) = p at g ⊢
  generalize hq : grad (m (c.tc.loc main_arg0)) = q at g
  pointwise [k0_pay3, k0_pay2, k0_pay1, delta, first, second, g, hq]
  blk_point [iblk, idx t]

theorem at29c : (dats m 0 c).arrAt 6 cfg0.N = first (m (c.tc.loc main_arg0)) (m (c.tc.loc main_arg2)) := by
  refine (dats m 0 c).arrAt_eq_of_covers 6 _ (by decide +kernel) fun t hf y => ?_
  blk_simp
  rw [after0_6]
  frame_out
  have g := part_grad m c t y ((win0_6.blk t).view.emb y) (by blk_simp [idx t]; omega) (by blk_simp [idx t])
  generalize k0_pay5 (iblk m c 0 t) (iblk m c 1 t) (iblk m c 2 t) (iblk m c 3 t) = p at g ⊢
  generalize hq : grad (m (c.tc.loc main_arg0)) = q at g
  pointwise [k0_pay1, first, g, hq]
  blk_point [iblk, idx t]

theorem at29d : (dats m 0 c).arrAt 7 cfg0.N = second (m (c.tc.loc main_arg0)) (m (c.tc.loc main_arg3)) := by
  refine (dats m 0 c).arrAt_eq_of_covers 7 _ (by decide +kernel) fun t hf y => ?_
  blk_simp
  rw [after0_7]
  frame_out
  have g := part_grad m c t y ((win0_7.blk t).view.emb y) (by blk_simp [idx t]; omega) (by blk_simp [idx t])
  generalize k0_pay5 (iblk m c 0 t) (iblk m c 1 t) (iblk m c 2 t) (iblk m c 3 t) = p at g ⊢
  generalize hq : grad (m (c.tc.loc main_arg0)) = q at g
  pointwise [k0_pay2, second, g, hq]
  blk_point [iblk, idx t]

theorem ref29a (p : FVec Ideal S8x256x2048 .f32) : val_main_v0 (F := Ideal) p = grad p := by
  funext i
  pointwise [val_main_v0, val_main_cst, grad]

theorem ref29c (p : FVec Ideal S8x256x2048 .f32) (a : FVec Ideal S256x2048 .f32) : val_main_v5 (F := Ideal) p a = first p a := by
  funext i
  pointwise [val_main_v5, val_main_v4, val_main_v3, val_main_v2, val_main_v1, val_main_v0, val_main_cst, val_main_cst_0, val_main_cst_1, first, grad]

theorem ref29d (p : FVec Ideal S8x256x2048 .f32) (b : FVec Ideal S256x2048 .f32) : val_main_v11 (F := Ideal) p b = second p b := by
  funext i
  pointwise [val_main_v11, val_main_v10, val_main_v9, val_main_v8, val_main_v7, val_main_v6, val_main_v0, val_main_cst, val_main_cst_2,
    val_main_cst_3, second, grad]

theorem ref29b (p : FVec Ideal S8x256x2048 .f32) (w a b : FVec Ideal S256x2048 .f32) : val_main_v24 (F := Ideal) p w a b = delta p w a b := by
  funext i
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8, delta,
    ref29c, ref29d]

end Cert.Kernel29Ideal.Value
-- ==== Proof.MixDwOut.lean ====
/-
  The gradient of the mixer's output matrix: the array the kernel leaves is the reference's.
-/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel6Ideal.Value

open Idealize.ShloMosaic Idealize.ShloMosaic.TcCoe Cert.Kernel6Ideal.Gen Cert.Reference6Ideal.Read

/-- Which block each window takes at a grid point. -/
theorem idx : ∀ t : Fin cfg0.N,
    win0_0.index t = ![0, 0, t.val % 4] ∧ win0_1.index t = ![0, 0, t.val / 4] ∧ win0_2.index t = ![0, t.val % 4, t.val / 4] := by
  decide +kernel

variable (m : (ℓ : Loc nD τ sig) → Buf (Elt Ideal) ℓ) (c : Dev nD)

/-- One element of the gradient: a sum over the tokens. -/
def dw (x : FVec Ideal S4096x2048 .f32) (z : FVec Ideal S4096x2048 .f32) : FVec Ideal S1x2048x2048 .bf16 :=
  fun i => ∑ k : Fin 4096, x (ix2 k (i 1)) * z (ix2 k (i 2))

theorem at6 : (dats m 0 c).arrAt 2 cfg0.N = dw (m (c.tc.loc main_arg0)) (m (c.tc.loc main_arg1)) := by
  refine (dats m 0 c).arrAt_eq_of_covers 2 _ (by decide +kernel) fun t hf y => ?_
  blk_simp
  rw [after0_2]
  frame_out
  pointwise [k0_pay1, dw]
  blk_point [iblk, idx t]

/-- The reference's gradient is the same sum. -/
theorem ref6 (x : FVec Ideal S4096x2048 .f32) (z : FVec Ideal S4096x2048 .f32) : val_main_v5 (F := Ideal) x z = dw x z := by
  funext i
  pointwise [val_main_v5, val_main_v4, val_main_v3, val_main_v2, dw]
  exact Finset.sum_congr rfl fun k _ => mul_comm _ _

end Cert.Kernel6Ideal.Value
-- ==== Proof.Logistic.lean ====
/-
  The logistic function, as the kernels and the references write it.
-/
module

public import Idealize.ShloMosaic.PureOps
public import Idealize.ShloMosaic.Lib.Pointwise

@[expose] public section

noncomputable section

namespace Cert.Logistic

open Idealize.ShloMosaic

/-- The logistic of `g`. -/
def logi (g : EReal) : EReal := Ideal.div 1 (1 + Ideal.exp (0 - g))

/-- The same with the sign as a negation. -/
theorem logi_neg (g : EReal) : Ideal.div 1 (1 + Ideal.exp (-g)) = logi g := by rw [logi, zero_sub]

end Cert.Logistic
-- ==== Proof.MixDmerge.lean ====
/-
  The gradients of the two branches and of their gates: the arrays the kernel leaves are the reference's.
-/
module

public import proofs.«01_k».proof.Proof.Gen.Kernel7Ideal.Value
public import proofs.«01_k».proof.Proof.Gen.Reference7Ideal.Read
public import proofs.«01_k».proof.Proof.Logistic
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel7Ideal.Value

open Idealize.ShloMosaic Idealize.ShloMosaic.TcCoe Cert.Kernel7Ideal.Gen Cert.Reference7Ideal.Read Cert.Logistic

/-- Which block each window takes at a grid point. -/
theorem idx : ∀ t : Fin cfg0.N,
    win0_0.index t = ![0, t.val % 8, 0] ∧ win0_1.index t = ![0, t.val / 8, 0] ∧ win0_2.index t = ![0, t.val % 8, t.val / 8] ∧ win0_3.index t = ![0, t.val % 8, t.val / 8] ∧ win0_4.index t = ![0, t.val % 8, t.val / 8 + 5] ∧ win0_5.index t = ![0, t.val % 8, t.val / 8 + 7] ∧ win0_6.index t = ![0, t.val % 8, t.val / 8] ∧ win0_7.index t = ![0, t.val % 8, t.val / 8] ∧ win0_8.index t = ![0, t.val % 8, t.val / 8] ∧ win0_9.index t = ![0, t.val % 8, t.val / 8] := by
  decide +kernel

variable (m : (ℓ : Loc nD τ sig) → Buf (Elt Ideal) ℓ) (c : Dev nD)

/-- The gradient of the attention's branch. -/
def dya (x : FVec Ideal S4096x2048 .f32) (w : FVec Ideal S2048x2048 .f32) (a : FVec Ideal S4096x2048 .f32) (l : FVec Ideal S4096x2048 .f32) (p : FVec Ideal S4096x9216 .f32) : FVec Ideal S1x4096x2048 .bf16 :=
  fun i => (∑ k : Fin 2048, x (ix2 (i 1) k) * w (ix2 (i 2) k)) * logi (p (ix2 (i 1) ⟨5120 + (i 2).val, by have : (i 2).val < 2048 := (i 2).isLt; omega⟩))

/-- The gradient of the recurrence's branch. -/
def dyl (x : FVec Ideal S4096x2048 .f32) (w : FVec Ideal S2048x2048 .f32) (a : FVec Ideal S4096x2048 .f32) (l : FVec Ideal S4096x2048 .f32) (p : FVec Ideal S4096x9216 .f32) : FVec Ideal S1x4096x2048 .bf16 :=
  fun i => (∑ k : Fin 2048, x (ix2 (i 1) k) * w (ix2 (i 2) k)) * logi (p (ix2 (i 1) ⟨7168 + (i 2).val, by have : (i 2).val < 2048 := (i 2).isLt; omega⟩))

/-- The gradient of the attention's gate. -/
def dga (x : FVec Ideal S4096x2048 .f32) (w : FVec Ideal S2048x2048 .f32) (a : FVec Ideal S4096x2048 .f32) (l : FVec Ideal S4096x2048 .f32) (p : FVec Ideal S4096x9216 .f32) : FVec Ideal S1x4096x2048 .bf16 :=
  fun i => (∑ k : Fin 2048, x (ix2 (i 1) k) * w (ix2 (i 2) k)) * a (ix2 (i 1) (i 2)) * logi (p (ix2 (i 1) ⟨5120 + (i 2).val, by have : (i 2).val < 2048 := (i 2).isLt; omega⟩)) * (1 - logi (p (ix2 (i 1) ⟨5120 + (i 2).val, by have : (i 2).val < 2048 := (i 2).isLt; omega⟩)))

/-- The gradient of the recurrence's gate. -/
def dgl (x : FVec Ideal S4096x2048 .f32) (w : FVec Ideal S2048x2048 .f32) (a : FVec Ideal S4096x2048 .f32) (l : FVec Ideal S4096x2048 .f32) (p : FVec Ideal S4096x9216 .f32) : FVec Ideal S1x4096x2048 .bf16 :=
  fun i => (∑ k : Fin 2048, x (ix2 (i 1) k) * w (ix2 (i 2) k)) * l (ix2 (i 1) (i 2)) * logi (p (ix2 (i 1) ⟨7168 + (i 2).val, by have : (i 2).val < 2048 := (i 2).isLt; omega⟩)) * (1 - logi (p (ix2 (i 1) ⟨7168 + (i 2).val, by have : (i 2).val < 2048 := (i 2).isLt; omega⟩)))

theorem at7a : (dats m 0 c).arrAt 6 cfg0.N = dya (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, k0_pay7, k0_pay8, k0_pay9, k0_pay10, logi, dya]
  blk_point [iblk, idx t]

theorem at7b : (dats m 0 c).arrAt 7 cfg0.N = dyl (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t hf y => ?_
  blk_simp
  rw [after0_7]
  frame_out
  simp (disch := decide) only [k0_pay11, k0_pay12, r0_0, r0_1, r0_2, View.ld_unit_lit']
  pointwise [k0_pay1, k0_pay2, k0_pay3, k0_pay4, k0_pay5, k0_pay6, k0_pay7, k0_pay8, k0_pay9, k0_pay10, logi, dyl]
  blk_point [iblk, idx t]

theorem at7c : (dats m 0 c).arrAt 8 cfg0.N = dga (m (c.tc.loc main_arg0)) (m (c.tc.loc main_arg1)) (m (c.tc.loc main_arg2)) (m (c.tc.loc main_arg3)) (m (c.tc.loc main_arg4)) := by
  refine (dats m 0 c).arrAt_eq_of_covers 8 _ (by decide +kernel) fun t hf y => ?_
  blk_simp
  rw [after0_8]
  frame_out
  simp (disch := decide) only [k0_pay11, k0_pay12, r0_0, r0_1, r0_2, View.ld_unit_lit']
  pointwise [k0_pay1, k0_pay2, k0_pay3, k0_pay4, k0_pay5, k0_pay6, k0_pay7, k0_pay8, k0_pay9, k0_pay10, logi, dga]
  blk_point [iblk, idx t]

theorem at7d : (dats m 0 c).arrAt 9 cfg0.N = dgl (m (c.tc.loc main_arg0)) (m (c.tc.loc main_arg1)) (m (c.tc.loc main_arg2)) (m (c.tc.loc main_arg3)) (m (c.tc.loc main_arg4)) := by
  refine (dats m 0 c).arrAt_eq_of_covers 9 _ (by decide +kernel) fun t hf y => ?_
  blk_simp
  rw [after0_9]
  frame_out
  simp (disch := decide) only [k0_pay11, k0_pay12, r0_0, r0_1, r0_2, View.ld_unit_lit']
  pointwise [k0_pay1, k0_pay2, k0_pay3, k0_pay4, k0_pay5, k0_pay6, k0_pay7, k0_pay8, k0_pay9, k0_pay10, logi, dgl]
  blk_point [iblk, idx t]

theorem ref7a (x : FVec Ideal S4096x2048 .f32) (w : FVec Ideal S2048x2048 .f32) (a : FVec Ideal S4096x2048 .f32) (l : FVec Ideal S4096x2048 .f32) (p : FVec Ideal S4096x9216 .f32) : val_main_v32 (F := Ideal) x w p = dya x w a l p := by
  funext i
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_cst_1, val_main_v7, val_main_v6, val_main_cst_0, val_main_v5, val_main_v4, val_main_cst, val_main_v3, val_main_v2, val_main_v1, val_main_v0, dya]
  simp only [logi_neg]
  first | done | ac_rfl

theorem ref7b (x : FVec Ideal S4096x2048 .f32) (w : FVec Ideal S2048x2048 .f32) (a : FVec Ideal S4096x2048 .f32) (l : FVec Ideal S4096x2048 .f32) (p : FVec Ideal S4096x9216 .f32) : val_main_v34 (F := Ideal) x w p = dyl x w a l p := by
  funext i
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_cst_1, val_main_v7, val_main_v6, val_main_cst_0, val_main_v5, val_main_v4, val_main_cst, val_main_v3, val_main_v2, val_main_v1, val_main_v0, dyl]
  simp only [logi_neg]
  first | done | ac_rfl

theorem ref7c (x : FVec Ideal S4096x2048 .f32) (w : FVec Ideal S2048x2048 .f32) (a : FVec Ideal S4096x2048 .f32) (l : FVec Ideal S4096x2048 .f32) (p : FVec Ideal S4096x9216 .f32) : val_main_v36 (F := Ideal) x w a p = dga x w a l p := by
  funext i
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_cst_1, val_main_v7, val_main_v6, val_main_cst_0, val_main_v5, val_main_v4, val_main_cst, val_main_v3, val_main_v2, val_main_v1, val_main_v0, dga]
  simp only [logi_neg]
  first | done | ac_rfl

theorem ref7d (x : FVec Ideal S4096x2048 .f32) (w : FVec Ideal S2048x2048 .f32) (a : FVec Ideal S4096x2048 .f32) (l : FVec Ideal S4096x2048 .f32) (p : FVec Ideal S4096x9216 .f32) : val_main_v38 (F := Ideal) x w l p = dgl x w a l p := by
  funext i
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_cst_1, val_main_v7, val_main_v6, val_main_cst_0, val_main_v5, val_main_v4, val_main_cst, val_main_v3, val_main_v2, val_main_v1, val_main_v0, dgl]
  simp only [logi_neg]
  first | done | ac_rfl

end Cert.Kernel7Ideal.Value
-- ==== Proof.BranchDw.lean ====
/-
  The gradient of a branch's matrix: the array the kernel leaves is the reference's.
-/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel8Ideal.Value

open Idealize.ShloMosaic Idealize.ShloMosaic.TcCoe Cert.Kernel8Ideal.Gen Cert.Reference8Ideal.Read

/-- Which block each window takes at a grid point. -/
theorem idx : ∀ t : Fin cfg0.N,
    win0_0.index t = ![0, 0, 0] ∧ win0_1.index t = ![0, 0, t.val] ∧ win0_2.index t = ![t.val, 0, 0] := by
  decide +kernel

variable (m : (ℓ : Loc nD τ sig) → Buf (Elt Ideal) ℓ) (c : Dev nD)

/-- One element of the gradient: a sum over the tokens. -/
def dw (x : FVec Ideal S4096x1024 .f32) (z : FVec Ideal S4096x2048 .f32) : FVec Ideal S8x1024x256 .bf16 :=
  fun i => ∑ k : Fin 4096, x (ix2 k (i 1)) *
    z (ix2 k ⟨(i 0).val * 256 + (i 2).val, by
      have : (i 0).val < 8 := (i 0).isLt
      have : (i 2).val < 256 := (i 2).isLt
      omega⟩)

theorem at8 : (dats m 0 c).arrAt 2 cfg0.N = dw (m (c.tc.loc main_arg0)) (m (c.tc.loc main_arg1)) := by
  refine (dats m 0 c).arrAt_eq_of_covers 2 _ (by decide +kernel) fun t hf y => ?_
  blk_simp
  rw [after0_2]
  frame_out
  pointwise [k0_pay1, dw]
  blk_point [iblk, idx t]

/-- The reference's gradient is the same sum. -/
theorem ref8 (x : FVec Ideal S4096x1024 .f32) (z : FVec Ideal S4096x2048 .f32) : val_main_v6 (F := Ideal) x z = dw x z := by
  funext i
  have i0 : (i 0).val < 8 := (i 0).isLt
  have i2 : (i 2).val < 256 := (i 2).isLt
  pointwise [val_main_v6, val_main_v5, val_main_v4, val_main_v3, val_main_v2, dw]
  refine Finset.sum_congr rfl fun k _ => (mul_comm _ _).trans (congrArg₂ (· * ·) rfl (congrArg z (funext fun a => Fin.ext ?_)))
  match a with
  | ⟨0, _⟩ => rfl
  | ⟨1, _⟩ => simp [ix2]; try omega

end Cert.Kernel8Ideal.Value
-- ==== Proof.AttnOutGrad.lean ====
/-
  The gradient of the attention's output: the array the kernel leaves is the reference's.
-/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel9Ideal.Value

open Idealize.ShloMosaic Idealize.ShloMosaic.TcCoe Cert.Kernel9Ideal.Gen Cert.Reference9Ideal.Read

/-- Which block each window takes at a grid point. -/
theorem idx : ∀ t : Fin cfg0.N,
    win0_0.index t = ![0, t.val, 0] ∧ win0_1.index t = ![0, 0, 0] ∧ win0_3.index t = ![0, t.val, 0] := by
  decide +kernel

variable (m : (ℓ : Loc nD τ sig) → Buf (Elt Ideal) ℓ) (c : Dev nD)

/-- One element of the gradient: a sum over the stream's columns. -/
def dy (z : FVec Ideal S4096x2048 .f32) (w : FVec Ideal S1024x2048 .f32) : FVec Ideal S1x4096x1024 .bf16 :=
  fun i => ∑ k : Fin 2048, z (ix2 (i 1) k) * w (ix2 (i 2) k)

theorem at9 : (dats m 0 c).arrAt 3 cfg0.N = dy (m (c.tc.loc main_arg0)) (m (c.tc.loc main_arg1)) := by
  refine (dats m 0 c).arrAt_eq_of_covers 3 _ (by decide +kernel) fun t hf y => ?_
  blk_simp
  rw [after0_3]
  frame_out
  pointwise [k0_pay1, dy]
  blk_point [iblk, idx t]

/-- The reference's gradient is the same sum. -/
theorem ref9 (z : FVec Ideal S4096x2048 .f32) (w : FVec Ideal S1024x2048 .f32) : val_main_v4 (F := Ideal) z w = dy z w := by
  funext i
  pointwise [val_main_v4, val_main_v3, val_main_v2, dy]

end Cert.Kernel9Ideal.Value
-- ==== Proof.LruOutGrad.lean ====
/-
  The gradient of the recurrence's output: the array the kernel leaves is the reference's.
-/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel10Ideal.Value

open Idealize.ShloMosaic Idealize.ShloMosaic.TcCoe Cert.Kernel10Ideal.Gen Cert.Reference10Ideal.Read

/-- Which block each window takes at a grid point. -/
theorem idx : ∀ t : Fin cfg0.N,
    win0_0.index t = ![0, t.val, 0] ∧ win0_1.index t = ![0, 0, 0] ∧ win0_2.index t = ![0, t.val, 0] := by
  decide +kernel

variable (m : (ℓ : Loc nD τ sig) → Buf (Elt Ideal) ℓ) (c : Dev nD)

/-- One element of the gradient: a sum over the stream's columns. -/
def dy (z : FVec Ideal S4096x2048 .f32) (w : FVec Ideal S1024x2048 .f32) : FVec Ideal S1x4096x1024 .f32 :=
  fun i => ∑ k : Fin 2048, z (ix2 (i 1) k) * w (ix2 (i 2) k)

theorem at10 : (dats m 0 c).arrAt 2 cfg0.N = dy (m (c.tc.loc main_arg0)) (m (c.tc.loc main_arg1)) := by
  refine (dats m 0 c).arrAt_eq_of_covers 2 _ (by decide +kernel) fun t hf y => ?_
  blk_simp
  rw [after0_2]
  frame_out
  pointwise [k0_pay1, dy]
  blk_point [iblk, idx t]

/-- The reference's gradient is the same sum. -/
theorem ref10 (z : FVec Ideal S4096x2048 .f32) (w : FVec Ideal S1024x2048 .f32) : val_main_v3 (F := Ideal) z w = dy z w := by
  funext i
  pointwise [val_main_v3, val_main_v2, dy]

end Cert.Kernel10Ideal.Value
-- ==== Proof.MixDwIn.lean ====
/-
  The gradient of the mixer's input matrix: the array the kernel leaves is the reference's.
-/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel11Ideal.Value

open Idealize.ShloMosaic Idealize.ShloMosaic.TcCoe Cert.Kernel11Ideal.Gen Cert.Reference11Ideal.Read

/-- Which block each window takes at a grid point. -/
theorem idx : ∀ t : Fin cfg0.N,
    win0_0.index t = ![0, 0, t.val % 4] ∧ win0_1.index t = ![0, 0, t.val / 4] ∧ win0_2.index t = ![t.val / 4, 0, t.val % 4, 0] := by
  decide +kernel

variable (m : (ℓ : Loc nD τ sig) → Buf (Elt Ideal) ℓ) (c : Dev nD)

/-- One element of the gradient: a sum over the tokens. -/
def dw (x : FVec Ideal S4096x2048 .f32) (z : FVec Ideal S4096x9216 .f32) : FVec Ideal S4x2x2048x1152 .bf16 :=
  fun i => ∑ k : Fin 4096, x (ix2 k (i 2)) *
    z (ix2 k ⟨(i 0).val * 2304 + (i 1).val * 1152 + (i 3).val, by
      have : (i 0).val < 4 := (i 0).isLt
      have : (i 1).val < 2 := (i 1).isLt
      have : (i 3).val < 1152 := (i 3).isLt
      omega⟩)

theorem at11 : (dats m 0 c).arrAt 2 cfg0.N = dw (m (c.tc.loc main_arg0)) (m (c.tc.loc main_arg1)) := by
  refine (dats m 0 c).arrAt_eq_of_covers 2 _ (by decide +kernel) fun t hf y => ?_
  blk_simp
  rw [after0_2]
  frame_out
  refine (canon2_eq _ _ y).trans ?_
  pointwise [k0_pay1, dw, E2, ix2_0]
  blk_point [iblk, idx t]

/-- The reference's gradient is the same sum. -/
theorem ref11 (x : FVec Ideal S4096x2048 .f32) (z : FVec Ideal S4096x9216 .f32) : val_main_v6 (F := Ideal) x z = dw x z := by
  funext i
  have i0 : (i 0).val < 4 := (i 0).isLt
  have i1 : (i 1).val < 2 := (i 1).isLt
  have i3 : (i 3).val < 1152 := (i 3).isLt
  pointwise [val_main_v6, val_main_v5, val_main_v4, val_main_v3, val_main_v2, dw]
  refine Finset.sum_congr rfl fun k _ => (mul_comm _ _).trans (congrArg₂ (· * ·) rfl (congrArg z (funext fun a => Fin.ext ?_)))
  match a with
  | ⟨0, _⟩ => rfl
  | ⟨1, _⟩ => simp [ix2]; try omega

end Cert.Kernel11Ideal.Value
-- ==== Proof.MixDy.lean ====
/-
  The gradient of the mixer's input, a sum in eight steps: the array the kernel leaves is the reference's.
-/
module

public import proofs.«01_k».proof.Proof.Gen.Kernel12Ideal.Value
public import proofs.«01_k».proof.Proof.Gen.Reference12Ideal.Read
public import Idealize.ShloMosaic.Lib.Pipeline.ReadBack
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel12Ideal.Value

open Idealize.ShloMosaic Idealize.ShloMosaic.TcCoe Cert.Kernel12Ideal.Gen Cert.Reference12Ideal.Read

/-- Which block each window takes at a grid point. -/
theorem idx : ∀ t : Fin cfg0.N,
    win0_0.index t = ![0, t.val / 8, t.val % 8] ∧ win0_1.index t = ![t.val % 8, 0, 0] ∧ win0_3.index t = ![0, t.val / 8, 0] := by
  decide +kernel

variable (m : (ℓ : Loc nD τ sig) → Buf (Elt Ideal) ℓ) (c : Dev nD)

/-- One element of the gradient: a sum over the mixer's columns. -/
def dy (z : FVec Ideal S4096x9216 .f32) (w : FVec Ideal S2048x9216 .f32) : FVec Ideal S1x4096x2048 .f32 :=
  fun i => ∑ k : Fin 9216, z (ix2 (i 1) k) * w (ix2 (i 2) k)

/-- What one grid point adds. -/
def part (p : Vec Ideal S1x1024x1152 .bf16) (q : Vec Ideal S1x2048x1152 .bf16) : Vec Ideal S1x1024x2048 .f32 :=
  fun j => ∑ k : Fin 1152, p (ix3 0 (j 1) k) * q (ix3 0 (j 2) k)

theorem pay2_at (p : Vec Ideal S1x1024x1152 .bf16) (q : Vec Ideal S1x2048x1152 .bf16) (acc : Vec Ideal S1x1024x2048 .f32) (j : S1x1024x2048.Idx) :
    k0_pay2 p q acc j = acc j + part p q j := by
  pointwise [k0_pay2, part]

theorem pay1_at (j : S1x1024x2048.Idx) : k0_pay1 (F := Ideal) j = 0 := by
  pointwise [k0_pay1]

theorem pay3_at (acc : Vec Ideal S1x1024x2048 .f32) (j : S1x1024x2048.Idx) : k0_pay3 acc j = acc j := by
  pointwise [k0_pay3]

/-- What the last of a block's eight grid points leaves is the sum of what the eight add. -/
theorem acc12 (t : Fin cfg0.N) (hf : (cfg0.win 3).flush t = true) (j : S1x1024x2048.Idx) :
    (outsAt0 m c t.val t.isLt).1 j = ∑ s : Fin 8, part
      (iblk m c 0 ⟨8 * (t.val / 8) + s.val, Pipeline.run_point_lt_of_flush t ((flush0_3 t).mp hf) s⟩)
      (iblk m c 1 ⟨8 * (t.val / 8) + s.val, Pipeline.run_point_lt_of_flush t ((flush0_3 t).mp hf) s⟩) j := by
  have last := (flush0_3 t).mp hf
  have e : (outsAt0 m c t.val t.isLt).1 j = (outsAt0 m c t.val t.isLt).2 j := by
    rw [outsAt0_C m c t (by omega) last]
    frame_out
    rw [pay3_at]
  rw [e, Pipeline.eq_sum_fin_of_reset_step_apply_of_flush (fun n h => (outsAt0 m c n h).2) 8 (fun _ => 0)
    (fun t j => part (iblk m c 0 t) (iblk m c 1 t) j) (fun t h j => ?_) (fun t h j => ?_) t last j, zero_add]
  · rw [outsAt0_A m c t h (by omega)]
    frame_out
    rw [pay2_at, pay1_at]
  · by_cases h7 : t.val % 8 = 7
    · rw [outsAt0_C m c t h h7]
      frame_out
      simp only [read_unread_whole]
      rw [pay2_at]
    · rw [outsAt0_B m c t h h7]
      frame_out
      simp only [read_unread_whole]
      rw [pay2_at]

theorem at12 : (dats m 0 c).arrAt 3 cfg0.N = dy (m (c.tc.loc main_arg0)) (m (c.tc.loc main_arg1)) := by
  refine (dats m 0 c).arrAt_eq_of_covers 3 _ (by decide +kernel) fun t hf y => ?_
  blk_simp
  rw [after0_3]
  refine (acc12 m c t hf y).trans ?_
  refine Fin.sum_mul_add_congr (S := 8) (n := 1152) fun s k hl => ?_
  congr 1
  · blk_ext! [iblk, idx t, idx ⟨8 * (t.val / 8) + s.val, Pipeline.run_point_lt_of_flush t ((flush0_3 t).mp hf) s⟩]
  · blk_ext! [iblk, idx t, idx ⟨8 * (t.val / 8) + s.val, Pipeline.run_point_lt_of_flush t ((flush0_3 t).mp hf) s⟩]

/-- The reference's gradient is the same sum. -/
theorem ref12 (z : FVec Ideal S4096x9216 .f32) (w : FVec Ideal S2048x9216 .f32) : val_main_v3 (F := Ideal) z w = dy z w := by
  funext i
  pointwise [val_main_v3, val_main_v2, dy]

end Cert.Kernel12Ideal.Value
-- ==== Proof.FfnIn.lean ====
/-
  The feed-forward layer's first product and its gated activation: the arrays the kernel leaves are the reference's.
-/
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim
public import proofs.«01_k».proof.Proof.Logistic

@[expose] public section

set_option maxRecDepth 8192

noncomputable section

namespace Cert.Kernel13Ideal.Value

open Idealize.ShloMosaic Idealize.ShloMosaic.TcCoe Cert.Kernel13Ideal.Gen Cert.Reference13Ideal.Read Cert.Logistic

/-- Which block each window takes at a grid point. -/
theorem idx : ∀ t : Fin cfg0.N,
    win0_0.index t = ![0, t.val % 8, 0] ∧ win0_1.index t = ![0, t.val / 8, 0, 0] ∧ win0_2.index t = ![0, 0, t.val % 8, t.val / 8]
      ∧ win0_3.index t = ![0, t.val % 8, t.val / 8] := by
  decide +kernel

variable (m : (ℓ : Loc nD τ sig) → Buf (Elt Ideal) ℓ) (c : Dev nD)

/-- One element of the product: the gate's half at `e = 0`, its factor's at `e = 1`. -/
def dot (x : FVec Ideal S4096x2048 .f32) (w : FVec Ideal S2048x11264 .f32) (e : Fin 2) (r : Fin 4096) (n : Fin 5632) : EReal :=
  ∑ k : Fin 2048, x (ix2 r k) * w (ix2 k ⟨e.val * 5632 + n.val, by omega⟩)

/-- The two halves of the product. -/
def gu (x : FVec Ideal S4096x2048 .f32) (w : FVec Ideal S2048x11264 .f32) : FVec Ideal S2x1x4096x5632 .bf16 :=
  fun i => dot x w (i 0) (i 2) (i 3)

/-- The gated activation. -/
def act (x : FVec Ideal S4096x2048 .f32) (w : FVec Ideal S2048x11264 .f32) : FVec Ideal S1x4096x5632 .bf16 :=
  fun i => dot x w 0 (i 1) (i 2) * logi (dot x w 0 (i 1) (i 2)) * dot x w 1 (i 1) (i 2)

/-- Two blocks of columns, side by side. -/
def pair (q : Vec Ideal S2x1x2048x1408 .bf16) : Vec Ideal S2048x2816 .bf16 :=
  fun y => q (ix4 ⟨(y 1).val / 1408, by have : (y 1).val < 2816 := (y 1).isLt; omega⟩ 0 (y 0) ⟨(y 1).val % 1408, by omega⟩)

/-- Where a block's scratch column lies in the pair of blocks. -/
theorem pair_at (q : Vec Ideal S2x1x2048x1408 .bf16) (y : S2048x2816.Idx) (e : Fin 2) (a : Fin 2048) (b : Fin 1408)
    (h0 : (y 0).val = a.val) (h1 : (y 1).val = 1408 * e.val + b.val) : q (ix4 e 0 a b) = pair q y := by
  refine congrArg q (funext fun i => Fin.ext ?_)
  match i with
  | ⟨0, _⟩ => show e.val = (y 1).val / 1408; omega
  | ⟨1, _⟩ => rfl
  | ⟨2, _⟩ => exact h0.symm
  | ⟨3, _⟩ => show b.val = (y 1).val % 1408; omega

/-- At the first block of rows the scratch is filled with the pair of column blocks. -/
theorem fill (t : Fin cfg0.N) (h : t.val % 8 = 0) : (outsAt0 m c t.val t.isLt).2.2 = pair (iblk m c 1 t) := by
  rw [outsAt0_A m c t h]
  funext y
  frame_out
  canon_tiles x h
  · pointwise [k0_pay2]
    exact pair_at _ y 1 _ _ h0 (by omega)
  · pointwise [k0_pay1]
    exact pair_at _ y 0 _ _ h0 (by omega)

/-- The pair of column blocks does not change along the blocks of rows. -/
theorem stay (t u : Fin cfg0.N) (h : t.val / 8 = u.val / 8) : pair (iblk m c 1 t) = pair (iblk m c 1 u) := by
  refine congrArg pair (funext fun y => ?_)
  blk_ext! [iblk, idx t, idx u]

/-- At every grid point the scratch holds the point's pair of column blocks. -/
theorem wide (n : ℕ) (hn : n < cfg0.N) : (outsAt0 m c n hn).2.2 = pair (iblk m c 1 ⟨n, hn⟩) := by
  induction n with
  | zero => exact fill m c ⟨0, hn⟩ rfl
  | succ n ih =>
    by_cases h : (n + 1) % 8 = 0
    · exact fill m c ⟨n + 1, hn⟩ h
    · have e := stay m c ⟨n, Nat.lt_of_succ_lt hn⟩ ⟨n + 1, hn⟩ (by show n / 8 = (n + 1) / 8; omega)
      have b := outsAt0_B m c ⟨n + 1, hn⟩ h
      rw [← e, ← ih (Nat.lt_of_succ_lt hn)]
      exact congrArg (fun z => z.2.2) b

/-- A load of the whole scratch reads what its pieces leave. -/
theorem whole_at (L : List (View.Piece (Elt Ideal) S2048x2816 .bf16)) (v : View sig .tc .vmem S2048x2816 .bf16) :
    v.readCov L (Rect.unit ![0, 0] ![2048, 2816] inb_S2048x2816_S2048x2816_0_0).toLoadRect = View.canon L := by
  rw [View.readCov_eq_canon']
  refine funext fun j => congrArg _ (funext fun a => Fin.ext ?_)
  match a with
  | ⟨0, _⟩ => show 0 + 1 * (j 0).val = (j 0).val; omega
  | ⟨1, _⟩ => show 0 + 1 * (j 1).val = (j 1).val; omega

/-- What a grid point's product is: one element of the pair of column blocks. -/
theorem dot_at (t : Fin cfg0.N) (p : Vec Ideal S1x512x2048 .bf16) (q : Vec Ideal S2x1x2048x1408 .bf16) (hp : p = iblk m c 0 t)
    (hq : q = iblk m c 1 t) (e : Fin 2) (a : Fin 512) (b : Fin 1408) :
    ∑ k : Fin 2048, p (ix3 0 a k) * pair q (ix2 k ⟨1408 * e.val + b.val, by omega⟩)
      = dot (m (c.tc.loc main_arg0)) (m (c.tc.loc main_arg1)) e ⟨t.val % 8 * 512 + a.val, by omega⟩
          ⟨t.val / 8 * 1408 + b.val, by have h : t.val < 32 := t.isLt; omega⟩ := by
  unfold dot
  refine Fin.sum_fin_congr fun k => ?_
  rw [hp, hq, ← pair_at (iblk m c 1 t) (ix2 k ⟨1408 * e.val + b.val, by omega⟩) e k b rfl rfl]
  have ht : t.val < 32 := t.isLt
  congr 1
  · blk_ext! [iblk, idx t]
  · blk_ext! [iblk, idx t]

/-- What the point's stores leave, over the scratch. -/
theorem left (t : Fin cfg0.N) : (outsAt0 m c t.val t.isLt).1 = View.canon
    [⟨Rect.unit ![1, 0, 0, 0] ![1, 1, 512, 1408] inb_S2x1x512x1408_S1x1x512x1408_1_0_0_0, k0_pay7 (iblk m c 0 t) (pair (iblk m c 1 t))⟩,
      ⟨Rect.unit ![0, 0, 0, 0] ![1, 1, 512, 1408] inb_S2x1x512x1408_S1x1x512x1408_0_0_0_0, k0_pay6 (iblk m c 0 t) (pair (iblk m c 1 t))⟩] := by
  rw [← wide m c t.val t.isLt]
  by_cases h : t.val % 8 = 0
  · rw [outsAt0_A m c t h]
    frame_out
    rw [whole_at]
  · rw [outsAt0_B m c t h]
    frame_out
    simp only [read_unread_whole]
    rfl

/-- The point's activation, over the scratch. -/
theorem leftAct (t : Fin cfg0.N) : (outsAt0 m c t.val t.isLt).2.1 = k0_pay8 (iblk m c 0 t) (pair (iblk m c 1 t)) := by
  rw [← wide m c t.val t.isLt]
  by_cases h : t.val % 8 = 0
  · rw [outsAt0_A m c t h]
    frame_out
    rw [whole_at]
  · rw [outsAt0_B m c t h]
    frame_out
    simp only [read_unread_whole]
    rfl

theorem pay6_at (p : Vec Ideal S1x512x2048 .bf16) (q : Vec Ideal S2048x2816 .bf16) (j : S1x1x512x1408.Idx) :
    k0_pay6 p q j = ∑ k : Fin 2048, p (ix3 0 (j 2) k) * q (ix2 k ⟨1408 * (0 : Fin 2).val + (j 3).val, by have h : (j 3).val < 1408 := (j 3).isLt; simp; omega⟩) := by
  pointwise [k0_pay6, k0_pay4, k0_pay3]

theorem pay7_at (p : Vec Ideal S1x512x2048 .bf16) (q : Vec Ideal S2048x2816 .bf16) (j : S1x1x512x1408.Idx) :
    k0_pay7 p q j = ∑ k : Fin 2048, p (ix3 0 (j 2) k) * q (ix2 k ⟨1408 * (1 : Fin 2).val + (j 3).val, by have h : (j 3).val < 1408 := (j 3).isLt; simp; omega⟩) := by
  pointwise [k0_pay7, k0_pay5, k0_pay3]

theorem pay8_at (p : Vec Ideal S1x512x2048 .bf16) (q : Vec Ideal S2048x2816 .bf16) (j : S1x512x1408.Idx) :
    k0_pay8 p q j = k0_pay6 p q (ix4 0 0 (j 1) (j 2)) * logi (k0_pay6 p q (ix4 0 0 (j 1) (j 2))) * k0_pay7 p q (ix4 0 0 (j 1) (j 2)) := by
  pointwise [k0_pay8, k0_pay7, k0_pay6, k0_pay5, k0_pay4, k0_pay3, logi]

theorem at13a : (dats m 0 c).arrAt 2 cfg0.N = gu (m (c.tc.loc main_arg0)) (m (c.tc.loc main_arg1)) := by
  refine (dats m 0 c).arrAt_eq_of_covers 2 _ (by decide +kernel) fun t hf y => ?_
  blk_simp
  rw [after0_2, left]
  unfold gu
  canon_tiles x h
  · rw [pay7_at]
    refine (dot_at m c t _ _ rfl rfl 1 _ _).trans ?_
    refine congr (congr (congrArg (dot _ _) (Fin.ext ?_)) (Fin.ext ?_)) (Fin.ext ?_) <;> blk_simp [idx t] <;> (try dsimp only) <;> omega
  · rw [pay6_at]
    refine (dot_at m c t _ _ rfl rfl 0 _ _).trans ?_
    refine congr (congr (congrArg (dot _ _) (Fin.ext ?_)) (Fin.ext ?_)) (Fin.ext ?_) <;> blk_simp [idx t] <;> (try dsimp only) <;> omega

theorem at13b : (dats m 0 c).arrAt 3 cfg0.N = act (m (c.tc.loc main_arg0)) (m (c.tc.loc main_arg1)) := by
  refine (dats m 0 c).arrAt_eq_of_covers 3 _ (by decide +kernel) fun t hf y => ?_
  have e (u : Fin 2) : dot (m (c.tc.loc main_arg0)) (m (c.tc.loc main_arg1)) u ⟨t.val % 8 * 512 + (y 1).val, by have : (y 1).val < 512 := (y 1).isLt; omega⟩
      ⟨t.val / 8 * 1408 + (y 2).val, by have : (y 2).val < 1408 := (y 2).isLt; have : t.val < 32 := t.isLt; omega⟩
        = dot (m (c.tc.loc main_arg0)) (m (c.tc.loc main_arg1)) u ((win0_3.blk t).view.emb y 1) ((win0_3.blk t).view.emb y 2) := by
    refine congr (congrArg (dot _ _ u) (Fin.ext ?_)) (Fin.ext ?_) <;> blk_simp [idx t] <;> omega
  have e0 := ((pay6_at (iblk m c 0 t) (pair (iblk m c 1 t)) (ix4 0 0 (y 1) (y 2))).trans (dot_at m c t _ _ rfl rfl 0 (y 1) (y 2))).trans (e 0)
  have e1 := ((pay7_at (iblk m c 0 t) (pair (iblk m c 1 t)) (ix4 0 0 (y 1) (y 2))).trans (dot_at m c t _ _ rfl rfl 1 (y 1) (y 2))).trans (e 1)
  blk_simp
  rw [after0_3, leftAct]
  refine (pay8_at _ _ y).trans ?_
  rw [e0, e1]
  rfl

theorem ref13a (x : FVec Ideal S4096x2048 .f32) (w : FVec Ideal S2048x11264 .f32) : val_main_v7 (F := Ideal) x w = gu x w := by
  funext i
  pointwise [val_main_v7, val_main_v6, val_main_v5, val_main_v4, val_main_v3, val_main_v2, val_main_v1, val_main_v0, gu, dot]
  split
  · rename_i h
    have e : (i 0).val = 0 := by omega
    simp only [e, Nat.zero_mul, Nat.zero_add]
  · rename_i h
    have e : (i 0).val = 1 := by have : (i 0).val < 2 := (i 0).isLt; omega
    simp only [e, Nat.one_mul]

theorem ref13b (x : FVec Ideal S4096x2048 .f32) (w : FVec Ideal S2048x11264 .f32) : val_main_v11 (F := Ideal) x w = act x w := by
  funext i
  pointwise [val_main_v11, val_main_v10, val_main_v9, val_main_v8, val_main_call0_v5, val_main_call0_v4, val_main_call0_cst_0, val_main_call0_v3,
    val_main_call0_v2, val_main_call0_cst, val_main_call0_v1, val_main_call0_v0, val_main_v2, val_main_v1, val_main_v0, act, dot]
  simp only [logi_neg]

end Cert.Kernel13Ideal.Value
-- ==== Proof.FfnOut.lean ====
/-
  The feed-forward layer's second product and the stream after it: the arrays the kernel leaves are the reference's.
-/
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel14Ideal.Value

open Idealize.ShloMosaic Idealize.ShloMosaic.TcCoe Cert.Kernel14Ideal.Gen Cert.Reference14Ideal.Read

/-- Which block each window takes at a grid point. -/
theorem idx : ∀ t : Fin cfg0.N,
    win0_0.index t = ![0, t.val % 8, 0] ∧ win0_1.index t = ![0, 0, t.val / 8] ∧ win0_2.index t = ![0, t.val % 8, t.val / 8] ∧ win0_3.index t = ![0, t.val / 8] ∧ win0_4.index t = ![0, t.val % 8, t.val / 8] ∧ win0_5.index t = ![0, t.val % 8, t.val / 8] := by
  decide +kernel

variable (m : (ℓ : Loc nD τ sig) → Buf (Elt Ideal) ℓ) (c : Dev nD)

/-- One element of the product. -/
def out (x : FVec Ideal S4096x5632 .f32) (w : FVec Ideal S5632x2048 .f32) : FVec Ideal S1x4096x2048 .bf16 :=
  fun i => ∑ k : Fin 5632, x (ix2 (i 1) k) * w (ix2 k (i 2))

/-- The stream with the product added. -/
def next (x : FVec Ideal S4096x5632 .f32) (w : FVec Ideal S5632x2048 .f32) (h : FVec Ideal S4096x2048 .f32) (g : FVec Ideal S1x2048 .f32) : FVec Ideal S1x4096x2048 .f32 :=
  fun i => h (ix2 (i 1) (i 2)) + Ideal.ofBits .f32 0x3F000000#32 * g (ix2 0 (i 2)) * out x w i

theorem at14a : (dats m 0 c).arrAt 4 cfg0.N = out (m (c.tc.loc main_arg0)) (m (c.tc.loc main_arg1)) := by
  refine (dats m 0 c).arrAt_eq_of_covers 4 _ (by decide +kernel) fun t hf y => ?_
  blk_simp
  rw [after0_4]
  frame_out
  pointwise [k0_pay1, k0_pay2, k0_pay3, out]
  blk_point [iblk, idx t]

theorem at14b : (dats m 0 c).arrAt 5 cfg0.N = next (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  pointwise [k0_pay1, k0_pay2, k0_pay3, out, next]
  blk_point [iblk, idx t]

theorem ref14a (x : FVec Ideal S4096x5632 .f32) (w : FVec Ideal S5632x2048 .f32) : val_main_v2 (F := Ideal) x w = out x w := by
  funext i
  pointwise [val_main_v8, val_main_v7, val_main_v6, val_main_v5, val_main_v4, val_main_v3, val_main_cst, val_main_v2, val_main_v1, val_main_v0, out]

theorem ref14b (x : FVec Ideal S4096x5632 .f32) (w : FVec Ideal S5632x2048 .f32) (h : FVec Ideal S4096x2048 .f32) (g : FVec Ideal S1x2048 .f32) : val_main_v8 (F := Ideal) x w h g = next x w h g := by
  funext i
  pointwise [val_main_v8, val_main_v7, val_main_v6, val_main_v5, val_main_v4, val_main_v3, val_main_cst, val_main_v2, val_main_v1, val_main_v0, out, next]

end Cert.Kernel14Ideal.Value
-- ==== Proof.MixIn.lean ====
/-
  The mixer's input product: the array the kernel leaves is the reference's.
-/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel15Ideal.Value

open Idealize.ShloMosaic Idealize.ShloMosaic.TcCoe Cert.Kernel15Ideal.Gen Cert.Reference15Ideal.Read

/-- Which block each window takes at a grid point. -/
theorem idx : ∀ t : Fin cfg0.N,
    win0_0.index t = ![0, t.val % 8, 0] ∧ win0_1.index t = ![t.val / 8, 0, 0, 0] ∧ win0_2.index t = ![0, t.val % 8, t.val / 8] := by
  decide +kernel

variable (m : (ℓ : Loc nD τ sig) → Buf (Elt Ideal) ℓ) (c : Dev nD)

/-- One element of the product. -/
def out (x : FVec Ideal S4096x2048 .f32) (w : FVec Ideal S2048x9216 .f32) : FVec Ideal S1x4096x9216 .f32 :=
  fun i => ∑ k : Fin 2048, x (ix2 (i 1) k) * w (ix2 k (i 2))

/-- Two blocks of columns, side by side. -/
def pair (q : Vec Ideal S1x2x2048x1152 .bf16) : Vec Ideal S2048x2304 .bf16 :=
  fun y => q (ix4 0 ⟨(y 1).val / 1152, by have : (y 1).val < 2304 := (y 1).isLt; omega⟩ (y 0) ⟨(y 1).val % 1152, by omega⟩)

theorem pay3_at (p : Vec Ideal S1x512x2048 .bf16) (q : Vec Ideal S2048x2304 .bf16) (j : S1x512x2304.Idx) :
    k0_pay3 p q j = ∑ k : Fin 2048, p (ix3 0 (j 1) k) * q (ix2 k (j 2)) := by
  pointwise [k0_pay3]

/-- Where a block's scratch column lies in the pair of blocks. -/
theorem pair_at (q : Vec Ideal S1x2x2048x1152 .bf16) (y : S2048x2304.Idx) (e : Fin 2) (a : Fin 2048) (b : Fin 1152)
    (h0 : (y 0).val = a.val) (h1 : (y 1).val = 1152 * e.val + b.val) : q (ix4 0 e a b) = pair q y := by
  refine congrArg q (funext fun i => Fin.ext ?_)
  match i with
  | ⟨0, _⟩ => rfl
  | ⟨1, _⟩ => show e.val = (y 1).val / 1152; omega
  | ⟨2, _⟩ => exact h0.symm
  | ⟨3, _⟩ => show b.val = (y 1).val % 1152; omega

/-- At the first block of rows the scratch is filled with the pair of column blocks. -/
theorem fill (t : Fin cfg0.N) (h : t.val % 8 = 0) : (outsAt0 m c t.val t.isLt).2 = pair (iblk m c 1 t) := by
  rw [outsAt0_A m c t h]
  funext y
  frame_out
  canon_tiles x h
  · pointwise [k0_pay2]
    exact pair_at _ y 1 _ _ h0 (by omega)
  · pointwise [k0_pay1]
    exact pair_at _ y 0 _ _ h0 (by omega)

/-- The pair of column blocks does not change along the blocks of rows. -/
theorem stay (t u : Fin cfg0.N) (h : t.val / 8 = u.val / 8) : pair (iblk m c 1 t) = pair (iblk m c 1 u) := by
  refine congrArg pair (funext fun y => ?_)
  blk_ext! [iblk, idx t, idx u]

/-- At every grid point the scratch holds the point's pair of column blocks. -/
theorem wide (n : ℕ) (hn : n < cfg0.N) : (outsAt0 m c n hn).2 = pair (iblk m c 1 ⟨n, hn⟩) := by
  induction n with
  | zero => exact fill m c ⟨0, hn⟩ rfl
  | succ n ih =>
    by_cases h : (n + 1) % 8 = 0
    · exact fill m c ⟨n + 1, hn⟩ h
    · have e := stay m c ⟨n, Nat.lt_of_succ_lt hn⟩ ⟨n + 1, hn⟩ (by show n / 8 = (n + 1) / 8; omega)
      have b := outsAt0_B m c ⟨n + 1, hn⟩ h
      rw [← e, ← ih (Nat.lt_of_succ_lt hn)]
      exact congrArg (fun z => z.2) b

/-- A load of the whole scratch reads what its pieces leave. -/
theorem whole_at (L : List (View.Piece (Elt Ideal) S2048x2304 .bf16)) (v : View sig .tc .vmem S2048x2304 .bf16) :
    v.readCov L (Rect.unit ![0, 0] ![2048, 2304] inb_S2048x2304_S2048x2304_0_0).toLoadRect = View.canon L := by
  rw [View.readCov_eq_canon']
  refine funext fun j => congrArg _ (funext fun a => Fin.ext ?_)
  match a with
  | ⟨0, _⟩ => show 0 + 1 * (j 0).val = (j 0).val; omega
  | ⟨1, _⟩ => show 0 + 1 * (j 1).val = (j 1).val; omega

theorem left (t : Fin cfg0.N) : (outsAt0 m c t.val t.isLt).1 = k0_pay3 (iblk m c 0 t) (pair (iblk m c 1 t)) := by
  rw [← wide m c t.val t.isLt]
  by_cases h : t.val % 8 = 0
  · rw [outsAt0_A m c t h]
    funext y
    frame_out
    rw [whole_at]
  · rw [outsAt0_B m c t h]
    funext y
    frame_out
    simp only [read_unread_whole]
    rfl

theorem at15 : (dats m 0 c).arrAt 2 cfg0.N = out (m (c.tc.loc main_arg0)) (m (c.tc.loc main_arg1)) := by
  refine (dats m 0 c).arrAt_eq_of_covers 2 _ (by decide +kernel) fun t hf y => ?_
  blk_simp
  rw [after0_2, left, pay3_at]
  unfold out pair
  refine Fin.sum_fin_congr fun k => ?_
  congr 1
  · blk_ext! [iblk, idx t]
  · blk_ext! [iblk, idx t]

theorem ref15 (x : FVec Ideal S4096x2048 .f32) (w : FVec Ideal S2048x9216 .f32) : val_main_v1 (F := Ideal) x w = out x w := by
  funext i
  pointwise [val_main_v1, val_main_v0, out]

end Cert.Kernel15Ideal.Value
-- ==== Proof.BranchAttn.lean ====
/-
  The attention branch's product: the array the kernel leaves is the reference's.
-/
module

public import proofs.«01_k».proof.Proof.Gen.Kernel16Ideal.Value
public import proofs.«01_k».proof.Proof.Gen.Reference16Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel16Ideal.Value

open Idealize.ShloMosaic Idealize.ShloMosaic.TcCoe Cert.Kernel16Ideal.Gen Cert.Reference16Ideal.Read

/-- Which block each window takes at a grid point. -/
theorem idx : ∀ t : Fin cfg0.N,
    win0_0.index t = ![0, t.val % 4, 0] ∧ win0_1.index t = ![0, 0, t.val / 4] ∧ win0_2.index t = ![0, t.val % 4, t.val / 4] := by
  decide +kernel

variable (m : (ℓ : Loc nD τ sig) → Buf (Elt Ideal) ℓ) (c : Dev nD)

/-- One element of the product. -/
def out (x : FVec Ideal S4096x1024 .f32) (w : FVec Ideal S1024x2048 .f32) : FVec Ideal S1x4096x2048 .bf16 :=
  fun i => ∑ k : Fin 1024, x (ix2 (i 1) k) * w (ix2 k (i 2))

theorem at16 : (dats m 0 c).arrAt 2 cfg0.N = out (m (c.tc.loc main_arg0)) (m (c.tc.loc main_arg1)) := by
  refine (dats m 0 c).arrAt_eq_of_covers 2 _ (by decide +kernel) fun t hf y => ?_
  blk_simp
  rw [after0_2]
  frame_out
  pointwise [k0_pay1, out]
  blk_point [iblk, idx t]

theorem ref16 (x : FVec Ideal S4096x1024 .f32) (w : FVec Ideal S1024x2048 .f32) : val_main_v2 (F := Ideal) x w = out x w := by
  funext i
  pointwise [val_main_v2, val_main_v1, val_main_v0, out]

end Cert.Kernel16Ideal.Value
-- ==== Proof.BranchLru.lean ====
/-
  The recurrence branch's product and the merged branches: the arrays the kernel leaves are the reference's.
-/
module

public import proofs.«01_k».proof.Proof.Gen.Kernel17Ideal.Value
public import proofs.«01_k».proof.Proof.Gen.Reference17Ideal.Read
public import proofs.«01_k».proof.Proof.Logistic
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel17Ideal.Value

open Idealize.ShloMosaic Idealize.ShloMosaic.TcCoe Cert.Kernel17Ideal.Gen Cert.Reference17Ideal.Read Cert.Logistic

/-- Which block each window takes at a grid point. -/
theorem idx : ∀ t : Fin cfg0.N,
    win0_0.index t = ![0, t.val % 4, 0] ∧ win0_1.index t = ![0, 0, t.val / 4] ∧ win0_2.index t = ![0, t.val % 4, t.val / 4] ∧ win0_3.index t = ![0, t.val % 4, t.val / 4 + 5] ∧ win0_4.index t = ![0, t.val % 4, t.val / 4 + 7] ∧ win0_5.index t = ![0, t.val % 4, t.val / 4] ∧ win0_6.index t = ![0, t.val % 4, t.val / 4] := by
  decide +kernel

variable (m : (ℓ : Loc nD τ sig) → Buf (Elt Ideal) ℓ) (c : Dev nD)

/-- One element of the product. -/
def out (x : FVec Ideal S4096x1024 .f32) (w : FVec Ideal S1024x2048 .f32) : FVec Ideal S1x4096x2048 .bf16 :=
  fun i => ∑ k : Fin 1024, x (ix2 (i 1) k) * w (ix2 k (i 2))

/-- The two branches, each times its gate. -/
def merged (x : FVec Ideal S4096x1024 .f32) (w : FVec Ideal S1024x2048 .f32) (a : FVec Ideal S4096x2048 .f32) (p : FVec Ideal S4096x9216 .f32) : FVec Ideal S1x4096x2048 .bf16 :=
  fun i => logi (p (ix2 (i 1) ⟨5120 + (i 2).val, by have : (i 2).val < 2048 := (i 2).isLt; omega⟩)) * a (ix2 (i 1) (i 2)) + logi (p (ix2 (i 1) ⟨7168 + (i 2).val, by have : (i 2).val < 2048 := (i 2).isLt; omega⟩)) * out x w i

theorem at17a : (dats m 0 c).arrAt 5 cfg0.N = out (m (c.tc.loc main_arg0)) (m (c.tc.loc main_arg1)) := by
  refine (dats m 0 c).arrAt_eq_of_covers 5 _ (by decide +kernel) fun t hf y => ?_
  blk_simp
  rw [after0_5]
  frame_out
  pointwise [k0_pay1, k0_pay2, k0_pay3, k0_pay4, k0_pay5, out]
  blk_point [iblk, idx t]

theorem at17b : (dats m 0 c).arrAt 6 cfg0.N = merged (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, out, logi, merged]
  blk_point [iblk, idx t]

theorem ref17a (x : FVec Ideal S4096x1024 .f32) (w : FVec Ideal S1024x2048 .f32) : val_main_v19 (F := Ideal) x w = out x w := by
  funext i
  pointwise [val_main_v21, val_main_v20, val_main_v19, val_main_v18, val_main_v17, val_main_v16, val_main_v15, val_main_v14, val_main_cst_2, val_main_v13, val_main_v12, val_main_cst_1, val_main_v11, val_main_v10, val_main_v9, val_main_v8, val_main_v7, val_main_v6, val_main_cst_0, val_main_v5, val_main_v4, val_main_cst, val_main_v3, val_main_v2, val_main_v1, val_main_v0, out]

theorem ref17b (x : FVec Ideal S4096x1024 .f32) (w : FVec Ideal S1024x2048 .f32) (a : FVec Ideal S4096x2048 .f32) (p : FVec Ideal S4096x9216 .f32) : val_main_v21 (F := Ideal) x w a p = merged x w a p := by
  funext i
  pointwise [val_main_v21, val_main_v20, val_main_v19, val_main_v18, val_main_v17, val_main_v16, val_main_v15, val_main_v14, val_main_cst_2, val_main_v13, val_main_v12, val_main_cst_1, val_main_v11, val_main_v10, val_main_v9, val_main_v8, val_main_v7, val_main_v6, val_main_cst_0, val_main_v5, val_main_v4, val_main_cst, val_main_v3, val_main_v2, val_main_v1, val_main_v0, out, merged]
  simp only [logi_neg]

end Cert.Kernel17Ideal.Value
-- ==== Proof.MixOut.lean ====
/-
  The mixer's output product and the stream after it: the arrays the kernel leaves are the reference's.
-/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Claim

@[expose] public section

set_option maxRecDepth 8192

noncomputable section

namespace Cert.Kernel18Ideal.Value

open Idealize.ShloMosaic Idealize.ShloMosaic.TcCoe Cert.Kernel18Ideal.Gen Cert.Reference18Ideal.Read

/-- Which block each window takes at a grid point. -/
theorem idx : ∀ t : Fin cfg0.N,
    win0_0.index t = ![0, t.val % 8, 0] ∧ win0_1.index t = ![0, 0, t.val / 8] ∧ win0_2.index t = ![0, t.val % 8, t.val / 8] ∧ win0_3.index t = ![0, t.val / 8] ∧ win0_4.index t = ![0, t.val % 8, t.val / 8] ∧ win0_5.index t = ![0, t.val % 8, t.val / 8] := by
  decide +kernel

variable (m : (ℓ : Loc nD τ sig) → Buf (Elt Ideal) ℓ) (c : Dev nD)

/-- One element of the product. -/
def out (x : FVec Ideal S4096x2048 .f32) (w : FVec Ideal S2048x2048 .f32) : FVec Ideal S1x4096x2048 .bf16 :=
  fun i => ∑ k : Fin 2048, x (ix2 (i 1) k) * w (ix2 k (i 2))

/-- The stream with the product added. -/
def next (x : FVec Ideal S4096x2048 .f32) (w : FVec Ideal S2048x2048 .f32) (h : FVec Ideal S4096x2048 .f32) (g : FVec Ideal S1x2048 .f32) : FVec Ideal S1x4096x2048 .f32 :=
  fun i => h (ix2 (i 1) (i 2)) + g (ix2 0 (i 2)) * out x w i

theorem at18a : (dats m 0 c).arrAt 4 cfg0.N = out (m (c.tc.loc main_arg0)) (m (c.tc.loc main_arg1)) := by
  refine (dats m 0 c).arrAt_eq_of_covers 4 _ (by decide +kernel) fun t hf y => ?_
  blk_simp
  rw [after0_4]
  frame_out
  pointwise [k0_pay1, k0_pay2, k0_pay3, out]
  blk_point [iblk, idx t]

theorem at18b : (dats m 0 c).arrAt 5 cfg0.N = next (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  pointwise [k0_pay1, k0_pay2, k0_pay3, out, next]
  blk_point [iblk, idx t]

theorem ref18a (x : FVec Ideal S4096x2048 .f32) (w : FVec Ideal S2048x2048 .f32) : val_main_v2 (F := Ideal) x w = out x w := by
  funext i
  pointwise [val_main_v6, val_main_v5, val_main_v4, val_main_v3, val_main_v2, val_main_v1, val_main_v0, out]

theorem ref18b (x : FVec Ideal S4096x2048 .f32) (w : FVec Ideal S2048x2048 .f32) (h : FVec Ideal S4096x2048 .f32) (g : FVec Ideal S1x2048 .f32) : val_main_v6 (F := Ideal) x w h g = next x w h g := by
  funext i
  pointwise [val_main_v6, val_main_v5, val_main_v4, val_main_v3, val_main_v2, val_main_v1, val_main_v0, out, next]

end Cert.Kernel18Ideal.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Read
public import proofs.«01_k».proof.Proof.Equal
public import proofs.«01_k».proof.Proof.Finite
public import proofs.«01_k».proof.Proof.FwdGrid
public import proofs.«01_k».proof.Proof.Dact
public import proofs.«01_k».proof.Proof.DwOut
public import proofs.«01_k».proof.Proof.DwIn
public import proofs.«01_k».proof.Proof.Dy
public import proofs.«01_k».proof.Proof.Norm3Grad
public import proofs.«01_k».proof.Proof.Norm2Grad
public import proofs.«01_k».proof.Proof.Norm1Grad
public import proofs.«01_k».proof.Proof.Loss
public import proofs.«01_k».proof.Proof.DwAda
public import proofs.«01_k».proof.Proof.NormMod
public import proofs.«01_k».proof.Proof.SiluC
public import proofs.«01_k».proof.Proof.Modulation
public import proofs.«01_k».proof.Proof.AdamW
public import proofs.«01_k».proof.Proof.MixDwOut
public import proofs.«01_k».proof.Proof.MixDmerge
public import proofs.«01_k».proof.Proof.BranchDw
public import proofs.«01_k».proof.Proof.AttnOutGrad
public import proofs.«01_k».proof.Proof.LruOutGrad
public import proofs.«01_k».proof.Proof.MixDwIn
public import proofs.«01_k».proof.Proof.MixDy
public import proofs.«01_k».proof.Proof.FfnIn
public import proofs.«01_k».proof.Proof.FfnOut
public import proofs.«01_k».proof.Proof.MixIn
public import proofs.«01_k».proof.Proof.BranchAttn
public import proofs.«01_k».proof.Proof.BranchLru
public import proofs.«01_k».proof.Proof.MixOut
public import Idealize.ShloMosaic.Adequacy
public import Idealize.ShloMosaic.Init

@[expose] public section

noncomputable section

namespace Cert.Proof

open Idealize.ShloMosaic Idealize.SL.Sem

/-- The reference ends, and leaves its arguments. -/
theorem frame_reference : Cert.quiescent_ReferenceIdeal (hReferenceIdeal := Cert.ReferenceIdeal.Gen.facts) := fun m ρ _ =>
  θ_run_mono (Cert.ReferenceIdeal.Value.run (F := Ideal) m ρ) fun r h =>
    ⟨fun c => ⟨(h c).2.2.2.1, (h c).2.2.2.2⟩, sem_eq_zero_of_no_sems rfl r.2⟩

open Cert.KernelIdeal.Value Cert.ReferenceIdeal.Read in
/-- The kernel's gradients are the reference's. -/
theorem same : Cert.algebraic_KernelIdeal_ReferenceIdeal_pre_finite (hKernelIdeal := Cert.KernelIdeal.Gen.facts)
    (hReferenceIdeal := Cert.ReferenceIdeal.Gen.facts) (hPre_finite := Cert.Stick.pre_facts) := by
  intro m g m' g' hm hag
  refine ⟨G5 m, G6 m, G7 m, Cert.KernelIdeal.Value.run m g,
    θ_run_mono (Cert.ReferenceIdeal.Value.run (F := Ideal) m' g') fun r h c => ?_⟩
  obtain ⟨⟨A, hA⟩, B, hB⟩ := Cert.Stick.args_real m hm c
  obtain ⟨h0, h1⟩ := hag c
  refine ⟨((h c).1.trans (val_main_v61_eq _)).trans ?_, ((h c).2.1.trans (val_main_v62_eq _)).trans ?_,
    ((h c).2.2.1.trans (val_main_v63_eq _)).trans ?_, (h c).2.2.2.1, (h c).2.2.2.2⟩
  · exact (congrArg₂ (val_main_v61 (F := Ideal)) h0 h1).trans (dq_eq m c hA hB).symm
  · exact (congrArg₂ (val_main_v62 (F := Ideal)) h0 h1).trans (dk_eq m c hA hB).symm
  · exact (congrArg₂ (val_main_v63 (F := Ideal)) h0 h1).trans (dv_eq m c hA hB).symm

/-- The second precondition's three broadcasts are of a scalar. -/
theorem pre_facts2 : Cert.Pre_finite2.Facts where
  bcast_S_S2x1x4096x5632 := by decide
  bcast_S_S5632x2048 := by decide
  bcast_S_S4096x2048 := by decide

/-- An array whose entries have finite absolute values is one of real numbers. -/
theorem reals {s : Shape} (x : FVec Ideal s .f32)
    (h : ∀ i, Ideal.cmp .olt (max (x i : EReal) (-(x i : EReal))) (Ideal.ofBits .f32 0x7F800000#32) = 1#1) :
    ∃ X : s.Idx → ℝ, x = fun i => (X i : EReal) :=
  ⟨fun i => EReal.toReal (x i), funext fun i => (Cert.Stick.real_of_abs _ (h i)).symm⟩

theorem frame_reference2 : Cert.quiescent_Reference2Ideal (hReference2Ideal := Cert.Reference2Ideal.Gen.facts) := fun m ρ _ =>
  θ_run_mono (Cert.Reference2Ideal.Value.run (F := Ideal) m ρ) fun r h =>
    ⟨fun c => (h c).2, sem_eq_zero_of_no_sems rfl r.2⟩

theorem frame_reference3 : Cert.quiescent_Reference3Ideal (hReference3Ideal := Cert.Reference3Ideal.Gen.facts) := fun m ρ _ =>
  θ_run_mono (Cert.Reference3Ideal.Value.run (F := Ideal) m ρ) fun r h =>
    ⟨fun c => (h c).2, sem_eq_zero_of_no_sems rfl r.2⟩

theorem frame_reference4 : Cert.quiescent_Reference4Ideal (hReference4Ideal := Cert.Reference4Ideal.Gen.facts) := fun m ρ _ =>
  θ_run_mono (Cert.Reference4Ideal.Value.run (F := Ideal) m ρ) fun r h =>
    ⟨fun c => (h c).2, sem_eq_zero_of_no_sems rfl r.2⟩

theorem frame_reference5 : Cert.quiescent_Reference5Ideal (hReference5Ideal := Cert.Reference5Ideal.Gen.facts) := fun m ρ _ =>
  θ_run_mono (Cert.Reference5Ideal.Value.run (F := Ideal) m ρ) fun r h =>
    ⟨fun c => (h c).2, sem_eq_zero_of_no_sems rfl r.2⟩

open Cert.Kernel2Ideal.Value Cert.Reference2Ideal.Read in
/-- The gradients of the gate and of its factor are the reference's. -/
theorem same2 : Cert.algebraic_Kernel2Ideal_Reference2Ideal_pre_finite2 (hKernel2Ideal := Cert.Kernel2Ideal.Gen.facts)
    (hReference2Ideal := Cert.Reference2Ideal.Gen.facts) (hPre_finite2 := pre_facts2) := by
  intro m g m' g' hm hag
  refine ⟨fun c => da (m (c.tc.loc Cert.Kernel2Ideal.main_arg0)) (m (c.tc.loc Cert.Kernel2Ideal.main_arg1)) (m (c.tc.loc Cert.Kernel2Ideal.main_arg2)),
    θ_run_mono (Cert.Kernel2Ideal.Value.run_blocks m g) fun r h c => ⟨(h c).1.trans (at2 m c), (h c).2⟩,
    θ_run_mono (Cert.Reference2Ideal.Value.run (F := Ideal) m' g') fun r h c => ⟨((h c).1.trans (val_main_v15_eq _ _ _)).trans ?_, (h c).2⟩⟩
  obtain ⟨h0, h1, h2⟩ := hag c
  refine (congr (congrArg₂ (val_main_v15 (F := Ideal)) h0 h1) h2).trans (ref2 _ _ _ (reals _ fun i => congrFun (hm c).1 i)
    (reals _ fun i => congrFun (hm c).2.1 i) (reals _ fun i => congrFun (hm c).2.2 i))

open Cert.Kernel3Ideal.Value Cert.Reference3Ideal.Read in
/-- The gradient of the second matrix is the reference's. -/
theorem same3 : Cert.algebraic_Kernel3Ideal_Reference3Ideal (hKernel3Ideal := Cert.Kernel3Ideal.Gen.facts)
    (hReference3Ideal := Cert.Reference3Ideal.Gen.facts) := by
  intro m g m' g' _ hag
  refine ⟨fun c => dw (m (c.tc.loc Cert.Kernel3Ideal.main_arg0)) (m (c.tc.loc Cert.Kernel3Ideal.main_arg1)),
    θ_run_mono (Cert.Kernel3Ideal.Value.run_blocks m g) fun r h c => ⟨(h c).1.trans (at3 m c), (h c).2⟩,
    θ_run_mono (Cert.Reference3Ideal.Value.run (F := Ideal) m' g') fun r h c => ⟨((h c).1.trans (val_main_v5_eq _ _)).trans ?_, (h c).2⟩⟩
  exact (congrArg₂ (val_main_v5 (F := Ideal)) (hag c).1 (hag c).2).trans (ref3 _ _)

open Cert.Kernel4Ideal.Value Cert.Reference4Ideal.Read in
/-- The gradient of the first matrix is the reference's. -/
theorem same4 : Cert.algebraic_Kernel4Ideal_Reference4Ideal (hKernel4Ideal := Cert.Kernel4Ideal.Gen.facts)
    (hReference4Ideal := Cert.Reference4Ideal.Gen.facts) := by
  intro m g m' g' _ hag
  refine ⟨fun c => dw (m (c.tc.loc Cert.Kernel4Ideal.main_arg0)) (m (c.tc.loc Cert.Kernel4Ideal.main_arg1)),
    θ_run_mono (Cert.Kernel4Ideal.Value.run_blocks m g) fun r h c => ⟨(h c).1.trans (at4 m c), (h c).2⟩,
    θ_run_mono (Cert.Reference4Ideal.Value.run (F := Ideal) m' g') fun r h c => ⟨((h c).1.trans (val_main_v11_eq _ _)).trans ?_, (h c).2⟩⟩
  exact (congrArg₂ (val_main_v11 (F := Ideal)) (hag c).1 (hag c).2).trans (ref4 _ _)

open Cert.Kernel5Ideal.Value Cert.Reference5Ideal.Read in
/-- The gradient of the layer's input is the reference's. -/
theorem same5 : Cert.algebraic_Kernel5Ideal_Reference5Ideal (hKernel5Ideal := Cert.Kernel5Ideal.Gen.facts)
    (hReference5Ideal := Cert.Reference5Ideal.Gen.facts) := by
  intro m g m' g' _ hag
  refine ⟨fun c => dy (m (c.tc.loc Cert.Kernel5Ideal.main_arg0)) (m (c.tc.loc Cert.Kernel5Ideal.main_arg1)),
    θ_run_mono (Cert.Kernel5Ideal.Value.run_blocks m g) fun r h c => ⟨(h c).1.trans (at5 m c), (h c).2⟩,
    θ_run_mono (Cert.Reference5Ideal.Value.run (F := Ideal) m' g') fun r h c => ⟨((h c).1.trans (val_main_v8_eq _ _)).trans ?_, (h c).2⟩⟩
  exact (congrArg₂ (val_main_v8 (F := Ideal)) (hag c).1 (hag c).2).trans (ref5 _ _)

theorem frame_reference6 : Cert.quiescent_Reference6Ideal (hReference6Ideal := Cert.Reference6Ideal.Gen.facts) := fun m ρ _ =>
  θ_run_mono (Cert.Reference6Ideal.Value.run (F := Ideal) m ρ) fun r h =>
    ⟨fun c => (h c).2, sem_eq_zero_of_no_sems rfl r.2⟩

theorem frame_reference7 : Cert.quiescent_Reference7Ideal (hReference7Ideal := Cert.Reference7Ideal.Gen.facts) := fun m ρ _ =>
  θ_run_mono (Cert.Reference7Ideal.Value.run (F := Ideal) m ρ) fun r h =>
    ⟨fun c => (h c).2.2.2.2, sem_eq_zero_of_no_sems rfl r.2⟩

theorem frame_reference8 : Cert.quiescent_Reference8Ideal (hReference8Ideal := Cert.Reference8Ideal.Gen.facts) := fun m ρ _ =>
  θ_run_mono (Cert.Reference8Ideal.Value.run (F := Ideal) m ρ) fun r h =>
    ⟨fun c => (h c).2, sem_eq_zero_of_no_sems rfl r.2⟩

theorem frame_reference9 : Cert.quiescent_Reference9Ideal (hReference9Ideal := Cert.Reference9Ideal.Gen.facts) := fun m ρ _ =>
  θ_run_mono (Cert.Reference9Ideal.Value.run (F := Ideal) m ρ) fun r h =>
    ⟨fun c => (h c).2, sem_eq_zero_of_no_sems rfl r.2⟩

theorem frame_reference10 : Cert.quiescent_Reference10Ideal (hReference10Ideal := Cert.Reference10Ideal.Gen.facts) := fun m ρ _ =>
  θ_run_mono (Cert.Reference10Ideal.Value.run (F := Ideal) m ρ) fun r h =>
    ⟨fun c => (h c).2, sem_eq_zero_of_no_sems rfl r.2⟩

theorem frame_reference11 : Cert.quiescent_Reference11Ideal (hReference11Ideal := Cert.Reference11Ideal.Gen.facts) := fun m ρ _ =>
  θ_run_mono (Cert.Reference11Ideal.Value.run (F := Ideal) m ρ) fun r h =>
    ⟨fun c => (h c).2, sem_eq_zero_of_no_sems rfl r.2⟩

theorem frame_reference12 : Cert.quiescent_Reference12Ideal (hReference12Ideal := Cert.Reference12Ideal.Gen.facts) := fun m ρ _ =>
  θ_run_mono (Cert.Reference12Ideal.Value.run (F := Ideal) m ρ) fun r h =>
    ⟨fun c => (h c).2, sem_eq_zero_of_no_sems rfl r.2⟩

theorem frame_reference13 : Cert.quiescent_Reference13Ideal (hReference13Ideal := Cert.Reference13Ideal.Gen.facts) := fun m ρ _ =>
  θ_run_mono (Cert.Reference13Ideal.Value.run (F := Ideal) m ρ) fun r h =>
    ⟨fun c => (h c).2.2, sem_eq_zero_of_no_sems rfl r.2⟩

theorem frame_reference14 : Cert.quiescent_Reference14Ideal (hReference14Ideal := Cert.Reference14Ideal.Gen.facts) := fun m ρ _ =>
  θ_run_mono (Cert.Reference14Ideal.Value.run (F := Ideal) m ρ) fun r h =>
    ⟨fun c => (h c).2.2, sem_eq_zero_of_no_sems rfl r.2⟩

theorem frame_reference15 : Cert.quiescent_Reference15Ideal (hReference15Ideal := Cert.Reference15Ideal.Gen.facts) := fun m ρ _ =>
  θ_run_mono (Cert.Reference15Ideal.Value.run (F := Ideal) m ρ) fun r h =>
    ⟨fun c => (h c).2, sem_eq_zero_of_no_sems rfl r.2⟩

theorem frame_reference16 : Cert.quiescent_Reference16Ideal (hReference16Ideal := Cert.Reference16Ideal.Gen.facts) := fun m ρ _ =>
  θ_run_mono (Cert.Reference16Ideal.Value.run (F := Ideal) m ρ) fun r h =>
    ⟨fun c => (h c).2, sem_eq_zero_of_no_sems rfl r.2⟩

theorem frame_reference17 : Cert.quiescent_Reference17Ideal (hReference17Ideal := Cert.Reference17Ideal.Gen.facts) := fun m ρ _ =>
  θ_run_mono (Cert.Reference17Ideal.Value.run (F := Ideal) m ρ) fun r h =>
    ⟨fun c => (h c).2.2, sem_eq_zero_of_no_sems rfl r.2⟩

theorem frame_reference18 : Cert.quiescent_Reference18Ideal (hReference18Ideal := Cert.Reference18Ideal.Gen.facts) := fun m ρ _ =>
  θ_run_mono (Cert.Reference18Ideal.Value.run (F := Ideal) m ρ) fun r h =>
    ⟨fun c => (h c).2.2, sem_eq_zero_of_no_sems rfl r.2⟩

open Cert.Kernel6Ideal.Value Cert.Reference6Ideal.Read in
/-- The gradient of the mixer's second matrix is the reference's. -/
theorem same6 : Cert.algebraic_Kernel6Ideal_Reference6Ideal (hKernel6Ideal := Cert.Kernel6Ideal.Gen.facts)
    (hReference6Ideal := Cert.Reference6Ideal.Gen.facts) := by
  intro m g m' g' _ hag
  refine ⟨fun c => dw (m (c.tc.loc Cert.Kernel6Ideal.main_arg0)) (m (c.tc.loc Cert.Kernel6Ideal.main_arg1)),
    θ_run_mono (Cert.Kernel6Ideal.Value.run_blocks m g) fun r h c => ⟨(h c).1.trans (at6 m c), (h c).2⟩,
    θ_run_mono (Cert.Reference6Ideal.Value.run (F := Ideal) m' g') fun r h c => ?_⟩
  obtain ⟨h0, h1⟩ := hag c
  refine ⟨((h c).1.trans (val_main_v5_eq _ _)).trans ?_, (h c).2⟩
  exact (congrArg₂ (val_main_v5 (F := Ideal)) h0 h1).trans (ref6 _ _)

open Cert.Kernel7Ideal.Value Cert.Reference7Ideal.Read in
/-- The gradients of the mixer's branches and gates are the reference's. -/
theorem same7 : Cert.algebraic_Kernel7Ideal_Reference7Ideal (hKernel7Ideal := Cert.Kernel7Ideal.Gen.facts)
    (hReference7Ideal := Cert.Reference7Ideal.Gen.facts) := by
  intro m g m' g' _ hag
  refine ⟨fun c => dya (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)), fun c => dyl (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)), fun c => dga (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)), fun c => dgl (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)),
    θ_run_mono (Cert.Kernel7Ideal.Value.run_blocks m g) fun r h c => ⟨(h c).1.trans (at7a m c), (h c).2.1.trans (at7b m c), (h c).2.2.1.trans (at7c m c), (h c).2.2.2.1.trans (at7d m c), (h c).2.2.2.2⟩,
    θ_run_mono (Cert.Reference7Ideal.Value.run (F := Ideal) m' g') fun r h c => ?_⟩
  obtain ⟨h0, h1, h2, h3, h4⟩ := hag c
  refine ⟨((h c).1.trans (val_main_v32_eq _ _ _)).trans ?_, ((h c).2.1.trans (val_main_v34_eq _ _ _)).trans ?_, ((h c).2.2.1.trans (val_main_v36_eq _ _ _ _)).trans ?_, ((h c).2.2.2.1.trans (val_main_v38_eq _ _ _ _)).trans ?_, (h c).2.2.2.2⟩
  · exact (congr (congrArg₂ (val_main_v32 (F := Ideal)) h0 h1) h4).trans (ref7a _ _ _ _ _)
  · exact (congr (congrArg₂ (val_main_v34 (F := Ideal)) h0 h1) h4).trans (ref7b _ _ _ _ _)
  · exact (congr (congr (congrArg₂ (val_main_v36 (F := Ideal)) h0 h1) h2) h4).trans (ref7c _ _ _ _ _)
  · exact (congr (congr (congrArg₂ (val_main_v38 (F := Ideal)) h0 h1) h3) h4).trans (ref7d _ _ _ _ _)

open Cert.Kernel8Ideal.Value Cert.Reference8Ideal.Read in
/-- The gradient of a branch's matrix is the reference's. -/
theorem same8 : Cert.algebraic_Kernel8Ideal_Reference8Ideal (hKernel8Ideal := Cert.Kernel8Ideal.Gen.facts)
    (hReference8Ideal := Cert.Reference8Ideal.Gen.facts) := by
  intro m g m' g' _ hag
  refine ⟨fun c => dw (m (c.tc.loc Cert.Kernel8Ideal.main_arg0)) (m (c.tc.loc Cert.Kernel8Ideal.main_arg1)),
    θ_run_mono (Cert.Kernel8Ideal.Value.run_blocks m g) fun r h c => ⟨(h c).1.trans (at8 m c), (h c).2⟩,
    θ_run_mono (Cert.Reference8Ideal.Value.run (F := Ideal) m' g') fun r h c => ?_⟩
  obtain ⟨h0, h1⟩ := hag c
  refine ⟨((h c).1.trans (val_main_v6_eq _ _)).trans ?_, (h c).2⟩
  exact (congrArg₂ (val_main_v6 (F := Ideal)) h0 h1).trans (ref8 _ _)

open Cert.Kernel9Ideal.Value Cert.Reference9Ideal.Read in
/-- The gradient of the attention's outputs is the reference's. -/
theorem same9 : Cert.algebraic_Kernel9Ideal_Reference9Ideal (hKernel9Ideal := Cert.Kernel9Ideal.Gen.facts)
    (hReference9Ideal := Cert.Reference9Ideal.Gen.facts) := by
  intro m g m' g' _ hag
  refine ⟨fun c => dy (m (c.tc.loc Cert.Kernel9Ideal.main_arg0)) (m (c.tc.loc Cert.Kernel9Ideal.main_arg1)),
    θ_run_mono (Cert.Kernel9Ideal.Value.run_blocks m g) fun r h c => ⟨(h c).1.trans (at9 m c), (h c).2⟩,
    θ_run_mono (Cert.Reference9Ideal.Value.run (F := Ideal) m' g') fun r h c => ?_⟩
  obtain ⟨h0, h1⟩ := hag c
  refine ⟨((h c).1.trans (val_main_v4_eq _ _)).trans ?_, (h c).2⟩
  exact (congrArg₂ (val_main_v4 (F := Ideal)) h0 h1).trans (ref9 _ _)

open Cert.Kernel10Ideal.Value Cert.Reference10Ideal.Read in
/-- The gradient of the recurrence's outputs is the reference's. -/
theorem same10 : Cert.algebraic_Kernel10Ideal_Reference10Ideal (hKernel10Ideal := Cert.Kernel10Ideal.Gen.facts)
    (hReference10Ideal := Cert.Reference10Ideal.Gen.facts) := by
  intro m g m' g' _ hag
  refine ⟨fun c => dy (m (c.tc.loc Cert.Kernel10Ideal.main_arg0)) (m (c.tc.loc Cert.Kernel10Ideal.main_arg1)),
    θ_run_mono (Cert.Kernel10Ideal.Value.run_blocks m g) fun r h c => ⟨(h c).1.trans (at10 m c), (h c).2⟩,
    θ_run_mono (Cert.Reference10Ideal.Value.run (F := Ideal) m' g') fun r h c => ?_⟩
  obtain ⟨h0, h1⟩ := hag c
  refine ⟨((h c).1.trans (val_main_v3_eq _ _)).trans ?_, (h c).2⟩
  exact (congrArg₂ (val_main_v3 (F := Ideal)) h0 h1).trans (ref10 _ _)

open Cert.Kernel11Ideal.Value Cert.Reference11Ideal.Read in
/-- The gradient of the mixer's first matrix is the reference's. -/
theorem same11 : Cert.algebraic_Kernel11Ideal_Reference11Ideal (hKernel11Ideal := Cert.Kernel11Ideal.Gen.facts)
    (hReference11Ideal := Cert.Reference11Ideal.Gen.facts) := by
  intro m g m' g' _ hag
  refine ⟨fun c => dw (m (c.tc.loc Cert.Kernel11Ideal.main_arg0)) (m (c.tc.loc Cert.Kernel11Ideal.main_arg1)),
    θ_run_mono (Cert.Kernel11Ideal.Value.run_blocks m g) fun r h c => ⟨(h c).1.trans (at11 m c), (h c).2⟩,
    θ_run_mono (Cert.Reference11Ideal.Value.run (F := Ideal) m' g') fun r h c => ?_⟩
  obtain ⟨h0, h1⟩ := hag c
  refine ⟨((h c).1.trans (val_main_v6_eq _ _)).trans ?_, (h c).2⟩
  exact (congrArg₂ (val_main_v6 (F := Ideal)) h0 h1).trans (ref11 _ _)

open Cert.Kernel12Ideal.Value Cert.Reference12Ideal.Read in
/-- The gradient of the mixer's input is the reference's. -/
theorem same12 : Cert.algebraic_Kernel12Ideal_Reference12Ideal (hKernel12Ideal := Cert.Kernel12Ideal.Gen.facts)
    (hReference12Ideal := Cert.Reference12Ideal.Gen.facts) := by
  intro m g m' g' _ hag
  refine ⟨fun c => dy (m (c.tc.loc Cert.Kernel12Ideal.main_arg0)) (m (c.tc.loc Cert.Kernel12Ideal.main_arg1)),
    θ_run_mono (Cert.Kernel12Ideal.Value.run_blocks m g) fun r h c => ⟨(h c).1.trans (at12 m c), (h c).2⟩,
    θ_run_mono (Cert.Reference12Ideal.Value.run (F := Ideal) m' g') fun r h c => ?_⟩
  obtain ⟨h0, h1⟩ := hag c
  refine ⟨((h c).1.trans (val_main_v3_eq _ _)).trans ?_, (h c).2⟩
  exact (congrArg₂ (val_main_v3 (F := Ideal)) h0 h1).trans (ref12 _ _)

open Cert.Kernel13Ideal.Value Cert.Reference13Ideal.Read in
/-- The feed-forward layer's gate, factor and activation are the reference's. -/
theorem same13 : Cert.algebraic_Kernel13Ideal_Reference13Ideal (hKernel13Ideal := Cert.Kernel13Ideal.Gen.facts)
    (hReference13Ideal := Cert.Reference13Ideal.Gen.facts) := by
  intro m g m' g' _ hag
  refine ⟨fun c => gu (m (c.tc.loc Cert.Kernel13Ideal.main_arg0)) (m (c.tc.loc Cert.Kernel13Ideal.main_arg1)), fun c => act (m (c.tc.loc Cert.Kernel13Ideal.main_arg0)) (m (c.tc.loc Cert.Kernel13Ideal.main_arg1)),
    θ_run_mono (Cert.Kernel13Ideal.Value.run_blocks m g) fun r h c => ⟨(h c).1.trans (at13a m c), (h c).2.1.trans (at13b m c), (h c).2.2⟩,
    θ_run_mono (Cert.Reference13Ideal.Value.run (F := Ideal) m' g') fun r h c => ?_⟩
  obtain ⟨h0, h1⟩ := hag c
  refine ⟨((h c).1.trans (val_main_v7_eq _ _)).trans ?_, ((h c).2.1.trans (val_main_v11_eq _ _)).trans ?_, (h c).2.2⟩
  · exact (congrArg₂ (val_main_v7 (F := Ideal)) h0 h1).trans (ref13a _ _)
  · exact (congrArg₂ (val_main_v11 (F := Ideal)) h0 h1).trans (ref13b _ _)

open Cert.Kernel14Ideal.Value Cert.Reference14Ideal.Read in
/-- The feed-forward layer's output and the stream after it are the reference's. -/
theorem same14 : Cert.algebraic_Kernel14Ideal_Reference14Ideal (hKernel14Ideal := Cert.Kernel14Ideal.Gen.facts)
    (hReference14Ideal := Cert.Reference14Ideal.Gen.facts) := by
  intro m g m' g' _ hag
  refine ⟨fun c => out (m (c.tc.loc Cert.Kernel14Ideal.main_arg0)) (m (c.tc.loc Cert.Kernel14Ideal.main_arg1)), fun c => next (m (c.tc.loc Cert.Kernel14Ideal.main_arg0)) (m (c.tc.loc Cert.Kernel14Ideal.main_arg1)) (m (c.tc.loc Cert.Kernel14Ideal.main_arg2)) (m (c.tc.loc Cert.Kernel14Ideal.main_arg3)),
    θ_run_mono (Cert.Kernel14Ideal.Value.run_blocks m g) fun r h c => ⟨(h c).1.trans (at14a m c), (h c).2.1.trans (at14b m c), (h c).2.2⟩,
    θ_run_mono (Cert.Reference14Ideal.Value.run (F := Ideal) m' g') fun r h c => ?_⟩
  obtain ⟨h0, h1, h2, h3⟩ := hag c
  refine ⟨((h c).1.trans (val_main_v2_eq _ _)).trans ?_, ((h c).2.1.trans (val_main_v8_eq _ _ _ _)).trans ?_, (h c).2.2⟩
  · exact (congrArg₂ (val_main_v2 (F := Ideal)) h0 h1).trans (ref14a _ _)
  · exact (congr (congr (congrArg₂ (val_main_v8 (F := Ideal)) h0 h1) h2) h3).trans (ref14b _ _ _ _)

open Cert.Kernel15Ideal.Value Cert.Reference15Ideal.Read in
/-- The mixer's projections are the reference's. -/
theorem same15 : Cert.algebraic_Kernel15Ideal_Reference15Ideal (hKernel15Ideal := Cert.Kernel15Ideal.Gen.facts)
    (hReference15Ideal := Cert.Reference15Ideal.Gen.facts) := by
  intro m g m' g' _ hag
  refine ⟨fun c => out (m (c.tc.loc Cert.Kernel15Ideal.main_arg0)) (m (c.tc.loc Cert.Kernel15Ideal.main_arg1)),
    θ_run_mono (Cert.Kernel15Ideal.Value.run_blocks m g) fun r h c => ⟨(h c).1.trans (at15 m c), (h c).2⟩,
    θ_run_mono (Cert.Reference15Ideal.Value.run (F := Ideal) m' g') fun r h c => ?_⟩
  obtain ⟨h0, h1⟩ := hag c
  refine ⟨((h c).1.trans (val_main_v1_eq _ _)).trans ?_, (h c).2⟩
  exact (congrArg₂ (val_main_v1 (F := Ideal)) h0 h1).trans (ref15 _ _)

open Cert.Kernel16Ideal.Value Cert.Reference16Ideal.Read in
/-- The attention's branch is the reference's. -/
theorem same16 : Cert.algebraic_Kernel16Ideal_Reference16Ideal (hKernel16Ideal := Cert.Kernel16Ideal.Gen.facts)
    (hReference16Ideal := Cert.Reference16Ideal.Gen.facts) := by
  intro m g m' g' _ hag
  refine ⟨fun c => out (m (c.tc.loc Cert.Kernel16Ideal.main_arg0)) (m (c.tc.loc Cert.Kernel16Ideal.main_arg1)),
    θ_run_mono (Cert.Kernel16Ideal.Value.run_blocks m g) fun r h c => ⟨(h c).1.trans (at16 m c), (h c).2⟩,
    θ_run_mono (Cert.Reference16Ideal.Value.run (F := Ideal) m' g') fun r h c => ?_⟩
  obtain ⟨h0, h1⟩ := hag c
  refine ⟨((h c).1.trans (val_main_v2_eq _ _)).trans ?_, (h c).2⟩
  exact (congrArg₂ (val_main_v2 (F := Ideal)) h0 h1).trans (ref16 _ _)

open Cert.Kernel17Ideal.Value Cert.Reference17Ideal.Read in
/-- The recurrence's branch and the sum of the gated branches are the reference's. -/
theorem same17 : Cert.algebraic_Kernel17Ideal_Reference17Ideal (hKernel17Ideal := Cert.Kernel17Ideal.Gen.facts)
    (hReference17Ideal := Cert.Reference17Ideal.Gen.facts) := by
  intro m g m' g' _ hag
  refine ⟨fun c => out (m (c.tc.loc Cert.Kernel17Ideal.main_arg0)) (m (c.tc.loc Cert.Kernel17Ideal.main_arg1)), fun c => merged (m (c.tc.loc Cert.Kernel17Ideal.main_arg0)) (m (c.tc.loc Cert.Kernel17Ideal.main_arg1)) (m (c.tc.loc Cert.Kernel17Ideal.main_arg2)) (m (c.tc.loc Cert.Kernel17Ideal.main_arg3)),
    θ_run_mono (Cert.Kernel17Ideal.Value.run_blocks m g) fun r h c => ⟨(h c).1.trans (at17a m c), (h c).2.1.trans (at17b m c), (h c).2.2⟩,
    θ_run_mono (Cert.Reference17Ideal.Value.run (F := Ideal) m' g') fun r h c => ?_⟩
  obtain ⟨h0, h1, h2, h3⟩ := hag c
  refine ⟨((h c).1.trans (val_main_v19_eq _ _)).trans ?_, ((h c).2.1.trans (val_main_v21_eq _ _ _ _)).trans ?_, (h c).2.2⟩
  · exact (congrArg₂ (val_main_v19 (F := Ideal)) h0 h1).trans (ref17a _ _)
  · exact (congr (congr (congrArg₂ (val_main_v21 (F := Ideal)) h0 h1) h2) h3).trans (ref17b _ _ _ _)

open Cert.Kernel18Ideal.Value Cert.Reference18Ideal.Read in
/-- The mixer's output and the stream after it are the reference's. -/
theorem same18 : Cert.algebraic_Kernel18Ideal_Reference18Ideal (hKernel18Ideal := Cert.Kernel18Ideal.Gen.facts)
    (hReference18Ideal := Cert.Reference18Ideal.Gen.facts) := by
  intro m g m' g' _ hag
  refine ⟨fun c => out (m (c.tc.loc Cert.Kernel18Ideal.main_arg0)) (m (c.tc.loc Cert.Kernel18Ideal.main_arg1)), fun c => next (m (c.tc.loc Cert.Kernel18Ideal.main_arg0)) (m (c.tc.loc Cert.Kernel18Ideal.main_arg1)) (m (c.tc.loc Cert.Kernel18Ideal.main_arg2)) (m (c.tc.loc Cert.Kernel18Ideal.main_arg3)),
    θ_run_mono (Cert.Kernel18Ideal.Value.run_blocks m g) fun r h c => ⟨(h c).1.trans (at18a m c), (h c).2.1.trans (at18b m c), (h c).2.2⟩,
    θ_run_mono (Cert.Reference18Ideal.Value.run (F := Ideal) m' g') fun r h c => ?_⟩
  obtain ⟨h0, h1, h2, h3⟩ := hag c
  refine ⟨((h c).1.trans (val_main_v2_eq _ _)).trans ?_, ((h c).2.1.trans (val_main_v6_eq _ _ _ _)).trans ?_, (h c).2.2⟩
  · exact (congrArg₂ (val_main_v2 (F := Ideal)) h0 h1).trans (ref18a _ _)
  · exact (congr (congr (congrArg₂ (val_main_v6 (F := Ideal)) h0 h1) h2) h3).trans (ref18b _ _ _ _)

theorem frame_reference19 : Cert.quiescent_Reference19Ideal (hReference19Ideal := Cert.Reference19Ideal.Gen.facts) := fun m ρ _ =>
  θ_run_mono (Cert.Reference19Ideal.Value.run (F := Ideal) m ρ) fun r h =>
    ⟨fun c => (h c).2.2.2.2.2.2, sem_eq_zero_of_no_sems rfl r.2⟩

theorem frame_reference20 : Cert.quiescent_Reference20Ideal (hReference20Ideal := Cert.Reference20Ideal.Gen.facts) := fun m ρ _ =>
  θ_run_mono (Cert.Reference20Ideal.Value.run (F := Ideal) m ρ) fun r h =>
    ⟨fun c => (h c).2.2.2.2.2.2, sem_eq_zero_of_no_sems rfl r.2⟩

theorem frame_reference21 : Cert.quiescent_Reference21Ideal (hReference21Ideal := Cert.Reference21Ideal.Gen.facts) := fun m ρ _ =>
  θ_run_mono (Cert.Reference21Ideal.Value.run (F := Ideal) m ρ) fun r h =>
    ⟨fun c => (h c).2.2.2.2, sem_eq_zero_of_no_sems rfl r.2⟩

theorem frame_reference22 : Cert.quiescent_Reference22Ideal (hReference22Ideal := Cert.Reference22Ideal.Gen.facts) := fun m ρ _ =>
  θ_run_mono (Cert.Reference22Ideal.Value.run (F := Ideal) m ρ) fun r h =>
    ⟨fun c => (h c).2.2.2.2.2, sem_eq_zero_of_no_sems rfl r.2⟩

theorem frame_reference23 : Cert.quiescent_Reference23Ideal (hReference23Ideal := Cert.Reference23Ideal.Gen.facts) := fun m ρ _ =>
  θ_run_mono (Cert.Reference23Ideal.Value.run (F := Ideal) m ρ) fun r h =>
    ⟨fun c => (h c).2, sem_eq_zero_of_no_sems rfl r.2⟩

theorem frame_reference24 : Cert.quiescent_Reference24Ideal (hReference24Ideal := Cert.Reference24Ideal.Gen.facts) := fun m ρ _ =>
  θ_run_mono (Cert.Reference24Ideal.Value.run (F := Ideal) m ρ) fun r h =>
    ⟨fun c => (h c).2, sem_eq_zero_of_no_sems rfl r.2⟩

theorem frame_reference25 : Cert.quiescent_Reference25Ideal (hReference25Ideal := Cert.Reference25Ideal.Gen.facts) := fun m ρ _ =>
  θ_run_mono (Cert.Reference25Ideal.Value.run (F := Ideal) m ρ) fun r h =>
    ⟨fun c => (h c).2, sem_eq_zero_of_no_sems rfl r.2⟩

theorem frame_reference26 : Cert.quiescent_Reference26Ideal (hReference26Ideal := Cert.Reference26Ideal.Gen.facts) := fun m ρ _ =>
  θ_run_mono (Cert.Reference26Ideal.Value.run (F := Ideal) m ρ) fun r h =>
    ⟨fun c => (h c).2, sem_eq_zero_of_no_sems rfl r.2⟩

theorem frame_reference28 : Cert.quiescent_Reference28Ideal (hReference28Ideal := Cert.Reference28Ideal.Gen.facts) := fun m ρ _ =>
  θ_run_mono (Cert.Reference28Ideal.Value.run (F := Ideal) m ρ) fun r h =>
    ⟨fun c => (h c).2.2, sem_eq_zero_of_no_sems rfl r.2⟩

theorem frame_reference29 : Cert.quiescent_Reference29Ideal (hReference29Ideal := Cert.Reference29Ideal.Gen.facts) := fun m ρ _ =>
  θ_run_mono (Cert.Reference29Ideal.Value.run (F := Ideal) m ρ) fun r h =>
    ⟨fun c => (h c).2.2.2.2, sem_eq_zero_of_no_sems rfl r.2⟩

open Cert.Kernel19Ideal.Value Cert.Reference19Ideal.Read in
/-- The gradients the second feed-forward layer's norm passes down are the reference's. -/
theorem same19 : Cert.algebraic_Kernel19Ideal_Reference19Ideal (hKernel19Ideal := Cert.Kernel19Ideal.Gen.facts)
    (hReference19Ideal := Cert.Reference19Ideal.Gen.facts) := by
  intro m g m' g' _ hag
  refine ⟨fun c => (Cert.Norm.dh (m (c.tc.loc Cert.Kernel19Ideal.main_arg0)) (m (c.tc.loc Cert.Kernel19Ideal.main_arg1)) (m (c.tc.loc Cert.Kernel19Ideal.main_arg2)) (m (c.tc.loc Cert.Kernel19Ideal.main_arg3)) (m (c.tc.loc Cert.Kernel19Ideal.main_arg4))),
    fun c => Cert.Norm.dO 1 (Cert.Norm.dh (m (c.tc.loc Cert.Kernel19Ideal.main_arg0)) (m (c.tc.loc Cert.Kernel19Ideal.main_arg1)) (m (c.tc.loc Cert.Kernel19Ideal.main_arg2)) (m (c.tc.loc Cert.Kernel19Ideal.main_arg3)) (m (c.tc.loc Cert.Kernel19Ideal.main_arg4))) (m (c.tc.loc Cert.Kernel19Ideal.main_arg6)),
    fun c => Cert.Norm.dsh (m (c.tc.loc Cert.Kernel19Ideal.main_arg0)),
    fun c => Cert.Norm.dsc (m (c.tc.loc Cert.Kernel19Ideal.main_arg0)) (m (c.tc.loc Cert.Kernel19Ideal.main_arg1)) (m (c.tc.loc Cert.Kernel19Ideal.main_arg3)),
    fun c => Cert.Norm.dn (m (c.tc.loc Cert.Kernel19Ideal.main_arg0)) (m (c.tc.loc Cert.Kernel19Ideal.main_arg1)) (m (c.tc.loc Cert.Kernel19Ideal.main_arg4)),
    fun c => Cert.Norm.dG 1 (Cert.Norm.dh (m (c.tc.loc Cert.Kernel19Ideal.main_arg0)) (m (c.tc.loc Cert.Kernel19Ideal.main_arg1)) (m (c.tc.loc Cert.Kernel19Ideal.main_arg2)) (m (c.tc.loc Cert.Kernel19Ideal.main_arg3)) (m (c.tc.loc Cert.Kernel19Ideal.main_arg4))) (m (c.tc.loc Cert.Kernel19Ideal.main_arg5)),
    θ_run_mono (Cert.Kernel19Ideal.Value.run_blocks m g) fun r h c => ⟨(h c).1.trans (at19a m c), (h c).2.1.trans (at19b m c), (h c).2.2.1.trans (at19c m c), (h c).2.2.2.1.trans (at19d m c), (h c).2.2.2.2.1.trans (at19e m c), (h c).2.2.2.2.2.1.trans (at19f m c), (h c).2.2.2.2.2.2⟩,
    θ_run_mono (Cert.Reference19Ideal.Value.run (F := Ideal) m' g') fun r h c => ?_⟩
  obtain ⟨h0, h1, h2, h3, h4, h5, h6⟩ := hag c
  refine ⟨((h c).1.trans (val_main_v49_eq _ _)).trans ?_, ((h c).2.1.trans (val_main_v58_eq _ _)).trans ?_, ((h c).2.2.1.trans (val_main_v24_eq _)).trans ?_, ((h c).2.2.2.1.trans (val_main_v27_eq _ _ _)).trans ?_, ((h c).2.2.2.2.1.trans (val_main_v32_eq _ _ _)).trans ?_, ((h c).2.2.2.2.2.1.trans (val_main_v57_eq _ _)).trans ?_, (h c).2.2.2.2.2.2⟩
  · exact (congr (congr (congr (congrArg₂ (val_main_v49 (F := Ideal)) h0 h1) h2) h3) h4).trans (ref19a _ _ _ _ _)
  · exact (congr (congr (congr (congr (congrArg₂ (val_main_v58 (F := Ideal)) h0 h1) h2) h3) h4) h6).trans (ref19b _ _ _ _ _ _)
  · exact (congrArg (val_main_v24 (F := Ideal)) h0).trans (ref19c _)
  · exact (congr (congrArg₂ (val_main_v27 (F := Ideal)) h0 h1) h3).trans (ref19d _ _ _)
  · exact (congr (congrArg₂ (val_main_v32 (F := Ideal)) h0 h1) h4).trans (ref19e _ _ _)
  · exact (congr (congr (congr (congr (congrArg₂ (val_main_v57 (F := Ideal)) h0 h1) h2) h3) h4) h5).trans (ref19f _ _ _ _ _ _)

open Cert.Kernel20Ideal.Value Cert.Reference20Ideal.Read in
/-- The gradients the mixer's norm passes down are the reference's. -/
theorem same20 : Cert.algebraic_Kernel20Ideal_Reference20Ideal (hKernel20Ideal := Cert.Kernel20Ideal.Gen.facts)
    (hReference20Ideal := Cert.Reference20Ideal.Gen.facts) := by
  intro m g m' g' _ hag
  refine ⟨fun c => (Cert.Norm.dh (m (c.tc.loc Cert.Kernel20Ideal.main_arg0)) (m (c.tc.loc Cert.Kernel20Ideal.main_arg1)) (m (c.tc.loc Cert.Kernel20Ideal.main_arg2)) (m (c.tc.loc Cert.Kernel20Ideal.main_arg3)) (m (c.tc.loc Cert.Kernel20Ideal.main_arg4))),
    fun c => Cert.Norm.dO (Ideal.ofBits .f32 0x3F000000#32) (Cert.Norm.dh (m (c.tc.loc Cert.Kernel20Ideal.main_arg0)) (m (c.tc.loc Cert.Kernel20Ideal.main_arg1)) (m (c.tc.loc Cert.Kernel20Ideal.main_arg2)) (m (c.tc.loc Cert.Kernel20Ideal.main_arg3)) (m (c.tc.loc Cert.Kernel20Ideal.main_arg4))) (m (c.tc.loc Cert.Kernel20Ideal.main_arg6)),
    fun c => Cert.Norm.dsh (m (c.tc.loc Cert.Kernel20Ideal.main_arg0)),
    fun c => Cert.Norm.dsc (m (c.tc.loc Cert.Kernel20Ideal.main_arg0)) (m (c.tc.loc Cert.Kernel20Ideal.main_arg1)) (m (c.tc.loc Cert.Kernel20Ideal.main_arg3)),
    fun c => Cert.Norm.dn (m (c.tc.loc Cert.Kernel20Ideal.main_arg0)) (m (c.tc.loc Cert.Kernel20Ideal.main_arg1)) (m (c.tc.loc Cert.Kernel20Ideal.main_arg4)),
    fun c => Cert.Norm.dG (Ideal.ofBits .f32 0x3F000000#32) (Cert.Norm.dh (m (c.tc.loc Cert.Kernel20Ideal.main_arg0)) (m (c.tc.loc Cert.Kernel20Ideal.main_arg1)) (m (c.tc.loc Cert.Kernel20Ideal.main_arg2)) (m (c.tc.loc Cert.Kernel20Ideal.main_arg3)) (m (c.tc.loc Cert.Kernel20Ideal.main_arg4))) (m (c.tc.loc Cert.Kernel20Ideal.main_arg5)),
    θ_run_mono (Cert.Kernel20Ideal.Value.run_blocks m g) fun r h c => ⟨(h c).1.trans (at20a m c), (h c).2.1.trans (at20b m c), (h c).2.2.1.trans (at20c m c), (h c).2.2.2.1.trans (at20d m c), (h c).2.2.2.2.1.trans (at20e m c), (h c).2.2.2.2.2.1.trans (at20f m c), (h c).2.2.2.2.2.2⟩,
    θ_run_mono (Cert.Reference20Ideal.Value.run (F := Ideal) m' g') fun r h c => ?_⟩
  obtain ⟨h0, h1, h2, h3, h4, h5, h6⟩ := hag c
  refine ⟨((h c).1.trans (val_main_v49_eq _ _)).trans ?_, ((h c).2.1.trans (val_main_v62_eq _ _)).trans ?_, ((h c).2.2.1.trans (val_main_v24_eq _)).trans ?_, ((h c).2.2.2.1.trans (val_main_v27_eq _ _ _)).trans ?_, ((h c).2.2.2.2.1.trans (val_main_v32_eq _ _ _)).trans ?_, ((h c).2.2.2.2.2.1.trans (val_main_v61_eq _ _)).trans ?_, (h c).2.2.2.2.2.2⟩
  · exact (congr (congr (congr (congrArg₂ (val_main_v49 (F := Ideal)) h0 h1) h2) h3) h4).trans (ref20a _ _ _ _ _)
  · exact (congr (congr (congr (congr (congrArg₂ (val_main_v62 (F := Ideal)) h0 h1) h2) h3) h4) h6).trans (ref20b _ _ _ _ _ _)
  · exact (congrArg (val_main_v24 (F := Ideal)) h0).trans (ref20c _)
  · exact (congr (congrArg₂ (val_main_v27 (F := Ideal)) h0 h1) h3).trans (ref20d _ _ _)
  · exact (congr (congrArg₂ (val_main_v32 (F := Ideal)) h0 h1) h4).trans (ref20e _ _ _)
  · exact (congr (congr (congr (congr (congrArg₂ (val_main_v61 (F := Ideal)) h0 h1) h2) h3) h4) h5).trans (ref20f _ _ _ _ _ _)

open Cert.Kernel21Ideal.Value Cert.Reference21Ideal.Read in
/-- The gradient of the step's input and those of the first norm are the reference's. -/
theorem same21 : Cert.algebraic_Kernel21Ideal_Reference21Ideal (hKernel21Ideal := Cert.Kernel21Ideal.Gen.facts)
    (hReference21Ideal := Cert.Reference21Ideal.Gen.facts) := by
  intro m g m' g' _ hag
  refine ⟨fun c => Cert.Norm.dh (m (c.tc.loc Cert.Kernel21Ideal.main_arg0)) (m (c.tc.loc Cert.Kernel21Ideal.main_arg1)) (m (c.tc.loc Cert.Kernel21Ideal.main_arg2)) (m (c.tc.loc Cert.Kernel21Ideal.main_arg3)) (m (c.tc.loc Cert.Kernel21Ideal.main_arg4)),
    fun c => Cert.Norm.dsh (m (c.tc.loc Cert.Kernel21Ideal.main_arg0)),
    fun c => Cert.Norm.dsc (m (c.tc.loc Cert.Kernel21Ideal.main_arg0)) (m (c.tc.loc Cert.Kernel21Ideal.main_arg1)) (m (c.tc.loc Cert.Kernel21Ideal.main_arg3)),
    fun c => Cert.Norm.dn (m (c.tc.loc Cert.Kernel21Ideal.main_arg0)) (m (c.tc.loc Cert.Kernel21Ideal.main_arg1)) (m (c.tc.loc Cert.Kernel21Ideal.main_arg4)),
    θ_run_mono (Cert.Kernel21Ideal.Value.run_blocks m g) fun r h c => ⟨(h c).1.trans (at21a m c), (h c).2.1.trans (at21b m c), (h c).2.2.1.trans (at21c m c), (h c).2.2.2.1.trans (at21d m c), (h c).2.2.2.2⟩,
    θ_run_mono (Cert.Reference21Ideal.Value.run (F := Ideal) m' g') fun r h c => ?_⟩
  obtain ⟨h0, h1, h2, h3, h4⟩ := hag c
  refine ⟨((h c).1.trans (val_main_v49_eq _ _)).trans ?_, ((h c).2.1.trans (val_main_v24_eq _)).trans ?_, ((h c).2.2.1.trans (val_main_v27_eq _ _ _)).trans ?_, ((h c).2.2.2.1.trans (val_main_v32_eq _ _ _)).trans ?_, (h c).2.2.2.2⟩
  · exact (congr (congr (congr (congrArg₂ (val_main_v49 (F := Ideal)) h0 h1) h2) h3) h4).trans (ref21a _ _ _ _ _)
  · exact (congrArg (val_main_v24 (F := Ideal)) h0).trans (ref21b _)
  · exact (congr (congrArg₂ (val_main_v27 (F := Ideal)) h0 h1) h3).trans (ref21c _ _ _)
  · exact (congr (congrArg₂ (val_main_v32 (F := Ideal)) h0 h1) h4).trans (ref21d _ _ _)

open Cert.Kernel22Ideal.Value Cert.Reference22Ideal.Read in
/-- The loss and the gradients it sends down are the reference's. -/
theorem same22 : Cert.algebraic_Kernel22Ideal_Reference22Ideal (hKernel22Ideal := Cert.Kernel22Ideal.Gen.facts)
    (hReference22Ideal := Cert.Reference22Ideal.Gen.facts) := by
  intro m g m' g' _ hag
  refine ⟨fun c => (dx (m (c.tc.loc Cert.Kernel22Ideal.main_arg0)) (m (c.tc.loc Cert.Kernel22Ideal.main_arg1)) (m (c.tc.loc Cert.Kernel22Ideal.main_arg2))),
    fun c => Cert.Norm.dO (Ideal.ofBits .f32 0x3F000000#32) (dx (m (c.tc.loc Cert.Kernel22Ideal.main_arg0)) (m (c.tc.loc Cert.Kernel22Ideal.main_arg1)) (m (c.tc.loc Cert.Kernel22Ideal.main_arg2))) (m (c.tc.loc Cert.Kernel22Ideal.main_arg4)),
    fun c => loss (m (c.tc.loc Cert.Kernel22Ideal.main_arg0)) (m (c.tc.loc Cert.Kernel22Ideal.main_arg1)) (m (c.tc.loc Cert.Kernel22Ideal.main_arg2)),
    fun c => dw (m (c.tc.loc Cert.Kernel22Ideal.main_arg0)) (m (c.tc.loc Cert.Kernel22Ideal.main_arg1)) (m (c.tc.loc Cert.Kernel22Ideal.main_arg2)),
    fun c => Cert.Norm.dG (Ideal.ofBits .f32 0x3F000000#32) (dx (m (c.tc.loc Cert.Kernel22Ideal.main_arg0)) (m (c.tc.loc Cert.Kernel22Ideal.main_arg1)) (m (c.tc.loc Cert.Kernel22Ideal.main_arg2))) (m (c.tc.loc Cert.Kernel22Ideal.main_arg3)),
    θ_run_mono (Cert.Kernel22Ideal.Value.run_blocks m g) fun r h c => ⟨(h c).1.trans (at22a m c), (h c).2.1.trans (at22b m c), (h c).2.2.1.trans (at22c m c), (h c).2.2.2.1.trans (at22d m c), (h c).2.2.2.2.1.trans (at22e m c), (h c).2.2.2.2.2⟩,
    θ_run_mono (Cert.Reference22Ideal.Value.run (F := Ideal) m' g') fun r h c => ?_⟩
  obtain ⟨h0, h1, h2, h3, h4⟩ := hag c
  refine ⟨((h c).1.trans (val_main_v48_eq _ _)).trans ?_, ((h c).2.1.trans (val_main_v61_eq _ _)).trans ?_, ((h c).2.2.1.trans (val_main_v62_eq _ _ _)).trans ?_, ((h c).2.2.2.1.trans (val_main_v32_eq _ _ _)).trans ?_, ((h c).2.2.2.2.1.trans (val_main_v60_eq _ _)).trans ?_, (h c).2.2.2.2.2⟩
  · exact (congr (congrArg₂ (val_main_v48 (F := Ideal)) h0 h1) h2).trans (ref22a _ _ _)
  · exact (congr (congr (congrArg₂ (val_main_v61 (F := Ideal)) h0 h1) h2) h4).trans (ref22b _ _ _ _)
  · exact (congr (congrArg₂ (val_main_v62 (F := Ideal)) h0 h1) h2).trans (ref22c _ _ _)
  · exact (congr (congrArg₂ (val_main_v32 (F := Ideal)) h0 h1) h2).trans (ref22d _ _ _)
  · exact (congr (congr (congrArg₂ (val_main_v60 (F := Ideal)) h0 h1) h2) h3).trans (ref22e _ _ _ _)

open Cert.Kernel23Ideal.Value Cert.Reference23Ideal.Read in
/-- The gradient of the modulation's matrix is the reference's. -/
theorem same23 : Cert.algebraic_Kernel23Ideal_Reference23Ideal (hKernel23Ideal := Cert.Kernel23Ideal.Gen.facts)
    (hReference23Ideal := Cert.Reference23Ideal.Gen.facts) := by
  intro m g m' g' _ hag
  refine ⟨fun c => dw (m (c.tc.loc Cert.Kernel23Ideal.main_arg0)) (m (c.tc.loc Cert.Kernel23Ideal.main_arg1)),
    θ_run_mono (Cert.Kernel23Ideal.Value.run_blocks m g) fun r h c => ⟨(h c).1.trans (at23 m c), (h c).2⟩,
    θ_run_mono (Cert.Reference23Ideal.Value.run (F := Ideal) m' g') fun r h c => ?_⟩
  obtain ⟨h0, h1⟩ := hag c
  refine ⟨((h c).1.trans (val_main_v4_eq _ _)).trans ?_, (h c).2⟩
  exact (congrArg₂ (val_main_v4 (F := Ideal)) h0 h1).trans (ref23 _ _)

open Cert.Kernel24Ideal.Value Cert.Reference24Ideal.Read in
/-- The normed and modulated stream is the reference's. -/
theorem same24 : Cert.algebraic_Kernel24Ideal_Reference24Ideal (hKernel24Ideal := Cert.Kernel24Ideal.Gen.facts)
    (hReference24Ideal := Cert.Reference24Ideal.Gen.facts) := by
  intro m g m' g' _ hag
  refine ⟨fun c => y (m (c.tc.loc Cert.Kernel24Ideal.main_arg0)) (m (c.tc.loc Cert.Kernel24Ideal.main_arg1)) (m (c.tc.loc Cert.Kernel24Ideal.main_arg2)) (m (c.tc.loc Cert.Kernel24Ideal.main_arg3)),
    θ_run_mono (Cert.Kernel24Ideal.Value.run_blocks m g) fun r h c => ⟨(h c).1.trans (at24 m c), (h c).2⟩,
    θ_run_mono (Cert.Reference24Ideal.Value.run (F := Ideal) m' g') fun r h c => ?_⟩
  obtain ⟨h0, h1, h2, h3⟩ := hag c
  refine ⟨((h c).1.trans (val_main_v18_eq _ _ _ _)).trans ?_, (h c).2⟩
  exact (congr (congr (congrArg₂ (val_main_v18 (F := Ideal)) h0 h1) h2) h3).trans (ref24 _ _ _ _)

open Cert.Kernel25Ideal.Value Cert.Reference25Ideal.Read in
/-- The activation of the conditioning vectors is the reference's. -/
theorem same25 : Cert.algebraic_Kernel25Ideal_Reference25Ideal (hKernel25Ideal := Cert.Kernel25Ideal.Gen.facts)
    (hReference25Ideal := Cert.Reference25Ideal.Gen.facts) := by
  intro m g m' g' _ hag
  refine ⟨fun c => act (m (c.tc.loc Cert.Kernel25Ideal.main_arg0)),
    θ_run_mono (Cert.Kernel25Ideal.Value.run_blocks m g) fun r h c => ⟨(h c).1.trans (at25 m c), (h c).2⟩,
    θ_run_mono (Cert.Reference25Ideal.Value.run (F := Ideal) m' g') fun r h c => ?_⟩
  have h0 := hag c
  refine ⟨((h c).1.trans (val_main_v0_eq _)).trans ?_, (h c).2⟩
  exact (congrArg (val_main_v0 (F := Ideal)) h0).trans (ref25 _)

open Cert.Kernel26Ideal.Value Cert.Reference26Ideal.Read in
/-- The modulation is the reference's. -/
theorem same26 : Cert.algebraic_Kernel26Ideal_Reference26Ideal (hKernel26Ideal := Cert.Kernel26Ideal.Gen.facts)
    (hReference26Ideal := Cert.Reference26Ideal.Gen.facts) := by
  intro m g m' g' _ hag
  refine ⟨fun c => out (m (c.tc.loc Cert.Kernel26Ideal.main_arg0)) (m (c.tc.loc Cert.Kernel26Ideal.main_arg1)) (m (c.tc.loc Cert.Kernel26Ideal.main_arg2)),
    θ_run_mono (Cert.Kernel26Ideal.Value.run_blocks m g) fun r h c => ⟨(h c).1.trans (at26 m c), (h c).2⟩,
    θ_run_mono (Cert.Reference26Ideal.Value.run (F := Ideal) m' g') fun r h c => ?_⟩
  obtain ⟨h0, h1, h2⟩ := hag c
  refine ⟨((h c).1.trans (val_main_v3_eq _ _ _)).trans ?_, (h c).2⟩
  exact (congr (congrArg₂ (val_main_v3 (F := Ideal)) h0 h1) h2).trans (ref26 _ _ _)

/-- The third precondition's broadcast is of a scalar. -/
theorem pre_facts28 : Cert.Pre_finite28.Facts where
  bcast_S_S4096x3072 := by decide

open Cert.Kernel28Ideal.Value Cert.Reference28Ideal.Read in
/-- The attention and its row sums are the reference's. -/
theorem same28 : Cert.algebraic_Kernel28Ideal_Reference28Ideal_pre_finite28 (hKernel28Ideal := Cert.Kernel28Ideal.Gen.facts)
    (hReference28Ideal := Cert.Reference28Ideal.Gen.facts) (hPre_finite28 := pre_facts28) := by
  intro m g m' g' hm hag
  refine ⟨fun c => (Cert.Kernel28Ideal.Gen.dats m 0 c).arrAt 3 Cert.Kernel28Ideal.cfg0.N,
    fun c => (Cert.Kernel28Ideal.Gen.dats m 0 c).arrAt 4 Cert.Kernel28Ideal.cfg0.N, Cert.Kernel28Ideal.Value.run_blocks m g,
    θ_run_mono (Cert.Reference28Ideal.Value.run (F := Ideal) m' g') fun r h c => ?_⟩
  obtain ⟨A, hA⟩ := Cert.Stick.exists_re (R := 4096) (C := 3072) (m (c.tc.loc Cert.Kernel28Ideal.main_arg0)) fun i => congrFun (hm c) i
  have h0 := hag c
  refine ⟨((h c).1.trans (val_main_v39_eq m' c)).trans ?_, ((h c).2.1.trans (val_main_v36_eq m' c)).trans ?_, (h c).2.2⟩
  · exact (congrArg (val_main_v39 (F := Ideal)) h0).trans (y_eq hA).symm
  · exact (congrArg (val_main_v36 (F := Ideal)) h0).trans (t_eq hA).symm

open Cert.Kernel29Ideal.Value Cert.Reference29Ideal.Read in
/-- The gradient of the mixer's last matrix and the matrix's update are the reference's. -/
theorem same29 : Cert.algebraic_Kernel29Ideal_Reference29Ideal (hKernel29Ideal := Cert.Kernel29Ideal.Gen.facts)
    (hReference29Ideal := Cert.Reference29Ideal.Gen.facts) := by
  intro m g m' g' _ hag
  refine ⟨fun c => grad (m (c.tc.loc Cert.Kernel29Ideal.main_arg0)),
    fun c => delta (m (c.tc.loc Cert.Kernel29Ideal.main_arg0)) (m (c.tc.loc Cert.Kernel29Ideal.main_arg1)) (m (c.tc.loc Cert.Kernel29Ideal.main_arg2)) (m (c.tc.loc Cert.Kernel29Ideal.main_arg3)),
    fun c => first (m (c.tc.loc Cert.Kernel29Ideal.main_arg0)) (m (c.tc.loc Cert.Kernel29Ideal.main_arg2)),
    fun c => second (m (c.tc.loc Cert.Kernel29Ideal.main_arg0)) (m (c.tc.loc Cert.Kernel29Ideal.main_arg3)),
    θ_run_mono (Cert.Kernel29Ideal.Value.run_blocks m g) fun r h c => ⟨(h c).1.trans (at29a m c), (h c).2.1.trans (at29b m c), (h c).2.2.1.trans (at29c m c), (h c).2.2.2.1.trans (at29d m c), (h c).2.2.2.2⟩,
    θ_run_mono (Cert.Reference29Ideal.Value.run (F := Ideal) m' g') fun r h c => ?_⟩
  obtain ⟨h0, h1, h2, h3⟩ := hag c
  refine ⟨((h c).1.trans (val_main_v0_eq _)).trans ?_, ((h c).2.1.trans (val_main_v24_eq _ _ _ _)).trans ?_, ((h c).2.2.1.trans (val_main_v5_eq _ _)).trans ?_, ((h c).2.2.2.1.trans (val_main_v11_eq _ _)).trans ?_, (h c).2.2.2.2⟩
  · exact (congrArg (val_main_v0 (F := Ideal)) h0).trans (ref29a _)
  · exact (congr (congr (congrArg₂ (val_main_v24 (F := Ideal)) h0 h1) h2) h3).trans (ref29b _ _ _ _)
  · exact (congrArg₂ (val_main_v5 (F := Ideal)) h0 h2).trans (ref29c _ _)
  · exact (congrArg₂ (val_main_v11 (F := Ideal)) h0 h3).trans (ref29d _ _)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Stick.pre_facts, pre_facts2, pre_facts28,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  frame_reference24,
  fun m ρ _ => Cert.Kernel25.Gen.frame m ρ,
  fun m ρ _ => Cert.Kernel25Ideal.Gen.frame m ρ,
  frame_reference25,
  fun m ρ _ => Cert.Kernel26.Gen.frame m ρ,
  fun m ρ _ => Cert.Kernel26Ideal.Gen.frame m ρ,
  frame_reference26,
  fun m ρ _ => Cert.Kernel28.Gen.frame m ρ,
  fun m ρ _ => Cert.Kernel28Ideal.Gen.frame m ρ,
  fun m ρ _ => Cert.Kernel28Ideal.Gen.frame m ρ,
  frame_reference28,
  fun m ρ _ => frame_reference28 m ρ trivial,
  fun m ρ _ => Cert.Kernel29.Gen.frame m ρ,
  fun m ρ _ => Cert.Kernel29Ideal.Gen.frame m ρ,
  frame_reference29,
  trivial,
  same,
  trivial,
  same2,
  trivial,
  same3,
  trivial,
  same4,
  trivial,
  same5,
  trivial,
  same6,
  trivial,
  same7,
  trivial,
  same8,
  trivial,
  same9,
  trivial,
  same10,
  trivial,
  same11,
  trivial,
  same12,
  trivial,
  same13,
  trivial,
  same14,
  trivial,
  same15,
  trivial,
  same16,
  trivial,
  same17,
  trivial,
  same18,
  trivial,
  same19,
  trivial,
  same20,
  trivial,
  same21,
  trivial,
  same22,
  trivial,
  same23,
  trivial,
  same24,
  trivial,
  same25,
  trivial,
  same26,
  trivial,
  same28,
  trivial,
  same29⟩

end Cert.Proof

end
